-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelMlpFinal (m : (ℓ : Loc Cert.KernelMlpFinal.nD Cert.KernelMlpFinal.τ Cert.KernelMlpFinal.sig) → Buf (Elt Bits) ℓ) : Prop :=
  True

def Pre_KernelMlpFinalIdeal (m : (ℓ : Loc Cert.KernelMlpFinalIdeal.nD Cert.KernelMlpFinalIdeal.τ Cert.KernelMlpFinalIdeal.sig) → Buf (Elt Ideal) ℓ) : Prop :=
  True

def Pre_ReferenceMlpFinalIdeal (m : (ℓ : Loc Cert.ReferenceMlpFinalIdeal.nD Cert.ReferenceMlpFinalIdeal.τ Cert.ReferenceMlpFinalIdeal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelMlstm (m : (ℓ : Loc Cert.KernelMlstm.nD Cert.KernelMlstm.τ Cert.KernelMlstm.sig) → Buf (Elt Bits) ℓ) : Prop :=
  True

def Pre_KernelMlstmIdeal (m : (ℓ : Loc Cert.KernelMlstmIdeal.nD Cert.KernelMlstmIdeal.τ Cert.KernelMlstmIdeal.sig) → Buf (Elt Ideal) ℓ) : Prop :=
  True

def Pre_KernelMlstmIdeal_finite_inputs [hPre_finite_inputs : Cert.Pre_finite_inputs.Facts] (m : (ℓ : Loc Cert.KernelMlstmIdeal.nD Cert.KernelMlstmIdeal.τ Cert.KernelMlstmIdeal.sig) → Buf (Elt Ideal) ℓ) : Prop :=
  ∀ c : Dev Cert.KernelMlstmIdeal.nD,
    (Cert.Pre_finite_inputs.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2)) (m ((c.tc : Thread Cert.KernelMlstmIdeal.nD Cert.KernelMlstmIdeal.τ).loc Cert.KernelMlstmIdeal.main_arg3)) (m ((c.tc : Thread Cert.KernelMlstmIdeal.nD Cert.KernelMlstmIdeal.τ).loc Cert.KernelMlstmIdeal.main_arg4)) (m ((c.tc : Thread Cert.KernelMlstmIdeal.nD Cert.KernelMlstmIdeal.τ).loc Cert.KernelMlstmIdeal.main_arg5)) (m ((c.tc : Thread Cert.KernelMlstmIdeal.nD Cert.KernelMlstmIdeal.τ).loc Cert.KernelMlstmIdeal.main_arg6)) (m ((c.tc : Thread Cert.KernelMlstmIdeal.nD Cert.KernelMlstmIdeal.τ).loc Cert.KernelMlstmIdeal.main_arg7))).1 = (fun _ => 1#1)
    ∧ (Cert.Pre_finite_inputs.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2)) (m ((c.tc : Thread Cert.KernelMlstmIdeal.nD Cert.KernelMlstmIdeal.τ).loc Cert.KernelMlstmIdeal.main_arg3)) (m ((c.tc : Thread Cert.KernelMlstmIdeal.nD Cert.KernelMlstmIdeal.τ).loc Cert.KernelMlstmIdeal.main_arg4)) (m ((c.tc : Thread Cert.KernelMlstmIdeal.nD Cert.KernelMlstmIdeal.τ).loc Cert.KernelMlstmIdeal.main_arg5)) (m ((c.tc : Thread Cert.KernelMlstmIdeal.nD Cert.KernelMlstmIdeal.τ).loc Cert.KernelMlstmIdeal.main_arg6)) (m ((c.tc : Thread Cert.KernelMlstmIdeal.nD Cert.KernelMlstmIdeal.τ).loc Cert.KernelMlstmIdeal.main_arg7))).2.1 = (fun _ => 1#1)
    ∧ (Cert.Pre_finite_inputs.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2)) (m ((c.tc : Thread Cert.KernelMlstmIdeal.nD Cert.KernelMlstmIdeal.τ).loc Cert.KernelMlstmIdeal.main_arg3)) (m ((c.tc : Thread Cert.KernelMlstmIdeal.nD Cert.KernelMlstmIdeal.τ).loc Cert.KernelMlstmIdeal.main_arg4)) (m ((c.tc : Thread Cert.KernelMlstmIdeal.nD Cert.KernelMlstmIdeal.τ).loc Cert.KernelMlstmIdeal.main_arg5)) (m ((c.tc : Thread Cert.KernelMlstmIdeal.nD Cert.KernelMlstmIdeal.τ).loc Cert.KernelMlstmIdeal.main_arg6)) (m ((c.tc : Thread Cert.KernelMlstmIdeal.nD Cert.KernelMlstmIdeal.τ).loc Cert.KernelMlstmIdeal.main_arg7))).2.2.1 = (fun _ => 1#1)
    ∧ (Cert.Pre_finite_inputs.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2)) (m ((c.tc : Thread Cert.KernelMlstmIdeal.nD Cert.KernelMlstmIdeal.τ).loc Cert.KernelMlstmIdeal.main_arg3)) (m ((c.tc : Thread Cert.KernelMlstmIdeal.nD Cert.KernelMlstmIdeal.τ).loc Cert.KernelMlstmIdeal.main_arg4)) (m ((c.tc : Thread Cert.KernelMlstmIdeal.nD Cert.KernelMlstmIdeal.τ).loc Cert.KernelMlstmIdeal.main_arg5)) (m ((c.tc : Thread Cert.KernelMlstmIdeal.nD Cert.KernelMlstmIdeal.τ).loc Cert.KernelMlstmIdeal.main_arg6)) (m ((c.tc : Thread Cert.KernelMlstmIdeal.nD Cert.KernelMlstmIdeal.τ).loc Cert.KernelMlstmIdeal.main_arg7))).2.2.2.1 = (fun _ => 1#1)
    ∧ (Cert.Pre_finite_inputs.fn (F := Ideal) (m ((c.tc : Thread Cert.KernelMlstmIdeal.nD Cert.KernelMlstmIdeal.τ).loc Cert.KernelMlstmIdeal.main_arg0)) (m ((c.tc : Thread Cert.KernelMlstmIdeal.nD Cert.KernelMlstmIdeal.τ).loc Cert.KernelMlstmIdeal.main_arg1)) (m ((c.tc : Thread Cert.KernelMlstmIdeal.nD Cert.KernelMlstmIdeal.τ).loc Cert.KernelMlstmIdeal.main_arg2)) (m ((c.tc : Thread Cert.KernelMlstmIdeal.nD Cert.KernelMlstmIdeal.τ).loc Cert.KernelMlstmIdeal.main_arg3)) (m ((c.tc : Thread Cert.KernelMlstmIdeal.nD Cert.KernelMlstmIdeal.τ).loc Cert.KernelMlstmIdeal.main_arg4)) (m ((c.tc : Thread Cert.KernelMlstmIdeal.nD Cert.KernelMlstmIdeal.τ).loc Cert.KernelMlstmIdeal.main_arg5)) (m ((c.tc : Thread Cert.KernelMlstmIdeal.nD Cert.KernelMlstmIdeal.τ).loc Cert.KernelMlstmIdeal.main_arg6)) (m ((c.tc : Thread Cert.KernelMlstmIdeal.nD Cert.KernelMlstmIdeal.τ).loc Cert.KernelMlstmIdeal.main_arg7))).2.2.2.2 = (fun _ => 1#1)

def Pre_ReferenceMlstmIdeal (m : (ℓ : Loc Cert.ReferenceMlstmIdeal.nD Cert.ReferenceMlstmIdeal.τ Cert.ReferenceMlstmIdeal.sig) → Buf (Elt Ideal) ℓ) : Prop :=
  True

def Pre_ReferenceMlstmIdeal_finite_inputs [hPre_finite_inputs : Cert.Pre_finite_inputs.Facts] (m : (ℓ : Loc Cert.ReferenceMlstmIdeal.nD Cert.ReferenceMlstmIdeal.τ Cert.ReferenceMlstmIdeal.sig) → Buf (Elt Ideal) ℓ) : Prop :=
  ∀ c : Dev Cert.ReferenceMlstmIdeal.nD,
    (Cert.Pre_finite_inputs.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2)) (m ((c.tc : Thread Cert.ReferenceMlstmIdeal.nD Cert.ReferenceMlstmIdeal.τ).loc Cert.ReferenceMlstmIdeal.main_arg3)) (m ((c.tc : Thread Cert.ReferenceMlstmIdeal.nD Cert.ReferenceMlstmIdeal.τ).loc Cert.ReferenceMlstmIdeal.main_arg4)) (m ((c.tc : Thread Cert.ReferenceMlstmIdeal.nD Cert.ReferenceMlstmIdeal.τ).loc Cert.ReferenceMlstmIdeal.main_arg5)) (m ((c.tc : Thread Cert.ReferenceMlstmIdeal.nD Cert.ReferenceMlstmIdeal.τ).loc Cert.ReferenceMlstmIdeal.main_arg6)) (m ((c.tc : Thread Cert.ReferenceMlstmIdeal.nD Cert.ReferenceMlstmIdeal.τ).loc Cert.ReferenceMlstmIdeal.main_arg7))).1 = (fun _ => 1#1)
    ∧ (Cert.Pre_finite_inputs.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2)) (m ((c.tc : Thread Cert.ReferenceMlstmIdeal.nD Cert.ReferenceMlstmIdeal.τ).loc Cert.ReferenceMlstmIdeal.main_arg3)) (m ((c.tc : Thread Cert.ReferenceMlstmIdeal.nD Cert.ReferenceMlstmIdeal.τ).loc Cert.ReferenceMlstmIdeal.main_arg4)) (m ((c.tc : Thread Cert.ReferenceMlstmIdeal.nD Cert.ReferenceMlstmIdeal.τ).loc Cert.ReferenceMlstmIdeal.main_arg5)) (m ((c.tc : Thread Cert.ReferenceMlstmIdeal.nD Cert.ReferenceMlstmIdeal.τ).loc Cert.ReferenceMlstmIdeal.main_arg6)) (m ((c.tc : Thread Cert.ReferenceMlstmIdeal.nD Cert.ReferenceMlstmIdeal.τ).loc Cert.ReferenceMlstmIdeal.main_arg7))).2.1 = (fun _ => 1#1)
    ∧ (Cert.Pre_finite_inputs.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2)) (m ((c.tc : Thread Cert.ReferenceMlstmIdeal.nD Cert.ReferenceMlstmIdeal.τ).loc Cert.ReferenceMlstmIdeal.main_arg3)) (m ((c.tc : Thread Cert.ReferenceMlstmIdeal.nD Cert.ReferenceMlstmIdeal.τ).loc Cert.ReferenceMlstmIdeal.main_arg4)) (m ((c.tc : Thread Cert.ReferenceMlstmIdeal.nD Cert.ReferenceMlstmIdeal.τ).loc Cert.ReferenceMlstmIdeal.main_arg5)) (m ((c.tc : Thread Cert.ReferenceMlstmIdeal.nD Cert.ReferenceMlstmIdeal.τ).loc Cert.ReferenceMlstmIdeal.main_arg6)) (m ((c.tc : Thread Cert.ReferenceMlstmIdeal.nD Cert.ReferenceMlstmIdeal.τ).loc Cert.ReferenceMlstmIdeal.main_arg7))).2.2.1 = (fun _ => 1#1)
    ∧ (Cert.Pre_finite_inputs.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2)) (m ((c.tc : Thread Cert.ReferenceMlstmIdeal.nD Cert.ReferenceMlstmIdeal.τ).loc Cert.ReferenceMlstmIdeal.main_arg3)) (m ((c.tc : Thread Cert.ReferenceMlstmIdeal.nD Cert.ReferenceMlstmIdeal.τ).loc Cert.ReferenceMlstmIdeal.main_arg4)) (m ((c.tc : Thread Cert.ReferenceMlstmIdeal.nD Cert.ReferenceMlstmIdeal.τ).loc Cert.ReferenceMlstmIdeal.main_arg5)) (m ((c.tc : Thread Cert.ReferenceMlstmIdeal.nD Cert.ReferenceMlstmIdeal.τ).loc Cert.ReferenceMlstmIdeal.main_arg6)) (m ((c.tc : Thread Cert.ReferenceMlstmIdeal.nD Cert.ReferenceMlstmIdeal.τ).loc Cert.ReferenceMlstmIdeal.main_arg7))).2.2.2.1 = (fun _ => 1#1)
    ∧ (Cert.Pre_finite_inputs.fn (F := Ideal) (m ((c.tc : Thread Cert.ReferenceMlstmIdeal.nD Cert.ReferenceMlstmIdeal.τ).loc Cert.ReferenceMlstmIdeal.main_arg0)) (m ((c.tc : Thread Cert.ReferenceMlstmIdeal.nD Cert.ReferenceMlstmIdeal.τ).loc Cert.ReferenceMlstmIdeal.main_arg1)) (m ((c.tc : Thread Cert.ReferenceMlstmIdeal.nD Cert.ReferenceMlstmIdeal.τ).loc Cert.ReferenceMlstmIdeal.main_arg2)) (m ((c.tc : Thread Cert.ReferenceMlstmIdeal.nD Cert.ReferenceMlstmIdeal.τ).loc Cert.ReferenceMlstmIdeal.main_arg3)) (m ((c.tc : Thread Cert.ReferenceMlstmIdeal.nD Cert.ReferenceMlstmIdeal.τ).loc Cert.ReferenceMlstmIdeal.main_arg4)) (m ((c.tc : Thread Cert.ReferenceMlstmIdeal.nD Cert.ReferenceMlstmIdeal.τ).loc Cert.ReferenceMlstmIdeal.main_arg5)) (m ((c.tc : Thread Cert.ReferenceMlstmIdeal.nD Cert.ReferenceMlstmIdeal.τ).loc Cert.ReferenceMlstmIdeal.main_arg6)) (m ((c.tc : Thread Cert.ReferenceMlstmIdeal.nD Cert.ReferenceMlstmIdeal.τ).loc Cert.ReferenceMlstmIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7))
      ∧ r.2.sem = fun _ => 0)

def quiescent_KernelMlpFinal [hKernelMlpFinal : Cert.KernelMlpFinal.Facts] : Prop :=
  ∀ (m : (ℓ : Loc Cert.KernelMlpFinal.nD Cert.KernelMlpFinal.τ Cert.KernelMlpFinal.sig) → Buf (Elt Bits) ℓ) (g : Dev Cert.KernelMlpFinal.nD → PrngReg), Pre_KernelMlpFinal m →
    θ_run (Cert.KernelMlpFinal.defs (F := Bits)) (onTc (τ := Cert.KernelMlpFinal.τ) (Cert.KernelMlpFinal.main (F := Bits))) ⟨m, fun _ => 0, g⟩ (fun r => (∀ c : Dev Cert.KernelMlpFinal.nD,
      r.2.mem ((c.tc : Thread Cert.KernelMlpFinal.nD Cert.KernelMlpFinal.τ).loc Cert.KernelMlpFinal.main_arg0) = m ((c.tc : Thread Cert.KernelMlpFinal.nD Cert.KernelMlpFinal.τ).loc Cert.KernelMlpFinal.main_arg0)
      ∧ r.2.mem ((c.tc : Thread Cert.KernelMlpFinal.nD Cert.KernelMlpFinal.τ).loc Cert.KernelMlpFinal.main_arg1) = m ((c.tc : Thread Cert.KernelMlpFinal.nD Cert.KernelMlpFinal.τ).loc Cert.KernelMlpFinal.main_arg1)
      ∧ r.2.mem ((c.tc : Thread Cert.KernelMlpFinal.nD Cert.KernelMlpFinal.τ).loc Cert.KernelMlpFinal.main_arg2) = m ((c.tc : Thread Cert.KernelMlpFinal.nD Cert.KernelMlpFinal.τ).loc Cert.KernelMlpFinal.main_arg2)
      ∧ r.2.mem ((c.tc : Thread Cert.KernelMlpFinal.nD Cert.KernelMlpFinal.τ).loc Cert.KernelMlpFinal.main_arg3) = m ((c.tc : Thread Cert.KernelMlpFinal.nD Cert.KernelMlpFinal.τ).loc Cert.KernelMlpFinal.main_arg3)
      ∧ r.2.mem ((c.tc : Thread Cert.KernelMlpFinal.nD Cert.KernelMlpFinal.τ).loc Cert.KernelMlpFinal.main_arg4) = m ((c.tc : Thread Cert.KernelMlpFinal.nD Cert.KernelMlpFinal.τ).loc Cert.KernelMlpFinal.main_arg4)
      ∧ r.2.mem ((c.tc : Thread Cert.KernelMlpFinal.nD Cert.KernelMlpFinal.τ).loc Cert.KernelMlpFinal.main_arg5) = m ((c.tc : Thread Cert.KernelMlpFinal.nD Cert.KernelMlpFinal.τ).loc Cert.KernelMlpFinal.main_arg5)
      ∧ r.2.mem ((c.tc : Thread Cert.KernelMlpFinal.nD Cert.KernelMlpFinal.τ).loc Cert.KernelMlpFinal.main_arg6) = m ((c.tc : Thread Cert.KernelMlpFinal.nD Cert.KernelMlpFinal.τ).loc Cert.KernelMlpFinal.main_arg6)
      ∧ r.2.mem ((c.tc : Thread Cert.KernelMlpFinal.nD Cert.KernelMlpFinal.τ).loc Cert.KernelMlpFinal.main_arg7) = m ((c.tc : Thread Cert.KernelMlpFinal.nD Cert.KernelMlpFinal.τ).loc Cert.KernelMlpFinal.main_arg7))
      ∧ r.2.sem = fun _ => 0)

def quiescent_KernelMlpFinalIdeal [hKernelMlpFinalIdeal : Cert.KernelMlpFinalIdeal.Facts] : Prop :=
  ∀ (m : (ℓ : Loc Cert.KernelMlpFinalIdeal.nD Cert.KernelMlpFinalIdeal.τ Cert.KernelMlpFinalIdeal.sig) → Buf (Elt Ideal) ℓ) (g : Dev Cert.KernelMlpFinalIdeal.nD → PrngReg), Pre_KernelMlpFinalIdeal m →
    θ_run (Cert.KernelMlpFinalIdeal.defs (F := Ideal)) (onTc (τ := Cert.KernelMlpFinalIdeal.τ) (Cert.KernelMlpFinalIdeal.main (F := Ideal))) ⟨m, fun _ => 0, g⟩ (fun r => (∀ c : Dev Cert.KernelMlpFinalIdeal.nD,
      r.2.mem ((c.tc : Thread Cert.KernelMlpFinalIdeal.nD Cert.KernelMlpFinalIdeal.τ).loc Cert.KernelMlpFinalIdeal.main_arg0) = m ((c.tc : Thread Cert.KernelMlpFinalIdeal.nD Cert.KernelMlpFinalIdeal.τ).loc Cert.KernelMlpFinalIdeal.main_arg0)
      ∧ r.2.mem ((c.tc : Thread Cert.KernelMlpFinalIdeal.nD Cert.KernelMlpFinalIdeal.τ).loc Cert.KernelMlpFinalIdeal.main_arg1) = m ((c.tc : Thread Cert.KernelMlpFinalIdeal.nD Cert.KernelMlpFinalIdeal.τ).loc Cert.KernelMlpFinalIdeal.main_arg1)
      ∧ r.2.mem ((c.tc : Thread Cert.KernelMlpFinalIdeal.nD Cert.KernelMlpFinalIdeal.τ).loc Cert.KernelMlpFinalIdeal.main_arg2) = m ((c.tc : Thread Cert.KernelMlpFinalIdeal.nD Cert.KernelMlpFinalIdeal.τ).loc Cert.KernelMlpFinalIdeal.main_arg2)
      ∧ r.2.mem ((c.tc : Thread Cert.KernelMlpFinalIdeal.nD Cert.KernelMlpFinalIdeal.τ).loc Cert.KernelMlpFinalIdeal.main_arg3) = m ((c.tc : Thread Cert.KernelMlpFinalIdeal.nD Cert.KernelMlpFinalIdeal.τ).loc Cert.KernelMlpFinalIdeal.main_arg3)
      ∧ r.2.mem ((c.tc : Thread Cert.KernelMlpFinalIdeal.nD Cert.KernelMlpFinalIdeal.τ).loc Cert.KernelMlpFinalIdeal.main_arg4) = m ((c.tc : Thread Cert.KernelMlpFinalIdeal.nD Cert.KernelMlpFinalIdeal.τ).loc Cert.KernelMlpFinalIdeal.main_arg4)
      ∧ r.2.mem ((c.tc : Thread Cert.KernelMlpFinalIdeal.nD Cert.KernelMlpFinalIdeal.τ).loc Cert.KernelMlpFinalIdeal.main_arg5) = m ((c.tc : Thread Cert.KernelMlpFinalIdeal.nD Cert.KernelMlpFinalIdeal.τ).loc Cert.KernelMlpFinalIdeal.main_arg5)
      ∧ r.2.mem ((c.tc : Thread Cert.KernelMlpFinalIdeal.nD Cert.KernelMlpFinalIdeal.τ).loc Cert.KernelMlpFinalIdeal.main_arg6) = m ((c.tc : Thread Cert.KernelMlpFinalIdeal.nD Cert.KernelMlpFinalIdeal.τ).loc Cert.KernelMlpFinalIdeal.main_arg6)
      ∧ r.2.mem ((c.tc : Thread Cert.KernelMlpFinalIdeal.nD Cert.KernelMlpFinalIdeal.τ).loc Cert.KernelMlpFinalIdeal.main_arg7) = m ((c.tc : Thread Cert.KernelMlpFinalIdeal.nD Cert.KernelMlpFinalIdeal.τ).loc Cert.KernelMlpFinalIdeal.main_arg7))
      ∧ r.2.sem = fun _ => 0)

def quiescent_ReferenceMlpFinalIdeal [hReferenceMlpFinalIdeal : Cert.ReferenceMlpFinalIdeal.Facts] : Prop :=
  ∀ (m : (ℓ : Loc Cert.ReferenceMlpFinalIdeal.nD Cert.ReferenceMlpFinalIdeal.τ Cert.ReferenceMlpFinalIdeal.sig) → Buf (Elt Ideal) ℓ) (g : Dev Cert.ReferenceMlpFinalIdeal.nD → PrngReg), Pre_ReferenceMlpFinalIdeal m →
    θ_run (Cert.ReferenceMlpFinalIdeal.defs (F := Ideal)) (onTc (τ := Cert.ReferenceMlpFinalIdeal.τ) (Cert.ReferenceMlpFinalIdeal.main (F := Ideal))) ⟨m, fun _ => 0, g⟩ (fun r => (∀ c : Dev Cert.ReferenceMlpFinalIdeal.nD,
      r.2.mem ((c.tc : Thread Cert.ReferenceMlpFinalIdeal.nD Cert.ReferenceMlpFinalIdeal.τ).loc Cert.ReferenceMlpFinalIdeal.main_arg0) = m ((c.tc : Thread Cert.ReferenceMlpFinalIdeal.nD Cert.ReferenceMlpFinalIdeal.τ).loc Cert.ReferenceMlpFinalIdeal.main_arg0)
      ∧ r.2.mem ((c.tc : Thread Cert.ReferenceMlpFinalIdeal.nD Cert.ReferenceMlpFinalIdeal.τ).loc Cert.ReferenceMlpFinalIdeal.main_arg1) = m ((c.tc : Thread Cert.ReferenceMlpFinalIdeal.nD Cert.ReferenceMlpFinalIdeal.τ).loc Cert.ReferenceMlpFinalIdeal.main_arg1)
      ∧ r.2.mem ((c.tc : Thread Cert.ReferenceMlpFinalIdeal.nD Cert.ReferenceMlpFinalIdeal.τ).loc Cert.ReferenceMlpFinalIdeal.main_arg2) = m ((c.tc : Thread Cert.ReferenceMlpFinalIdeal.nD Cert.ReferenceMlpFinalIdeal.τ).loc Cert.ReferenceMlpFinalIdeal.main_arg2)
      ∧ r.2.mem ((c.tc : Thread Cert.ReferenceMlpFinalIdeal.nD Cert.ReferenceMlpFinalIdeal.τ).loc Cert.ReferenceMlpFinalIdeal.main_arg3) = m ((c.tc : Thread Cert.ReferenceMlpFinalIdeal.nD Cert.ReferenceMlpFinalIdeal.τ).loc Cert.ReferenceMlpFinalIdeal.main_arg3)
      ∧ r.2.mem ((c.tc : Thread Cert.ReferenceMlpFinalIdeal.nD Cert.ReferenceMlpFinalIdeal.τ).loc Cert.ReferenceMlpFinalIdeal.main_arg4) = m ((c.tc : Thread Cert.ReferenceMlpFinalIdeal.nD Cert.ReferenceMlpFinalIdeal.τ).loc Cert.ReferenceMlpFinalIdeal.main_arg4)
      ∧ r.2.mem ((c.tc : Thread Cert.ReferenceMlpFinalIdeal.nD Cert.ReferenceMlpFinalIdeal.τ).loc Cert.ReferenceMlpFinalIdeal.main_arg5) = m ((c.tc : Thread Cert.ReferenceMlpFinalIdeal.nD Cert.ReferenceMlpFinalIdeal.τ).loc Cert.ReferenceMlpFinalIdeal.main_arg5)
      ∧ r.2.mem ((c.tc : Thread Cert.ReferenceMlpFinalIdeal.nD Cert.ReferenceMlpFinalIdeal.τ).loc Cert.ReferenceMlpFinalIdeal.main_arg6) = m ((c.tc : Thread Cert.ReferenceMlpFinalIdeal.nD Cert.ReferenceMlpFinalIdeal.τ).loc Cert.ReferenceMlpFinalIdeal.main_arg6)
      ∧ r.2.mem ((c.tc : Thread Cert.ReferenceMlpFinalIdeal.nD Cert.ReferenceMlpFinalIdeal.τ).loc Cert.ReferenceMlpFinalIdeal.main_arg7) = m ((c.tc : Thread Cert.ReferenceMlpFinalIdeal.nD Cert.ReferenceMlpFinalIdeal.τ).loc Cert.ReferenceMlpFinalIdeal.main_arg7))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2))
      ∧ r.2.sem = fun _ => 0)

def quiescent_KernelMlstm [hKernelMlstm : Cert.KernelMlstm.Facts] : Prop :=
  ∀ (m : (ℓ : Loc Cert.KernelMlstm.nD Cert.KernelMlstm.τ Cert.KernelMlstm.sig) → Buf (Elt Bits) ℓ) (g : Dev Cert.KernelMlstm.nD → PrngReg), Pre_KernelMlstm m →
    θ_run (Cert.KernelMlstm.defs (F := Bits)) (onTc (τ := Cert.KernelMlstm.τ) (Cert.KernelMlstm.main (F := Bits))) ⟨m, fun _ => 0, g⟩ (fun r => (∀ c : Dev Cert.KernelMlstm.nD,
      r.2.mem ((c.tc : Thread Cert.KernelMlstm.nD Cert.KernelMlstm.τ).loc Cert.KernelMlstm.main_arg0) = m ((c.tc : Thread Cert.KernelMlstm.nD Cert.KernelMlstm.τ).loc Cert.KernelMlstm.main_arg0)
      ∧ r.2.mem ((c.tc : Thread Cert.KernelMlstm.nD Cert.KernelMlstm.τ).loc Cert.KernelMlstm.main_arg1) = m ((c.tc : Thread Cert.KernelMlstm.nD Cert.KernelMlstm.τ).loc Cert.KernelMlstm.main_arg1)
      ∧ r.2.mem ((c.tc : Thread Cert.KernelMlstm.nD Cert.KernelMlstm.τ).loc Cert.KernelMlstm.main_arg2) = m ((c.tc : Thread Cert.KernelMlstm.nD Cert.KernelMlstm.τ).loc Cert.KernelMlstm.main_arg2)
      ∧ r.2.mem ((c.tc : Thread Cert.KernelMlstm.nD Cert.KernelMlstm.τ).loc Cert.KernelMlstm.main_arg3) = m ((c.tc : Thread Cert.KernelMlstm.nD Cert.KernelMlstm.τ).loc Cert.KernelMlstm.main_arg3)
      ∧ r.2.mem ((c.tc : Thread Cert.KernelMlstm.nD Cert.KernelMlstm.τ).loc Cert.KernelMlstm.main_arg4) = m ((c.tc : Thread Cert.KernelMlstm.nD Cert.KernelMlstm.τ).loc Cert.KernelMlstm.main_arg4)
      ∧ r.2.mem ((c.tc : Thread Cert.KernelMlstm.nD Cert.KernelMlstm.τ).loc Cert.KernelMlstm.main_arg5) = m ((c.tc : Thread Cert.KernelMlstm.nD Cert.KernelMlstm.τ).loc Cert.KernelMlstm.main_arg5)
      ∧ r.2.mem ((c.tc : Thread Cert.KernelMlstm.nD Cert.KernelMlstm.τ).loc Cert.KernelMlstm.main_arg6) = m ((c.tc : Thread Cert.KernelMlstm.nD Cert.KernelMlstm.τ).loc Cert.KernelMlstm.main_arg6)
      ∧ r.2.mem ((c.tc : Thread Cert.KernelMlstm.nD Cert.KernelMlstm.τ).loc Cert.KernelMlstm.main_arg7) = m ((c.tc : Thread Cert.KernelMlstm.nD Cert.KernelMlstm.τ).loc Cert.KernelMlstm.main_arg7))
      ∧ r.2.sem = fun _ => 0)

def quiescent_KernelMlstmIdeal [hKernelMlstmIdeal : Cert.KernelMlstmIdeal.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg), Pre_KernelMlstmIdeal m →
    θ_run (Cert.KernelMlstmIdeal.defs (F := Ideal)) (onTc (τ := Cert.KernelMlstmIdeal.τ) (Cert.KernelMlstmIdeal.main (F := Ideal))) ⟨m, fun _ => 0, g⟩ (fun r => (∀ c : Dev Cert.KernelMlstmIdeal.nD,
      r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
      ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
      ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2)
      ∧ r.2.mem ((c.tc : Thread Cert.KernelMlstmIdeal.nD Cert.KernelMlstmIdeal.τ).loc Cert.KernelMlstmIdeal.main_arg3) = m ((c.tc : Thread Cert.KernelMlstmIdeal.nD Cert.KernelMlstmIdeal.τ).loc Cert.KernelMlstmIdeal.main_arg3)
      ∧ r.2.mem ((c.tc : Thread Cert.KernelMlstmIdeal.nD Cert.KernelMlstmIdeal.τ).loc Cert.KernelMlstmIdeal.main_arg4) = m ((c.tc : Thread Cert.KernelMlstmIdeal.nD Cert.KernelMlstmIdeal.τ).loc Cert.KernelMlstmIdeal.main_arg4)
      ∧ r.2.mem ((c.tc : Thread Cert.KernelMlstmIdeal.nD Cert.KernelMlstmIdeal.τ).loc Cert.KernelMlstmIdeal.main_arg5) = m ((c.tc : Thread Cert.KernelMlstmIdeal.nD Cert.KernelMlstmIdeal.τ).loc Cert.KernelMlstmIdeal.main_arg5)
      ∧ r.2.mem ((c.tc : Thread Cert.KernelMlstmIdeal.nD Cert.KernelMlstmIdeal.τ).loc Cert.KernelMlstmIdeal.main_arg6) = m ((c.tc : Thread Cert.KernelMlstmIdeal.nD Cert.KernelMlstmIdeal.τ).loc Cert.KernelMlstmIdeal.main_arg6)
      ∧ r.2.mem ((c.tc : Thread Cert.KernelMlstmIdeal.nD Cert.KernelMlstmIdeal.τ).loc Cert.KernelMlstmIdeal.main_arg7) = m ((c.tc : Thread Cert.KernelMlstmIdeal.nD Cert.KernelMlstmIdeal.τ).loc Cert.KernelMlstmIdeal.main_arg7))
      ∧ r.2.sem = fun _ => 0)

def quiescent_KernelMlstmIdeal_pre_finite_inputs [hKernelMlstmIdeal : Cert.KernelMlstmIdeal.Facts] [hPre_finite_inputs : Cert.Pre_finite_inputs.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg), Pre_KernelMlstmIdeal_finite_inputs m →
    θ_run (Cert.KernelMlstmIdeal.defs (F := Ideal)) (onTc (τ := Cert.KernelMlstmIdeal.τ) (Cert.KernelMlstmIdeal.main (F := Ideal))) ⟨m, fun _ => 0, g⟩ (fun r => (∀ c : Dev Cert.KernelMlstmIdeal.nD,
      r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
      ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
      ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2)
      ∧ r.2.mem ((c.tc : Thread Cert.KernelMlstmIdeal.nD Cert.KernelMlstmIdeal.τ).loc Cert.KernelMlstmIdeal.main_arg3) = m ((c.tc : Thread Cert.KernelMlstmIdeal.nD Cert.KernelMlstmIdeal.τ).loc Cert.KernelMlstmIdeal.main_arg3)
      ∧ r.2.mem ((c.tc : Thread Cert.KernelMlstmIdeal.nD Cert.KernelMlstmIdeal.τ).loc Cert.KernelMlstmIdeal.main_arg4) = m ((c.tc : Thread Cert.KernelMlstmIdeal.nD Cert.KernelMlstmIdeal.τ).loc Cert.KernelMlstmIdeal.main_arg4)
      ∧ r.2.mem ((c.tc : Thread Cert.KernelMlstmIdeal.nD Cert.KernelMlstmIdeal.τ).loc Cert.KernelMlstmIdeal.main_arg5) = m ((c.tc : Thread Cert.KernelMlstmIdeal.nD Cert.KernelMlstmIdeal.τ).loc Cert.KernelMlstmIdeal.main_arg5)
      ∧ r.2.mem ((c.tc : Thread Cert.KernelMlstmIdeal.nD Cert.KernelMlstmIdeal.τ).loc Cert.KernelMlstmIdeal.main_arg6) = m ((c.tc : Thread Cert.KernelMlstmIdeal.nD Cert.KernelMlstmIdeal.τ).loc Cert.KernelMlstmIdeal.main_arg6)
      ∧ r.2.mem ((c.tc : Thread Cert.KernelMlstmIdeal.nD Cert.KernelMlstmIdeal.τ).loc Cert.KernelMlstmIdeal.main_arg7) = m ((c.tc : Thread Cert.KernelMlstmIdeal.nD Cert.KernelMlstmIdeal.τ).loc Cert.KernelMlstmIdeal.main_arg7))
      ∧ r.2.sem = fun _ => 0)

def quiescent_ReferenceMlstmIdeal [hReferenceMlstmIdeal : Cert.ReferenceMlstmIdeal.Facts] : Prop :=
  ∀ (m : (ℓ : Loc Cert.ReferenceMlstmIdeal.nD Cert.ReferenceMlstmIdeal.τ Cert.ReferenceMlstmIdeal.sig) → Buf (Elt Ideal) ℓ) (g : Dev Cert.ReferenceMlstmIdeal.nD → PrngReg), Pre_ReferenceMlstmIdeal m →
    θ_run (Cert.ReferenceMlstmIdeal.defs (F := Ideal)) (onTc (τ := Cert.ReferenceMlstmIdeal.τ) (Cert.ReferenceMlstmIdeal.main (F := Ideal))) ⟨m, fun _ => 0, g⟩ (fun r => (∀ c : Dev Cert.ReferenceMlstmIdeal.nD,
      r.2.mem ((c.tc : Thread Cert.ReferenceMlstmIdeal.nD Cert.ReferenceMlstmIdeal.τ).loc Cert.ReferenceMlstmIdeal.main_arg0) = m ((c.tc : Thread Cert.ReferenceMlstmIdeal.nD Cert.ReferenceMlstmIdeal.τ).loc Cert.ReferenceMlstmIdeal.main_arg0)
      ∧ r.2.mem ((c.tc : Thread Cert.ReferenceMlstmIdeal.nD Cert.ReferenceMlstmIdeal.τ).loc Cert.ReferenceMlstmIdeal.main_arg1) = m ((c.tc : Thread Cert.ReferenceMlstmIdeal.nD Cert.ReferenceMlstmIdeal.τ).loc Cert.ReferenceMlstmIdeal.main_arg1)
      ∧ r.2.mem ((c.tc : Thread Cert.ReferenceMlstmIdeal.nD Cert.ReferenceMlstmIdeal.τ).loc Cert.ReferenceMlstmIdeal.main_arg2) = m ((c.tc : Thread Cert.ReferenceMlstmIdeal.nD Cert.ReferenceMlstmIdeal.τ).loc Cert.ReferenceMlstmIdeal.main_arg2)
      ∧ r.2.mem ((c.tc : Thread Cert.ReferenceMlstmIdeal.nD Cert.ReferenceMlstmIdeal.τ).loc Cert.ReferenceMlstmIdeal.main_arg3) = m ((c.tc : Thread Cert.ReferenceMlstmIdeal.nD Cert.ReferenceMlstmIdeal.τ).loc Cert.ReferenceMlstmIdeal.main_arg3)
      ∧ r.2.mem ((c.tc : Thread Cert.ReferenceMlstmIdeal.nD Cert.ReferenceMlstmIdeal.τ).loc Cert.ReferenceMlstmIdeal.main_arg4) = m ((c.tc : Thread Cert.ReferenceMlstmIdeal.nD Cert.ReferenceMlstmIdeal.τ).loc Cert.ReferenceMlstmIdeal.main_arg4)
      ∧ r.2.mem ((c.tc : Thread Cert.ReferenceMlstmIdeal.nD Cert.ReferenceMlstmIdeal.τ).loc Cert.ReferenceMlstmIdeal.main_arg5) = m ((c.tc : Thread Cert.ReferenceMlstmIdeal.nD Cert.ReferenceMlstmIdeal.τ).loc Cert.ReferenceMlstmIdeal.main_arg5)
      ∧ r.2.mem ((c.tc : Thread Cert.ReferenceMlstmIdeal.nD Cert.ReferenceMlstmIdeal.τ).loc Cert.ReferenceMlstmIdeal.main_arg6) = m ((c.tc : Thread Cert.ReferenceMlstmIdeal.nD Cert.ReferenceMlstmIdeal.τ).loc Cert.ReferenceMlstmIdeal.main_arg6)
      ∧ r.2.mem ((c.tc : Thread Cert.ReferenceMlstmIdeal.nD Cert.ReferenceMlstmIdeal.τ).loc Cert.ReferenceMlstmIdeal.main_arg7) = m ((c.tc : Thread Cert.ReferenceMlstmIdeal.nD Cert.ReferenceMlstmIdeal.τ).loc Cert.ReferenceMlstmIdeal.main_arg7))
      ∧ r.2.sem = fun _ => 0)

def quiescent_ReferenceMlstmIdeal_pre_finite_inputs [hReferenceMlstmIdeal : Cert.ReferenceMlstmIdeal.Facts] [hPre_finite_inputs : Cert.Pre_finite_inputs.Facts] : Prop :=
  ∀ (m : (ℓ : Loc Cert.ReferenceMlstmIdeal.nD Cert.ReferenceMlstmIdeal.τ Cert.ReferenceMlstmIdeal.sig) → Buf (Elt Ideal) ℓ) (g : Dev Cert.ReferenceMlstmIdeal.nD → PrngReg), Pre_ReferenceMlstmIdeal_finite_inputs m →
    θ_run (Cert.ReferenceMlstmIdeal.defs (F := Ideal)) (onTc (τ := Cert.ReferenceMlstmIdeal.τ) (Cert.ReferenceMlstmIdeal.main (F := Ideal))) ⟨m, fun _ => 0, g⟩ (fun r => (∀ c : Dev Cert.ReferenceMlstmIdeal.nD,
      r.2.mem ((c.tc : Thread Cert.ReferenceMlstmIdeal.nD Cert.ReferenceMlstmIdeal.τ).loc Cert.ReferenceMlstmIdeal.main_arg0) = m ((c.tc : Thread Cert.ReferenceMlstmIdeal.nD Cert.ReferenceMlstmIdeal.τ).loc Cert.ReferenceMlstmIdeal.main_arg0)
      ∧ r.2.mem ((c.tc : Thread Cert.ReferenceMlstmIdeal.nD Cert.ReferenceMlstmIdeal.τ).loc Cert.ReferenceMlstmIdeal.main_arg1) = m ((c.tc : Thread Cert.ReferenceMlstmIdeal.nD Cert.ReferenceMlstmIdeal.τ).loc Cert.ReferenceMlstmIdeal.main_arg1)
      ∧ r.2.mem ((c.tc : Thread Cert.ReferenceMlstmIdeal.nD Cert.ReferenceMlstmIdeal.τ).loc Cert.ReferenceMlstmIdeal.main_arg2) = m ((c.tc : Thread Cert.ReferenceMlstmIdeal.nD Cert.ReferenceMlstmIdeal.τ).loc Cert.ReferenceMlstmIdeal.main_arg2)
      ∧ r.2.mem ((c.tc : Thread Cert.ReferenceMlstmIdeal.nD Cert.ReferenceMlstmIdeal.τ).loc Cert.ReferenceMlstmIdeal.main_arg3) = m ((c.tc : Thread Cert.ReferenceMlstmIdeal.nD Cert.ReferenceMlstmIdeal.τ).loc Cert.ReferenceMlstmIdeal.main_arg3)
      ∧ r.2.mem ((c.tc : Thread Cert.ReferenceMlstmIdeal.nD Cert.ReferenceMlstmIdeal.τ).loc Cert.ReferenceMlstmIdeal.main_arg4) = m ((c.tc : Thread Cert.ReferenceMlstmIdeal.nD Cert.ReferenceMlstmIdeal.τ).loc Cert.ReferenceMlstmIdeal.main_arg4)
      ∧ r.2.mem ((c.tc : Thread Cert.ReferenceMlstmIdeal.nD Cert.ReferenceMlstmIdeal.τ).loc Cert.ReferenceMlstmIdeal.main_arg5) = m ((c.tc : Thread Cert.ReferenceMlstmIdeal.nD Cert.ReferenceMlstmIdeal.τ).loc Cert.ReferenceMlstmIdeal.main_arg5)
      ∧ r.2.mem ((c.tc : Thread Cert.ReferenceMlstmIdeal.nD Cert.ReferenceMlstmIdeal.τ).loc Cert.ReferenceMlstmIdeal.main_arg6) = m ((c.tc : Thread Cert.ReferenceMlstmIdeal.nD Cert.ReferenceMlstmIdeal.τ).loc Cert.ReferenceMlstmIdeal.main_arg6)
      ∧ r.2.mem ((c.tc : Thread Cert.ReferenceMlstmIdeal.nD Cert.ReferenceMlstmIdeal.τ).loc Cert.ReferenceMlstmIdeal.main_arg7) = m ((c.tc : Thread Cert.ReferenceMlstmIdeal.nD Cert.ReferenceMlstmIdeal.τ).loc Cert.ReferenceMlstmIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)) →
    ∃ (v0 : (c : Dev Cert.KernelMlpIdeal.nD) → Buf (Elt Ideal) ((c.tc : Thread Cert.KernelMlpIdeal.nD Cert.KernelMlpIdeal.τ).loc Cert.KernelMlpIdeal.main_v5)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v5) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v22) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7))

def preserves_KernelMlpFinal_KernelMlpFinalIdeal : Prop :=
  True

def algebraic_KernelMlpFinalIdeal_ReferenceMlpFinalIdeal [hKernelMlpFinalIdeal : Cert.KernelMlpFinalIdeal.Facts] [hReferenceMlpFinalIdeal : Cert.ReferenceMlpFinalIdeal.Facts] : Prop :=
  ∀ (m : (ℓ : Loc Cert.KernelMlpFinalIdeal.nD Cert.KernelMlpFinalIdeal.τ Cert.KernelMlpFinalIdeal.sig) → Buf (Elt Ideal) ℓ) (g : Dev Cert.KernelMlpFinalIdeal.nD → PrngReg)
    (m' : (ℓ : Loc Cert.ReferenceMlpFinalIdeal.nD Cert.ReferenceMlpFinalIdeal.τ Cert.ReferenceMlpFinalIdeal.sig) → Buf (Elt Ideal) ℓ) (g' : Dev Cert.ReferenceMlpFinalIdeal.nD → PrngReg), Pre_KernelMlpFinalIdeal m →
    (∀ c : Dev Cert.KernelMlpFinalIdeal.nD,
      m' ((c.tc : Thread Cert.ReferenceMlpFinalIdeal.nD Cert.ReferenceMlpFinalIdeal.τ).loc Cert.ReferenceMlpFinalIdeal.main_arg0) = m ((c.tc : Thread Cert.KernelMlpFinalIdeal.nD Cert.KernelMlpFinalIdeal.τ).loc Cert.KernelMlpFinalIdeal.main_arg0)
      ∧ m' ((c.tc : Thread Cert.ReferenceMlpFinalIdeal.nD Cert.ReferenceMlpFinalIdeal.τ).loc Cert.ReferenceMlpFinalIdeal.main_arg1) = m ((c.tc : Thread Cert.KernelMlpFinalIdeal.nD Cert.KernelMlpFinalIdeal.τ).loc Cert.KernelMlpFinalIdeal.main_arg1)
      ∧ m' ((c.tc : Thread Cert.ReferenceMlpFinalIdeal.nD Cert.ReferenceMlpFinalIdeal.τ).loc Cert.ReferenceMlpFinalIdeal.main_arg2) = m ((c.tc : Thread Cert.KernelMlpFinalIdeal.nD Cert.KernelMlpFinalIdeal.τ).loc Cert.KernelMlpFinalIdeal.main_arg2)
      ∧ m' ((c.tc : Thread Cert.ReferenceMlpFinalIdeal.nD Cert.ReferenceMlpFinalIdeal.τ).loc Cert.ReferenceMlpFinalIdeal.main_arg3) = m ((c.tc : Thread Cert.KernelMlpFinalIdeal.nD Cert.KernelMlpFinalIdeal.τ).loc Cert.KernelMlpFinalIdeal.main_arg3)
      ∧ m' ((c.tc : Thread Cert.ReferenceMlpFinalIdeal.nD Cert.ReferenceMlpFinalIdeal.τ).loc Cert.ReferenceMlpFinalIdeal.main_arg4) = m ((c.tc : Thread Cert.KernelMlpFinalIdeal.nD Cert.KernelMlpFinalIdeal.τ).loc Cert.KernelMlpFinalIdeal.main_arg4)
      ∧ m' ((c.tc : Thread Cert.ReferenceMlpFinalIdeal.nD Cert.ReferenceMlpFinalIdeal.τ).loc Cert.ReferenceMlpFinalIdeal.main_arg5) = m ((c.tc : Thread Cert.KernelMlpFinalIdeal.nD Cert.KernelMlpFinalIdeal.τ).loc Cert.KernelMlpFinalIdeal.main_arg5)
      ∧ m' ((c.tc : Thread Cert.ReferenceMlpFinalIdeal.nD Cert.ReferenceMlpFinalIdeal.τ).loc Cert.ReferenceMlpFinalIdeal.main_arg6) = m ((c.tc : Thread Cert.KernelMlpFinalIdeal.nD Cert.KernelMlpFinalIdeal.τ).loc Cert.KernelMlpFinalIdeal.main_arg6)
      ∧ m' ((c.tc : Thread Cert.ReferenceMlpFinalIdeal.nD Cert.ReferenceMlpFinalIdeal.τ).loc Cert.ReferenceMlpFinalIdeal.main_arg7) = m ((c.tc : Thread Cert.KernelMlpFinalIdeal.nD Cert.KernelMlpFinalIdeal.τ).loc Cert.KernelMlpFinalIdeal.main_arg7)) →
    ∃ (v0 : (c : Dev Cert.KernelMlpFinalIdeal.nD) → Buf (Elt Ideal) ((c.tc : Thread Cert.KernelMlpFinalIdeal.nD Cert.KernelMlpFinalIdeal.τ).loc Cert.KernelMlpFinalIdeal.main_v5)),
      θ_run (Cert.KernelMlpFinalIdeal.defs (F := Ideal)) (onTc (τ := Cert.KernelMlpFinalIdeal.τ) (Cert.KernelMlpFinalIdeal.main (F := Ideal))) ⟨m, fun _ => 0, g⟩ (fun r => ∀ c : Dev Cert.KernelMlpFinalIdeal.nD,
          r.2.mem ((c.tc : Thread Cert.KernelMlpFinalIdeal.nD Cert.KernelMlpFinalIdeal.τ).loc Cert.KernelMlpFinalIdeal.main_v5) = v0 c
          ∧ r.2.mem ((c.tc : Thread Cert.KernelMlpFinalIdeal.nD Cert.KernelMlpFinalIdeal.τ).loc Cert.KernelMlpFinalIdeal.main_arg0) = m ((c.tc : Thread Cert.KernelMlpFinalIdeal.nD Cert.KernelMlpFinalIdeal.τ).loc Cert.KernelMlpFinalIdeal.main_arg0)
          ∧ r.2.mem ((c.tc : Thread Cert.KernelMlpFinalIdeal.nD Cert.KernelMlpFinalIdeal.τ).loc Cert.KernelMlpFinalIdeal.main_arg1) = m ((c.tc : Thread Cert.KernelMlpFinalIdeal.nD Cert.KernelMlpFinalIdeal.τ).loc Cert.KernelMlpFinalIdeal.main_arg1)
          ∧ r.2.mem ((c.tc : Thread Cert.KernelMlpFinalIdeal.nD Cert.KernelMlpFinalIdeal.τ).loc Cert.KernelMlpFinalIdeal.main_arg2) = m ((c.tc : Thread Cert.KernelMlpFinalIdeal.nD Cert.KernelMlpFinalIdeal.τ).loc Cert.KernelMlpFinalIdeal.main_arg2)
          ∧ r.2.mem ((c.tc : Thread Cert.KernelMlpFinalIdeal.nD Cert.KernelMlpFinalIdeal.τ).loc Cert.KernelMlpFinalIdeal.main_arg3) = m ((c.tc : Thread Cert.KernelMlpFinalIdeal.nD Cert.KernelMlpFinalIdeal.τ).loc Cert.KernelMlpFinalIdeal.main_arg3)
          ∧ r.2.mem ((c.tc : Thread Cert.KernelMlpFinalIdeal.nD Cert.KernelMlpFinalIdeal.τ).loc Cert.KernelMlpFinalIdeal.main_arg4) = m ((c.tc : Thread Cert.KernelMlpFinalIdeal.nD Cert.KernelMlpFinalIdeal.τ).loc Cert.KernelMlpFinalIdeal.main_arg4)
          ∧ r.2.mem ((c.tc : Thread Cert.KernelMlpFinalIdeal.nD Cert.KernelMlpFinalIdeal.τ).loc Cert.KernelMlpFinalIdeal.main_arg5) = m ((c.tc : Thread Cert.KernelMlpFinalIdeal.nD Cert.KernelMlpFinalIdeal.τ).loc Cert.KernelMlpFinalIdeal.main_arg5)
          ∧ r.2.mem ((c.tc : Thread Cert.KernelMlpFinalIdeal.nD Cert.KernelMlpFinalIdeal.τ).loc Cert.KernelMlpFinalIdeal.main_arg6) = m ((c.tc : Thread Cert.KernelMlpFinalIdeal.nD Cert.KernelMlpFinalIdeal.τ).loc Cert.KernelMlpFinalIdeal.main_arg6)
          ∧ r.2.mem ((c.tc : Thread Cert.KernelMlpFinalIdeal.nD Cert.KernelMlpFinalIdeal.τ).loc Cert.KernelMlpFinalIdeal.main_arg7) = m ((c.tc : Thread Cert.KernelMlpFinalIdeal.nD Cert.KernelMlpFinalIdeal.τ).loc Cert.KernelMlpFinalIdeal.main_arg7))
      ∧ θ_run (Cert.ReferenceMlpFinalIdeal.defs (F := Ideal)) (onTc (τ := Cert.ReferenceMlpFinalIdeal.τ) (Cert.ReferenceMlpFinalIdeal.main (F := Ideal))) ⟨m', fun _ => 0, g'⟩ (fun r => ∀ c : Dev Cert.ReferenceMlpFinalIdeal.nD,
          r.2.mem ((c.tc : Thread Cert.ReferenceMlpFinalIdeal.nD Cert.ReferenceMlpFinalIdeal.τ).loc Cert.ReferenceMlpFinalIdeal.main_v35) = v0 c
          ∧ r.2.mem ((c.tc : Thread Cert.ReferenceMlpFinalIdeal.nD Cert.ReferenceMlpFinalIdeal.τ).loc Cert.ReferenceMlpFinalIdeal.main_arg0) = m' ((c.tc : Thread Cert.ReferenceMlpFinalIdeal.nD Cert.ReferenceMlpFinalIdeal.τ).loc Cert.ReferenceMlpFinalIdeal.main_arg0)
          ∧ r.2.mem ((c.tc : Thread Cert.ReferenceMlpFinalIdeal.nD Cert.ReferenceMlpFinalIdeal.τ).loc Cert.ReferenceMlpFinalIdeal.main_arg1) = m' ((c.tc : Thread Cert.ReferenceMlpFinalIdeal.nD Cert.ReferenceMlpFinalIdeal.τ).loc Cert.ReferenceMlpFinalIdeal.main_arg1)
          ∧ r.2.mem ((c.tc : Thread Cert.ReferenceMlpFinalIdeal.nD Cert.ReferenceMlpFinalIdeal.τ).loc Cert.ReferenceMlpFinalIdeal.main_arg2) = m' ((c.tc : Thread Cert.ReferenceMlpFinalIdeal.nD Cert.ReferenceMlpFinalIdeal.τ).loc Cert.ReferenceMlpFinalIdeal.main_arg2)
          ∧ r.2.mem ((c.tc : Thread Cert.ReferenceMlpFinalIdeal.nD Cert.ReferenceMlpFinalIdeal.τ).loc Cert.ReferenceMlpFinalIdeal.main_arg3) = m' ((c.tc : Thread Cert.ReferenceMlpFinalIdeal.nD Cert.ReferenceMlpFinalIdeal.τ).loc Cert.ReferenceMlpFinalIdeal.main_arg3)
          ∧ r.2.mem ((c.tc : Thread Cert.ReferenceMlpFinalIdeal.nD Cert.ReferenceMlpFinalIdeal.τ).loc Cert.ReferenceMlpFinalIdeal.main_arg4) = m' ((c.tc : Thread Cert.ReferenceMlpFinalIdeal.nD Cert.ReferenceMlpFinalIdeal.τ).loc Cert.ReferenceMlpFinalIdeal.main_arg4)
          ∧ r.2.mem ((c.tc : Thread Cert.ReferenceMlpFinalIdeal.nD Cert.ReferenceMlpFinalIdeal.τ).loc Cert.ReferenceMlpFinalIdeal.main_arg5) = m' ((c.tc : Thread Cert.ReferenceMlpFinalIdeal.nD Cert.ReferenceMlpFinalIdeal.τ).loc Cert.ReferenceMlpFinalIdeal.main_arg5)
          ∧ r.2.mem ((c.tc : Thread Cert.ReferenceMlpFinalIdeal.nD Cert.ReferenceMlpFinalIdeal.τ).loc Cert.ReferenceMlpFinalIdeal.main_arg6) = m' ((c.tc : Thread Cert.ReferenceMlpFinalIdeal.nD Cert.ReferenceMlpFinalIdeal.τ).loc Cert.ReferenceMlpFinalIdeal.main_arg6)
          ∧ r.2.mem ((c.tc : Thread Cert.ReferenceMlpFinalIdeal.nD Cert.ReferenceMlpFinalIdeal.τ).loc Cert.ReferenceMlpFinalIdeal.main_arg7) = m' ((c.tc : Thread Cert.ReferenceMlpFinalIdeal.nD Cert.ReferenceMlpFinalIdeal.τ).loc Cert.ReferenceMlpFinalIdeal.main_arg7))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)) →
    ∃ (v0 : (c : Dev Cert.KernelEvenIdeal.nD) → Buf (Elt Ideal) ((c.tc : Thread Cert.KernelEvenIdeal.nD Cert.KernelEvenIdeal.τ).loc Cert.KernelEvenIdeal.main_v2_0)) (v1 : (c : Dev Cert.KernelEvenIdeal.nD) → Buf (Elt Ideal) ((c.tc : Thread Cert.KernelEvenIdeal.nD Cert.KernelEvenIdeal.τ).loc Cert.KernelEvenIdeal.main_v2_1)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v2_0) = v0 c
          ∧ r.2.mem ((c.tc : Thread Cert.KernelEvenIdeal.nD Cert.KernelEvenIdeal.τ).loc Cert.KernelEvenIdeal.main_v2_1) = v1 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v14) = v0 c
          ∧ r.2.mem ((c.tc : Thread Cert.ReferenceEvenIdeal.nD Cert.ReferenceEvenIdeal.τ).loc Cert.ReferenceEvenIdeal.main_v15) = v1 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)) →
    ∃ (v0 : (c : Dev Cert.KernelOddIdeal.nD) → Buf (Elt Ideal) ((c.tc : Thread Cert.KernelOddIdeal.nD Cert.KernelOddIdeal.τ).loc Cert.KernelOddIdeal.main_v14_0)) (v1 : (c : Dev Cert.KernelOddIdeal.nD) → Buf (Elt Ideal) ((c.tc : Thread Cert.KernelOddIdeal.nD Cert.KernelOddIdeal.τ).loc Cert.KernelOddIdeal.main_v14_1)) (v2 : (c : Dev Cert.KernelOddIdeal.nD) → Buf (Elt Ideal) ((c.tc : Thread Cert.KernelOddIdeal.nD Cert.KernelOddIdeal.τ).loc Cert.KernelOddIdeal.main_v14_2)) (v3 : (c : Dev Cert.KernelOddIdeal.nD) → Buf (Elt Ideal) ((c.tc : Thread Cert.KernelOddIdeal.nD Cert.KernelOddIdeal.τ).loc Cert.KernelOddIdeal.main_v14_3)) (v4 : (c : Dev Cert.KernelOddIdeal.nD) → Buf (Elt Ideal) ((c.tc : Thread Cert.KernelOddIdeal.nD Cert.KernelOddIdeal.τ).loc Cert.KernelOddIdeal.main_v14_4)) (v5 : (c : Dev Cert.KernelOddIdeal.nD) → Buf (Elt Ideal) ((c.tc : Thread Cert.KernelOddIdeal.nD Cert.KernelOddIdeal.τ).loc Cert.KernelOddIdeal.main_v14_5)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v14_0) = v0 c
          ∧ r.2.mem ((c.tc : Thread Cert.KernelOddIdeal.nD Cert.KernelOddIdeal.τ).loc Cert.KernelOddIdeal.main_v14_1) = v1 c
          ∧ r.2.mem ((c.tc : Thread Cert.KernelOddIdeal.nD Cert.KernelOddIdeal.τ).loc Cert.KernelOddIdeal.main_v14_2) = v2 c
          ∧ r.2.mem ((c.tc : Thread Cert.KernelOddIdeal.nD Cert.KernelOddIdeal.τ).loc Cert.KernelOddIdeal.main_v14_3) = v3 c
          ∧ r.2.mem ((c.tc : Thread Cert.KernelOddIdeal.nD Cert.KernelOddIdeal.τ).loc Cert.KernelOddIdeal.main_v14_4) = v4 c
          ∧ r.2.mem ((c.tc : Thread Cert.KernelOddIdeal.nD Cert.KernelOddIdeal.τ).loc Cert.KernelOddIdeal.main_v14_5) = v5 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v17) = v0 c
          ∧ r.2.mem ((c.tc : Thread Cert.ReferenceOddIdeal.nD Cert.ReferenceOddIdeal.τ).loc Cert.ReferenceOddIdeal.main_v18) = v1 c
          ∧ r.2.mem ((c.tc : Thread Cert.ReferenceOddIdeal.nD Cert.ReferenceOddIdeal.τ).loc Cert.ReferenceOddIdeal.main_v19) = v2 c
          ∧ r.2.mem ((c.tc : Thread Cert.ReferenceOddIdeal.nD Cert.ReferenceOddIdeal.τ).loc Cert.ReferenceOddIdeal.main_v20) = v3 c
          ∧ r.2.mem ((c.tc : Thread Cert.ReferenceOddIdeal.nD Cert.ReferenceOddIdeal.τ).loc Cert.ReferenceOddIdeal.main_v21) = v4 c
          ∧ r.2.mem ((c.tc : Thread Cert.ReferenceOddIdeal.nD Cert.ReferenceOddIdeal.τ).loc Cert.ReferenceOddIdeal.main_v22) = v5 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2))

def preserves_KernelMlstm_KernelMlstmIdeal : Prop :=
  True

def algebraic_KernelMlstmIdeal_ReferenceMlstmIdeal_pre_finite_inputs [hKernelMlstmIdeal : Cert.KernelMlstmIdeal.Facts] [hReferenceMlstmIdeal : Cert.ReferenceMlstmIdeal.Facts] [hPre_finite_inputs : Cert.Pre_finite_inputs.Facts] : Prop :=
  ∀ (m : (ℓ : Loc Cert.KernelMlstmIdeal.nD Cert.KernelMlstmIdeal.τ Cert.KernelMlstmIdeal.sig) → Buf (Elt Ideal) ℓ) (g : Dev Cert.KernelMlstmIdeal.nD → PrngReg)
    (m' : (ℓ : Loc Cert.ReferenceMlstmIdeal.nD Cert.ReferenceMlstmIdeal.τ Cert.ReferenceMlstmIdeal.sig) → Buf (Elt Ideal) ℓ) (g' : Dev Cert.ReferenceMlstmIdeal.nD → PrngReg), Pre_KernelMlstmIdeal_finite_inputs m →
    (∀ c : Dev Cert.KernelMlstmIdeal.nD,
      m' ((c.tc : Thread Cert.ReferenceMlstmIdeal.nD Cert.ReferenceMlstmIdeal.τ).loc Cert.ReferenceMlstmIdeal.main_arg0) = m ((c.tc : Thread Cert.KernelMlstmIdeal.nD Cert.KernelMlstmIdeal.τ).loc Cert.KernelMlstmIdeal.main_arg0)
      ∧ m' ((c.tc : Thread Cert.ReferenceMlstmIdeal.nD Cert.ReferenceMlstmIdeal.τ).loc Cert.ReferenceMlstmIdeal.main_arg1) = m ((c.tc : Thread Cert.KernelMlstmIdeal.nD Cert.KernelMlstmIdeal.τ).loc Cert.KernelMlstmIdeal.main_arg1)
      ∧ m' ((c.tc : Thread Cert.ReferenceMlstmIdeal.nD Cert.ReferenceMlstmIdeal.τ).loc Cert.ReferenceMlstmIdeal.main_arg2) = m ((c.tc : Thread Cert.KernelMlstmIdeal.nD Cert.KernelMlstmIdeal.τ).loc Cert.KernelMlstmIdeal.main_arg2)
      ∧ m' ((c.tc : Thread Cert.ReferenceMlstmIdeal.nD Cert.ReferenceMlstmIdeal.τ).loc Cert.ReferenceMlstmIdeal.main_arg3) = m ((c.tc : Thread Cert.KernelMlstmIdeal.nD Cert.KernelMlstmIdeal.τ).loc Cert.KernelMlstmIdeal.main_arg3)
      ∧ m' ((c.tc : Thread Cert.ReferenceMlstmIdeal.nD Cert.ReferenceMlstmIdeal.τ).loc Cert.ReferenceMlstmIdeal.main_arg4) = m ((c.tc : Thread Cert.KernelMlstmIdeal.nD Cert.KernelMlstmIdeal.τ).loc Cert.KernelMlstmIdeal.main_arg4)
      ∧ m' ((c.tc : Thread Cert.ReferenceMlstmIdeal.nD Cert.ReferenceMlstmIdeal.τ).loc Cert.ReferenceMlstmIdeal.main_arg5) = m ((c.tc : Thread Cert.KernelMlstmIdeal.nD Cert.KernelMlstmIdeal.τ).loc Cert.KernelMlstmIdeal.main_arg5)
      ∧ m' ((c.tc : Thread Cert.ReferenceMlstmIdeal.nD Cert.ReferenceMlstmIdeal.τ).loc Cert.ReferenceMlstmIdeal.main_arg6) = m ((c.tc : Thread Cert.KernelMlstmIdeal.nD Cert.KernelMlstmIdeal.τ).loc Cert.KernelMlstmIdeal.main_arg6)
      ∧ m' ((c.tc : Thread Cert.ReferenceMlstmIdeal.nD Cert.ReferenceMlstmIdeal.τ).loc Cert.ReferenceMlstmIdeal.main_arg7) = m ((c.tc : Thread Cert.KernelMlstmIdeal.nD Cert.KernelMlstmIdeal.τ).loc Cert.KernelMlstmIdeal.main_arg7)) →
    ∃ (v0 : (c : Dev Cert.KernelMlstmIdeal.nD) → Buf (Elt Ideal) ((c.tc : Thread Cert.KernelMlstmIdeal.nD Cert.KernelMlstmIdeal.τ).loc Cert.KernelMlstmIdeal.main_v10)),
      θ_run (Cert.KernelMlstmIdeal.defs (F := Ideal)) (onTc (τ := Cert.KernelMlstmIdeal.τ) (Cert.KernelMlstmIdeal.main (F := Ideal))) ⟨m, fun _ => 0, g⟩ (fun r => ∀ c : Dev Cert.KernelMlstmIdeal.nD,
          r.2.mem ((c.tc : Thread Cert.KernelMlstmIdeal.nD Cert.KernelMlstmIdeal.τ).loc Cert.KernelMlstmIdeal.main_v10) = v0 c
          ∧ r.2.mem ((c.tc : Thread Cert.KernelMlstmIdeal.nD Cert.KernelMlstmIdeal.τ).loc Cert.KernelMlstmIdeal.main_arg0) = m ((c.tc : Thread Cert.KernelMlstmIdeal.nD Cert.KernelMlstmIdeal.τ).loc Cert.KernelMlstmIdeal.main_arg0)
          ∧ r.2.mem ((c.tc : Thread Cert.KernelMlstmIdeal.nD Cert.KernelMlstmIdeal.τ).loc Cert.KernelMlstmIdeal.main_arg1) = m ((c.tc : Thread Cert.KernelMlstmIdeal.nD Cert.KernelMlstmIdeal.τ).loc Cert.KernelMlstmIdeal.main_arg1)
          ∧ r.2.mem ((c.tc : Thread Cert.KernelMlstmIdeal.nD Cert.KernelMlstmIdeal.τ).loc Cert.KernelMlstmIdeal.main_arg2) = m ((c.tc : Thread Cert.KernelMlstmIdeal.nD Cert.KernelMlstmIdeal.τ).loc Cert.KernelMlstmIdeal.main_arg2)
          ∧ r.2.mem ((c.tc : Thread Cert.KernelMlstmIdeal.nD Cert.KernelMlstmIdeal.τ).loc Cert.KernelMlstmIdeal.main_arg3) = m ((c.tc : Thread Cert.KernelMlstmIdeal.nD Cert.KernelMlstmIdeal.τ).loc Cert.KernelMlstmIdeal.main_arg3)
          ∧ r.2.mem ((c.tc : Thread Cert.KernelMlstmIdeal.nD Cert.KernelMlstmIdeal.τ).loc Cert.KernelMlstmIdeal.main_arg4) = m ((c.tc : Thread Cert.KernelMlstmIdeal.nD Cert.KernelMlstmIdeal.τ).loc Cert.KernelMlstmIdeal.main_arg4)
          ∧ r.2.mem ((c.tc : Thread Cert.KernelMlstmIdeal.nD Cert.KernelMlstmIdeal.τ).loc Cert.KernelMlstmIdeal.main_arg5) = m ((c.tc : Thread Cert.KernelMlstmIdeal.nD Cert.KernelMlstmIdeal.τ).loc Cert.KernelMlstmIdeal.main_arg5)
          ∧ r.2.mem ((c.tc : Thread Cert.KernelMlstmIdeal.nD Cert.KernelMlstmIdeal.τ).loc Cert.KernelMlstmIdeal.main_arg6) = m ((c.tc : Thread Cert.KernelMlstmIdeal.nD Cert.KernelMlstmIdeal.τ).loc Cert.KernelMlstmIdeal.main_arg6)
          ∧ r.2.mem ((c.tc : Thread Cert.KernelMlstmIdeal.nD Cert.KernelMlstmIdeal.τ).loc Cert.KernelMlstmIdeal.main_arg7) = m ((c.tc : Thread Cert.KernelMlstmIdeal.nD Cert.KernelMlstmIdeal.τ).loc Cert.KernelMlstmIdeal.main_arg7))
      ∧ θ_run (Cert.ReferenceMlstmIdeal.defs (F := Ideal)) (onTc (τ := Cert.ReferenceMlstmIdeal.τ) (Cert.ReferenceMlstmIdeal.main (F := Ideal))) ⟨m', fun _ => 0, g'⟩ (fun r => ∀ c : Dev Cert.ReferenceMlstmIdeal.nD,
          r.2.mem ((c.tc : Thread Cert.ReferenceMlstmIdeal.nD Cert.ReferenceMlstmIdeal.τ).loc Cert.ReferenceMlstmIdeal.main_v110) = v0 c
          ∧ r.2.mem ((c.tc : Thread Cert.ReferenceMlstmIdeal.nD Cert.ReferenceMlstmIdeal.τ).loc Cert.ReferenceMlstmIdeal.main_arg0) = m' ((c.tc : Thread Cert.ReferenceMlstmIdeal.nD Cert.ReferenceMlstmIdeal.τ).loc Cert.ReferenceMlstmIdeal.main_arg0)
          ∧ r.2.mem ((c.tc : Thread Cert.ReferenceMlstmIdeal.nD Cert.ReferenceMlstmIdeal.τ).loc Cert.ReferenceMlstmIdeal.main_arg1) = m' ((c.tc : Thread Cert.ReferenceMlstmIdeal.nD Cert.ReferenceMlstmIdeal.τ).loc Cert.ReferenceMlstmIdeal.main_arg1)
          ∧ r.2.mem ((c.tc : Thread Cert.ReferenceMlstmIdeal.nD Cert.ReferenceMlstmIdeal.τ).loc Cert.ReferenceMlstmIdeal.main_arg2) = m' ((c.tc : Thread Cert.ReferenceMlstmIdeal.nD Cert.ReferenceMlstmIdeal.τ).loc Cert.ReferenceMlstmIdeal.main_arg2)
          ∧ r.2.mem ((c.tc : Thread Cert.ReferenceMlstmIdeal.nD Cert.ReferenceMlstmIdeal.τ).loc Cert.ReferenceMlstmIdeal.main_arg3) = m' ((c.tc : Thread Cert.ReferenceMlstmIdeal.nD Cert.ReferenceMlstmIdeal.τ).loc Cert.ReferenceMlstmIdeal.main_arg3)
          ∧ r.2.mem ((c.tc : Thread Cert.ReferenceMlstmIdeal.nD Cert.ReferenceMlstmIdeal.τ).loc Cert.ReferenceMlstmIdeal.main_arg4) = m' ((c.tc : Thread Cert.ReferenceMlstmIdeal.nD Cert.ReferenceMlstmIdeal.τ).loc Cert.ReferenceMlstmIdeal.main_arg4)
          ∧ r.2.mem ((c.tc : Thread Cert.ReferenceMlstmIdeal.nD Cert.ReferenceMlstmIdeal.τ).loc Cert.ReferenceMlstmIdeal.main_arg5) = m' ((c.tc : Thread Cert.ReferenceMlstmIdeal.nD Cert.ReferenceMlstmIdeal.τ).loc Cert.ReferenceMlstmIdeal.main_arg5)
          ∧ r.2.mem ((c.tc : Thread Cert.ReferenceMlstmIdeal.nD Cert.ReferenceMlstmIdeal.τ).loc Cert.ReferenceMlstmIdeal.main_arg6) = m' ((c.tc : Thread Cert.ReferenceMlstmIdeal.nD Cert.ReferenceMlstmIdeal.τ).loc Cert.ReferenceMlstmIdeal.main_arg6)
          ∧ r.2.mem ((c.tc : Thread Cert.ReferenceMlstmIdeal.nD Cert.ReferenceMlstmIdeal.τ).loc Cert.ReferenceMlstmIdeal.main_arg7) = m' ((c.tc : Thread Cert.ReferenceMlstmIdeal.nD Cert.ReferenceMlstmIdeal.τ).loc Cert.ReferenceMlstmIdeal.main_arg7))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelMlpFinal : Cert.KernelMlpFinal.Facts) (hKernelMlpFinalIdeal : Cert.KernelMlpFinalIdeal.Facts) (hReferenceMlpFinalIdeal : Cert.ReferenceMlpFinalIdeal.Facts) (hKernelEven : Cert.KernelEven.Facts) (hKernelEvenIdeal : Cert.KernelEvenIdeal.Facts) (hReferenceEvenIdeal : Cert.ReferenceEvenIdeal.Facts) (hKernelOdd : Cert.KernelOdd.Facts) (hKernelOddIdeal : Cert.KernelOddIdeal.Facts) (hReferenceOddIdeal : Cert.ReferenceOddIdeal.Facts) (hKernelMlstm : Cert.KernelMlstm.Facts) (hKernelMlstmIdeal : Cert.KernelMlstmIdeal.Facts) (hReferenceMlstmIdeal : Cert.ReferenceMlstmIdeal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelMlpFinal (hKernelMlpFinal := hKernelMlpFinal)
    ∧ quiescent_KernelMlpFinalIdeal (hKernelMlpFinalIdeal := hKernelMlpFinalIdeal)
    ∧ quiescent_ReferenceMlpFinalIdeal (hReferenceMlpFinalIdeal := hReferenceMlpFinalIdeal)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelMlstm (hKernelMlstm := hKernelMlstm)
    ∧ quiescent_KernelMlstmIdeal (hKernelMlstmIdeal := hKernelMlstmIdeal)
    ∧ quiescent_KernelMlstmIdeal_pre_finite_inputs (hKernelMlstmIdeal := hKernelMlstmIdeal) (hPre_finite_inputs := hPre_finite_inputs)
    ∧ quiescent_ReferenceMlstmIdeal (hReferenceMlstmIdeal := hReferenceMlstmIdeal)
    ∧ quiescent_ReferenceMlstmIdeal_pre_finite_inputs (hReferenceMlstmIdeal := hReferenceMlstmIdeal) (hPre_finite_inputs := hPre_finite_inputs)
    ∧ preserves_Kernel_KernelIdeal
    ∧ algebraic_KernelIdeal_ReferenceIdeal (hKernelIdeal := hKernelIdeal) (hReferenceIdeal := hReferenceIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelMlpFinal_KernelMlpFinalIdeal
    ∧ algebraic_KernelMlpFinalIdeal_ReferenceMlpFinalIdeal (hKernelMlpFinalIdeal := hKernelMlpFinalIdeal) (hReferenceMlpFinalIdeal := hReferenceMlpFinalIdeal)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelOdd_KernelOddIdeal
    ∧ algebraic_KernelOddIdeal_ReferenceOddIdeal (hKernelOddIdeal := hKernelOddIdeal) (hReferenceOddIdeal := hReferenceOddIdeal)
    ∧ preserves_KernelMlstm_KernelMlstmIdeal
    ∧ algebraic_KernelMlstmIdeal_ReferenceMlstmIdeal_pre_finite_inputs (hKernelMlstmIdeal := hKernelMlstmIdeal) (hReferenceMlstmIdeal := hReferenceMlstmIdeal) (hPre_finite_inputs := hPre_finite_inputs)
-- ==== Pre_finite_inputs.lean ====
abbrev S16384x512 : Shape := ⟨2, ![16384, 512]⟩
abbrev S16384x128 : Shape := ⟨2, ![16384, 128]⟩
abbrev S4x512 : Shape := ⟨2, ![4, 512]⟩
abbrev S4 : Shape := ⟨1, ![4]⟩
abbrev S128 : Shape := ⟨1, ![128]⟩
abbrev S16384x8 : Shape := ⟨2, ![16384, 8]⟩
abbrev S_ : Shape := ⟨0, ![]⟩

class Facts : Prop where
  slices_S16384x128_S16384x8_0_8 : S16384x128.Slices ![0, 8] S16384x8
  bcast_S_S16384x512 : S_.BroadcastsInDim S16384x512 (![] : Fin 0 → Fin S16384x512.rank)
  bcast_S_S16384x8 : S_.BroadcastsInDim S16384x8 (![] : Fin 0 → Fin S16384x8.rank)
  bcast_S_S4x512 : S_.BroadcastsInDim S4x512 (![] : Fin 0 → Fin S4x512.rank)
  bcast_S_S4 : S_.BroadcastsInDim S4 (![] : Fin 0 → Fin S4.rank)

variable [Facts]

def fn {F : FTy → Type} [FloatOps F] (main_arg0 : FVec F S16384x512 .f32) (main_arg1 : FVec F S16384x512 .f32) (main_arg2 : FVec F S16384x512 .f32) (main_arg3 : FVec F S16384x128 .f32) (main_arg4 : FVec F S4x512 .f32) (main_arg5 : FVec F S4 .f32) (main_arg6 : FVec F S4 .f32) (main_arg7 : FVec F S128 .f32) : IVec S16384x512 1 × IVec S16384x512 1 × IVec S16384x8 1 × IVec S4x512 1 × IVec S4 1 :=
  let main_v0 : FVec F S16384x8 .f32 := (extractStridedSlice S16384x8 ![0, 8] · slices_S16384x128_S16384x8_0_8) main_arg3
  let main_v1 : FVec F S16384x512 .f32 := Host.absf main_arg0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S16384x8 .f32 := Host.absf main_v0
  let main_cst_1 : FVec F S_ .f32 := constant S_ .f32 0x7F800000#32
  let main_v8 : FVec F S16384x8 .f32 := broadcastInDim S16384x8 ![] bcast_S_S16384x8 main_cst_1
  let main_v9 : IVec S16384x8 1 := cmpf .olt main_v7 main_v8
  let main_v10 : FVec F S4x512 .f32 := Host.absf main_arg4
  let main_cst_2 : FVec F S_ .f32 := constant S_ .f32 0x7F800000#32
  let main_v11 : FVec F S4x512 .f32 := broadcastInDim S4x512 ![] bcast_S_S4x512 main_cst_2
  let main_v12 : IVec S4x512 1 := cmpf .olt main_v10 main_v11
  let main_v13 : FVec F S4 .f32 := Host.absf main_arg5
  let main_cst_3 : FVec F S_ .f32 := constant S_ .f32 0x7F800000#32
  let main_v14 : FVec F S4 .f32 := broadcastInDim S4 ![] bcast_S_S4 main_cst_3
  let main_v15 : IVec S4 1 := cmpf .olt main_v13 main_v14
  (main_v3, main_v6, main_v9, main_v12, main_v15)
-- ==== Kernel.lean ====
abbrev S16384x1024 : Shape := ⟨2, ![16384, 1024]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S16384x512 : Shape := ⟨2, ![16384, 512]⟩
abbrev S8x512 : Shape := ⟨2, ![8, 512]⟩
abbrev S504x512 : Shape := ⟨2, ![504, 512]⟩
abbrev S16x512 : Shape := ⟨2, ![16, 512]⟩
abbrev S496x512 : Shape := ⟨2, ![496, 512]⟩
abbrev S32x512 : Shape := ⟨2, ![32, 512]⟩
abbrev S480x512 : Shape := ⟨2, ![480, 512]⟩
abbrev S64x512 : Shape := ⟨2, ![64, 512]⟩
abbrev S448x512 : Shape := ⟨2, ![448, 512]⟩
abbrev S128x512 : Shape := ⟨2, ![128, 512]⟩
abbrev S384x512 : Shape := ⟨2, ![384, 512]⟩
abbrev S256x512 : Shape := ⟨2, ![256, 512]⟩

abbrev nBuf : Space → Nat
  | .hbm => 41
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x64x1x64, .f32⟩
  | .hbm, ⟨16, _⟩ => ⟨S8x1x8x1, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x64x1x64, .f32⟩
  | .hbm, ⟨29, _⟩ => ⟨S8x1x8x1, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x1024, .f32⟩
  | .hbm, ⟨35, _⟩ => ⟨S512x1024, .bf16⟩
  | .hbm, ⟨36, _⟩ => ⟨S1024, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S4x512, .f32⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S8x512, .f32⟩
  | .local _ .vmem, ⟨10, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x1024 : Shape := ⟨2, ![16384, 1024]⟩
abbrev S4x512 : Shape := ⟨2, ![4, 512]⟩
abbrev S512 : Shape := ⟨1, ![512]⟩
abbrev S8x64x64 : Shape := ⟨3, ![8, 64, 64]⟩
abbrev S4x4096x1024 : Shape := ⟨3, ![4, 4096, 1024]⟩
abbrev S4x4096x512 : Shape := ⟨3, ![4, 4096, 512]⟩
abbrev S_ : Shape := ⟨0, ![]⟩
abbrev S4x4099x512 : Shape := ⟨3, ![4, 4099, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S4096 : Shape := ⟨1, ![4096]⟩
abbrev S1x4096x1 : Shape := ⟨3, ![1, 4096, 1]⟩
abbrev S4096x4x512 : Shape := ⟨3, ![4096, 4, 512]⟩
abbrev S1x4x512 : Shape := ⟨3, ![1, 4, 512]⟩
abbrev S16384x512 : Shape := ⟨2, ![16384, 512]⟩

abbrev nBuf : Space → Nat
  | .hbm => 168
  | .vmem => 0
  | .smem => 0
  | _ => 0

abbrev hbmTy0_0 (i : Nat) : BufTy := match i % 128 with
  | 0 => ⟨S16384x1024, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4x4096x1024, .f32⟩
  | 9 => ⟨S4x4096x512, .f32⟩
  | 10 => ⟨S_, .i32⟩
  | 11 => ⟨S_, .f32⟩
  | 12 => ⟨S4x4099x512, .f32⟩
  | 13 => ⟨S4x4096x512, .f32⟩
  | 14 => ⟨S1x512, .f32⟩
  | 15 => ⟨S512, .f32⟩
  | 16 => ⟨S1x1x512, .f32⟩
  | 17 => ⟨S4x4096x512, .f32⟩
  | 18 => ⟨S4x4096x512, .f32⟩
  | 19 => ⟨S_, .f32⟩
  | 20 => ⟨S4x4096x512, .f32⟩
  | 21 => ⟨S4x4096x512, .f32⟩
  | 22 => ⟨S4x4096x512, .f32⟩
  | 23 => ⟨S1x512, .f32⟩
  | 24 => ⟨S512, .f32⟩
  | 25 => ⟨S1x1x512, .f32⟩
  | 26 => ⟨S4x4096x512, .f32⟩
  | 27 => ⟨S4x4096x512, .f32⟩
  | 28 => ⟨S4x4096x512, .f32⟩
  | 29 => ⟨S4x4096x512, .f32⟩
  | 30 => ⟨S1x512, .f32⟩
  | 31 => ⟨S512, .f32⟩
  | 32 => ⟨S1x1x512, .f32⟩
  | 33 => ⟨S4x4096x512, .f32⟩
  | 34 => ⟨S4x4096x512, .f32⟩
  | 35 => ⟨S4x4096x512, .f32⟩
  | 36 => ⟨S4x4096x512, .f32⟩
  | 37 => ⟨S1x512, .f32⟩
  | 38 => ⟨S512, .f32⟩
  | 39 => ⟨S1x1x512, .f32⟩
  | 40 => ⟨S4x4096x512, .f32⟩
  | 41 => ⟨S4x4096x512, .f32⟩
  | 42 => ⟨S4x4096x512, .f32⟩
  | 43 => ⟨S1x1x512, .f32⟩
  | 44 => ⟨S4x4096x512, .f32⟩
  | 45 => ⟨S4x4096x512, .f32⟩
  | 46 => ⟨S4x4096x8x64, .f32⟩
  | 47 => ⟨S8x64x4x4096, .f32⟩
  | 48 => ⟨S4x4096x8x64, .f32⟩
  | 49 => ⟨S4x4096x512, .f32⟩
  | 50 => ⟨S1x1x512, .f32⟩
  | 51 => ⟨S4x4096x512, .f32⟩
  | 52 => ⟨S4x4096x512, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S8x64x4x4096, .f32⟩
  | 62 => ⟨S4x4096x8x64, .f32⟩
  | 63 => ⟨S4x4096x512, .f32⟩
  | 64 => ⟨S1x1x512, .f32⟩
  | 65 => ⟨S4x4096x512, .f32⟩
  | 66 => ⟨S4x4096x512, .f32⟩
  | 67 => ⟨S4x4096x512, .f32⟩
  | 68 => ⟨S4x4096x512, .f32⟩
  | 69 => ⟨S_, .f32⟩
  | 70 => ⟨S4x4096x512, .f32⟩
  | 71 => ⟨S4x4096x512, .f32⟩
  | 72 => ⟨S_, .f32⟩
  | 73 => ⟨S4x4096x512, .f32⟩
  | 74 => ⟨S4x4096x512, .f32⟩
  | 75 => ⟨S_, .f32⟩
  | 76 => ⟨S4x4096x512, .f32⟩
  | 77 => ⟨S4x4096x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x1x512, .f32⟩
  | 94 => ⟨S4x4096x512, .f32⟩
  | 95 => ⟨S4x4096x512, .f32⟩
  | 96 => ⟨S4x4096x512, .f32⟩
  | 97 => ⟨S_, .f32⟩
  | 98 => ⟨S4x4096x512, .f32⟩
  | 99 => ⟨S4x4096x512, .f32⟩
  | 100 => ⟨S4x4096x512, .f32⟩
  | 101 => ⟨S4x4096x512, .f32⟩
  | 102 => ⟨S4x4096x512, .f32⟩
  | 103 => ⟨S4096, .i32⟩
  | 104 => ⟨S1x4096x1, .i32⟩
  | 105 => ⟨S_, .i32⟩
  | 106 => ⟨S1x4096x1, .i32⟩
  | 107 => ⟨S1x4096x1, .i1⟩
  | 108 => ⟨S_, .f32⟩
  | 109 => ⟨S_, .f32⟩
  | 110 => ⟨S4x4096x512, .i1⟩
  | 111 => ⟨S4x4096x512, .f32⟩
  | 112 => ⟨S4x4096x512, .f32⟩
  | 113 => ⟨S4x4096x512, .f32⟩
  | 114 => ⟨S4x4096x512, .f32⟩
  | 115 => ⟨S_, .f32⟩
  | 116 => ⟨S4x512, .f32⟩
  | 117 => ⟨S4096x4x512, .f32⟩
  | 118 => ⟨S4096x4x512, .f32⟩
  | 119 => ⟨S_, .f32⟩
  | 120 => ⟨S4096x4x512, .f32⟩
  | 121 => ⟨S_, .i32⟩
  | 122 => ⟨S4096x4x512, .f32⟩
  | 123 => ⟨S4096x4x512, .f32⟩
  | 124 => ⟨S_, .i32⟩
  | 125 => ⟨S4x512, .f32⟩
  | 126 => ⟨S4096x4x512, .f32⟩
  | 127 => ⟨S_, .i32⟩
  | _ => ⟨S16384x1024, .f32⟩

abbrev hbmTy0_1 (i : Nat) : BufTy := match i % 128 with
  | 0 => ⟨S_, .i1⟩
  | 1 => ⟨S_, .i32⟩
  | 2 => ⟨S_, .i32⟩
  | 3 => ⟨S1x4x512, .f32⟩
  | 4 => ⟨S4x512, .f32⟩
  | 5 => ⟨S_, .i32⟩
  | 6 => ⟨S_, .i32⟩
  | 7 => ⟨S1x4x512, .f32⟩
  | 8 => ⟨S4x512, .f32⟩
  | 9 => ⟨S4x512, .f32⟩
  | 10 => ⟨S4x512, .f32⟩
  | 11 => ⟨S1x4x512, .f32⟩
  | 12 => ⟨S_, .i32⟩
  | 13 => ⟨S_, .i32⟩
  | 14 => ⟨S4096x4x512, .f32⟩
  | 15 => ⟨S_, .i32⟩
  | 16 => ⟨S_, .i32⟩
  | 17 => ⟨S4x4096x1024, .f32⟩
  | 18 => ⟨S4x4096x512, .f32⟩
  | 19 => ⟨S4x4096x512, .f32⟩
  | 20 => ⟨S4x4096x512, .f32⟩
  | 21 => ⟨S4x4096x512, .f32⟩
  | 22 => ⟨S_, .f32⟩
  | 23 => ⟨S4x4096x512, .f32⟩
  | 24 => ⟨S4x4096x512, .f32⟩
  | 25 => ⟨S4x4096x512, .f32⟩
  | 26 => ⟨S_, .f32⟩
  | 27 => ⟨S4x4096x512, .f32⟩
  | 28 => ⟨S4x4096x512, .f32⟩
  | 29 => ⟨S4x4096x512, .f32⟩
  | 30 => ⟨S_, .f32⟩
  | 31 => ⟨S4x4096x512, .f32⟩
  | 32 => ⟨S4x4096x512, .f32⟩
  | 33 => ⟨S_, .f32⟩
  | 34 => ⟨S4x4096x512, .f32⟩
  | 35 => ⟨S4x4096x512, .f32⟩
  | 36 => ⟨S4x4096x512, .f32⟩
  | 37 => ⟨S4x4096x512, .f32⟩
  | 38 => ⟨S16384x512, .f32⟩
  | 39 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_6 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_8 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_9 : Ref sig .tc := ⟨.hbm, 119, rfl⟩
abbrev main_v83 : Ref sig .tc := ⟨.hbm, 120, rfl⟩
abbrev main_c_10 : Ref sig .tc := ⟨.hbm, 121, rfl⟩
abbrev main_v84_0 : Ref sig .tc := ⟨.hbm, 122, rfl⟩
abbrev main_v84_1 : Ref sig .tc := ⟨.hbm, 123, rfl⟩
abbrev main_v84_2 : Ref sig .tc := ⟨.hbm, 124, rfl⟩
abbrev main_v84_3 : Ref sig .tc := ⟨.hbm, 125, rfl⟩
abbrev main_v84_4 : Ref sig .tc := ⟨.hbm, 126, rfl⟩
abbrev main_while0c_c_19 : Ref sig .tc := ⟨.hbm, 127, rfl⟩
abbrev main_while0c_v104 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_v0 : Ref sig .tc := ⟨.hbm, 131, rfl⟩
abbrev main_while0b_v104 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_v0 : Ref sig .tc := ⟨.hbm, 135, rfl⟩
abbrev main_while0b_v105 : Ref sig .tc := ⟨.hbm, 136, rfl⟩
abbrev main_while0b_v106 : Ref sig .tc := ⟨.hbm, 137, rfl⟩
abbrev main_while0b_v107 : Ref sig .tc := ⟨.hbm, 138, rfl⟩
abbrev main_while0b_call5_v0 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_v108 : Ref sig .tc := ⟨.hbm, 142, rfl⟩
abbrev main_while0b_c_19 : Ref sig .tc := ⟨.hbm, 143, rfl⟩
abbrev main_while0b_v109 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_11 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_12 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_13 : Ref sig .tc := ⟨.hbm, 158, rfl⟩
abbrev main_v96 : Ref sig .tc := ⟨.hbm, 159, rfl⟩
abbrev main_v97 : Ref sig .tc := ⟨.hbm, 160, rfl⟩
abbrev main_cst_14 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩

abbrev nD : Nat := 1
abbrev τ : Topo := Topo.v7x

variable {F : FTy → Type} [FloatOps F]

abbrev main_while0_count : Scf.Loop 32 := ⟨0#32, 4096#32, 1#32⟩
-- ==== KernelMlp.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMlpIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== KernelMlpFinal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMlpFinalIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== KernelEven.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x1792 : Shape := ⟨2, ![16384, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024x1024 : Shape := ⟨2, ![1024, 1024]⟩
abbrev S1024x1792 : Shape := ⟨2, ![1024, 1792]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .bf16⟩
  | .hbm, ⟨4, _⟩ => ⟨S1x1024, .f32⟩
  | .hbm, ⟨5, _⟩ => ⟨S16384x1024, .f32⟩
  | .hbm, ⟨6, _⟩ => ⟨S16384x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1792, .f32⟩
  | .local _ .vmem, ⟨7, _⟩ => ⟨S512x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceEvenIdeal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x1792 : Shape := ⟨2, ![16384, 1792]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2816, .f32⟩
  | .hbm, ⟨20, _⟩ => ⟨S16384x1024, .f32⟩
  | .hbm, ⟨21, _⟩ => ⟨S16384x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelOdd.lean ====
abbrev S16384x1024 : Shape := ⟨2, ![16384, 1024]⟩
abbrev S1024 : Shape := ⟨1, ![1024]⟩
abbrev S1024x3600 : Shape := ⟨2, ![1024, 3600]⟩
abbrev S1024x1536 : Shape := ⟨2, ![1024, 1536]⟩
abbrev S1024x512 : Shape := ⟨2, ![1024, 512]⟩
abbrev S1024x4 : Shape := ⟨2, ![1024, 4]⟩
abbrev S_ : Shape := ⟨0, ![]⟩
abbrev S1024x112 : Shape := ⟨2, ![1024, 112]⟩
abbrev S1024x128 : Shape := ⟨2, ![1024, 128]⟩
abbrev S1024x3712 : Shape := ⟨2, ![1024, 3712]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S1024x1536, .f32⟩
  | .hbm, ⟨4, _⟩ => ⟨S1024x512, .f32⟩
  | .hbm, ⟨5, _⟩ => ⟨S1024x4, .f32⟩
  | .hbm, ⟨6, _⟩ => ⟨S1024x4, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x4, .f32⟩
  | .hbm, ⟨11, _⟩ => ⟨S1024x4, .f32⟩
  | .hbm, ⟨12, _⟩ => ⟨S_, .f32⟩
  | .hbm, ⟨13, _⟩ => ⟨S1024x112, .f32⟩
  | .hbm, ⟨14, _⟩ => ⟨S1024x128, .f32⟩
  | .hbm, ⟨15, _⟩ => ⟨S1024x3712, .f32⟩
  | .hbm, ⟨16, _⟩ => ⟨S1024x3712, .bf16⟩
  | .hbm, ⟨17, _⟩ => ⟨S1x1024, .f32⟩
  | .hbm, ⟨18, _⟩ => ⟨S16384x1536, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOddIdeal.lean ====
abbrev S16384x1024 : Shape := ⟨2, ![16384, 1024]⟩
abbrev S1024 : Shape := ⟨1, ![1024]⟩
abbrev S1024x3600 : Shape := ⟨2, ![1024, 3600]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3600 : Shape := ⟨2, ![16384, 3600]⟩
abbrev S16384x8 : Shape := ⟨2, ![16384, 8]⟩
abbrev S16384x16 : Shape := ⟨2, ![16384, 16]⟩
abbrev S16384x1536 : Shape := ⟨2, ![16384, 1536]⟩
abbrev S16384x512 : Shape := ⟨2, ![16384, 512]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3600, .f32⟩
  | .hbm, ⟨20, _⟩ => ⟨S16384x8, .f32⟩
  | .hbm, ⟨21, _⟩ => ⟨S16384x8, .f32⟩
  | .hbm, ⟨22, _⟩ => ⟨S16384x16, .f32⟩
  | .hbm, ⟨23, _⟩ => ⟨S16384x1536, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .i32⟩
  | .hbm, ⟨29, _⟩ => ⟨S_, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelMlstm.lean ====
abbrev S16384x512 : Shape := ⟨2, ![16384, 512]⟩
abbrev S16384x128 : Shape := ⟨2, ![16384, 128]⟩
abbrev S4x512 : Shape := ⟨2, ![4, 512]⟩
abbrev S4 : Shape := ⟨1, ![4]⟩
abbrev S128 : Shape := ⟨1, ![128]⟩
abbrev S4x128 : Shape := ⟨2, ![4, 128]⟩
abbrev S512 : Shape := ⟨1, ![512]⟩
abbrev S1x512 : Shape := ⟨2, ![1, 512]⟩
abbrev S1x128 : Shape := ⟨2, ![1, 128]⟩
abbrev S256x512 : Shape := ⟨2, ![256, 512]⟩
abbrev S256x128 : Shape := ⟨2, ![256, 128]⟩
abbrev S8x512 : Shape := ⟨2, ![8, 512]⟩
abbrev S2x128x512 : Shape := ⟨3, ![2, 128, 512]⟩
abbrev S256x256 : Shape := ⟨2, ![256, 256]⟩
abbrev S248x512 : Shape := ⟨2, ![248, 512]⟩
abbrev S128x512 : Shape := ⟨2, ![128, 512]⟩
abbrev S64x64 : Shape := ⟨2, ![64, 64]⟩
abbrev S64x512 : Shape := ⟨2, ![64, 512]⟩
abbrev S56x512 : Shape := ⟨2, ![56, 512]⟩
abbrev S16x512 : Shape := ⟨2, ![16, 512]⟩
abbrev S48x512 : Shape := ⟨2, ![48, 512]⟩
abbrev S32x512 : Shape := ⟨2, ![32, 512]⟩
abbrev S64x128 : Shape := ⟨2, ![64, 128]⟩
abbrev S128x128 : Shape := ⟨2, ![128, 128]⟩
abbrev S1x128x512 : Shape := ⟨3, ![1, 128, 512]⟩

abbrev nBuf : Space → Nat
  | .hbm => 19
  | .vmem => 25
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S4x512, .f32⟩
  | .hbm, ⟨5, _⟩ => ⟨S4, .f32⟩
  | .hbm, ⟨6, _⟩ => ⟨S4, .f32⟩
  | .hbm, ⟨7, _⟩ => ⟨S128, .f32⟩
  | .hbm, ⟨8, _⟩ => ⟨S4x128, .f32⟩
  | .hbm, ⟨9, _⟩ => ⟨S512, .f32⟩
  | .hbm, ⟨10, _⟩ => ⟨S1x512, .f32⟩
  | .hbm, ⟨11, _⟩ => ⟨S4x128, .f32⟩
  | .hbm, ⟨12, _⟩ => ⟨S512, .f32⟩
  | .hbm, ⟨13, _⟩ => ⟨S1x512, .f32⟩
  | .hbm, ⟨14, _⟩ => ⟨S1x128, .f32⟩
  | .hbm, ⟨15, _⟩ => ⟨S4x128, .f32⟩
  | .hbm, ⟨16, _⟩ => ⟨S512, .f32⟩
  | .hbm, ⟨17, _⟩ => ⟨S1x512, .f32⟩
  | .hbm, ⟨18, _⟩ => ⟨S16384x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S4x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S8x512, .f32⟩
  | .local _ .vmem, ⟨15, _⟩ => ⟨S2x128x512, .f32⟩
  | .local _ .vmem, ⟨16, _⟩ => ⟨S8x512, .f32⟩
  | .local _ .vmem, ⟨17, _⟩ => ⟨S256x256, .f32⟩
  | .local _ .vmem, ⟨18, _⟩ => ⟨S256x256, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_117 : BitVec 32 := 0#32
  let c4_i32_118 : BitVec 32 := 4#32
  let v414 : BitVec 32 := Scalar.addi c0_i32_117 c4_i32_118
  let c1_i32_119 : BitVec 32 := 1#32
  ⟨c0_i32_117, v414, c1_i32_119⟩
def k0_mult1 (k0_t1 : Fin k0_t1_loop.trips) : BitVec 32 :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  v525
def k0_off1 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v527 : Index := Scalar.indexCast v526
  let c0_157 : Index := 0#32
  ![v527.toNat, 0]
def k0_off2 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v531 : Index := Scalar.indexCast v526
  let c0_159 : Index := 0#32
  ![v531.toNat, 0]
def k0_off3 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v533 : Index := Scalar.indexCast v526
  let c128 : Index := 128#32
  ![v533.toNat, 128]
def k0_off4 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v554 : Index := Scalar.indexCast v526
  let c0_172 : Index := 0#32
  ![v554.toNat, 0]
def k0_off5 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v556 : Index := Scalar.indexCast v526
  let c128_173 : Index := 128#32
  ![v556.toNat, 128]
def k0_off6 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v686 : Index := Scalar.indexCast v526
  let c128_204 : Index := 128#32
  ![v686.toNat, 128]
def k0_off7 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v690 : Index := Scalar.indexCast v526
  let c256 : Index := 256#32
  ![v690.toNat, 256]
def k0_off8 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v692 : Index := Scalar.indexCast v526
  let c384 : Index := 384#32
  ![v692.toNat, 384]
def k0_off9 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v713 : Index := Scalar.indexCast v526
  let c256_218 : Index := 256#32
  ![v713.toNat, 256]
def k0_off10 (k0_t1 : Fin k0_t1_loop.trips) : Fin 2 → Nat :=
  let c0_i32_117 : BitVec 32 := 0#32
  let c1_i32_119 : BitVec 32 := 1#32
  let arg22 : BitVec 32 := Scf.iv c0_i32_117 c1_i32_119 k0_t1
  let c64_i32_156 : BitVec 32 := 64#32
  let v525 : BitVec 32 := Scalar.muli arg22 c64_i32_156
  let v526 : BitVec 32 := v525
  let v715 : Index := Scalar.indexCast v526
  let c384_219 : Index := 384#32
  ![v715.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMlstmIdeal.lean ====
abbrev S16384x512 : Shape := ⟨2, ![16384, 512]⟩
abbrev S16384x128 : Shape := ⟨2, ![16384, 128]⟩
abbrev S4x512 : Shape := ⟨2, ![4, 512]⟩
abbrev S4 : Shape := ⟨1, ![4]⟩
abbrev S128 : Shape := ⟨1, ![128]⟩
abbrev S4x4096x512 : Shape := ⟨3, ![4, 4096, 512]⟩
abbrev S_ : Shape := ⟨0, ![]⟩
abbrev S4x4099x512 : Shape := ⟨3, ![4, 4099, 512]⟩
abbrev S1x512 : Shape := ⟨2, ![1, 512]⟩
abbrev S512 : Shape := ⟨1, ![512]⟩
abbrev S1x1x512 : Shape := ⟨3, ![1, 1, 512]⟩
abbrev S4x4096x256 : Shape := ⟨3, ![4, 4096, 256]⟩
abbrev S4x4096x4x64 : Shape := ⟨4, ![4, 4096, 4, 64]⟩
abbrev S4x64x64x4x64 : Shape := ⟨5, ![4, 64, 64, 4, 64]⟩
abbrev S4x4x64x64x64 : Shape := ⟨5, ![4, 4, 64, 64, 64]⟩
abbrev S4x4096x4x128 : Shape := ⟨4, ![4, 4096, 4, 128]⟩
abbrev S4x64x64x4x128 : Shape := ⟨5, ![4, 64, 64, 4, 128]⟩
abbrev S4x4x64x64x128 : Shape := ⟨5, ![4, 4, 64, 64, 128]⟩
abbrev S16384x4 : Shape := ⟨2, ![16384, 4]⟩
abbrev S4x4096x4 : Shape := ⟨3, ![4, 4096, 4]⟩
abbrev S1x1x4 : Shape := ⟨3, ![1, 1, 4]⟩
abbrev S4x64x64x4 : Shape := ⟨4, ![4, 64, 64, 4]⟩
abbrev S4x4x64x64 : Shape := ⟨4, ![4, 4, 64, 64]⟩
abbrev S64x64 : Shape := ⟨2, ![64, 64]⟩
abbrev S4x4x64x128 : Shape := ⟨4, ![4, 4, 64, 128]⟩
abbrev S4x4x64 : Shape := ⟨3, ![4, 4, 64]⟩
abbrev S4x4 : Shape := ⟨2, ![4, 4]⟩
abbrev S64x4x4x64x64 : Shape := ⟨5, ![64, 4, 4, 64, 64]⟩
abbrev S64x4x4x64x128 : Shape := ⟨5, ![64, 4, 4, 64, 128]⟩
abbrev S64x4x4x64 : Shape := ⟨4, ![64, 4, 4, 64]⟩
abbrev S1x4x4x64x64 : Shape := ⟨5, ![1, 4, 4, 64, 64]⟩
abbrev S1x4x4x64x128 : Shape := ⟨5, ![1, 4, 4, 64, 128]⟩
abbrev S1x4x4x64 : Shape := ⟨4, ![1, 4, 4, 64]⟩
abbrev S4x4x64x1 : Shape := ⟨4, ![4, 4, 64, 1]⟩
abbrev S4x4x1x64 : Shape := ⟨4, ![4, 4, 1, 64]⟩
abbrev S4x4x1 : Shape := ⟨3, ![4, 4, 1]⟩
abbrev S4x4x1x1 : Shape := ⟨4, ![4, 4, 1, 1]⟩
abbrev S16384x4x128 : Shape := ⟨3, ![16384, 4, 128]⟩
abbrev S16384x4x1 : Shape := ⟨3, ![16384, 4, 1]⟩
abbrev S1x1x128 : Shape := ⟨3, ![1, 1, 128]⟩

abbrev nBuf : Space → Nat
  | .hbm => 273
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x128, .f32⟩
  | 4 => ⟨S4x512, .f32⟩
  | 5 => ⟨S4, .f32⟩
  | 6 => ⟨S4, .f32⟩
  | 7 => ⟨S128, .f32⟩
  | 8 => ⟨S4x4096x512, .f32⟩
  | 9 => ⟨S_, .i32⟩
  | 10 => ⟨S_, .f32⟩
  | 11 => ⟨S4x4099x512, .f32⟩
  | 12 => ⟨S4x4096x512, .f32⟩
  | 13 => ⟨S1x512, .f32⟩
  | 14 => ⟨S512, .f32⟩
  | 15 => ⟨S1x1x512, .f32⟩
  | 16 => ⟨S4x4096x512, .f32⟩
  | 17 => ⟨S4x4096x512, .f32⟩
  | 18 => ⟨S_, .f32⟩
  | 19 => ⟨S4x4096x512, .f32⟩
  | 20 => ⟨S4x4096x512, .f32⟩
  | 21 => ⟨S4x4096x512, .f32⟩
  | 22 => ⟨S1x512, .f32⟩
  | 23 => ⟨S512, .f32⟩
  | 24 => ⟨S1x1x512, .f32⟩
  | 25 => ⟨S4x4096x512, .f32⟩
  | 26 => ⟨S4x4096x512, .f32⟩
  | 27 => ⟨S4x4096x512, .f32⟩
  | 28 => ⟨S4x4096x512, .f32⟩
  | 29 => ⟨S1x512, .f32⟩
  | 30 => ⟨S512, .f32⟩
  | 31 => ⟨S1x1x512, .f32⟩
  | 32 => ⟨S4x4096x512, .f32⟩
  | 33 => ⟨S4x4096x512, .f32⟩
  | 34 => ⟨S4x4096x512, .f32⟩
  | 35 => ⟨S4x4096x512, .f32⟩
  | 36 => ⟨S1x512, .f32⟩
  | 37 => ⟨S512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S_, .f32⟩
  | 48 => ⟨S4x4096x512, .f32⟩
  | 49 => ⟨S4x4096x512, .f32⟩
  | 50 => ⟨S4x4096x512, .f32⟩
  | 51 => ⟨S4x4096x256, .f32⟩
  | 52 => ⟨S4x4096x4x64, .f32⟩
  | 53 => ⟨S4x64x64x4x64, .f32⟩
  | 54 => ⟨S4x4x64x64x64, .f32⟩
  | 55 => ⟨S_, .f32⟩
  | 56 => ⟨S4x4x64x64x64, .f32⟩
  | 57 => ⟨S4x4x64x64x64, .f32⟩
  | 58 => ⟨S4x4096x256, .f32⟩
  | 59 => ⟨S4x4096x4x64, .f32⟩
  | 60 => ⟨S4x64x64x4x64, .f32⟩
  | 61 => ⟨S4x4x64x64x64, .f32⟩
  | 62 => ⟨S4x4096x4x128, .f32⟩
  | 63 => ⟨S4x64x64x4x128, .f32⟩
  | 64 => ⟨S4x4x64x64x128, .f32⟩
  | 65 => ⟨S16384x4, .f32⟩
  | 66 => ⟨S4x4096x4, .f32⟩
  | 67 => ⟨S1x1x4, .f32⟩
  | 68 => ⟨S4x4096x4, .f32⟩
  | 69 => ⟨S4x4096x4, .f32⟩
  | 70 => ⟨S4x64x64x4, .f32⟩
  | 71 => ⟨S4x4x64x64, .f32⟩
  | 72 => ⟨S16384x4, .f32⟩
  | 73 => ⟨S4x4096x4, .f32⟩
  | 74 => ⟨S1x1x4, .f32⟩
  | 75 => ⟨S4x4096x4, .f32⟩
  | 76 => ⟨S4x4096x4, .f32⟩
  | 77 => ⟨S4x64x64x4, .f32⟩
  | 78 => ⟨S4x4x64x64, .f32⟩
  | 79 => ⟨S4x4x64x64, .f32⟩
  | 80 => ⟨S_, .f32⟩
  | 81 => ⟨S4x4x64x64, .f32⟩
  | 82 => ⟨S4x4x64x64, .f32⟩
  | 83 => ⟨S4x4x64x64, .f32⟩
  | 84 => ⟨S4x4x64x64, .f32⟩
  | 85 => ⟨S4x4x64x64, .f32⟩
  | 86 => ⟨S4x4x64x64, .f32⟩
  | 87 => ⟨S4x4x64x64, .f32⟩
  | 88 => ⟨S4x4x64x64, .f32⟩
  | 89 => ⟨S_, .f32⟩
  | 90 => ⟨S_, .f32⟩
  | 91 => ⟨S4x4x64x64, .f32⟩
  | 92 => ⟨S_, .i1⟩
  | 93 => ⟨S64x64, .i1⟩
  | 94 => ⟨S64x64, .i32⟩
  | 95 => ⟨S_, .i32⟩
  | 96 => ⟨S64x64, .i32⟩
  | 97 => ⟨S64x64, .i32⟩
  | 98 => ⟨S64x64, .i32⟩
  | 99 => ⟨S64x64, .i1⟩
  | 100 => ⟨S_, .i1⟩
  | 101 => ⟨S64x64, .i1⟩
  | 102 => ⟨S64x64, .i1⟩
  | 103 => ⟨S_, .f32⟩
  | 104 => ⟨S4x4x64x128, .f32⟩
  | 105 => ⟨S_, .f32⟩
  | 106 => ⟨S4x4x64, .f32⟩
  | 107 => ⟨S_, .f32⟩
  | 108 => ⟨S4x4, .f32⟩
  | 109 => ⟨S64x4x4x64x64, .f32⟩
  | 110 => ⟨S64x4x4x64x64, .f32⟩
  | 111 => ⟨S64x4x4x64x128, .f32⟩
  | 112 => ⟨S64x4x4x64, .f32⟩
  | 113 => ⟨S64x4x4x64, .f32⟩
  | 114 => ⟨S_, .f32⟩
  | 115 => ⟨S64x4x4x64x128, .f32⟩
  | 116 => ⟨S_, .i32⟩
  | 117 => ⟨S64x4x4x64x64, .f32⟩
  | 118 => ⟨S64x4x4x64x64, .f32⟩
  | 119 => ⟨S64x4x4x64x128, .f32⟩
  | 120 => ⟨S64x4x4x64, .f32⟩
  | 121 => ⟨S64x4x4x64, .f32⟩
  | 122 => ⟨S64x64, .i1⟩
  | 123 => ⟨S_, .i32⟩
  | 124 => ⟨S4x4x64x128, .f32⟩
  | 125 => ⟨S4x4x64, .f32⟩
  | 126 => ⟨S4x4, .f32⟩
  | 127 => ⟨S64x4x4x64x128, .f32⟩
  | _ => ⟨S16384x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S1x4x4x64x64, .f32⟩
  | 7 => ⟨S4x4x64x64, .f32⟩
  | 8 => ⟨S_, .i32⟩
  | 9 => ⟨S_, .i32⟩
  | 10 => ⟨S_, .i32⟩
  | 11 => ⟨S_, .i32⟩
  | 12 => ⟨S1x4x4x64x64, .f32⟩
  | 13 => ⟨S4x4x64x64, .f32⟩
  | 14 => ⟨S_, .i32⟩
  | 15 => ⟨S_, .i32⟩
  | 16 => ⟨S_, .i32⟩
  | 17 => ⟨S_, .i32⟩
  | 18 => ⟨S1x4x4x64x128, .f32⟩
  | 19 => ⟨S4x4x64x128, .f32⟩
  | 20 => ⟨S_, .i32⟩
  | 21 => ⟨S_, .i32⟩
  | 22 => ⟨S_, .i32⟩
  | 23 => ⟨S1x4x4x64, .f32⟩
  | 24 => ⟨S4x4x64, .f32⟩
  | 25 => ⟨S_, .i32⟩
  | 26 => ⟨S_, .i32⟩
  | 27 => ⟨S_, .i32⟩
  | 28 => ⟨S1x4x4x64, .f32⟩
  | 29 => ⟨S4x4x64, .f32⟩
  | 30 => ⟨S4x4x64x1, .f32⟩
  | 31 => ⟨S4x4x1x64, .f32⟩
  | 32 => ⟨S4x4x64x64, .f32⟩
  | 33 => ⟨S4x4x64x64, .f32⟩
  | 34 => ⟨S4x4x64x64, .f32⟩
  | 35 => ⟨S4x4x1x64, .f32⟩
  | 36 => ⟨S4x4x64x64, .f32⟩
  | 37 => ⟨S4x4x64x64, .f32⟩
  | 38 => ⟨S_, .f32⟩
  | 39 => ⟨S_, .f32⟩
  | 40 => ⟨S4x4x64x64, .i1⟩
  | 41 => ⟨S4x4x64x64, .f32⟩
  | 42 => ⟨S4x4x64x64, .f32⟩
  | 43 => ⟨S4x4x1, .f32⟩
  | 44 => ⟨S4x4x64, .f32⟩
  | 45 => ⟨S4x4x64, .f32⟩
  | 46 => ⟨S4x4x64, .f32⟩
  | 47 => ⟨S4x4x1, .f32⟩
  | 48 => ⟨S4x4x64, .f32⟩
  | 49 => ⟨S4x4x64, .f32⟩
  | 50 => ⟨S_, .f32⟩
  | 51 => ⟨S4x4x64, .f32⟩
  | 52 => ⟨S4x4x64, .f32⟩
  | 53 => ⟨S4x4x64, .f32⟩
  | 54 => ⟨S4x4x64, .f32⟩
  | 55 => ⟨S4x4x64x1, .f32⟩
  | 56 => ⟨S4x4x64x64, .f32⟩
  | 57 => ⟨S4x4x64x64, .f32⟩
  | 58 => ⟨S4x4x64x64, .f32⟩
  | 59 => ⟨S4x4x64x64, .f32⟩
  | 60 => ⟨S4x4x64x64, .f32⟩
  | 61 => ⟨S4x4x64x1, .f32⟩
  | 62 => ⟨S4x4x64x128, .f32⟩
  | 63 => ⟨S4x4x64x128, .f32⟩
  | 64 => ⟨S4x4x64x128, .f32⟩
  | 65 => ⟨S4x4x64x128, .f32⟩
  | 66 => ⟨S4x4x64x128, .f32⟩
  | 67 => ⟨S4x4x64, .f32⟩
  | 68 => ⟨S4x4x64, .f32⟩
  | 69 => ⟨S_, .f32⟩
  | 70 => ⟨S4x4x64, .f32⟩
  | 71 => ⟨S4x4x64, .f32⟩
  | 72 => ⟨S4x4x64, .f32⟩
  | 73 => ⟨S4x4x64, .f32⟩
  | 74 => ⟨S4x4x64, .f32⟩
  | 75 => ⟨S4x4x64, .f32⟩
  | 76 => ⟨S4x4x64x1, .f32⟩
  | 77 => ⟨S4x4x64x128, .f32⟩
  | 78 => ⟨S4x4x64x128, .f32⟩
  | 79 => ⟨S4x4x1, .f32⟩
  | 80 => ⟨S4x4, .f32⟩
  | 81 => ⟨S4x4, .f32⟩
  | 82 => ⟨S_, .f32⟩
  | 83 => ⟨S4x4, .f32⟩
  | 84 => ⟨S4x4, .f32⟩
  | 85 => ⟨S4x4x1, .f32⟩
  | 86 => ⟨S4x4, .f32⟩
  | 87 => ⟨S4x4, .f32⟩
  | 88 => ⟨S4x4, .f32⟩
  | 89 => ⟨S4x4, .f32⟩
  | 90 => ⟨S4x4x1, .f32⟩
  | 91 => ⟨S4x4x64, .f32⟩
  | 92 => ⟨S4x4x64, .f32⟩
  | 93 => ⟨S4x4x64, .f32⟩
  | 94 => ⟨S4x4x64x1, .f32⟩
  | 95 => ⟨S4x4x64x64, .f32⟩
  | 96 => ⟨S4x4x64x64, .f32⟩
  | 97 => ⟨S4x4x1x1, .f32⟩
  | 98 => ⟨S4x4x64x128, .f32⟩
  | 99 => ⟨S4x4x64x128, .f32⟩
  | 100 => ⟨S4x4x64x128, .f32⟩
  | 101 => ⟨S4x4x64x128, .f32⟩
  | 102 => ⟨S4x4x1, .f32⟩
  | 103 => ⟨S4x4x64, .f32⟩
  | 104 => ⟨S4x4x64, .f32⟩
  | 105 => ⟨S_, .f32⟩
  | 106 => ⟨S4x4x64, .f32⟩
  | 107 => ⟨S4x4x64, .f32⟩
  | 108 => ⟨S1x4x4x64x128, .f32⟩
  | 109 => ⟨S_, .i32⟩
  | 110 => ⟨S_, .i32⟩
  | 111 => ⟨S_, .i32⟩
  | 112 => ⟨S_, .i32⟩
  | 113 => ⟨S64x4x4x64x128, .f32⟩
  | 114 => ⟨S_, .i32⟩
  | 115 => ⟨S_, .i32⟩
  | 116 => ⟨S4x64x64x4x128, .f32⟩
  | 117 => ⟨S16384x4x128, .f32⟩
  | 118 => ⟨S16384x4x128, .f32⟩
  | 119 => ⟨S_, .f32⟩
  | 120 => ⟨S16384x4, .f32⟩
  | 121 => ⟨S16384x4x1, .f32⟩
  | 122 => ⟨S_, .f32⟩
  | 123 => ⟨S16384x4x1, .f32⟩
  | 124 => ⟨S16384x4x1, .f32⟩
  | 125 => ⟨S_, .f32⟩
  | 126 => ⟨S16384x4x1, .f32⟩
  | 127 => ⟨S16384x4x1, .f32⟩
  | _ => ⟨S16384x512, .f32⟩

abbrev hbmTy0_2 (i : Nat) : BufTy := match i % 128 with
  | 0 => ⟨S16384x4x1, .f32⟩
  | 1 => ⟨S16384x4x128, .f32⟩
  | 2 => ⟨S16384x4x128, .f32⟩
  | 3 => ⟨S1x1x128, .f32⟩
  | 4 => ⟨S16384x4x128, .f32⟩
  | 5 => ⟨S16384x4x128, .f32⟩
  | 6 => ⟨S16384x512, .f32⟩
  | 7 => ⟨S16384x512, .f32⟩
  | 8 => ⟨S16384x512, .f32⟩
  | 9 => ⟨S_, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S16384x512, .f32⟩
  | 16 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call1_call0_cst : Ref sig .tc := ⟨.hbm, 89, rfl⟩
abbrev main_call1_call0_v0 : Ref sig .tc := ⟨.hbm, 90, rfl⟩
abbrev main_v74 : Ref sig .tc := ⟨.hbm, 91, rfl⟩
abbrev main_c_4 : Ref sig .tc := ⟨.hbm, 92, rfl⟩
abbrev main_v75 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_0 : Ref sig .tc := ⟨.hbm, 100, rfl⟩
abbrev main_call2_v5 : Ref sig .tc := ⟨.hbm, 101, rfl⟩
abbrev main_v76 : Ref sig .tc := ⟨.hbm, 102, rfl⟩
abbrev main_cst_5 : Ref sig .tc := ⟨.hbm, 103, rfl⟩
abbrev main_v77 : Ref sig .tc := ⟨.hbm, 104, rfl⟩
abbrev main_cst_6 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_8 : Ref sig .tc := ⟨.hbm, 114, rfl⟩
abbrev main_v85 : Ref sig .tc := ⟨.hbm, 115, rfl⟩
abbrev main_c_9 : Ref sig .tc := ⟨.hbm, 116, rfl⟩
abbrev main_v86_0 : Ref sig .tc := ⟨.hbm, 117, rfl⟩
abbrev main_v86_1 : Ref sig .tc := ⟨.hbm, 118, rfl⟩
abbrev main_v86_2 : Ref sig .tc := ⟨.hbm, 119, rfl⟩
abbrev main_v86_3 : Ref sig .tc := ⟨.hbm, 120, rfl⟩
abbrev main_v86_4 : Ref sig .tc := ⟨.hbm, 121, rfl⟩
abbrev main_v86_5 : Ref sig .tc := ⟨.hbm, 122, rfl⟩
abbrev main_v86_6 : Ref sig .tc := ⟨.hbm, 123, rfl⟩
abbrev main_v86_7 : Ref sig .tc := ⟨.hbm, 124, rfl⟩
abbrev main_v86_8 : Ref sig .tc := ⟨.hbm, 125, rfl⟩
abbrev main_v86_9 : Ref sig .tc := ⟨.hbm, 126, rfl⟩
abbrev main_v86_10 : Ref sig .tc := ⟨.hbm, 127, rfl⟩
abbrev main_while0c_c_25 : Ref sig .tc := ⟨.hbm, 128, rfl⟩
abbrev main_while0c_v111 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_c_1 : Ref sig .tc := ⟨.hbm, 132, rfl⟩
abbrev main_while0b_call3_c_2 : Ref sig .tc := ⟨.hbm, 133, rfl⟩
abbrev main_while0b_call3_v0 : Ref sig .tc := ⟨.hbm, 134, rfl⟩
abbrev main_while0b_v111 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_call4_c_1 : Ref sig .tc := ⟨.hbm, 138, rfl⟩
abbrev main_while0b_call4_c_2 : Ref sig .tc := ⟨.hbm, 139, rfl⟩
abbrev main_while0b_call4_v0 : Ref sig .tc := ⟨.hbm, 140, rfl⟩
abbrev main_while0b_v112 : Ref sig .tc := ⟨.hbm, 141, rfl⟩
abbrev main_while0b_call5_c : Ref sig .tc := ⟨.hbm, 142, rfl⟩
abbrev main_while0b_call5_c_0 : Ref sig .tc := ⟨.hbm, 143, rfl⟩
abbrev main_while0b_call5_c_1 : Ref sig .tc := ⟨.hbm, 144, rfl⟩
abbrev main_while0b_call5_c_2 : Ref sig .tc := ⟨.hbm, 145, rfl⟩
abbrev main_while0b_call5_v0 : Ref sig .tc := ⟨.hbm, 146, rfl⟩
abbrev main_while0b_v113 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_call6_v0 : Ref sig .tc := ⟨.hbm, 151, rfl⟩
abbrev main_while0b_v114 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_v0 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_v121 : Ref sig .tc := ⟨.hbm, 163, rfl⟩
abbrev main_while0b_v122 : Ref sig .tc := ⟨.hbm, 164, rfl⟩
abbrev main_while0b_v123 : Ref sig .tc := ⟨.hbm, 165, rfl⟩
abbrev main_while0b_cst_25 : Ref sig .tc := ⟨.hbm, 166, rfl⟩
abbrev main_while0b_call8_v0 : Ref sig .tc := ⟨.hbm, 167, rfl⟩
abbrev main_while0b_call8_v1 : Ref sig .tc := ⟨.hbm, 168, rfl⟩
abbrev main_while0b_call8_v2 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_v128 : Ref sig .tc := ⟨.hbm, 174, rfl⟩
abbrev main_while0b_v129 : Ref sig .tc := ⟨.hbm, 175, rfl⟩
abbrev main_while0b_v130 : Ref sig .tc := ⟨.hbm, 176, rfl⟩
abbrev main_while0b_v131 : Ref sig .tc := ⟨.hbm, 177, rfl⟩
abbrev main_while0b_cst_26 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_v138 : Ref sig .tc := ⟨.hbm, 185, rfl⟩
abbrev main_while0b_v139 : Ref sig .tc := ⟨.hbm, 186, rfl⟩
abbrev main_while0b_v140 : Ref sig .tc := ⟨.hbm, 187, rfl⟩
abbrev main_while0b_v141 : Ref sig .tc := ⟨.hbm, 188, rfl⟩
abbrev main_while0b_v142 : Ref sig .tc := ⟨.hbm, 189, rfl⟩
abbrev main_while0b_v143 : Ref sig .tc := ⟨.hbm, 190, rfl⟩
abbrev main_while0b_v144 : Ref sig .tc := ⟨.hbm, 191, rfl⟩
abbrev main_while0b_v145 : Ref sig .tc := ⟨.hbm, 192, rfl⟩
abbrev main_while0b_v146 : Ref sig .tc := ⟨.hbm, 193, rfl⟩
abbrev main_while0b_v147 : Ref sig .tc := ⟨.hbm, 194, rfl⟩
abbrev main_while0b_v148 : Ref sig .tc := ⟨.hbm, 195, rfl⟩
abbrev main_while0b_v149 : Ref sig .tc := ⟨.hbm, 196, rfl⟩
abbrev main_while0b_cst_27 : Ref sig .tc := ⟨.hbm, 197, rfl⟩
abbrev main_while0b_v150 : Ref sig .tc := ⟨.hbm, 198, rfl⟩
abbrev main_while0b_v151 : Ref sig .tc := ⟨.hbm, 199, rfl⟩
abbrev main_while0b_v152 : Ref sig .tc := ⟨.hbm, 200, rfl⟩
abbrev main_while0b_v153 : Ref sig .tc := ⟨.hbm, 201, rfl⟩
abbrev main_while0b_v154 : Ref sig .tc := ⟨.hbm, 202, rfl⟩
abbrev main_while0b_v155 : Ref sig .tc := ⟨.hbm, 203, rfl⟩
abbrev main_while0b_v156 : Ref sig .tc := ⟨.hbm, 204, rfl⟩
abbrev main_while0b_v157 : Ref sig .tc := ⟨.hbm, 205, rfl⟩
abbrev main_while0b_v158 : Ref sig .tc := ⟨.hbm, 206, rfl⟩
abbrev main_while0b_v159 : Ref sig .tc := ⟨.hbm, 207, rfl⟩
abbrev main_while0b_v160 : Ref sig .tc := ⟨.hbm, 208, rfl⟩
abbrev main_while0b_v161 : Ref sig .tc := ⟨.hbm, 209, rfl⟩
abbrev main_while0b_cst_28 : Ref sig .tc := ⟨.hbm, 210, rfl⟩
abbrev main_while0b_v162 : Ref sig .tc := ⟨.hbm, 211, rfl⟩
abbrev main_while0b_v163 : Ref sig .tc := ⟨.hbm, 212, rfl⟩
abbrev main_while0b_v164 : Ref sig .tc := ⟨.hbm, 213, rfl⟩
abbrev main_while0b_v165 : Ref sig .tc := ⟨.hbm, 214, rfl⟩
abbrev main_while0b_v166 : Ref sig .tc := ⟨.hbm, 215, rfl⟩
abbrev main_while0b_v167 : Ref sig .tc := ⟨.hbm, 216, rfl⟩
abbrev main_while0b_v168 : Ref sig .tc := ⟨.hbm, 217, rfl⟩
abbrev main_while0b_v169 : Ref sig .tc := ⟨.hbm, 218, rfl⟩
abbrev main_while0b_v170 : Ref sig .tc := ⟨.hbm, 219, rfl⟩
abbrev main_while0b_v171 : Ref sig .tc := ⟨.hbm, 220, rfl⟩
abbrev main_while0b_v172 : Ref sig .tc := ⟨.hbm, 221, rfl⟩
abbrev main_while0b_v173 : Ref sig .tc := ⟨.hbm, 222, rfl⟩
abbrev main_while0b_v174 : Ref sig .tc := ⟨.hbm, 223, rfl⟩
abbrev main_while0b_v175 : Ref sig .tc := ⟨.hbm, 224, rfl⟩
abbrev main_while0b_v176 : Ref sig .tc := ⟨.hbm, 225, rfl⟩
abbrev main_while0b_v177 : Ref sig .tc := ⟨.hbm, 226, rfl⟩
abbrev main_while0b_v178 : Ref sig .tc := ⟨.hbm, 227, rfl⟩
abbrev main_while0b_v179 : Ref sig .tc := ⟨.hbm, 228, rfl⟩
abbrev main_while0b_v180 : Ref sig .tc := ⟨.hbm, 229, rfl⟩
abbrev main_while0b_v181 : Ref sig .tc := ⟨.hbm, 230, rfl⟩
abbrev main_while0b_v182 : Ref sig .tc := ⟨.hbm, 231, rfl⟩
abbrev main_while0b_v183 : Ref sig .tc := ⟨.hbm, 232, rfl⟩
abbrev main_while0b_cst_29 : Ref sig .tc := ⟨.hbm, 233, rfl⟩
abbrev main_while0b_v184 : Ref sig .tc := ⟨.hbm, 234, rfl⟩
abbrev main_while0b_v185 : Ref sig .tc := ⟨.hbm, 235, rfl⟩
abbrev main_while0b_call9_v0 : Ref sig .tc := ⟨.hbm, 236, rfl⟩
abbrev main_while0b_call9_c : Ref sig .tc := ⟨.hbm, 237, rfl⟩
abbrev main_while0b_call9_c_0 : Ref sig .tc := ⟨.hbm, 238, rfl⟩
abbrev main_while0b_call9_c_1 : Ref sig .tc := ⟨.hbm, 239, rfl⟩
abbrev main_while0b_call9_c_2 : Ref sig .tc := ⟨.hbm, 240, rfl⟩
abbrev main_while0b_v186 : Ref sig .tc := ⟨.hbm, 241, rfl⟩
abbrev main_while0b_c_30 : Ref sig .tc := ⟨.hbm, 242, rfl⟩
abbrev main_while0b_v187 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_cst_10 : Ref sig .tc := ⟨.hbm, 247, rfl⟩
abbrev main_v90 : Ref sig .tc := ⟨.hbm, 248, rfl⟩
abbrev main_v91 : Ref sig .tc := ⟨.hbm, 249, rfl⟩
abbrev main_cst_11 : Ref sig .tc := ⟨.hbm, 250, rfl⟩
abbrev main_v92 : Ref sig .tc := ⟨.hbm, 251, rfl⟩
abbrev main_v93 : Ref sig .tc := ⟨.hbm, 252, rfl⟩
abbrev main_cst_12 : Ref sig .tc := ⟨.hbm, 253, rfl⟩
abbrev main_v94 : Ref sig .tc := ⟨.hbm, 254, rfl⟩
abbrev main_v95 : Ref sig .tc := ⟨.hbm, 255, rfl⟩
abbrev main_v96 : Ref sig .tc := ⟨.hbm, 256, rfl⟩
abbrev main_v97 : Ref sig .tc := ⟨.hbm, 257, rfl⟩
abbrev main_v98 : Ref sig .tc := ⟨.hbm, 258, rfl⟩
abbrev main_v99 : Ref sig .tc := ⟨.hbm, 259, rfl⟩
abbrev main_v100 : Ref sig .tc := ⟨.hbm, 260, rfl⟩
abbrev main_v101 : Ref sig .tc := ⟨.hbm, 261, rfl⟩
abbrev main_v102 : Ref sig .tc := ⟨.hbm, 262, rfl⟩
abbrev main_v103 : Ref sig .tc := ⟨.hbm, 263, rfl⟩
abbrev main_v104 : Ref sig .tc := ⟨.hbm, 264, rfl⟩
abbrev main_cst_13 : Ref sig .tc := ⟨.hbm, 265, rfl⟩
abbrev main_v105 : Ref sig .tc := ⟨.hbm, 266, rfl⟩
abbrev main_v106 : Ref sig .tc := ⟨.hbm, 267, rfl⟩
abbrev main_cst_14 : Ref sig .tc := ⟨.hbm, 268, rfl⟩
abbrev main_v107 : Ref sig .tc := ⟨.hbm, 269, rfl⟩
abbrev main_v108 : Ref sig .tc := ⟨.hbm, 270, rfl⟩
abbrev main_v109 : Ref sig .tc := ⟨.hbm, 271, rfl⟩
abbrev main_v110 : Ref sig .tc := ⟨.hbm, 272, rfl⟩

abbrev nD : Nat := 1
abbrev τ : Topo := Topo.v7x

variable {F : FTy → Type} [FloatOps F]

abbrev main_while0_count : Scf.Loop 32 := ⟨0#32, 64#32, 1#32⟩
-- ==== Proof.Scan.lean ====
/-
  The linear recurrence over the extended reals and its parallel form.

  `recur a u lo n x` is `n` steps of `h ← a_t * h + u_t`, from `t = lo`, started at `x`. A doubling scan holds, for every
  row `r`, a pair `(A r, U r)` that stands for the last `s` steps up to `r` as one map `x ↦ A r * x + U r`; one pass of
  distance `s` composes each pair with the one `s` rows earlier. Composition distributes `A r` over a sum, which is
  exact over the extended reals when `A r` is a nonnegative real — and here it always is.
-/
module

public import Mathlib.Data.EReal.Operations
public import Mathlib.Data.EReal.Inv

@[expose] public section

namespace Cert.Lru

/-- `n` steps of the recurrence `h ← a_t * h + u_t`, from `t = lo` on, started at `x`. -/
noncomputable def recur (a u : ℕ → EReal) (lo : ℕ) : ℕ → EReal → EReal
  | 0, x => x
  | n + 1, x => a (lo + n) * recur a u lo n x + u (lo + n)

/-- `n + m` steps are `n` steps and then `m` more. -/
theorem recur_add (a u : ℕ → EReal) (lo n m : ℕ) (x : EReal) :
    recur a u lo (n + m) x = recur a u (lo + n) m (recur a u lo n x) := by
  induction m with
  | zero => rfl
  | succ m ih =>
    show a (lo + (n + m)) * recur a u lo (n + m) x + u (lo + (n + m)) = _
    rw [ih, ← Nat.add_assoc lo n m]; rfl

/-- The recurrence depends on its coefficients only where it reads them. -/
theorem recur_congr {a u a' u' : ℕ → EReal} {lo lo' : ℕ} (n : ℕ) (x : EReal)
    (ha : ∀ k, k < n → a (lo + k) = a' (lo' + k)) (hu : ∀ k, k < n → u (lo + k) = u' (lo' + k)) :
    recur a u lo n x = recur a' u' lo' n x := by
  induction n with
  | zero => rfl
  | succ n ih =>
    show a (lo + n) * recur a u lo n x + u (lo + n) = a' (lo' + n) * recur a' u' lo' n x + u' (lo' + n)
    rw [ih (fun k hk => ha k (by omega)) (fun k hk => hu k (by omega)), ha n (by omega), hu n (by omega)]

/-- A vector moved down by `s` rows, the first `s` rows filled. -/
noncomputable def sh (s : ℕ) (fill : EReal) (x : Fin 512 → EReal) (r : Fin 512) : EReal :=
  if r.val < s then fill else x ⟨r.val - s, by omega⟩

/-- The pairs `(A, U)` stand for the last `s` steps up to every row, and every `A r` is a nonnegative real. -/
def Comp (a u : ℕ → EReal) (s : ℕ) (A U : Fin 512 → EReal) : Prop :=
  ∀ r : Fin 512, 0 ≤ A r ∧ A r ≠ ⊤ ∧ ∀ x, A r * x + U r = recur a u (r.val + 1 - s) (min s (r.val + 1)) x

/-- One step each: the coefficients themselves. -/
theorem comp_one {a u : ℕ → EReal} {A U : Fin 512 → EReal} (hA : ∀ r, A r = a r.val) (hU : ∀ r, U r = u r.val)
    (h0 : ∀ r, 0 ≤ A r) (h1 : ∀ r, A r ≠ ⊤) : Comp a u 1 A U := by
  intro r
  refine ⟨h0 r, h1 r, fun x => ?_⟩
  have e : min 1 (r.val + 1) = 1 := by omega
  rw [e, hA, hU]
  show _ = a (r.val + 1 - 1 + 0) * x + u (r.val + 1 - 1 + 0)
  simp

/-- One pass of the scan doubles the number of steps each pair stands for. -/
theorem comp_double {a u : ℕ → EReal} {s : ℕ} {A U A' U' : Fin 512 → EReal} (h : Comp a u s A U)
    (hA : ∀ r, A' r = A r * sh s 1 A r) (hU : ∀ r, U' r = A r * sh s 0 U r + U r) : Comp a u (2 * s) A' U' := by
  intro r
  obtain ⟨h0, h1, hr⟩ := h r
  rw [hA, hU]
  by_cases hs : r.val < s
  · simp only [sh, if_pos hs, mul_one, mul_zero, zero_add]
    refine ⟨h0, h1, fun x => ?_⟩
    rw [hr x]
    have e1 : r.val + 1 - s = r.val + 1 - 2 * s := by omega
    have e2 : min s (r.val + 1) = min (2 * s) (r.val + 1) := by omega
    rw [e1, e2]
  · simp only [sh, if_neg hs]
    obtain ⟨g0, g1, gr⟩ := h ⟨r.val - s, by omega⟩
    generalize A ⟨r.val - s, _⟩ = A1 at *
    generalize U ⟨r.val - s, _⟩ = U1 at *
    lift A r to ℝ using ⟨h1, fun e => by rw [e] at h0; exact absurd h0 (by decide)⟩ with p hp
    lift A1 to ℝ using ⟨g1, fun e => by rw [e] at g0; exact absurd g0 (by decide)⟩ with q hq
    refine ⟨mul_nonneg h0 g0, by rw [← EReal.coe_mul]; exact EReal.coe_ne_top _, fun x => ?_⟩
    have hd : (p : EReal) * (q * x + U1) = p * (q * x) + p * U1 :=
      EReal.left_distrib_of_nonneg_of_ne_top h0 h1 _ _
    have e1 : min (2 * s) (r.val + 1) = min s (r.val - s + 1) + s := by omega
    have e2 : r.val + 1 - 2 * s = r.val - s + 1 - s := by omega
    have e3 : r.val + 1 - s = (r.val - s + 1 - s) + min s (r.val - s + 1) := by omega
    have e4 : min s (r.val + 1) = s := by omega
    rw [e1, e2, recur_add, ← gr x, ← e3]
    have := hr (q * x + U1)
    rw [e4] at this
    rw [← this, hd, mul_assoc, add_assoc]

/-- After 512 steps' worth every pair stands for all the steps from row 0. -/
theorem comp_all {a u : ℕ → EReal} {A U : Fin 512 → EReal} (h : Comp a u 512 A U) (r : Fin 512) (x : EReal) :
    U r + A r * x = recur a u 0 (r.val + 1) x := by
  have := (h r).2.2 x
  have e1 : r.val + 1 - 512 = 0 := by omega
  have e2 : min 512 (r.val + 1) = r.val + 1 := by omega
  rw [e1, e2] at this
  rw [← this, add_comm]

end Cert.Lru

end
-- ==== Proof.LruScan.lean ====
/-
  The kernel's scan over the 512 rows of one block: its nine passes, of distances 1, 2, 4, …, 256, read at an index.
-/
module

public import proofs.«01_k».proof.Proof.Gen.KernelIdeal.Skeleton
public import proofs.«01_k».proof.Proof.Scan
public import Idealize.ShloMosaic.Lib.Pointwise
public import Idealize.ShloMosaic.Lib.WordCmp
public import Idealize.ShloMosaic.Lib.Tactic.CleanTypes

@[expose] public section

set_option maxRecDepth 16384

noncomputable section

namespace Cert.Lru

open Idealize.ShloMosaic Cert.KernelIdeal Cert.KernelIdeal.Gen

/-- Column `c` of a block of 512 rows. -/
def col (x : FVec Ideal S512x512 .f32) (c : Fin 512) (r : Fin 512) : EReal := x (ix2 r c)

/-- The first eight row numbers. -/
def rows8 : IVec S8x512 32 := iota .tc S8x512 32 [0] iota_S8x512_d0_w32

/-- The kernel's shift by `d` rows through an eight-row head (`d` below 8), the vacated rows filled. -/
def headShift (d : BitVec 32) (fill : Ideal .f32) (x : FVec Ideal S512x512 .f32) : FVec Ideal S512x512 .f32 :=
  concatenate S512x512 0 [⟨S8x512, select (cmpi .slt rows8 (broadcast S8x512 d)) (broadcast S8x512 fill)
      (extractStridedSlice S8x512 ![0, 0] (dynamicRotate 0 d none x rotates_S512x512_d0) slices_S512x512_o0_0_S8x512)⟩,
    ⟨S504x512, extractStridedSlice S504x512 ![8, 0] (dynamicRotate 0 d none x rotates_S512x512_d0)
      slices_S512x512_o8_0_S504x512⟩] concatenates_S8x512_S504x512_S512x512_d0

/-- An entry depends on its row only through the row's number. -/
theorem at_row (x : FVec Ideal S512x512 .f32) (c : Fin 512) {p q : Fin 512} (h : p.val = q.val) :
    x (ix2 p c) = x (ix2 q c) := by rw [Fin.ext h]

/-- The shift through the head by 1, 2 or 4 rows, read at an index. -/
theorem headShift_apply {d : ℕ} (hd : d = 1 ∨ d = 2 ∨ d = 4) (fill : Ideal .f32) (x : FVec Ideal S512x512 .f32)
    (r c : Fin 512) : headShift (BitVec.ofNat 32 d) fill x (ix2 r c) = sh d fill (col x c) r := by
  have e : IntOp.cmpi .slt (BitVec.ofNat 32 r.val) (BitVec.ofNat 32 d) = BitVec.ofBool (decide (r.val < d)) :=
    WordCmp.cmpi_slt_ofNat (w := 32) (a := r.val) (b := d) (by omega) (by omega)
  have past : ¬ r.val < 8 → ¬ r.val < d := by omega
  rcases hd with rfl | rfl | rfl
  all_goals
    pointwise [headShift, rows8]
    clean_types
    unfold sh col
    by_cases h8 : r.val < 8
    · simp only [dif_pos h8, e, Scalar.select_ofBool, decide_eq_true_eq]
      split_ifs with h
      · rfl
      · exact at_row x c (by simp only; omega)
    · simp only [dif_neg h8, if_neg (past h8)]
      exact at_row x c (by simp only; omega)

/-- The kernel's shift by 8 rows. -/
def blockShift_8 (fill : Ideal .f32) (x : FVec Ideal S512x512 .f32) : FVec Ideal S512x512 .f32 :=
  concatenate S512x512 0 [⟨S8x512, broadcast S8x512 fill⟩,
    ⟨S504x512, extractStridedSlice S504x512 ![0, 0] x slices_S512x512_o0_0_S504x512⟩]
    concatenates_S8x512_S504x512_S512x512_d0

/-- The shift by 8 rows, read at an index. -/
theorem blockShift_8_apply (fill : Ideal .f32) (x : FVec Ideal S512x512 .f32) (r c : Fin 512) :
    blockShift_8 fill x (ix2 r c) = sh 8 fill (col x c) r := by
  pointwise [blockShift_8]
  clean_types
  unfold sh col
  by_cases h8 : r.val < 8
  · simp only [dif_pos h8, if_pos h8]
  · simp only [dif_neg h8, if_neg h8]

/-- The kernel's shift by 16 rows. -/
def blockShift_16 (fill : Ideal .f32) (x : FVec Ideal S512x512 .f32) : FVec Ideal S512x512 .f32 :=
  concatenate S512x512 0 [⟨S16x512, broadcast S16x512 fill⟩,
    ⟨S496x512, extractStridedSlice S496x512 ![0, 0] x slices_S512x512_o0_0_S496x512⟩]
    concatenates_S16x512_S496x512_S512x512_d0

/-- The shift by 16 rows, read at an index. -/
theorem blockShift_16_apply (fill : Ideal .f32) (x : FVec Ideal S512x512 .f32) (r c : Fin 512) :
    blockShift_16 fill x (ix2 r c) = sh 16 fill (col x c) r := by
  pointwise [blockShift_16]
  clean_types
  unfold sh col
  by_cases h8 : r.val < 16
  · simp only [dif_pos h8, if_pos h8]
  · simp only [dif_neg h8, if_neg h8]

/-- The kernel's shift by 32 rows. -/
def blockShift_32 (fill : Ideal .f32) (x : FVec Ideal S512x512 .f32) : FVec Ideal S512x512 .f32 :=
  concatenate S512x512 0 [⟨S32x512, broadcast S32x512 fill⟩,
    ⟨S480x512, extractStridedSlice S480x512 ![0, 0] x slices_S512x512_o0_0_S480x512⟩]
    concatenates_S32x512_S480x512_S512x512_d0

/-- The shift by 32 rows, read at an index. -/
theorem blockShift_32_apply (fill : Ideal .f32) (x : FVec Ideal S512x512 .f32) (r c : Fin 512) :
    blockShift_32 fill x (ix2 r c) = sh 32 fill (col x c) r := by
  pointwise [blockShift_32]
  clean_types
  unfold sh col
  by_cases h8 : r.val < 32
  · simp only [dif_pos h8, if_pos h8]
  · simp only [dif_neg h8, if_neg h8]

/-- The kernel's shift by 64 rows. -/
def blockShift_64 (fill : Ideal .f32) (x : FVec Ideal S512x512 .f32) : FVec Ideal S512x512 .f32 :=
  concatenate S512x512 0 [⟨S64x512, broadcast S64x512 fill⟩,
    ⟨S448x512, extractStridedSlice S448x512 ![0, 0] x slices_S512x512_o0_0_S448x512⟩]
    concatenates_S64x512_S448x512_S512x512_d0

/-- The shift by 64 rows, read at an index. -/
theorem blockShift_64_apply (fill : Ideal .f32) (x : FVec Ideal S512x512 .f32) (r c : Fin 512) :
    blockShift_64 fill x (ix2 r c) = sh 64 fill (col x c) r := by
  pointwise [blockShift_64]
  clean_types
  unfold sh col
  by_cases h8 : r.val < 64
  · simp only [dif_pos h8, if_pos h8]
  · simp only [dif_neg h8, if_neg h8]

/-- The kernel's shift by 128 rows. -/
def blockShift_128 (fill : Ideal .f32) (x : FVec Ideal S512x512 .f32) : FVec Ideal S512x512 .f32 :=
  concatenate S512x512 0 [⟨S128x512, broadcast S128x512 fill⟩,
    ⟨S384x512, extractStridedSlice S384x512 ![0, 0] x slices_S512x512_o0_0_S384x512⟩]
    concatenates_S128x512_S384x512_S512x512_d0

/-- The shift by 128 rows, read at an index. -/
theorem blockShift_128_apply (fill : Ideal .f32) (x : FVec Ideal S512x512 .f32) (r c : Fin 512) :
    blockShift_128 fill x (ix2 r c) = sh 128 fill (col x c) r := by
  pointwise [blockShift_128]
  clean_types
  unfold sh col
  by_cases h8 : r.val < 128
  · simp only [dif_pos h8, if_pos h8]
  · simp only [dif_neg h8, if_neg h8]

/-- The kernel's shift by 256 rows. -/
def blockShift_256 (fill : Ideal .f32) (x : FVec Ideal S512x512 .f32) : FVec Ideal S512x512 .f32 :=
  concatenate S512x512 0 [⟨S256x512, broadcast S256x512 fill⟩,
    ⟨S256x512, extractStridedSlice S256x512 ![0, 0] x slices_S512x512_o0_0_S256x512⟩]
    concatenates_S256x512_S256x512_S512x512_d0

/-- The shift by 256 rows, read at an index. -/
theorem blockShift_256_apply (fill : Ideal .f32) (x : FVec Ideal S512x512 .f32) (r c : Fin 512) :
    blockShift_256 fill x (ix2 r c) = sh 256 fill (col x c) r := by
  pointwise [blockShift_256]
  clean_types
  unfold sh col
  by_cases h8 : r.val < 256
  · simp only [dif_pos h8, if_pos h8]
  · simp only [dif_neg h8, if_neg h8]

/-- Zero, as the kernel spells it. -/
abbrev zero : Ideal .f32 := Scalar.ofBits .f32 0x00000000#32

/-- One, as the kernel spells it. -/
abbrev one : Ideal .f32 := Scalar.ofBits .f32 0x3F800000#32

/-- The factors `a` after the pass that shifts by 1. -/
def A1 (a : FVec Ideal S512x512 .f32) : FVec Ideal S512x512 .f32 := mulf a (headShift 1#32 one a)

/-- The factors `a` after the pass that shifts by 2. -/
def A2 (a : FVec Ideal S512x512 .f32) : FVec Ideal S512x512 .f32 := mulf (A1 a) (headShift 2#32 one (A1 a))

/-- The factors `a` after the pass that shifts by 4. -/
def A4 (a : FVec Ideal S512x512 .f32) : FVec Ideal S512x512 .f32 := mulf (A2 a) (headShift 4#32 one (A2 a))

/-- The factors `a` after the pass that shifts by 8. -/
def A8 (a : FVec Ideal S512x512 .f32) : FVec Ideal S512x512 .f32 := mulf (A4 a) (blockShift_8 one (A4 a))

/-- The factors `a` after the pass that shifts by 16. -/
def A16 (a : FVec Ideal S512x512 .f32) : FVec Ideal S512x512 .f32 := mulf (A8 a) (blockShift_16 one (A8 a))

/-- The factors `a` after the pass that shifts by 32. -/
def A32 (a : FVec Ideal S512x512 .f32) : FVec Ideal S512x512 .f32 := mulf (A16 a) (blockShift_32 one (A16 a))

/-- The factors `a` after the pass that shifts by 64. -/
def A64 (a : FVec Ideal S512x512 .f32) : FVec Ideal S512x512 .f32 := mulf (A32 a) (blockShift_64 one (A32 a))

/-- The factors `a` after the pass that shifts by 128. -/
def A128 (a : FVec Ideal S512x512 .f32) : FVec Ideal S512x512 .f32 := mulf (A64 a) (blockShift_128 one (A64 a))

/-- The factors `a` after the pass that shifts by 256. -/
def A256 (a : FVec Ideal S512x512 .f32) : FVec Ideal S512x512 .f32 := mulf (A128 a) (blockShift_256 one (A128 a))

/-- The summands `u`, with factors `a`, after the pass that shifts by 1. -/
def U1 (a u : FVec Ideal S512x512 .f32) : FVec Ideal S512x512 .f32 := addf (mulf a (headShift 1#32 zero u)) u

/-- The summands `u`, with factors `a`, after the pass that shifts by 2. -/
def U2 (a u : FVec Ideal S512x512 .f32) : FVec Ideal S512x512 .f32 :=
  addf (mulf (A1 a) (headShift 2#32 zero (U1 a u))) (U1 a u)

/-- The summands `u`, with factors `a`, after the pass that shifts by 4. -/
def U4 (a u : FVec Ideal S512x512 .f32) : FVec Ideal S512x512 .f32 :=
  addf (mulf (A2 a) (headShift 4#32 zero (U2 a u))) (U2 a u)

/-- The summands `u`, with factors `a`, after the pass that shifts by 8. -/
def U8 (a u : FVec Ideal S512x512 .f32) : FVec Ideal S512x512 .f32 :=
  addf (mulf (A4 a) (blockShift_8 zero (U4 a u))) (U4 a u)

/-- The summands `u`, with factors `a`, after the pass that shifts by 16. -/
def U16 (a u : FVec Ideal S512x512 .f32) : FVec Ideal S512x512 .f32 :=
  addf (mulf (A8 a) (blockShift_16 zero (U8 a u))) (U8 a u)

/-- The summands `u`, with factors `a`, after the pass that shifts by 32. -/
def U32 (a u : FVec Ideal S512x512 .f32) : FVec Ideal S512x512 .f32 :=
  addf (mulf (A16 a) (blockShift_32 zero (U16 a u))) (U16 a u)

/-- The summands `u`, with factors `a`, after the pass that shifts by 64. -/
def U64 (a u : FVec Ideal S512x512 .f32) : FVec Ideal S512x512 .f32 :=
  addf (mulf (A32 a) (blockShift_64 zero (U32 a u))) (U32 a u)

/-- The summands `u`, with factors `a`, after the pass that shifts by 128. -/
def U128 (a u : FVec Ideal S512x512 .f32) : FVec Ideal S512x512 .f32 :=
  addf (mulf (A64 a) (blockShift_128 zero (U64 a u))) (U64 a u)

/-- The summands `u`, with factors `a`, after the pass that shifts by 256. -/
def U256 (a u : FVec Ideal S512x512 .f32) : FVec Ideal S512x512 .f32 :=
  addf (mulf (A128 a) (blockShift_256 zero (U128 a u))) (U128 a u)

/-- The kernel's nine passes compute the recurrence at every row. -/
theorem scan_rows (ca cu : Fin 512 → ℕ → EReal) (a u : FVec Ideal S512x512 .f32)
    (ha : ∀ r c : Fin 512, a (ix2 r c) = ca c r.val) (hu : ∀ r c : Fin 512, u (ix2 r c) = cu c r.val)
    (h0 : ∀ r c : Fin 512, 0 ≤ a (ix2 r c)) (h1 : ∀ r c : Fin 512, a (ix2 r c) ≠ ⊤) (r c : Fin 512) (x : EReal) :
    U256 a u (ix2 r c) + A256 a (ix2 r c) * x = recur (ca c) (cu c) 0 (r.val + 1) x := by
  have z : (zero : EReal) = 0 := Ideal.ofBits_zero_f32
  have o : (one : EReal) = 1 := Ideal.ofBits_one_f32
  have s0 : Comp (ca c) (cu c) 1 (col a c) (col u c) :=
    comp_one (fun r => ha r c) (fun r => hu r c) (fun r => h0 r c) (fun r => h1 r c)
  have s1 : Comp (ca c) (cu c) 2 (col (A1 a) c) (col (U1 a u) c) :=
    comp_double s0 (fun r => (congrArg (_ * ·) (headShift_apply (Or.inl rfl) one (a) r c)).trans (by rw [o]; rfl))
      (fun r => (congrArg (_ * · + _) (headShift_apply (Or.inl rfl) zero (u) r c)).trans (by rw [z]; rfl))
  have s2 : Comp (ca c) (cu c) 4 (col (A2 a) c) (col (U2 a u) c) :=
    comp_double s1 (fun r => (congrArg (_ * ·) (headShift_apply (Or.inr (Or.inl rfl)) one (A1 a) r c)).trans (by rw [o]; rfl))
      (fun r => (congrArg (_ * · + _) (headShift_apply (Or.inr (Or.inl rfl)) zero (U1 a u) r c)).trans (by rw [z]; rfl))
  have s3 : Comp (ca c) (cu c) 8 (col (A4 a) c) (col (U4 a u) c) :=
    comp_double s2 (fun r => (congrArg (_ * ·) (headShift_apply (Or.inr (Or.inr rfl)) one (A2 a) r c)).trans (by rw [o]; rfl))
      (fun r => (congrArg (_ * · + _) (headShift_apply (Or.inr (Or.inr rfl)) zero (U2 a u) r c)).trans (by rw [z]; rfl))
  have s4 : Comp (ca c) (cu c) 16 (col (A8 a) c) (col (U8 a u) c) :=
    comp_double s3 (fun r => (congrArg (_ * ·) (blockShift_8_apply one (A4 a) r c)).trans (by rw [o]; rfl))
      (fun r => (congrArg (_ * · + _) (blockShift_8_apply zero (U4 a u) r c)).trans (by rw [z]; rfl))
  have s5 : Comp (ca c) (cu c) 32 (col (A16 a) c) (col (U16 a u) c) :=
    comp_double s4 (fun r => (congrArg (_ * ·) (blockShift_16_apply one (A8 a) r c)).trans (by rw [o]; rfl))
      (fun r => (congrArg (_ * · + _) (blockShift_16_apply zero (U8 a u) r c)).trans (by rw [z]; rfl))
  have s6 : Comp (ca c) (cu c) 64 (col (A32 a) c) (col (U32 a u) c) :=
    comp_double s5 (fun r => (congrArg (_ * ·) (blockShift_32_apply one (A16 a) r c)).trans (by rw [o]; rfl))
      (fun r => (congrArg (_ * · + _) (blockShift_32_apply zero (U16 a u) r c)).trans (by rw [z]; rfl))
  have s7 : Comp (ca c) (cu c) 128 (col (A64 a) c) (col (U64 a u) c) :=
    comp_double s6 (fun r => (congrArg (_ * ·) (blockShift_64_apply one (A32 a) r c)).trans (by rw [o]; rfl))
      (fun r => (congrArg (_ * · + _) (blockShift_64_apply zero (U32 a u) r c)).trans (by rw [z]; rfl))
  have s8 : Comp (ca c) (cu c) 256 (col (A128 a) c) (col (U128 a u) c) :=
    comp_double s7 (fun r => (congrArg (_ * ·) (blockShift_128_apply one (A64 a) r c)).trans (by rw [o]; rfl))
      (fun r => (congrArg (_ * · + _) (blockShift_128_apply zero (U64 a u) r c)).trans (by rw [z]; rfl))
  have s9 : Comp (ca c) (cu c) 512 (col (A256 a) c) (col (U256 a u) c) :=
    comp_double s8 (fun r => (congrArg (_ * ·) (blockShift_256_apply one (A128 a) r c)).trans (by rw [o]; rfl))
      (fun r => (congrArg (_ * · + _) (blockShift_256_apply zero (U128 a u) r c)).trans (by rw [z]; rfl))
  exact comp_all s9 r x

end Cert.Lru

end
-- ==== Proof.LruSpec.lean ====
/-
  The recurrence block as one function of its eight arrays, entry by entry: the causal convolution of width four over
  time, the two gates (each channel block of 64 multiplied by its own 64 × 64 matrix), the decay and the input of the
  linear recurrence, the recurrence from the first time step on, and the gating by the GELU of the other half.

  Rows are batch-major: row `4096 * b + t` is time step `t` of batch `b`. Time is a natural number here.
-/
module

public import proofs.«01_k».proof.Proof.Scan
public import Idealize.ShloMosaic.Lib.Pointwise

@[expose] public section

noncomputable section

namespace Cert.Lru

open Idealize.ShloMosaic

/-- The logistic function as the layer computes it. -/
def sigm (x : EReal) : EReal := Ideal.div 1 (1 + Ideal.exp (-x))

/-- The softplus of `-l`. -/
def spn (l : EReal) : EReal := max (-l) 0 + Ideal.log1p (Ideal.exp (-(FloatOps.absf (F := Ideal) (φ := .f32) (-l))))

/-- The tanh form of the GELU. -/
def gelu (x : EReal) : EReal :=
  x * (Ideal.ofBits .f32 0x3F000000#32 * (1 + Ideal.tanh (Ideal.ofBits .f32 0x3F4C422A#32
    * (x + Ideal.ofBits .f32 0x3D372713#32 * (x * (x * x))))))

/-- The channel of block `c / 64` at place `d`. -/
def chan (c : Fin 512) (d : Fin 64) : Fin 512 := ⟨64 * (c.val / 64) + d.val, by omega⟩

/-- One gate before the logistic function: channel block `c / 64` of `x` through its own matrix, and the bias. -/
def gate (w : FVec Ideal ⟨3, ![8, 64, 64]⟩ .f32) (bias : Fin 512 → EReal) (x : Fin 512 → EReal) (c : Fin 512) : EReal :=
  (∑ d : Fin 64, x (chan c d) * w (ix3 ⟨c.val / 64, by omega⟩ d ⟨c.val % 64, by omega⟩)) + bias c

/-- The logarithm of the decay. -/
def logA (lam g : EReal) : EReal := Ideal.ofBits .f32 0xC1000000#32 * sigm g * spn lam

/-- The input of the recurrence at time `t`: the gated convolution, scaled except at the first step. -/
def inp (t : ℕ) (la g x : EReal) : EReal :=
  sigm g * x * (if t = 0 then 1 else Ideal.sqrt (1 - Ideal.exp (Ideal.ofBits .f32 0x40000000#32 * la)))

section
variable (p : FVec Ideal ⟨2, ![16384, 1024]⟩ .f32) (w : FVec Ideal ⟨2, ![4, 512]⟩ .f32)
  (wb : Fin 512 → EReal) (wa : FVec Ideal ⟨3, ![8, 64, 64]⟩ .f32) (ba : Fin 512 → EReal)
  (wx : FVec Ideal ⟨3, ![8, 64, 64]⟩ .f32) (bx : Fin 512 → EReal) (lam : Fin 512 → EReal)

/-- The recurrent half of the projected input at time `t` of batch `b`. -/
def xin (b : Fin 4) (t : ℕ) (c : Fin 512) : EReal :=
  if h : t < 4096 then p (ix2 ⟨4096 * b.val + t, by omega⟩ ⟨512 + c.val, by omega⟩) else 0

/-- `k` time steps earlier, zero before the first step. -/
def xback (k : ℕ) (b : Fin 4) (t : ℕ) (c : Fin 512) : EReal := if t < k then 0 else xin p b (t - k) c

/-- The causal convolution of width four. -/
def conv (b : Fin 4) (t : ℕ) (c : Fin 512) : EReal :=
  xin p b t c * w (ix2 3 c) + xback p 1 b t c * w (ix2 2 c) + xback p 2 b t c * w (ix2 1 c)
    + xback p 3 b t c * w (ix2 0 c) + wb c

/-- The logarithm of the decay at time `t`. -/
def laAt (b : Fin 4) (t : ℕ) (c : Fin 512) : EReal := logA (lam c) (gate wa ba (conv p w wb b t) c)

/-- The decay at time `t`. -/
def aAt (b : Fin 4) (c : Fin 512) (t : ℕ) : EReal := Ideal.exp (laAt p w wb wa ba lam b t c)

/-- The input of the recurrence at time `t`. -/
def uAt (b : Fin 4) (c : Fin 512) (t : ℕ) : EReal :=
  inp t (laAt p w wb wa ba lam b t c) (gate wx bx (conv p w wb b t) c) (conv p w wb b t c)

/-- The state after `n` steps, from zero. -/
def hAfter (b : Fin 4) (c : Fin 512) (n : ℕ) : EReal :=
  recur (aAt p w wb wa ba lam b c) (uAt p w wb wa ba wx bx lam b c) 0 n 0

/-- The block's result at a row and a channel. -/
def outAt (r : Fin 16384) (c : Fin 512) : EReal :=
  hAfter p w wb wa ba wx bx lam ⟨r.val / 4096, by omega⟩ c (r.val % 4096 + 1) * gelu (p (ix2 r ⟨c.val, by omega⟩))

end

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The exponential is infinite only at infinity. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- The sigmoid is not negative. -/
theorem sigm_nonneg (x : EReal) : 0 ≤ sigm x := by
  unfold sigm Ideal.div
  have h : 0 < 1 + Ideal.exp (-x) := lt_of_lt_of_le zero_lt_one (le_add_of_nonneg_right (exp_nonneg _))
  rw [if_neg h.ne', one_mul]
  exact EReal.inv_nonneg_of_nonneg h.le

/-- The logarithm of one plus a nonnegative number is not negative. -/
theorem log1p_nonneg {x : EReal} (h : 0 ≤ x) : 0 ≤ Ideal.log1p x := by
  unfold Ideal.log1p
  induction x using EReal.rec with
  | bot => exact absurd h (by decide)
  | top => exact le_top
  | coe r =>
    have hr : 0 ≤ r := EReal.coe_nonneg.mp h
    show 0 ≤ Ideal.log (((1 : ℝ) : EReal) + (r : EReal))
    rw [← EReal.coe_add]
    show 0 ≤ (if (1 + r) ≤ 0 then (⊥ : EReal) else (Real.log (1 + r) : EReal))
    rw [if_neg (by linarith)]
    exact EReal.coe_nonneg.mpr (Real.log_nonneg (by linarith))

/-- The softplus of a negated number is not negative. -/
theorem spn_nonneg (x : EReal) : 0 ≤ spn x :=
  add_nonneg (le_max_right _ _) (log1p_nonneg (exp_nonneg _))

/-- The constant −8 is not positive. -/
theorem neg_eight : Ideal.ofBits .f32 0xC1000000#32 ≤ (0 : EReal) := by
  have : Ideal.ofBits .f32 0xC1000000#32 = ((-8 : ℝ) : EReal) := by
    simp [Ideal.ofBits, Ideal.ieee]
    rw [← EReal.coe_mul]
    norm_num
  rw [this]
  exact EReal.coe_nonpos.mpr (by norm_num)

/-- The logarithm of the decay is not positive. -/
theorem logA_nonpos (lam g : EReal) : logA lam g ≤ 0 :=
  mul_nonpos_of_nonpos_of_nonneg (mul_nonpos_of_nonpos_of_nonneg neg_eight (sigm_nonneg g)) (spn_nonneg lam)

/-- The decay is never infinite: the logarithm of the decay is never positive. -/
theorem exp_logA_ne_top (lam g : EReal) : Ideal.exp (logA lam g) ≠ ⊤ :=
  exp_ne_top (fun h => by have := logA_nonpos lam g; rw [h] at this; exact absurd this (by decide))

end Cert.Lru

end
-- ==== Proof.LruBlock.lean ====
/-
  What one grid point of the recurrence kernel computes from its block, read at an index: the four-tap convolution with
  its eight carried rows, the two gates, the decay and the input of the recurrence, and the scan's result.
-/
module

public import proofs.«01_k».proof.Proof.LruScan
public import proofs.«01_k».proof.Proof.LruSpec

@[expose] public section

set_option maxRecDepth 16384

noncomputable section

namespace Cert.Lru

open Idealize.ShloMosaic Cert.KernelIdeal Cert.KernelIdeal.Gen

/-- The block moved down by `d` rows (`d` below 8), the vacated rows taken from the eight rows before the block. -/
def tap (d : BitVec 32) (x : FVec Ideal S512x512 .f32) (prev : FVec Ideal S8x512 .f32) : FVec Ideal S512x512 .f32 :=
  concatenate S512x512 0 [⟨S8x512, select (cmpi .slt rows8 (broadcast S8x512 d)) (dynamicRotate 0 d none prev rotates_S8x512_d0)
      (extractStridedSlice S8x512 ![0, 0] (dynamicRotate 0 d none x rotates_S512x512_d0) slices_S512x512_o0_0_S8x512)⟩,
    ⟨S504x512, extractStridedSlice S504x512 ![8, 0] (dynamicRotate 0 d none x rotates_S512x512_d0)
      slices_S512x512_o8_0_S504x512⟩] concatenates_S8x512_S504x512_S512x512_d0

/-- Entry `(r, c)` of the block moved down by `k` rows. -/
def tapAt (k : ℕ) (x : FVec Ideal S512x512 .f32) (prev : FVec Ideal S8x512 .f32) (r c : Fin 512) : EReal :=
  if r.val < k then prev (ix2 ⟨(r.val + 8 - k) % 8, Nat.mod_lt _ (by decide)⟩ c) else x (ix2 ⟨r.val - k, by omega⟩ c)

/-- A tap of the convolution 1, 2 or 3 rows back, read at an index. -/
theorem tap_apply {d : ℕ} (hd : d = 1 ∨ d = 2 ∨ d = 3) (x : FVec Ideal S512x512 .f32) (prev : FVec Ideal S8x512 .f32)
    (r c : Fin 512) : tap (BitVec.ofNat 32 d) x prev (ix2 r c) = tapAt d x prev r c := by
  have e : IntOp.cmpi .slt (BitVec.ofNat 32 r.val) (BitVec.ofNat 32 d) = BitVec.ofBool (decide (r.val < d)) :=
    WordCmp.cmpi_slt_ofNat (w := 32) (a := r.val) (b := d) (by omega) (by omega)
  have past : ¬ r.val < 8 → ¬ r.val < d := by omega
  rcases hd with rfl | rfl | rfl
  all_goals
    pointwise [tap, rows8]
    clean_types
    unfold tapAt
    by_cases h8 : r.val < 8
    · simp only [dif_pos h8, e, Scalar.select_ofBool, decide_eq_true_eq]
      split_ifs with h
      · rfl
      · exact at_row x c (by simp only; omega)
    · simp only [dif_neg h8, if_neg (past h8)]
      exact at_row x c (by simp only; omega)

/-- The convolved block, as the kernel's payloads compose it. -/
def xcOf (x : FVec Ideal S512x512 .f32) (prev : FVec Ideal S8x512 .f32) (w : FVec Ideal S4x512 .f32)
    (b : FVec Ideal S1x512 .f32) : FVec Ideal S512x512 .f32 :=
  k0_pay9 w (k0_pay6 x prev w) (k0_pay7 x) (k0_pay8 prev) rows8 b

/-- The convolved block at an index: four products and the bias. -/
theorem xcOf_apply (x : FVec Ideal S512x512 .f32) (prev : FVec Ideal S8x512 .f32) (w : FVec Ideal S4x512 .f32)
    (b : FVec Ideal S1x512 .f32) (r c : Fin 512) :
    xcOf x prev w b (ix2 r c) = x (ix2 r c) * w (ix2 3 c) + tapAt 1 x prev r c * w (ix2 2 c)
      + tapAt 2 x prev r c * w (ix2 1 c) + tapAt 3 x prev r c * w (ix2 0 c) + b (ix2 0 c) := by
  have e : xcOf x prev w b = addf (addf (addf (addf (mulf x (broadcastTo S512x512 (extractStridedSlice S1x512 ![3, 0] w
      slices_S4x512_o3_0_S1x512) broadcasts_S1x512_S512x512))
      (mulf (tap 1#32 x prev) (broadcastTo S512x512 (extractStridedSlice S1x512 ![2, 0] w
      slices_S4x512_o2_0_S1x512) broadcasts_S1x512_S512x512)))
      (mulf (tap 2#32 x prev) (broadcastTo S512x512 (extractStridedSlice S1x512 ![1, 0] w
      slices_S4x512_o1_0_S1x512) broadcasts_S1x512_S512x512)))
      (mulf (tap 3#32 x prev) (broadcastTo S512x512 (extractStridedSlice S1x512 ![0, 0] w
      slices_S4x512_o0_0_S1x512) broadcasts_S1x512_S512x512)))
      (broadcastTo S512x512 (shapeCast S1x512 b shapeCasts_S1x512_S1x512) broadcasts_S1x512_S512x512) := rfl
  rw [e, ← tap_apply (Or.inl rfl), ← tap_apply (Or.inr (Or.inl rfl)), ← tap_apply (Or.inr (Or.inr rfl))]
  generalize tap 1#32 x prev = t1
  generalize tap 2#32 x prev = t2
  generalize tap 3#32 x prev = t3
  pointwise

/-- The recurrence gate, with all 512 channels in one product. -/
theorem pay12_apply (w : FVec Ideal S4x512 .f32) (v35 v36 : FVec Ideal S512x512 .f32) (v37 : FVec Ideal S8x512 .f32)
    (v38 : IVec S8x512 32) (b : FVec Ideal S1x512 .f32) (wg : FVec Ideal S512x1024 .bf16) (bg : FVec Ideal S1x1024 .f32)
    (r c : Fin 512) : k0_pay12 w v35 v36 v37 v38 b wg bg (ix2 r c)
      = sigm ((∑ x : Fin 512, k0_pay9 w v35 v36 v37 v38 b (ix2 r x) * wg (ix2 x ⟨c.val, by omega⟩))
        + bg (ix2 0 ⟨c.val, by omega⟩)) := by
  unfold k0_pay12 k0_pay11
  generalize k0_pay9 w v35 v36 v37 v38 b = xc
  pointwise
  simp only [sigm, zero_sub]

/-- The input gate, with all 512 channels in one product. -/
theorem pay13_apply (w : FVec Ideal S4x512 .f32) (v35 v36 : FVec Ideal S512x512 .f32) (v37 : FVec Ideal S8x512 .f32)
    (v38 : IVec S8x512 32) (b : FVec Ideal S1x512 .f32) (wg : FVec Ideal S512x1024 .bf16) (bg : FVec Ideal S1x1024 .f32)
    (r c : Fin 512) : k0_pay13 w v35 v36 v37 v38 b wg bg (ix2 r c)
      = sigm ((∑ x : Fin 512, k0_pay9 w v35 v36 v37 v38 b (ix2 r x) * wg (ix2 x ⟨512 + c.val, by omega⟩))
        + bg (ix2 0 ⟨512 + c.val, by omega⟩)) := by
  unfold k0_pay13 k0_pay11
  generalize k0_pay9 w v35 v36 v37 v38 b = xc
  pointwise
  simp only [sigm, zero_sub]

/-- The logarithm of the decay, from the recurrence gate. -/
theorem pay14_apply (v72 : FVec Ideal S512x512 .f32) (cst : Ideal .f32) (lam : FVec Ideal S1x512 .f32)
    (r c : Fin 512) : k0_pay14 v72 cst lam (ix2 r c) = cst * v72 (ix2 r c) * spn (lam (ix2 0 c)) := by
  pointwise [k0_pay14]
  simp only [spn, zero_sub]

/-- The block's result: the state times the GELU of the gating half. -/
theorem pay3_apply (v3 v217 v221: FVec Ideal S512x512 .f32) (cst : Ideal .f32) (h : FVec Ideal S1x512 .f32)
    (r c : Fin 512) : k0_pay3 v3 v217 v221 cst h (ix2 r c) = k0_pay1 v217 v221 cst h (ix2 r c) * gelu (v3 (ix2 r c)) := by
  unfold k0_pay3
  generalize k0_pay1 v217 v221 cst h = y
  pointwise
  simp only [gelu]

/-- The state carried to the next block is the block's last row. -/
theorem pay2_apply (v217 v221: FVec Ideal S512x512 .f32) (cst : Ideal .f32) (h : FVec Ideal S1x512 .f32)
    (r : Fin 1) (c : Fin 512) : k0_pay2 v217 v221 cst h (ix2 r c) = k0_pay1 v217 v221 cst h (ix2 511 c) := by
  unfold k0_pay2
  generalize k0_pay1 v217 v221 cst h = y
  pointwise

/-- The rows carried to the next block's convolution are the block's last eight. -/
theorem pay10_apply (x : FVec Ideal S512x512 .f32)
    (r : Fin 8) (c : Fin 512) : k0_pay10 x (ix2 r c) = x (ix2 ⟨504 + r.val, by omega⟩ c) := by
  pointwise [k0_pay10]

/-- The input of the recurrence, before the scan. -/
def uPre (arg1 : BitVec 32) (v52 v72 v80 : FVec Ideal S512x512 .f32) (cst : Ideal .f32) (lam : FVec Ideal S1x512 .f32) :
    FVec Ideal S512x512 .f32 :=
  mulf (mulf v80 v52) (select (andi (cmpi .eq (iota .tc S512x512 32 [0] iota_S512x512_d0_w32) (broadcast S512x512 0#32))
    (broadcast S512x512 (Scalar.cmpi .eq arg1 0#32))) (broadcast S512x512 one)
    (sqrt (subf (broadcast S512x512 one) (exp (mulf (broadcast S512x512 (Scalar.ofBits .f32 0x40000000#32)) (k0_pay14 v72 cst lam))))))

/-- The payload that runs the first pass of the scan runs it on `uPre`. -/
theorem pay16_eq (arg1 : BitVec 32) (v52 v72 v80 : FVec Ideal S512x512 .f32) (cst : Ideal .f32) (lam : FVec Ideal S1x512 .f32) :
   k0_pay16 arg1 v52 v72 v80 cst lam = U1 (k0_pay15 v72 cst lam) (uPre arg1 v52 v72 v80 cst lam) := rfl

/-- The input of the recurrence at an index; the first row of the first time block is not scaled. -/
theorem uPre_apply (i : ℕ) (hi : i < 8) (v52 v72 v80 : FVec Ideal S512x512 .f32) (cst : Ideal .f32)
    (lam : FVec Ideal S1x512 .f32) (r c : Fin 512) : uPre (BitVec.ofNat 32 i) v52 v72 v80 cst lam (ix2 r c)
      = v80 (ix2 r c) * v52 (ix2 r c) * (if 512 * i + r.val = 0 then 1 else
        Ideal.sqrt (1 - Ideal.exp (Ideal.ofBits .f32 0x40000000#32 * (k0_pay14 v72 cst lam (ix2 r c))))) := by
  unfold uPre
  generalize k0_pay14 v72 cst lam = la
  have e : IntOp.cmpi .eq (BitVec.ofNat 32 r.val) 0#32 = BitVec.ofBool (decide (r.val = 0)) := by
    have := r.isLt
    exact WordCmp.cmpi_eq_ofNat (w := 32) (a := r.val) (b := 0) (by omega) (by decide)
  have e' : IntOp.cmpi .eq (BitVec.ofNat 32 i) 0#32 = BitVec.ofBool (decide (i = 0)) :=
    WordCmp.cmpi_eq_ofNat (w := 32) (a := i) (b := 0) (by omega) (by decide)
  pointwise [one]
  simp only [Ideal.ofBits_one_f32, WordCmp.scalar_cmpi_eq, e, e', WordCmp.andi_ofBool, WordCmp.select_ofBool]
  have q : (decide (r.val = 0) && decide (i = 0)) = true ↔ 512 * i + r.val = 0 := by
    simp only [Bool.and_eq_true, decide_eq_true_eq]; omega
  simp only [q]

/-- The summands after the pass of distance 64, as the kernel's payloads compose them. -/
def v217Of (v97 v124 v125 : FVec Ideal S512x512 .f32) : FVec Ideal S512x512 .f32 :=
  k0_pay30 (k0_pay19 v97 v125 rows8) (k0_pay20 v97 v124 v125 rows8) (k0_pay21 v97 v125 rows8) k0_pay22
    (k0_pay23 v97 v125 rows8) k0_pay24

/-- The factors after the pass of distance 64, as the kernel's payloads compose them. -/
def v221Of (v97 v125 : FVec Ideal S512x512 .f32) : FVec Ideal S512x512 .f32 :=
  k0_pay31 (k0_pay19 v97 v125 rows8) (k0_pay21 v97 v125 rows8) k0_pay22 (k0_pay23 v97 v125 rows8) k0_pay24

/-- The states of a block, as the kernel's payloads compose them from the gates. -/
def statesOf (arg1 : BitVec 32) (v52 v72 v80 : FVec Ideal S512x512 .f32) (lam h : FVec Ideal S1x512 .f32) :
    FVec Ideal S512x512 .f32 :=
  k0_pay1 (v217Of (k0_pay15 v72 (Scalar.ofBits .f32 0xC1000000#32) lam)
      (k0_pay16 arg1 v52 v72 v80 (Scalar.ofBits .f32 0xC1000000#32) lam) (k0_pay17 v72 (Scalar.ofBits .f32 0xC1000000#32) lam))
    (v221Of (k0_pay15 v72 (Scalar.ofBits .f32 0xC1000000#32) lam) (k0_pay17 v72 (Scalar.ofBits .f32 0xC1000000#32) lam))
    (Scalar.ofBits .f32 0x00000000#32) h

/-- The summands are those of the nine-pass scan before its last pass. -/
theorem v217Of_eq (v72 : FVec Ideal S512x512 .f32) (cst : Ideal .f32) (lam : FVec Ideal S1x512 .f32)
    (u : FVec Ideal S512x512 .f32) :
    v217Of (k0_pay15 v72 cst lam) (U1 (k0_pay15 v72 cst lam) u) (k0_pay17 v72 cst lam) = U128 (k0_pay15 v72 cst lam) u := by
  unfold k0_pay17
  generalize k0_pay15 v72 cst lam = a
  rfl

/-- The factors are those of the nine-pass scan before its last pass. -/
theorem v221Of_eq (v72 : FVec Ideal S512x512 .f32) (cst : Ideal .f32) (lam : FVec Ideal S1x512 .f32) :
    v221Of (k0_pay15 v72 cst lam) (k0_pay17 v72 cst lam) = A128 (k0_pay15 v72 cst lam) := by
  unfold k0_pay17
  generalize k0_pay15 v72 cst lam = a
  rfl

/-- The states of a block at an index: the scan's pair at that row, applied to the state before the block. -/
theorem statesOf_apply (arg1 : BitVec 32) (v52 v72 v80 : FVec Ideal S512x512 .f32) (lam h : FVec Ideal S1x512 .f32)
    (r c : Fin 512) : statesOf arg1 v52 v72 v80 lam h (ix2 r c)
      = U256 (k0_pay15 v72 (Scalar.ofBits .f32 0xC1000000#32) lam)
          (uPre arg1 v52 v72 v80 (Scalar.ofBits .f32 0xC1000000#32) lam) (ix2 r c)
        + A256 (k0_pay15 v72 (Scalar.ofBits .f32 0xC1000000#32) lam) (ix2 r c) * h (ix2 0 c) := by
  unfold statesOf
  rw [pay16_eq, v217Of_eq, v221Of_eq]
  generalize k0_pay15 v72 (Scalar.ofBits .f32 0xC1000000#32) lam = a
  generalize uPre arg1 v52 v72 v80 (Scalar.ofBits .f32 0xC1000000#32) lam = u
  have e : k0_pay1 (U128 a u) (A128 a) (Scalar.ofBits .f32 0x00000000#32) h
      = addf (U256 a u) (mulf (A256 a) (broadcastTo S512x512 h broadcasts_S1x512_S512x512)) := rfl
  rw [e]
  generalize U256 a u = p
  generalize A256 a = q
  pointwise

/-- A row moved down by `k` rows is the input `k` time steps earlier. -/
theorem tapAt_eq (p : FVec Ideal S16384x1024 .f32) (b : Fin 4) (i : ℕ) (x : FVec Ideal S512x512 .f32)
    (prev : FVec Ideal S8x512 .f32) (hx : ∀ r c : Fin 512, x (ix2 r c) = xin p b (512 * i + r.val) c)
    (hp : ∀ (r : Fin 8) (c : Fin 512), prev (ix2 r c) = if i = 0 then 0 else xin p b (512 * i - 8 + r.val) c)
    (k : ℕ) (hk0 : 1 ≤ k) (hk : k ≤ 3) (r c : Fin 512) : tapAt k x prev r c = xback p k b (512 * i + r.val) c := by
  unfold tapAt xback
  by_cases h : r.val < k
  · rw [if_pos h, hp]
    by_cases hi : i = 0
    · rw [if_pos hi, if_pos (by omega)]
    · rw [if_neg hi, if_neg (by omega)]
      congr 1
      show 512 * i - 8 + (r.val + 8 - k) % 8 = _
      omega
  · rw [if_neg h, if_neg (by omega), hx]
    congr 1
    show 512 * i + (r.val - k) = _
    omega

/-- A sum over all 512 channels whose terms vanish outside one block of 64 is the sum over that block. -/
theorem sum_block (f : Fin 512 → EReal) (g : Fin 512 → EReal) (c : Fin 512)
    (h : ∀ x : Fin 512, x.val / 64 ≠ c.val / 64 → g x = 0) :
    ∑ x : Fin 512, f x * g x = ∑ d : Fin 64, f (chan c d) * g (chan c d) := by
  have e : ∑ x : Fin 512, f x * g x = ∑ q : Fin 8 × Fin 64, f (finProdFinEquiv q) * g (finProdFinEquiv q) :=
    (Equiv.sum_comp (finProdFinEquiv (m := 8) (n := 64)) (fun x : Fin 512 => f x * g x)).symm
  rw [e, Fintype.sum_prod_type, Finset.sum_eq_single (⟨c.val / 64, by omega⟩ : Fin 8)]
  · refine Finset.sum_congr rfl fun d _ => ?_
    have : finProdFinEquiv ((⟨c.val / 64, by omega⟩ : Fin 8), d) = chan c d :=
      Fin.ext (by show d.val + 64 * (c.val / 64) = 64 * (c.val / 64) + d.val; omega)
    rw [this]
  · intro k _ hk
    refine Finset.sum_eq_zero fun d _ => ?_
    rw [h, mul_zero]
    intro hc
    apply hk
    apply Fin.ext
    have : (d.val + 64 * k.val) / 64 = c.val / 64 := hc
    show k.val = c.val / 64
    have := d.isLt
    omega
  · intro hn; exact absurd (Finset.mem_univ _) hn

/-- One block: if the block's windows hold the arrays' parts, its eight carried rows the inputs just before it and its
    carried state the state just before it, then row `r` of its states is the state after the block's row `r`. -/
theorem states_eq (p : FVec Ideal S16384x1024 .f32) (w : FVec Ideal S4x512 .f32) (wb : Fin 512 → EReal)
    (wa : FVec Ideal S8x64x64 .f32) (ba : Fin 512 → EReal) (wx : FVec Ideal S8x64x64 .f32) (bx lm : Fin 512 → EReal)
    (b : Fin 4) (i : ℕ) (hi : i < 8) (x : FVec Ideal S512x512 .f32) (prev : FVec Ideal S8x512 .f32)
    (cb : FVec Ideal S1x512 .f32) (wg : FVec Ideal S512x1024 .bf16) (bg : FVec Ideal S1x1024 .f32)
    (lam h : FVec Ideal S1x512 .f32)
    (hx : ∀ r c : Fin 512, x (ix2 r c) = xin p b (512 * i + r.val) c)
    (hp : ∀ (r : Fin 8) (c : Fin 512), prev (ix2 r c) = if i = 0 then 0 else xin p b (512 * i - 8 + r.val) c)
    (hcb : ∀ c : Fin 512, cb (ix2 0 c) = wb c)
    (hwa : ∀ x c : Fin 512, wg (ix2 x ⟨c.val, by omega⟩) = if x.val / 64 = c.val / 64 then
      wa (ix3 ⟨c.val / 64, by omega⟩ ⟨x.val % 64, by omega⟩ ⟨c.val % 64, by omega⟩) else 0)
    (hwx : ∀ x c : Fin 512, wg (ix2 x ⟨512 + c.val, by omega⟩) = if x.val / 64 = c.val / 64 then
      wx (ix3 ⟨c.val / 64, by omega⟩ ⟨x.val % 64, by omega⟩ ⟨c.val % 64, by omega⟩) else 0)
    (hba : ∀ c : Fin 512, bg (ix2 0 ⟨c.val, by omega⟩) = ba c)
    (hbx : ∀ c : Fin 512, bg (ix2 0 ⟨512 + c.val, by omega⟩) = bx c)
    (hlam : ∀ c : Fin 512, lam (ix2 0 c) = lm c)
    (hh : ∀ c : Fin 512, h (ix2 0 c) = hAfter p w wb wa ba wx bx lm b c (512 * i)) (r c : Fin 512) :
    statesOf (BitVec.ofNat 32 i) (xcOf x prev w cb)
      (k0_pay12 w (k0_pay6 x prev w) (k0_pay7 x) (k0_pay8 prev) rows8 cb wg bg)
      (k0_pay13 w (k0_pay6 x prev w) (k0_pay7 x) (k0_pay8 prev) rows8 cb wg bg) lam h (ix2 r c)
      = hAfter p w wb wa ba wx bx lm b c (512 * i + (r.val + 1)) := by
  have hc : ∀ r c : Fin 512, xcOf x prev w cb (ix2 r c) = conv p w wb b (512 * i + r.val) c := fun r c => by
    rw [xcOf_apply, hx, hcb, tapAt_eq p b i x prev hx hp 1 (by decide) (by decide),
      tapAt_eq p b i x prev hx hp 2 (by decide) (by decide), tapAt_eq p b i x prev hx hp 3 (by decide) (by decide)]
    rfl
  have hgate : ∀ (wt : FVec Ideal S8x64x64 .f32) (g : Fin 512 → EReal) (r c : Fin 512),
      (∀ x : Fin 512, g x = if x.val / 64 = c.val / 64 then
        wt (ix3 ⟨c.val / 64, by omega⟩ ⟨x.val % 64, by omega⟩ ⟨c.val % 64, by omega⟩) else 0) →
      (∑ y : Fin 512, xcOf x prev w cb (ix2 r y) * g y)
        = ∑ d : Fin 64, conv p w wb b (512 * i + r.val) (chan c d) * wt (ix3 ⟨c.val / 64, by omega⟩ d ⟨c.val % 64, by omega⟩) := by
    intro wt g r c hg
    rw [sum_block _ g c (fun x hx => by rw [hg, if_neg hx])]
    refine Finset.sum_congr rfl fun d _ => ?_
    have hd := d.isLt
    have e1 : (chan c d).val / 64 = c.val / 64 := by show (64 * (c.val / 64) + d.val) / 64 = _; omega
    have e2 : (chan c d).val % 64 = d.val := by show (64 * (c.val / 64) + d.val) % 64 = _; omega
    rw [hc, hg, if_pos e1]
    simp only [e2]
  have ga : ∀ r c : Fin 512, k0_pay12 (F := Ideal) w (k0_pay6 x prev w) (k0_pay7 x) (k0_pay8 prev) rows8 cb wg bg (ix2 r c)
      = sigm (gate wa ba (conv p w wb b (512 * i + r.val)) c) := fun r c => by
    rw [pay12_apply, hba]
    exact congrArg (fun s => sigm (s + ba c)) (hgate wa _ r c (fun x => hwa x c))
  have gx : ∀ r c : Fin 512, k0_pay13 (F := Ideal) w (k0_pay6 x prev w) (k0_pay7 x) (k0_pay8 prev) rows8 cb wg bg (ix2 r c)
      = sigm (gate wx bx (conv p w wb b (512 * i + r.val)) c) := fun r c => by
    rw [pay13_apply, hbx]
    exact congrArg (fun s => sigm (s + bx c)) (hgate wx _ r c (fun x => hwx x c))
  generalize k0_pay12 (F := Ideal) w (k0_pay6 x prev w) (k0_pay7 x) (k0_pay8 prev) rows8 cb wg bg = v72 at ga ⊢
  generalize k0_pay13 (F := Ideal) w (k0_pay6 x prev w) (k0_pay7 x) (k0_pay8 prev) rows8 cb wg bg = v80 at gx ⊢
  generalize xcOf x prev w cb = v52 at hc ⊢
  have hla : ∀ r c : Fin 512, k0_pay14 (F := Ideal) v72 (Scalar.ofBits .f32 0xC1000000#32) lam (ix2 r c)
      = laAt p w wb wa ba lm b (512 * i + r.val) c := fun r c => by
    rw [pay14_apply, ga, hlam]; rfl
  have ha : ∀ r c : Fin 512, k0_pay15 (F := Ideal) v72 (Scalar.ofBits .f32 0xC1000000#32) lam (ix2 r c)
      = aAt p w wb wa ba lm b c (512 * i + r.val) := fun r c => congrArg Ideal.exp (hla r c)
  have hu : ∀ r c : Fin 512, uPre (BitVec.ofNat 32 i) v52 v72 v80 (Scalar.ofBits .f32 0xC1000000#32) lam (ix2 r c)
      = uAt p w wb wa ba wx bx lm b c (512 * i + r.val) := fun r c => by
    rw [uPre_apply i hi, hla, gx, hc]; rfl
  rw [statesOf_apply, scan_rows (fun c n => aAt p w wb wa ba lm b c (512 * i + n))
    (fun c n => uAt p w wb wa ba wx bx lm b c (512 * i + n)) _ _ ha hu
    (fun r c => by rw [ha]; exact exp_nonneg _) (fun r c => by rw [ha]; exact exp_logA_ne_top _ _), hh]
  exact (recur_congr (r.val + 1) _ (fun k _ => by simp only [Nat.zero_add]) (fun k _ => by simp only [Nat.zero_add])).trans
    (recur_add (aAt p w wb wa ba lm b c) (uAt p w wb wa ba wx bx lm b c) 0 (512 * i) (r.val + 1) 0).symm

end Cert.Lru

end
-- ==== Proof.LruOpen.lean ====
/-
  What the recurrence kernel leaves in its output block and in its two carried scratch buffers at a grid point, as values
  of the blocks it reads: first for the points that start a sequence (time block 0), then for the others.
-/
module

public import proofs.«01_k».proof.Proof.LruBlock
public import proofs.«01_k».proof.Proof.Gen.KernelIdeal.Frame
public import Idealize.ShloMosaic.Lib.Pipeline.ValueKit

@[expose] public section

set_option maxRecDepth 16384

noncomputable section

namespace Cert.Lru

open Idealize.ShloMosaic Idealize.ShloMosaic.TcCoe Idealize.ShloMosaic.Tactic Cert.KernelIdeal Cert.KernelIdeal.Gen

/-- The gating half of a block: its first 512 columns. -/
def loHalf (x : FVec Ideal S512x1024 .f32) : FVec Ideal S512x512 .f32 :=
  @View.ld (Elt Ideal) S512x1024 .f32 x (Rect.unit (s := S512x1024) ![0, 0] S512x512.size inb_S512x1024_S512x512_0_0)

/-- The recurrent half of a block: its last 512 columns. -/
def hiHalf (x : FVec Ideal S512x1024 .f32) : FVec Ideal S512x512 .f32 :=
  @View.ld (Elt Ideal) S512x1024 .f32 x (Rect.unit (s := S512x1024) ![0, 512] S512x512.size inb_S512x1024_S512x512_0_512)

/-- The gating half, read at an index. -/
theorem loHalf_apply (x : FVec Ideal S512x1024 .f32) (r c : Fin 512) :
    loHalf x (ix2 r c) = x (ix2 r ⟨c.val, by omega⟩) := by
  unfold loHalf
  refine congrArg x (funext fun a => Fin.ext ?_)
  match a with
  | ⟨0, _⟩ => show 0 + 1 * r.val = r.val; omega
  | ⟨1, _⟩ => show 0 + 1 * c.val = c.val; omega

/-- The recurrent half, read at an index. -/
theorem hiHalf_apply (x : FVec Ideal S512x1024 .f32) (r c : Fin 512) :
    hiHalf x (ix2 r c) = x (ix2 r ⟨512 + c.val, by omega⟩) := by
  unfold hiHalf
  refine congrArg x (funext fun a => Fin.ext ?_)
  match a with
  | ⟨0, _⟩ => show 0 + 1 * r.val = r.val; omega
  | ⟨1, _⟩ => show 512 + 1 * c.val = 512 + c.val; omega

/-- The decay factors before the scan and the summands before the scan's last pass, from the blocks. -/
def gateR (x0 : FVec Ideal S512x1024 .f32) (x1 : FVec Ideal S4x512 .f32) (x2 : FVec Ideal S1x512 .f32)
    (x3 : FVec Ideal S512x1024 .bf16) (x4 : FVec Ideal S1x1024 .f32) (xs0 : FVec Ideal S8x512 .f32) :
    FVec Ideal S512x512 .f32 :=
  k0_pay12 x1 (k0_pay6 (hiHalf x0) xs0 x1) (k0_pay7 (hiHalf x0)) (k0_pay8 xs0) rows8 x2 x3 x4

/-- The input gate of a block, from the blocks. -/
def gateI (x0 : FVec Ideal S512x1024 .f32) (x1 : FVec Ideal S4x512 .f32) (x2 : FVec Ideal S1x512 .f32)
    (x3 : FVec Ideal S512x1024 .bf16) (x4 : FVec Ideal S1x1024 .f32) (xs0 : FVec Ideal S8x512 .f32) :
    FVec Ideal S512x512 .f32 :=
  k0_pay13 x1 (k0_pay6 (hiHalf x0) xs0 x1) (k0_pay7 (hiHalf x0)) (k0_pay8 xs0) rows8 x2 x3 x4

/-- The scan's summands before its last pass, from the blocks. -/
def v217At (arg1 : BitVec 32) (x0 : FVec Ideal S512x1024 .f32) (x1 : FVec Ideal S4x512 .f32) (x2 : FVec Ideal S1x512 .f32)
    (x3 : FVec Ideal S512x1024 .bf16) (x4 : FVec Ideal S1x1024 .f32) (x5 : FVec Ideal S1x512 .f32)
    (xs0 : FVec Ideal S8x512 .f32) : FVec Ideal S512x512 .f32 :=
  v217Of (k0_pay15 (gateR x0 x1 x2 x3 x4 xs0) (Scalar.ofBits .f32 0xC1000000#32) x5)
    (k0_pay16 arg1 (xcOf (hiHalf x0) xs0 x1 x2) (gateR x0 x1 x2 x3 x4 xs0) (gateI x0 x1 x2 x3 x4 xs0)
      (Scalar.ofBits .f32 0xC1000000#32) x5) (k0_pay17 (gateR x0 x1 x2 x3 x4 xs0) (Scalar.ofBits .f32 0xC1000000#32) x5)

/-- The scan's factors before its last pass, from the blocks. -/
def v221At (x0 : FVec Ideal S512x1024 .f32) (x1 : FVec Ideal S4x512 .f32) (x2 : FVec Ideal S1x512 .f32)
    (x3 : FVec Ideal S512x1024 .bf16) (x4 : FVec Ideal S1x1024 .f32) (x5 : FVec Ideal S1x512 .f32)
    (xs0 : FVec Ideal S8x512 .f32) : FVec Ideal S512x512 .f32 :=
  v221Of (k0_pay15 (gateR x0 x1 x2 x3 x4 xs0) (Scalar.ofBits .f32 0xC1000000#32) x5)
    (k0_pay17 (gateR x0 x1 x2 x3 x4 xs0) (Scalar.ofBits .f32 0xC1000000#32) x5)

/-- The block written back. -/
def blockOut (arg1 : BitVec 32) (x0 : FVec Ideal S512x1024 .f32) (x1 : FVec Ideal S4x512 .f32) (x2 : FVec Ideal S1x512 .f32)
    (x3 : FVec Ideal S512x1024 .bf16) (x4 : FVec Ideal S1x1024 .f32) (x5 : FVec Ideal S1x512 .f32)
    (xs0 : FVec Ideal S8x512 .f32) (xs1 : FVec Ideal S1x512 .f32) : FVec Ideal S512x512 .bf16 :=
  k0_pay3 (loHalf x0) (v217At arg1 x0 x1 x2 x3 x4 x5 xs0) (v221At x0 x1 x2 x3 x4 x5 xs0) (Scalar.ofBits .f32 0x00000000#32) xs1

/-- The state carried to the next point. -/
def blockLast (arg1 : BitVec 32) (x0 : FVec Ideal S512x1024 .f32) (x1 : FVec Ideal S4x512 .f32) (x2 : FVec Ideal S1x512 .f32)
    (x3 : FVec Ideal S512x1024 .bf16) (x4 : FVec Ideal S1x1024 .f32) (x5 : FVec Ideal S1x512 .f32)
    (xs0 : FVec Ideal S8x512 .f32) (xs1 : FVec Ideal S1x512 .f32) : FVec Ideal S1x512 .f32 :=
  k0_pay2 (v217At arg1 x0 x1 x2 x3 x4 x5 xs0) (v221At x0 x1 x2 x3 x4 x5 xs0) (Scalar.ofBits .f32 0x00000000#32) xs1

/-- The corner offset of a two-axis block. -/
theorem corner : (![0, 0] : Fin 2 → ℕ) = fun _ => 0 := by funext a; match a with | ⟨0, _⟩ => rfl | ⟨1, _⟩ => rfl

/-- A point inside a sequence: its output block, the convolution rows it carries on, and the state it carries on. -/
theorem point_B (c : Dev nD) (i : grid0.Coords) (arg2 : Memref sig .tc .vmem S512x1024 .f32) (harg2 : arg2.IsWhole) (arg3 : Memref sig .tc .vmem S4x512 .f32) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (hc0 : ¬cond0_0 i)
    (x0 : Vec Ideal S512x1024 .f32) (x1 : Vec Ideal S4x512 .f32) (x2 : Vec Ideal S1x512 .f32) (x3 : Vec Ideal S512x1024 .bf16) (x4 : Vec Ideal S1x1024 .f32) (x5 : Vec Ideal S1x512 .f32) (xs0 : Vec Ideal S8x512 .f32) (xs1 : Vec Ideal S1x512 .f32) :
    out0_B_6 c i arg2 harg2 arg3 harg3 arg4 harg4 arg5 harg5 arg6 harg6 arg7 harg7 arg8 harg8 arg9 harg9 arg10 harg10 hc0 x0 x1 x2 x3 x4 x5 xs0 xs1 = blockOut (BitVec.ofNat 32 (i 1).val) x0 x1 x2 x3 x4 x5 xs0 xs1
    ∧ sout0_B_0 c i arg2 harg2 arg3 harg3 arg4 harg4 arg5 harg5 arg6 harg6 arg7 harg7 arg8 harg8 arg9 harg9 arg10 harg10 hc0 x0 x1 x2 x3 x4 x5 xs0 xs1 = k0_pay10 (F := Ideal) (hiHalf x0)
    ∧ sout0_B_1 c i arg2 harg2 arg3 harg3 arg4 harg4 arg5 harg5 arg6 harg6 arg7 harg7 arg8 harg8 arg9 harg9 arg10 harg10 hc0 x0 x1 x2 x3 x4 x5 xs0 xs1 = blockLast (BitVec.ofNat 32 (i 1).val) x0 x1 x2 x3 x4 x5 xs0 xs1 := by
  unfold out0_B_6 sout0_B_0 sout0_B_1
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1),
    View.read_writes_eq_canon _ _ _ (scover0_B_0 c i arg2 harg2 arg3 harg3 arg4 harg4 arg5 harg5 arg6 harg6 arg7 harg7 arg8 harg8 arg9 harg9 arg10 harg10 hc0 x0 x1 x2 x3 x4 x5 xs0 xs1),
    View.read_writes_eq_canon _ _ _ (scover0_B_1 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_words
  simp only [View.readAt_eq_ld, harg2.read_unread, harg3.read_unread, harg4.read_unread, harg5.read_unread,
    harg6.read_unread, harg7.read_unread, harg9.read_unread, harg10.read_unread,
    View.canon_unit_zero (S := S512x512) corner, View.canon_unit_zero (S := S8x512) corner,
    View.canon_unit_zero (S := S1x512) corner, View.canon_cons_unit_zero (S := S8x512) corner,
    View.canon_cons_unit_zero (S := S1x512) corner, View.ld_unit_zero (S := S4x512) corner,
    View.ld_unit_zero (S := S1x512) corner, View.ld_unit_zero (S := S8x512) corner,
    View.ld_unit_zero (S := S512x1024) corner, View.ld_unit_zero (S := S1x1024) corner,
    View.readCov_unit_zero (S := S8x512) _ corner, View.readCov_unit_zero (S := S1x512) _ corner]
  exact ⟨rfl, rfl, rfl⟩

/-- A point that starts a sequence: its output block, the convolution rows it carries on, and the state it carries on. -/
theorem point_A (c : Dev nD) (i : grid0.Coords) (arg2 : Memref sig .tc .vmem S512x1024 .f32) (harg2 : arg2.IsWhole) (arg3 : Memref sig .tc .vmem S4x512 .f32) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (hc0 : cond0_0 i)
    (x0 : Vec Ideal S512x1024 .f32) (x1 : Vec Ideal S4x512 .f32) (x2 : Vec Ideal S1x512 .f32) (x3 : Vec Ideal S512x1024 .bf16) (x4 : Vec Ideal S1x1024 .f32) (x5 : Vec Ideal S1x512 .f32) :
    out0_A_6 c i arg2 harg2 arg3 harg3 arg4 harg4 arg5 harg5 arg6 harg6 arg7 harg7 arg8 harg8 arg9 harg9 arg10 harg10 hc0 x0 x1 x2 x3 x4 x5 = blockOut (BitVec.ofNat 32 (i 1).val) x0 x1 x2 x3 x4 x5 k0_pay4 k0_pay5
    ∧ sout0_A_0 c i arg2 harg2 arg3 harg3 arg4 harg4 arg5 harg5 arg6 harg6 arg7 harg7 arg8 harg8 arg9 harg9 arg10 harg10 hc0 x0 x1 x2 x3 x4 x5 = k0_pay10 (F := Ideal) (hiHalf x0)
    ∧ sout0_A_1 c i arg2 harg2 arg3 harg3 arg4 harg4 arg5 harg5 arg6 harg6 arg7 harg7 arg8 harg8 arg9 harg9 arg10 harg10 hc0 x0 x1 x2 x3 x4 x5 = blockLast (BitVec.ofNat 32 (i 1).val) x0 x1 x2 x3 x4 x5 k0_pay4 k0_pay5 := by
  unfold out0_A_6 sout0_A_0 sout0_A_1
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5),
    View.read_writes_eq_canon _ _ _ (scover0_A_0 c i arg2 harg2 arg3 harg3 arg4 harg4 arg5 harg5 arg6 harg6 arg7 harg7 arg8 harg8 arg9 harg9 arg10 harg10 hc0 x0 x1 x2 x3 x4 x5),
    View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg2.read_unread, harg3.read_unread, harg4.read_unread, harg5.read_unread,
    harg6.read_unread, harg7.read_unread, harg9.read_unread, harg10.read_unread,
    View.canon_unit_zero (S := S512x512) corner, View.canon_unit_zero (S := S8x512) corner,
    View.canon_unit_zero (S := S1x512) corner, View.canon_cons_unit_zero (S := S8x512) corner,
    View.canon_cons_unit_zero (S := S1x512) corner, View.ld_unit_zero (S := S4x512) corner,
    View.ld_unit_zero (S := S1x512) corner, View.ld_unit_zero (S := S8x512) corner,
    View.ld_unit_zero (S := S512x1024) corner, View.ld_unit_zero (S := S1x1024) corner,
    View.readCov_unit_zero (S := S8x512) _ corner, View.readCov_unit_zero (S := S1x512) _ corner]
  exact ⟨rfl, rfl, rfl⟩

end Cert.Lru

end
-- ==== Proof.LruHost.lean ====
/-
  The arrays the recurrence kernel's host code prepares: the two gates' block-diagonal matrices side by side, their
  biases side by side, and the three channel vectors as rows; and what each window of the kernel reads of them.
-/
module

public import proofs.«01_k».proof.Proof.LruSpec
public import proofs.«01_k».proof.Proof.Gen.KernelIdeal.Frame
public import Idealize.ShloMosaic.Lib.WordCmp
public import Idealize.ShloMosaic.Lib.StableHlo.RunRead
public import Idealize.ShloMosaic.Lib.Tactic.CleanTypes

@[expose] public section

set_option maxRecDepth 16384

noncomputable section

namespace Cert.Lru

open Idealize.ShloMosaic Idealize.ShloMosaic.TcCoe Idealize.ShloMosaic.Tactic Cert.KernelIdeal Cert.KernelIdeal.Gen

/-- The 8 × 8 identity matrix as the host computes it. -/
def eye8 : FVec Ideal S8x8 .f32 :=
  uitofp .f32 (cmpi .eq (addi (iotaInDim S8x8 32 0) (broadcastInDim S8x8 ![] bcast_S_S8x8 (constantI S_ 32 0#32)))
    (iotaInDim S8x8 32 1))

/-- Eight 64 × 64 matrices along the diagonal of a 512 × 512 matrix, as the host computes it. -/
def blockDiag (wb : FVec Ideal S8x64x64 .f32) : FVec Ideal S512x512 .f32 :=
  shapeCast S512x512 (mulf (broadcastInDim S8x64x8x64 ![0, 1, 2, 3] bcast_S8x64x1x64_S8x64x8x64_0_1_2_3
      (broadcastInDim S8x64x1x64 ![0, 1, 3] bcast_S8x64x64_S8x64x1x64_0_1_3 wb))
    (broadcastInDim S8x64x8x64 ![0, 1, 2, 3] bcast_S8x1x8x1_S8x64x8x64_0_1_2_3
      (broadcastInDim S8x1x8x1 ![0, 2] bcast_S8x8_S8x1x8x1_0_2 eye8))) shapeCasts_S8x64x8x64_S512x512

/-- The identity matrix at an index. -/
theorem eye8_apply (i j : Fin 8) : eye8 (ix2 i j) = if i = j then (1 : EReal) else 0 := by
  pointwise [eye8]
  have e1 : IntOp.addi (BitVec.ofNat 32 i.val) 0#32 = BitVec.ofNat 32 i.val := WordCmp.addi_ofNat (w := 32) i.val 0
  have e2 : IntOp.cmpi .eq (BitVec.ofNat 32 i.val) (BitVec.ofNat 32 j.val) = BitVec.ofBool (decide (i.val = j.val)) :=
    WordCmp.cmpi_eq_ofNat (w := 32) (a := i.val) (b := j.val) (by omega) (by omega)
  rw [e1, e2]
  by_cases h : i = j
  · rw [if_pos h, decide_eq_true (by rw [h])]
    show ((((1 : ℕ) : ℝ)) : EReal) = 1
    simp
  · rw [if_neg h, decide_eq_false (fun e => h (Fin.ext e))]
    show ((((0 : ℕ) : ℝ)) : EReal) = 0
    simp

/-- The block-diagonal matrix at an index: zero outside the eight blocks. -/
theorem blockDiag_apply (wb : FVec Ideal S8x64x64 .f32) (x c : Fin 512) :
    blockDiag wb (ix2 x c) = if x.val / 64 = c.val / 64 then
      wb (ix3 ⟨c.val / 64, by omega⟩ ⟨x.val % 64, by omega⟩ ⟨c.val % 64, by omega⟩) else 0 := by
  unfold blockDiag
  have he := eye8_apply
  generalize eye8 = e at he ⊢
  pointwise
  rw [he]
  by_cases h : x.val / 64 = c.val / 64
  · simp only [h, if_true, mul_one]
  · rw [if_neg (fun e => h (congrArg Fin.val e)), if_neg h, mul_zero]

variable (m : (ℓ : Loc nD τ sig) → Buf (Elt Ideal) ℓ) (c : Dev nD)

/-- The gate matrices the kernel reads. -/
theorem V_main_v25 : V m c main_v25 = (truncf .bf16 (concatenate S512x1024 1
    [⟨S512x512, blockDiag (m ((c : Thread nD τ).loc main_arg3))⟩, ⟨S512x512, blockDiag (m ((c : Thread nD τ).loc main_arg5))⟩]
    concatenates_S512x512_S512x512_S512x1024_d1) bitsLt_bf16_f32 : FVec Ideal S512x1024 .bf16) := by
  unfold blockDiag eye8
  after_reads_simp
  rfl

/-- The gate biases the kernel reads. -/
theorem V_main_v27 : V m c main_v27 = (shapeCast S1x1024 (concatenate S1024 0
    [⟨S512, (m ((c : Thread nD τ).loc main_arg4) : FVec Ideal S512 .f32)⟩,
     ⟨S512, (m ((c : Thread nD τ).loc main_arg6) : FVec Ideal S512 .f32)⟩]
    concatenates_S512_S512_S1024_d0) shapeCasts_S1024_S1x1024 : FVec Ideal S1x1024 .f32) := by
  after_reads_simp
  rfl

/-- The convolution bias the kernel reads. -/
theorem V_main_v28 : V m c main_v28 = (shapeCast S1x512 (m ((c : Thread nD τ).loc main_arg2) : FVec Ideal S512 .f32)
    shapeCasts_S512_S1x512 : FVec Ideal S1x512 .f32) := by
  after_reads_simp
  rfl

/-- The decay parameter the kernel reads. -/
theorem V_main_v29 : V m c main_v29 = (shapeCast S1x512 (m ((c : Thread nD τ).loc main_arg7) : FVec Ideal S512 .f32)
    shapeCasts_S512_S1x512 : FVec Ideal S1x512 .f32) := by
  after_reads_simp
  rfl

/-- The first window's block is a row of blocks; the others are whole arrays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The second grid coordinate is the time block. -/
theorem coord_facts : ∀ t : Fin cfg0.N, (grid0.coords t 1).val = t.val % 8 :=
  (by decide +kernel : ∀ t : Fin grid0.N, _)

/-- The projected input's block at a point: 512 of its rows. -/
theorem iblk0_apply (t : Fin cfg0.N) (r : Fin 512) (q : Fin 1024) :
    (iblk m c 0 t : FVec Ideal S512x1024 .f32) (ix2 r q)
      = (m ((c : Thread nD τ).loc main_arg0) : FVec Ideal S16384x1024 .f32)
        (ix2 ⟨512 * t.val + r.val, by have h : t.val < 32 := lt_of_lt_of_eq t.isLt N_0; omega⟩ q) := by
  obtain ⟨h0, h1, -⟩ := index_facts t
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * q.val = q.val; omega

/-- The convolution weights' block is the whole array. -/
theorem iblk1_eq (t : Fin cfg0.N) :
    (iblk m c 1 t : FVec Ideal S4x512 .f32) = (m ((c : Thread nD τ).loc main_arg1) : FVec Ideal S4x512 .f32) := by
  obtain ⟨-, -, h0, h1, -⟩ := index_facts t
  funext y
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 2) * 4 + 1 * (y 0).val = (y 0).val; omega
  | ⟨1, _⟩ => show win0_1.index t (1 : Fin 2) * 512 + 1 * (y 1).val = (y 1).val; omega

/-- The convolution bias's block is the whole row. -/
theorem iblk2_eq (t : Fin cfg0.N) :
    (iblk m c 2 t : FVec Ideal S1x512 .f32) = (V m c main_v28 : FVec Ideal S1x512 .f32) := by
  obtain ⟨-, -, -, -, h0, h1, -⟩ := index_facts t
  funext y
  show V m c main_v28 (((cfg0.win 2).blk t).view.emb y) = _
  refine congrArg (V m c main_v28) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The gate matrices' block is the whole array. -/
theorem iblk3_eq (t : Fin cfg0.N) :
    (iblk m c 3 t : FVec Ideal S512x1024 .bf16) = (V m c main_v25 : FVec Ideal S512x1024 .bf16) := by
  obtain ⟨-, -, -, -, -, -, h0, h1, -⟩ := index_facts t
  funext y
  show V m c main_v25 (((cfg0.win 3).blk t).view.emb y) = _
  refine congrArg (V m c main_v25) (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

/-- The gate biases' block is the whole row. -/
theorem iblk4_eq (t : Fin cfg0.N) :
    (iblk m c 4 t : FVec Ideal S1x1024 .f32) = (V m c main_v27 : FVec Ideal S1x1024 .f32) := by
  obtain ⟨-, -, -, -, -, -, -, -, h0, h1, -⟩ := index_facts t
  funext y
  show V m c main_v27 (((cfg0.win 4).blk t).view.emb y) = _
  refine congrArg (V m c main_v27) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The decay parameter's block is the whole row. -/
theorem iblk5_eq (t : Fin cfg0.N) :
    (iblk m c 5 t : FVec Ideal S1x512 .f32) = (V m c main_v29 : FVec Ideal S1x512 .f32) := by
  obtain ⟨-, -, -, -, -, -, -, -, -, -, h0, h1⟩ := index_facts t
  funext y
  show V m c main_v29 (((cfg0.win 5).blk t).view.emb y) = _
  refine congrArg (V m c main_v29) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The left half of the gate matrices is the recurrence gate's block-diagonal matrix. -/
theorem gates_left (x k : Fin 512) : (V m c main_v25 : FVec Ideal S512x1024 .bf16) (ix2 x ⟨k.val, by omega⟩)
    = blockDiag (m ((c : Thread nD τ).loc main_arg3)) (ix2 x k) := by
  rw [V_main_v25]
  generalize blockDiag (m ((c : Thread nD τ).loc main_arg3)) = p
  generalize blockDiag (m ((c : Thread nD τ).loc main_arg5)) = q
  pointwise

/-- The right half of the gate matrices is the input gate's block-diagonal matrix. -/
theorem gates_right (x k : Fin 512) : (V m c main_v25 : FVec Ideal S512x1024 .bf16) (ix2 x ⟨512 + k.val, by omega⟩)
    = blockDiag (m ((c : Thread nD τ).loc main_arg5)) (ix2 x k) := by
  rw [V_main_v25]
  generalize blockDiag (m ((c : Thread nD τ).loc main_arg3)) = p
  generalize blockDiag (m ((c : Thread nD τ).loc main_arg5)) = q
  pointwise

/-- The left half of the gate biases is the recurrence gate's. -/
theorem biases_left (k : Fin 512) : (V m c main_v27 : FVec Ideal S1x1024 .f32) (ix2 0 ⟨k.val, by omega⟩)
    = (m ((c : Thread nD τ).loc main_arg4) : FVec Ideal S512 .f32) (ix1 k) := by
  rw [V_main_v27]
  generalize (m ((c : Thread nD τ).loc main_arg4) : FVec Ideal S512 .f32) = p
  generalize (m ((c : Thread nD τ).loc main_arg6) : FVec Ideal S512 .f32) = q
  pointwise

/-- The right half of the gate biases is the input gate's. -/
theorem biases_right (k : Fin 512) : (V m c main_v27 : FVec Ideal S1x1024 .f32) (ix2 0 ⟨512 + k.val, by omega⟩)
    = (m ((c : Thread nD τ).loc main_arg6) : FVec Ideal S512 .f32) (ix1 k) := by
  rw [V_main_v27]
  generalize (m ((c : Thread nD τ).loc main_arg4) : FVec Ideal S512 .f32) = p
  generalize (m ((c : Thread nD τ).loc main_arg6) : FVec Ideal S512 .f32) = q
  pointwise

/-- The convolution bias row at a channel. -/
theorem bias_row (k : Fin 512) : (V m c main_v28 : FVec Ideal S1x512 .f32) (ix2 0 k)
    = (m ((c : Thread nD τ).loc main_arg2) : FVec Ideal S512 .f32) (ix1 k) := by
  rw [V_main_v28]
  generalize (m ((c : Thread nD τ).loc main_arg2) : FVec Ideal S512 .f32) = p
  pointwise

/-- The decay parameter row at a channel. -/
theorem lam_row (k : Fin 512) : (V m c main_v29 : FVec Ideal S1x512 .f32) (ix2 0 k)
    = (m ((c : Thread nD τ).loc main_arg7) : FVec Ideal S512 .f32) (ix1 k) := by
  rw [V_main_v29]
  generalize (m ((c : Thread nD τ).loc main_arg7) : FVec Ideal S512 .f32) = p
  pointwise

end Cert.Lru

end
-- ==== Proof.LruValue.lean ====
/-
  The recurrence kernel's value: after every grid point the carried rows, the carried state and the output block are the
  specification's, by induction over the points; so the result array is the specification.
-/
module

public import proofs.«01_k».proof.Proof.LruOpen
public import proofs.«01_k».proof.Proof.LruHost
public import proofs.«01_k».proof.Proof.Gen.KernelIdeal.Value

@[expose] public section

set_option maxRecDepth 16384

noncomputable section

namespace Cert.Lru

open Idealize.ShloMosaic Idealize.ShloMosaic.TcCoe Idealize.ShloMosaic.Tactic Cert.KernelIdeal Cert.KernelIdeal.Gen
  Cert.KernelIdeal.Value

/-- The whole block's result as one array of its eight arguments. -/
def spec (p : FVec Ideal S16384x1024 .f32) (w : FVec Ideal S4x512 .f32) (wb : FVec Ideal S512 .f32)
    (wa : FVec Ideal S8x64x64 .f32) (ba : FVec Ideal S512 .f32) (wx : FVec Ideal S8x64x64 .f32)
    (bx lam : FVec Ideal S512 .f32) : FVec Ideal S16384x512 .bf16 :=
  fun i => outAt p w (fun k => wb (ix1 k)) wa (fun k => ba (ix1 k)) wx (fun k => bx (ix1 k)) (fun k => lam (ix1 k))
    (i (0 : Fin 2)) (i (1 : Fin 2))

variable (m : (ℓ : Loc nD τ sig) → Buf (Elt Ideal) ℓ) (c : Dev nD)

/-- The projected input as the kernel finds it. -/
def kp : FVec Ideal S16384x1024 .f32 := m ((c : Thread nD τ).loc main_arg0)

/-- The state after `n` steps of batch `b`, from the arrays as the kernel finds them. -/
def kH (b : Fin 4) (k : Fin 512) (n : ℕ) : EReal :=
  hAfter (kp m c) (m ((c : Thread nD τ).loc main_arg1) : FVec Ideal S4x512 .f32)
    (fun k => (m ((c : Thread nD τ).loc main_arg2) : FVec Ideal S512 .f32) (ix1 k))
    (m ((c : Thread nD τ).loc main_arg3) : FVec Ideal S8x64x64 .f32)
    (fun k => (m ((c : Thread nD τ).loc main_arg4) : FVec Ideal S512 .f32) (ix1 k))
    (m ((c : Thread nD τ).loc main_arg5) : FVec Ideal S8x64x64 .f32)
    (fun k => (m ((c : Thread nD τ).loc main_arg6) : FVec Ideal S512 .f32) (ix1 k))
    (fun k => (m ((c : Thread nD τ).loc main_arg7) : FVec Ideal S512 .f32) (ix1 k)) b k n

/-- What the output block and the two carried buffers hold after point `n`. -/
def Inv (n : ℕ) (hn : n < 32) (acc : FVec Ideal S512x512 .bf16 × FVec Ideal S8x512 .f32 × FVec Ideal S1x512 .f32) : Prop :=
  (∀ r k : Fin 512, acc.1 (ix2 r k) = kH m c ⟨n / 8, by omega⟩ k (512 * (n % 8) + (r.val + 1))
      * gelu (kp m c (ix2 ⟨512 * n + r.val, by omega⟩ ⟨k.val, by omega⟩)))
  ∧ (∀ (r : Fin 8) (k : Fin 512), acc.2.1 (ix2 r k) = xin (kp m c) ⟨n / 8, by omega⟩ (512 * (n % 8) + 504 + r.val) k)
  ∧ (∀ k : Fin 512, acc.2.2 (ix2 0 k) = kH m c ⟨n / 8, by omega⟩ k (512 * (n % 8) + 512))

/-- The recurrent half of a point's block is the specification's input at the point's times. -/
theorem hi_eq (t : Fin cfg0.N) (ht : t.val < 32) (r k : Fin 512) :
    hiHalf (iblk m c 0 t) (ix2 r k) = xin (kp m c) ⟨t.val / 8, by omega⟩ (512 * (t.val % 8) + r.val) k := by
  rw [hiHalf_apply]
  refine (iblk0_apply m c t r ⟨512 + k.val, by omega⟩).trans ?_
  unfold xin kp
  rw [dif_pos (by omega)]
  congr 2
  apply Fin.ext
  show 512 * t.val + r.val = 4096 * (t.val / 8) + (512 * (t.val % 8) + r.val)
  omega

/-- One point: from carried rows and a carried state that are the specification's (or the zeros that start a sequence),
    its three results are the specification's. -/
theorem point_inv (t : Fin cfg0.N) (ht : t.val < 32) (prev : FVec Ideal S8x512 .f32) (h : FVec Ideal S1x512 .f32)
    (hp : ∀ (r : Fin 8) (k : Fin 512), prev (ix2 r k) = if t.val % 8 = 0 then 0 else
      xin (kp m c) ⟨t.val / 8, by omega⟩ (512 * (t.val % 8) - 8 + r.val) k)
    (hh : ∀ k : Fin 512, h (ix2 0 k) = kH m c ⟨t.val / 8, by omega⟩ k (512 * (t.val % 8))) :
    Inv m c t.val ht
      (blockOut (BitVec.ofNat 32 (grid0.coords t 1).val) (iblk m c 0 t) (iblk m c 1 t) (iblk m c 2 t) (iblk m c 3 t)
        (iblk m c 4 t) (iblk m c 5 t) prev h,
       k0_pay10 (F := Ideal) (hiHalf (iblk m c 0 t)),
       blockLast (BitVec.ofNat 32 (grid0.coords t 1).val) (iblk m c 0 t) (iblk m c 1 t) (iblk m c 2 t) (iblk m c 3 t)
        (iblk m c 4 t) (iblk m c 5 t) prev h) := by
  have hs : ∀ r k : Fin 512, k0_pay1 (F := Ideal)
      (v217At (BitVec.ofNat 32 (grid0.coords t 1).val) (iblk m c 0 t) (iblk m c 1 t) (iblk m c 2 t) (iblk m c 3 t)
        (iblk m c 4 t) (iblk m c 5 t) prev)
      (v221At (iblk m c 0 t) (iblk m c 1 t) (iblk m c 2 t) (iblk m c 3 t) (iblk m c 4 t) (iblk m c 5 t) prev)
      (Scalar.ofBits .f32 0x00000000#32) h (ix2 r k)
      = kH m c ⟨t.val / 8, by omega⟩ k (512 * (t.val % 8) + (r.val + 1)) := by
    rw [coord_facts t]
    intro r k
    exact states_eq (kp m c) (iblk m c 1 t) _ _ _ _ _ _ ⟨t.val / 8, by omega⟩ (t.val % 8) (by omega)
      (hiHalf (iblk m c 0 t)) prev (iblk m c 2 t) (iblk m c 3 t) (iblk m c 4 t) (iblk m c 5 t) h
      (fun r k => hi_eq m c t ht r k) hp
      (fun k => (congrFun (iblk2_eq m c t) _).trans (bias_row m c k))
      (fun x k => (congrFun (iblk3_eq m c t) _).trans ((gates_left m c x k).trans (blockDiag_apply _ x k)))
      (fun x k => (congrFun (iblk3_eq m c t) _).trans ((gates_right m c x k).trans (blockDiag_apply _ x k)))
      (fun k => (congrFun (iblk4_eq m c t) _).trans (biases_left m c k))
      (fun k => (congrFun (iblk4_eq m c t) _).trans (biases_right m c k))
      (fun k => (congrFun (iblk5_eq m c t) _).trans (lam_row m c k))
      (fun k => (hh k).trans (by rw [iblk1_eq m c t]; rfl)) r k |>.trans (by rw [iblk1_eq m c t]; rfl)
  refine ⟨fun r k => ?_, fun r k => ?_, fun k => ?_⟩
  · show blockOut _ _ _ _ _ _ _ _ _ (ix2 r k) = _
    unfold blockOut
    rw [pay3_apply, hs, loHalf_apply]
    exact congrArg (fun z => _ * gelu z) (iblk0_apply m c t r ⟨k.val, by omega⟩)
  · refine (pay10_apply (hiHalf (iblk m c 0 t)) r k).trans ?_
    rw [hi_eq m c t ht]
    congr 1
    show 512 * (t.val % 8) + (504 + r.val) = _
    omega
  · show blockLast _ _ _ _ _ _ _ _ _ (ix2 0 k) = _
    unfold blockLast
    rw [pay2_apply, hs]
    rfl

/-- The rows that start a sequence are zero. -/
theorem zeros8 (r : Fin 8) (k : Fin 512) : k0_pay4 (F := Ideal) (ix2 r k) = (0 : EReal) := by
  pointwise [k0_pay4]

/-- The state that starts a sequence is zero. -/
theorem zeros1 (k : Fin 512) : k0_pay5 (F := Ideal) (ix2 0 k) = (0 : EReal) := by
  pointwise [k0_pay5]

/-- One point's step of the fold keeps the invariant. -/
theorem step_inv (t : Fin cfg0.N) (ht : t.val < 32)
    (acc : FVec Ideal S512x512 .bf16 × FVec Ideal S8x512 .f32 × FVec Ideal S1x512 .f32)
    (hacc : (h : t.val % 8 ≠ 0) → Inv m c (t.val - 1) (by omega) acc) :
    Inv m c t.val ht (stAt0 m c t.val t.isLt acc) := by
  by_cases h0 : t.val % 8 = 0
  · simp only [stAt0_A m c t acc h0, point_A]
    refine point_inv m c t ht _ _ (fun r k => ?_) (fun k => ?_)
    · rw [if_pos h0]; exact zeros8 r k
    · rw [h0]; exact zeros1 k
  · obtain ⟨-, hr, hl⟩ := hacc h0
    simp only [stAt0_B m c t acc h0, point_B]
    refine point_inv m c t ht _ _ (fun r k => ?_) (fun k => ?_)
    · rw [if_neg h0, hr]
      congr 1
      · apply Fin.ext; show (t.val - 1) / 8 = t.val / 8; omega
      · omega
    · rw [hl]
      congr 1
      · apply Fin.ext; show (t.val - 1) / 8 = t.val / 8; omega
      · omega

/-- A property that the first point's step establishes and every later step keeps holds of the fold at every point. -/
theorem fold_of_step {α : Type} {N : ℕ} (step : (n : ℕ) → n < N → α → α) (x : α) (P : ℕ → α → Prop)
    (h0 : ∀ h : 0 < N, P 0 (step 0 h x)) (hs : ∀ (n : ℕ) (h : n + 1 < N) (a : α), P n a → P (n + 1) (step (n + 1) h a))
    (n : ℕ) (h : 0 + n < N) : P n (Pipeline.accAt (fun n h => step n h x) step 0 n h) := by
  induction n with
  | zero => exact h0 h
  | succ n ih =>
    have e : ∀ (j : ℕ) (hj : j < N), n + 1 = j → ∀ a, step j hj a = step (n + 1) (by omega) a := by
      intro j hj hj' a; subst hj'; rfl
    have key := hs n (by omega) _ (ih (by omega))
    rw [← e (0 + (n + 1)) h (by omega)] at key
    exact key

/-- One point's step of the fold, the point given by its number. -/
theorem step_inv_at (n : ℕ) (h : n < cfg0.N) (hn : n < 32)
    (acc : FVec Ideal S512x512 .bf16 × FVec Ideal S8x512 .f32 × FVec Ideal S1x512 .f32)
    (hacc : ∀ (j : ℕ) (hj : j < 32), j + 1 = n → Inv m c j hj acc) : Inv m c n hn (stAt0 m c n h acc) :=
  step_inv m c ⟨n, h⟩ hn acc (fun h0 => hacc (n - 1) (by omega) (by
    have : n % 8 ≠ 0 := h0
    omega))

/-- The invariant at a point, for points the grid has. -/
def InvAt (n : ℕ) (acc : FVec Ideal S512x512 .bf16 × FVec Ideal S8x512 .f32 × FVec Ideal S1x512 .f32) : Prop :=
  ∀ hn : n < 32, Inv m c n hn acc

/-- The invariant holds after the first point. -/
theorem first_inv (h : 0 < cfg0.N) : InvAt m c 0 (stAt0 m c 0 h (junk0 (F := Ideal))) := by
  intro hn
  refine step_inv_at m c 0 h hn (junk0 (F := Ideal)) ?_
  intro j hj e
  omega

/-- A point keeps the invariant. -/
theorem next_inv (n : ℕ) (h : n + 1 < cfg0.N)
    (a : FVec Ideal S512x512 .bf16 × FVec Ideal S8x512 .f32 × FVec Ideal S1x512 .f32) (ha : InvAt m c n a) :
    InvAt m c (n + 1) (stAt0 m c (n + 1) h a) := by
  intro hn
  refine step_inv_at m c (n + 1) h hn a ?_
  intro j hj e
  obtain rfl : j = n := by omega
  exact ha hj

/-- The invariant at every point. -/
theorem fold_inv (n : ℕ) (hn : n < 32) (h : 0 + n < cfg0.N) :
    Inv m c n hn (Pipeline.accAt (fun n h => stAt0 m c n h (junk0 (F := Ideal))) (stAt0 m c) 0 n h) :=
  fold_of_step (stAt0 m c) (junk0 (F := Ideal)) (InvAt m c) (first_inv m c) (next_inv m c) n h hn

/-- The kernel's result array is the specification of its argument arrays. -/
theorem G6_eq : G6 m c = (spec (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    : FVec Ideal S16384x512 .bf16) := by
  funext i
  have h0 : (i 0).val < 16384 := (i 0).isLt
  have h1 : (i 1).val < 512 := (i 1).isLt
  have hp : pt6Of i = (i 0).val / 512 := by
    show 1 * ((i 0).val / 512 - 0) + 1 * ((i 1).val / 512 - 0) = _; omega
  have hN : pt6Of i < 32 := by omega
  have hb : pt6Of i < cfg0.N := lt_of_lt_of_eq hN N_0.symm
  unfold G6
  rw [dif_pos hb]
  have inv := (fold_inv m c (pt6Of i) hN (by omega)).1 ⟨(i 0).val % 512, by omega⟩ ⟨(i 1).val, h1⟩
  have hl : loc6Of i = ix2 ⟨(i 0).val % 512, by omega⟩ ⟨(i 1).val, h1⟩ := by
    funext a; apply Fin.ext
    match a with
    | ⟨0, _⟩ => rfl
    | ⟨1, _⟩ => show (i 1).val % 512 = (i 1).val; omega
  rw [hl]
  refine inv.trans ?_
  unfold spec outAt kH
  have e1 : (⟨pt6Of i / 8, by omega⟩ : Fin 4) = ⟨(i 0).val / 4096, by omega⟩ := by apply Fin.ext; show pt6Of i / 8 = (i 0).val / 4096; omega
  have e2 : 512 * (pt6Of i % 8) + ((i 0).val % 512 + 1) = (i 0).val % 4096 + 1 := by omega
  have e3 : (⟨512 * pt6Of i + (i 0).val % 512, by omega⟩ : Fin 16384) = i 0 := by apply Fin.ext; show 512 * pt6Of i + (i 0).val % 512 = (i 0).val; omega
  simp only [e1, e2, e3]
  rfl

end Cert.Lru

end
-- ==== Proof.LruRef.lean ====
/-
  The reference's arrays before its time loop, read at an index: the padded input, the convolution, the two gates, the
  decay and the input of the recurrence are the specification's.
-/
module

public import proofs.«01_k».proof.Proof.LruSpec
public import proofs.«01_k».proof.Proof.Gen.ReferenceIdeal.Step
public import Idealize.ShloMosaic.Lib.WordCmp
public import Idealize.ShloMosaic.Lib.Tactic.CleanTypes

@[expose] public section

set_option maxRecDepth 16384

noncomputable section

namespace Cert.Lru

open Idealize.ShloMosaic Cert.ReferenceIdeal Cert.ReferenceIdeal.Step

variable (p : FVec Ideal S16384x1024 .f32) (w : FVec Ideal S4x512 .f32) (wb : FVec Ideal S512 .f32)
  (wa : FVec Ideal S8x64x64 .f32) (ba : FVec Ideal S512 .f32) (wx : FVec Ideal S8x64x64 .f32)
  (bx lam : FVec Ideal S512 .f32)

/-- The recurrent half of the input, as an array over batch, time and channel. -/
theorem v1_apply (b : Fin 4) (t : Fin 4096) (c : Fin 512) :
    A_main_v1 (F := Ideal) p w wb wa ba wx bx lam (ix3 b t c) = xin p b t.val c := by
  pointwise [A_main_v1, A_main_v0]
  unfold xin
  rw [dif_pos t.isLt]
  congr 2
  exact Fin.ext (by show b.val * 4096 + t.val = 4096 * b.val + t.val; omega)

/-- The input with three zero rows before each sequence. -/
theorem v2_apply (b : Fin 4) (t : Fin 4099) (c : Fin 512) :
    A_main_v2 (F := Ideal) p w wb wa ba wx bx lam (ix3 b t c) = if t.val < 3 then 0 else xin p b (t.val - 3) c := by
  have h := v1_apply p w wb wa ba wx bx lam
  unfold A_main_v2
  generalize A_main_v1 (F := Ideal) p w wb wa ba wx bx lam = x at h ⊢
  pointwise [K_main_call0_v0, K_main_c]
  have z : (FloatOps.sitofp (F := Ideal) .f32 0#32 : EReal) = 0 := by
    show ((((0 : ℤ) : ℝ)) : EReal) = 0
    simp
  by_cases ht : t.val < 3
  · rw [dif_neg (by omega), if_pos ht, z]
  · rw [dif_pos (by omega), if_neg ht, h]

/-- The convolution. -/
theorem v34_apply (b : Fin 4) (t : Fin 4096) (c : Fin 512) :
    A_main_v34 (F := Ideal) p w wb wa ba wx bx lam (ix3 b t c) = conv p w (fun k => wb (ix1 k)) b t.val c := by
  have h := v2_apply p w wb wa ba wx bx lam
  unfold A_main_v34 A_main_v31 A_main_v24 A_main_v17 A_main_v10 A_main_v8 A_main_v16 A_main_v23 A_main_v30
    A_main_v3 A_main_v11 A_main_v18 A_main_v25
  generalize A_main_v2 (F := Ideal) p w wb wa ba wx bx lam = x at h ⊢
  pointwise [A_main_v7, A_main_v6, A_main_v5, A_main_v4, A_main_v15, A_main_v14, A_main_v13, A_main_v12,
    A_main_v22, A_main_v21, A_main_v20, A_main_v19, A_main_v29, A_main_v28, A_main_v27, A_main_v26, A_main_v33, A_main_v32,
    K_main_v9, K_main_cst]
  simp only [h]
  have e3 : (if t.val < 3 then 0 else xin p b (t.val - 3) c) = xback p 3 b t.val c := rfl
  have e2 : (if 1 + t.val < 3 then 0 else xin p b (1 + t.val - 3) c) = xback p 2 b t.val c := by
    unfold xback
    by_cases ht : t.val < 2
    · rw [if_pos (by omega), if_pos ht]
    · rw [if_neg (by omega), if_neg ht]; congr 1; omega
  have e1 : (if 2 + t.val < 3 then 0 else xin p b (2 + t.val - 3) c) = xback p 1 b t.val c := by
    unfold xback
    by_cases ht : t.val < 1
    · rw [if_pos (by omega), if_pos ht]
    · rw [if_neg (by omega), if_neg ht]; congr 1; omega
  have e0 : (if 3 + t.val < 3 then 0 else xin p b (3 + t.val - 3) c) = xin p b t.val c := by
    rw [if_neg (by omega)]; congr 1; omega
  rw [e0, e1, e2, e3]
  unfold conv
  congr 1
  generalize xin p b t.val c * w (ix2 3 c) = q0
  generalize xback p 1 b t.val c * w (ix2 2 c) = q1
  generalize xback p 2 b t.val c * w (ix2 1 c) = q2
  generalize xback p 3 b t.val c * w (ix2 0 c) = q3
  rw [add_comm (q3 + q2 + q1) q0, add_comm (q3 + q2) q1, add_comm q3 q2, ← add_assoc, ← add_assoc]

/-- The recurrence gate before its logistic function. -/
theorem v41_apply (b : Fin 4) (t : Fin 4096) (c : Fin 512) :
    A_main_v41 (F := Ideal) p w wb wa ba wx bx lam (ix3 b t c)
      = gate wa (fun k => ba (ix1 k)) (conv p w (fun k => wb (ix1 k)) b t.val) c := by
  have h := v34_apply p w wb wa ba wx bx lam
  unfold A_main_v41 A_main_v38 A_main_v37 A_main_v36 A_main_v35
  generalize A_main_v34 (F := Ideal) p w wb wa ba wx bx lam = x at h ⊢
  pointwise [A_main_v40, A_main_v39]
  unfold gate
  congr 1
  refine Finset.sum_congr rfl fun d _ => ?_
  rw [h, mul_comm]
  congr 2
  exact Fin.ext (by show c.val / 64 * 64 + d.val = 64 * (c.val / 64) + d.val; omega)

/-- The softplus of the negated decay parameter. -/
theorem v63_apply (c : Fin 512) :
    A_main_v63 (F := Ideal) p w wb wa ba wx bx lam (ix1 c) = spn (lam (ix1 c)) := by
  pointwise [A_main_v63, A_main_call1_v11, A_main_call1_v10, A_main_call1_v9, A_main_call1_v8, A_main_call1_v7,
    A_main_call1_v6, A_main_call1_v4, A_main_call1_v3, A_main_call1_v1, A_main_v62, K_main_call1_v0, K_main_call1_v2,
    K_main_call1_v5, K_main_call1_cst]
  rw [if_neg (fun h => h rfl)]
  rfl

/-- The logarithm of the decay. -/
theorem v66_apply (b : Fin 4) (t : Fin 4096) (c : Fin 512) :
    A_main_v66 (F := Ideal) p w wb wa ba wx bx lam (ix3 b t c)
      = laAt p w (fun k => wb (ix1 k)) wa (fun k => ba (ix1 k)) (fun k => lam (ix1 k)) b t.val c := by
  have h := v41_apply p w wb wa ba wx bx lam
  have h' := v63_apply p w wb wa ba wx bx lam
  unfold A_main_v66 A_main_v61 A_main_v47 A_main_v45 A_main_v43 A_main_v42 A_main_v65 A_main_v64
  generalize A_main_v41 (F := Ideal) p w wb wa ba wx bx lam = x at h ⊢
  generalize A_main_v63 (F := Ideal) p w wb wa ba wx bx lam = y at h' ⊢
  pointwise [K_main_v60, K_main_cst_4, K_main_v44, K_main_cst_0, K_main_v46, K_main_cst_1]
  rw [h, h']
  rfl

/-- The factor of the input of the recurrence: one at the first step. -/
theorem v77_apply (b : Fin 4) (t : Fin 4096) (c : Fin 512) :
    A_main_v77 (F := Ideal) p w wb wa ba wx bx lam (ix3 b t c)
      = if t.val = 0 then 1 else Ideal.sqrt (1 - Ideal.exp (Ideal.ofBits .f32 0x40000000#32
          * laAt p w (fun k => wb (ix1 k)) wa (fun k => ba (ix1 k)) (fun k => lam (ix1 k)) b t.val c)) := by
  have h := v66_apply p w wb wa ba wx bx lam
  unfold A_main_v77 A_main_v72 A_main_v71 A_main_v70 A_main_v69
  generalize A_main_v66 (F := Ideal) p w wb wa ba wx bx lam = x at h ⊢
  pointwise [K_main_v68, K_main_cst_5, K_main_call2_v1, K_main_call2_v2, K_main_call2_v0, K_main_cst_7, K_main_v76,
    K_main_v75, K_main_v74, K_main_v73, K_main_c_6]
  have e : IntOp.cmpi .eq (BitVec.ofNat 32 t.val) 0#32 = BitVec.ofBool (decide (t.val = 0)) :=
    WordCmp.cmpi_eq_ofNat (w := 32) (a := t.val) (b := 0) (by omega) (by decide)
  have one : (id (constant (F := Ideal) S_ .f32 1065353216#32) ix0 : EReal) = 1 := Ideal.ofBits_one_f32
  rw [e, WordCmp.select_ofBool, one, h]
  simp only [decide_eq_true_eq]
  generalize Ideal.exp (Ideal.ofBits .f32 0x40000000#32
          * laAt p w (fun k => wb (ix1 k)) wa (fun k => ba (ix1 k)) (fun k => lam (ix1 k)) b t.val c) = z
  rw [EReal.neg_sub (Or.inr (by decide)) (Or.inr (by decide)), add_comm, ← sub_eq_add_neg]

/-- The input gate before its logistic function. -/
theorem v53_apply (b : Fin 4) (t : Fin 4096) (c : Fin 512) :
    A_main_v53 (F := Ideal) p w wb wa ba wx bx lam (ix3 b t c)
      = gate wx (fun k => bx (ix1 k)) (conv p w (fun k => wb (ix1 k)) b t.val) c := by
  have h := v34_apply p w wb wa ba wx bx lam
  unfold A_main_v53 A_main_v50 A_main_v49 A_main_v48 A_main_v35
  generalize A_main_v34 (F := Ideal) p w wb wa ba wx bx lam = x at h ⊢
  pointwise [A_main_v52, A_main_v51]
  unfold gate
  congr 1
  refine Finset.sum_congr rfl fun d _ => ?_
  rw [h, mul_comm]
  congr 2
  exact Fin.ext (by show c.val / 64 * 64 + d.val = 64 * (c.val / 64) + d.val; omega)

/-- The input of the recurrence. -/
theorem v79_apply (b : Fin 4) (t : Fin 4096) (c : Fin 512) :
    A_main_v79 (F := Ideal) p w wb wa ba wx bx lam (ix3 b t c)
      = uAt p w (fun k => wb (ix1 k)) wa (fun k => ba (ix1 k)) wx (fun k => bx (ix1 k)) (fun k => lam (ix1 k)) b c t.val := by
  have h1 := v34_apply p w wb wa ba wx bx lam
  have h2 := v53_apply p w wb wa ba wx bx lam
  have h3 := v77_apply p w wb wa ba wx bx lam
  unfold A_main_v79 A_main_v78 A_main_v59 A_main_v57 A_main_v55 A_main_v54
  generalize A_main_v34 (F := Ideal) p w wb wa ba wx bx lam = x at h1 ⊢
  generalize A_main_v53 (F := Ideal) p w wb wa ba wx bx lam = y at h2 ⊢
  generalize A_main_v77 (F := Ideal) p w wb wa ba wx bx lam = z at h3 ⊢
  pointwise [K_main_v56, K_main_cst_2, K_main_v58, K_main_cst_3]
  rw [h1, h2, h3]
  rfl

/-- The decays, time first. -/
theorem v81_apply (t : Fin 4096) (b : Fin 4) (c : Fin 512) :
    A_main_v81 (F := Ideal) p w wb wa ba wx bx lam (ix3 t b c)
      = aAt p w (fun k => wb (ix1 k)) wa (fun k => ba (ix1 k)) (fun k => lam (ix1 k)) b c t.val := by
  have h := v66_apply p w wb wa ba wx bx lam
  unfold A_main_v81 A_main_v67
  generalize A_main_v66 (F := Ideal) p w wb wa ba wx bx lam = x at h ⊢
  pointwise
  rw [h]
  rfl

/-- The inputs of the recurrence, time first. -/
theorem v82_apply (t : Fin 4096) (b : Fin 4) (c : Fin 512) :
    A_main_v82 (F := Ideal) p w wb wa ba wx bx lam (ix3 t b c)
      = uAt p w (fun k => wb (ix1 k)) wa (fun k => ba (ix1 k)) wx (fun k => bx (ix1 k)) (fun k => lam (ix1 k)) b c t.val := by
  have h := v79_apply p w wb wa ba wx bx lam
  unfold A_main_v82
  generalize A_main_v79 (F := Ideal) p w wb wa ba wx bx lam = x at h ⊢
  pointwise
  exact h b t c

end Cert.Lru

end
-- ==== Proof.LruLoop.lean ====
/-
  The reference's time loop: after k trips its carried state is the recurrence after k steps, and the rows written so far
  are the states. With it the reference's result is the specification.
-/
module

public import proofs.«01_k».proof.Proof.LruRef
public import proofs.«01_k».proof.Proof.LruValue
public import proofs.«01_k».proof.Proof.Gen.ReferenceIdeal.Run

@[expose] public section

set_option maxRecDepth 16384

noncomputable section

namespace Cert.Lru

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo
open Cert.ReferenceIdeal Cert.ReferenceIdeal.Gen Cert.ReferenceIdeal.Value

/-- A one-row slice at row k of a three-axis array whose leading start is the word of k. -/
theorem row_slice (x : FVec Ideal S4096x4x512 .f32) (n : (⟨S_, .i32⟩ : BufTy).Contents (Elt Ideal)) (k : Fin 4096)
    (hn : n = fun _ => BitVec.ofNat 32 k.val) (b : Fin 4) (c : Fin 512) :
    shapeCast S4x512 (Host.dynamicSlice S1x4x512 x (fun a => (((![n, constantI S_ 32 0#32, constantI S_ 32 0#32] :
        Fin 3 → (⟨S_, .i32⟩ : BufTy).Contents (Elt Ideal))) a (Shape.Idx.first h_S_)).toInt) sliceFits_S4096x4x512_S1x4x512)
        shapeCasts_S1x4x512_S4x512 (ix2 b c) = x (ix3 k b c) := by
  subst hn
  rw [WordCmp.dynamicSlice_eq_extract S1x4x512 x _ _ ![k.val, 0, 0]
    ⟨rfl, fun a => match a with
      | ⟨0, _⟩ => (by show k.val + 1 ≤ 4096; omega)
      | ⟨1, _⟩ => (by show 0 + 4 ≤ 4; omega)
      | ⟨2, _⟩ => (by show 0 + 512 ≤ 512; omega)⟩
    (fun a => match a with
      | ⟨0, _⟩ => WordCmp.toInt_ofNat_of_lt (by omega)
      | ⟨1, _⟩ => rfl
      | ⟨2, _⟩ => rfl)]
  pointwise

/-- An update of row k of a three-axis array, read at any row. -/
theorem row_update (x : FVec Ideal S4096x4x512 .f32) (y : FVec Ideal S4x512 .f32)
    (n : (⟨S_, .i32⟩ : BufTy).Contents (Elt Ideal)) (k : Fin 4096)
    (hn : n = fun _ => BitVec.ofNat 32 k.val) (t : Fin 4096) (b : Fin 4) (c : Fin 512) :
    Host.dynamicUpdateSlice x (broadcastInDim S1x4x512 ![1, 2] bcast_S4x512_S1x4x512_1_2 y)
        (fun a => (((![n, constantI S_ 32 0#32, constantI S_ 32 0#32] :
        Fin 3 → (⟨S_, .i32⟩ : BufTy).Contents (Elt Ideal))) a (Shape.Idx.first h_S_)).toInt) updateFits_S4096x4x512_S1x4x512
        (ix3 t b c) = if t.val = k.val then y (ix2 b c) else x (ix3 t b c) := by
  subst hn
  refine (congrFun (WordCmp.dynamicUpdateSlice_eq_update (s := S4096x4x512) (u := S1x4x512) x _ _ _ ![k.val, 0, 0]
    ⟨rfl, fun a => match a with
      | ⟨0, _⟩ => (by show k.val + 1 ≤ 4096; omega)
      | ⟨1, _⟩ => (by show 0 + 4 ≤ 4; omega)
      | ⟨2, _⟩ => (by show 0 + 512 ≤ 512; omega)⟩
    (fun a => match a with
      | ⟨0, _⟩ => WordCmp.toInt_ofNat_of_lt (by omega)
      | ⟨1, _⟩ => rfl
      | ⟨2, _⟩ => rfl)) _).trans ?_
  pointwise
  by_cases q : t.val = k.val
  · rw [dif_pos (by omega), if_pos q]
  · rw [dif_neg (by omega), if_neg q]

variable (m : (ℓ : Loc nD τ sig) → Buf (Elt Ideal) ℓ) (c : Dev nD)

/-- The contents before trip k. -/
abbrev atT (k : ℕ) : Valuation τ sig (Elt Ideal) := STEP^[k] (entryContents preI m c)

/-- An argument of the launch. -/
abbrev arg (r : Ref sig .tc) := m ((c.tc : Thread nD τ).loc r)

set_option maxHeartbeats 1000000 in
set_option maxRecDepth 65536 in
/-- The decays the loop enters with. -/
theorem entry_decay : entryContents preI m c (Proc.devRef .tc main_v84_0)
    = Step.A_main_v81 (arg m c main_arg0) (arg m c main_arg1) (arg m c main_arg2) (arg m c main_arg3) (arg m c main_arg4)
        (arg m c main_arg5) (arg m c main_arg6) (arg m c main_arg7) := by
  (simp only [entryContents, afterL_cons, afterL_nil]; after_reads_simp) <;> rfl

set_option maxHeartbeats 1000000 in
set_option maxRecDepth 65536 in
/-- The inputs the loop enters with. -/
theorem entry_input : entryContents preI m c (Proc.devRef .tc main_v84_1)
    = Step.A_main_v82 (arg m c main_arg0) (arg m c main_arg1) (arg m c main_arg2) (arg m c main_arg3) (arg m c main_arg4)
        (arg m c main_arg5) (arg m c main_arg6) (arg m c main_arg7) := by
  (simp only [entryContents, afterL_cons, afterL_nil]; after_reads_simp) <;> rfl

set_option maxHeartbeats 1000000 in
set_option maxRecDepth 65536 in
/-- The counter the loop enters with. -/
theorem entry_count : entryContents preI m c (Proc.devRef .tc main_v84_2) = fun _ => BitVec.ofNat 32 0 := by
  (simp only [entryContents, afterL_cons, afterL_nil]; after_reads_simp) <;> rfl

set_option maxHeartbeats 1000000 in
set_option maxRecDepth 65536 in
/-- The state the loop enters with. -/
theorem entry_state : entryContents preI m c (Proc.devRef .tc main_v84_3) = Step.K_main_v80 (F := Ideal) := by
  (simp only [entryContents, afterL_cons, afterL_nil]; after_reads_simp) <;> rfl

/-- The decays stay. -/
theorem at_decay (k : ℕ) : atT m c k (Proc.devRef .tc main_v84_0) = entryContents preI m c (Proc.devRef .tc main_v84_0) := by
  induction k with
  | zero => rfl
  | succ k ih =>
    unfold atT at ih ⊢
    rw [Function.iterate_succ_apply', STEP_main_v84_0, ih]

/-- The inputs stay. -/
theorem at_input (k : ℕ) : atT m c k (Proc.devRef .tc main_v84_1) = entryContents preI m c (Proc.devRef .tc main_v84_1) := by
  induction k with
  | zero => rfl
  | succ k ih =>
    unfold atT at ih ⊢
    rw [Function.iterate_succ_apply', STEP_main_v84_1, ih]

/-- The counter counts the trips. -/
theorem at_count (k : ℕ) : atT m c k (Proc.devRef .tc main_v84_2) = fun _ => BitVec.ofNat 32 k := by
  induction k with
  | zero => exact entry_count m c
  | succ k ih =>
    unfold atT at ih ⊢
    rw [Function.iterate_succ_apply', STEP_main_v84_2]
    unfold step_main_v84_2
    rw [ih]
    funext i
    show BitVec.ofNat 32 k + 1#32 = BitVec.ofNat 32 (k + 1)
    simp only [BitVec.ofNat_add]

/-- The state after n steps, in the launch's arguments. -/
abbrev hOf (b : Fin 4) (d : Fin 512) (n : ℕ) : EReal :=
  hAfter (arg m c main_arg0) (arg m c main_arg1) (fun k => arg m c main_arg2 (ix1 k)) (arg m c main_arg3)
    (fun k => arg m c main_arg4 (ix1 k)) (arg m c main_arg5) (fun k => arg m c main_arg6 (ix1 k))
    (fun k => arg m c main_arg7 (ix1 k)) b d n

/-- What one trip computes from the state after k steps: the state after k + 1. -/
theorem trip_state (k : ℕ) (hk : k < 4096)
    (h : ∀ (b : Fin 4) (d : Fin 512), atT m c k (Proc.devRef .tc main_v84_3) (ix2 b d) = hOf m c b d k) (b : Fin 4) (d : Fin 512) :
    res_main_while0b_v107 (atT m c k) (ix2 b d) = hOf m c b d (k + 1) := by
  have ea := row_slice (atT m c k (Proc.devRef .tc main_v84_0)) _ ⟨k, hk⟩ (at_count m c k) b d
  have eu := row_slice (atT m c k (Proc.devRef .tc main_v84_1)) _ ⟨k, hk⟩ (at_count m c k) b d
  unfold res_main_while0b_v107
  refine (congrArg₂ (fun x y : EReal => x + y) (congrArg₂ (fun x y : EReal => x * y) ea (h b d)) eu).trans ?_
  rw [at_decay, at_input, entry_decay, entry_input]
  have va := v81_apply (arg m c main_arg0) (arg m c main_arg1) (arg m c main_arg2) (arg m c main_arg3) (arg m c main_arg4)
    (arg m c main_arg5) (arg m c main_arg6) (arg m c main_arg7) ⟨k, hk⟩ b d
  have vu := v82_apply (arg m c main_arg0) (arg m c main_arg1) (arg m c main_arg2) (arg m c main_arg3) (arg m c main_arg4)
    (arg m c main_arg5) (arg m c main_arg6) (arg m c main_arg7) ⟨k, hk⟩ b d
  refine (congrArg₂ (fun x y : EReal => x + y) (congrArg (fun x : EReal => x * hOf m c b d k) va) vu).trans ?_
  show _ = recur _ _ 0 (k + 1) 0
  unfold recur
  rw [Nat.zero_add]
  rfl

/-- The carried state after k trips is the recurrence after k steps. -/
theorem at_state (k : ℕ) (hk : k ≤ 4096) (b : Fin 4) (d : Fin 512) :
    atT m c k (Proc.devRef .tc main_v84_3) (ix2 b d) = hOf m c b d k := by
  induction k generalizing b d with
  | zero =>
    show entryContents preI m c (Proc.devRef .tc main_v84_3) (ix2 b d) = (0 : EReal)
    rw [entry_state]
    exact Ideal.ofBits_zero_f32
  | succ k ih =>
    have e := trip_state m c k (by omega) (fun b d => ih (by omega) b d) b d
    have s : atT m c (k + 1) = STEP (atT m c k) := Function.iterate_succ_apply' _ _ _
    rw [s, STEP_main_v84_3]
    unfold step_main_v84_3
    exact e

/-- The rows written after k trips are the states. -/
theorem at_rows (k : ℕ) (hk : k ≤ 4096) (t : Fin 4096) (ht : t.val < k) (b : Fin 4) (d : Fin 512) :
    atT m c k (Proc.devRef .tc main_v84_4) (ix3 t b d) = hOf m c b d (t.val + 1) := by
  induction k with
  | zero => omega
  | succ k ih =>
    have e := trip_state m c k (by omega) (fun b d => at_state m c k (by omega) b d) b d
    have s : atT m c (k + 1) = STEP (atT m c k) := Function.iterate_succ_apply' _ _ _
    have u := row_update (atT m c k (Proc.devRef .tc main_v84_4)) (res_main_while0b_v107 (atT m c k)) _ ⟨k, by omega⟩
      (at_count m c k) t b d
    rw [s, STEP_main_v84_4]
    unfold step_main_v84_4
    refine Eq.trans u ?_
    by_cases q : t.val = k
    · rw [if_pos q, e, q]
    · rw [if_neg q]
      exact ih (by omega) (by omega)

/-- The rows the loop has written. -/
abbrev rowsOf (V : Valuation τ sig (Elt Ideal)) : FVec Ideal S4096x4x512 .f32 := V (Proc.devRef .tc main_v84_4)

/-- The program's first argument. -/
abbrev inputOf (V : Valuation τ sig (Elt Ideal)) : FVec Ideal S16384x1024 .f32 := V (Proc.devRef .tc main_arg0)

/-- What the reference computes from its states and its first argument, read at a row and a channel. -/
theorem out_apply (V : Valuation τ sig (Elt Ideal)) (r : Fin 16384) (d : Fin 512) :
    (out_main_v103 (F := Ideal) V : FVec Ideal S16384x512 .bf16) (ix2 r d)
      = rowsOf V (ix3 ⟨r.val % 4096, by omega⟩ ⟨r.val / 4096, by omega⟩ d)
        * gelu (inputOf V (ix2 r ⟨d.val, by omega⟩)) := by
  unfold out_main_v103
  unfold rowsOf inputOf
  generalize V (Proc.devRef .tc main_v84_4) = y
  generalize V (Proc.devRef .tc main_arg0) = x
  clean_types
  pointwise
  unfold gelu
  generalize y (ix3 ⟨r.val % 4096, by omega⟩ ⟨r.val / 4096, by omega⟩ d) = v
  change EReal at v
  refine congrArg (fun z : EReal => v * z) ?_
  generalize x (ix2 r ⟨d.val, by omega⟩) = z
  change EReal at z
  have e : z * z * z = z * (z * z) := mul_comm _ _
  rw [e]

/-- The reference's result is the specification of its arguments. -/
theorem ref_eq : out_main_v103 (STEP^[4096] (entryContents preI m c))
    = spec (arg m c main_arg0) (arg m c main_arg1) (arg m c main_arg2) (arg m c main_arg3) (arg m c main_arg4)
        (arg m c main_arg5) (arg m c main_arg6) (arg m c main_arg7) := by
  funext i
  obtain ⟨r, d, rfl⟩ : ∃ (r : Fin 16384) (d : Fin 512), i = ix2 r d :=
    ⟨i (0 : Fin 2), i (1 : Fin 2), funext fun a => by match a with | ⟨0, _⟩ => rfl | ⟨1, _⟩ => rfl⟩
  rw [out_apply]
  have e := at_rows m c 4096 le_rfl ⟨r.val % 4096, by omega⟩ (by show r.val % 4096 < 4096; omega) ⟨r.val / 4096, by omega⟩ d
  have q := congrFun (iter_main_arg0 m c 4096) (ix2 r ⟨d.val, by omega⟩)
  exact congrArg₂ (fun x y : EReal => x * gelu y) e q

end Cert.Lru
-- ==== Proof.LruClaim.lean ====
/-
  The claims about the recurrent block: the kernel, its idealization and the reference run and leave their arguments and
  every semaphore as they were, and the idealized kernel and the idealized reference compute the same array.
-/
module

public import proofs.«01_k».proof.Defs
public import proofs.«01_k».proof.Proof.Gen.Kernel.Frame
public import proofs.«01_k».proof.Proof.Gen.KernelIdeal.Frame
public import proofs.«01_k».proof.Proof.LruValue
public import proofs.«01_k».proof.Proof.LruLoop
public import Idealize.ShloMosaic.Lib.Quiescent

@[expose] public section

noncomputable section

namespace Cert.Lru

open Idealize.ShloMosaic Idealize.SL.Sem

/-- The kernel runs, leaves its arguments unchanged and every semaphore at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized reference, which names no semaphore at all. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- From equal arguments the idealized kernel and the idealized reference end with the same result: the specification's
    array of those arguments. -/
theorem same_result : Cert.algebraic_KernelIdeal_ReferenceIdeal := fun m ρ m' ρ' _ same =>
  ⟨fun c => Cert.KernelIdeal.Value.G6 m c, Cert.KernelIdeal.Value.run m ρ,
    (θ_run Cert.ReferenceIdeal.defs _ _).mono
      (fun _ h c => by
        refine ⟨(h c).1.trans ?_, (h c).2⟩
        obtain ⟨e0, e1, e2, e3, e4, e5, e6, e7⟩ := same c
        refine (ref_eq m' c).trans (Eq.trans ?_ (G6_eq m c).symm)
        unfold arg
        rw [e0, e1, e2, e3, e4, e5, e6, e7])
      (Cert.ReferenceIdeal.Value.run m' ρ')⟩

end Cert.Lru
-- ==== Proof.DenseSpec.lean ====
/-
  The dense parts of a layer on one row: the root-mean-square norm, a projection of the normed row, the residual with the
  mixers' output projection, and the squared-rectifier feed-forward part, with the sums the kernel splits.
-/
module

public import Idealize.ShloMosaic.PureOps.Ideal
public import Idealize.ShloMosaic.Lib.Pointwise

@[expose] public section

noncomputable section

namespace Cert.Dense

open Idealize.ShloMosaic

/-- The reciprocal root of a row's mean square, with the norm's epsilon. -/
def scale (x : Fin 1024 → EReal) : EReal :=
  Ideal.rsqrt (Ideal.div (∑ k, x k * x k) (Ideal.ofBits .f32 0x44800000#32) + Ideal.ofBits .f32 0x358637BD#32)

/-- A row divided by the root of its mean square, times the gain. -/
def normed (x g : Fin 1024 → EReal) (k : Fin 1024) : EReal := x k * scale x * g k

/-- A normed row times a column of weights. -/
def proj (x g : Fin 1024 → EReal) (w : Fin 1024 → EReal) : EReal := ∑ k, normed x g k * w k

/-- Two half rows one after the other. -/
def joined (ya yb : Fin 512 → EReal) (k : Fin 1024) : EReal :=
  if h : k.val < 512 then ya ⟨k.val, h⟩ else yb ⟨k.val - 512, by omega⟩

/-- The residual stream after the mixers: the row plus the joined halves times the output weights. -/
def resid (ya yb : Fin 512 → EReal) (x : Fin 1024 → EReal) (wo : Fin 1024 → Fin 1024 → EReal) (c : Fin 1024) : EReal :=
  x c + ∑ k, joined ya yb k * wo k c

/-- One hidden unit: the square of the rectified product. -/
def hidden (h : Fin 1024 → EReal) (wu : Fin 1024 → EReal) : EReal := max (∑ k, h k * wu k) 0 * max (∑ k, h k * wu k) 0

/-- A row after the feed-forward part, of the residual row r. -/
def ffn (r g : Fin 1024 → EReal) (wu : Fin 1024 → Fin 4096 → EReal) (wd : Fin 4096 → Fin 1024 → EReal) (c : Fin 1024) : EReal :=
  r c + ∑ j, hidden (normed r g) (fun k => wu k j) * wd j c

/-- The sum over the joined halves is the sum of the two halves' sums. -/
theorem sum_joined (ya yb : Fin 512 → EReal) (w : Fin 1024 → EReal) :
    ∑ k, joined ya yb k * w k
      = (∑ k : Fin 512, ya k * w ⟨k.val, by omega⟩) + ∑ k : Fin 512, yb k * w ⟨512 + k.val, by omega⟩ := by
  refine (Fin.sum_univ_add (a := 512) (b := 512) fun k : Fin (512 + 512) => joined ya yb k * w k).trans ?_
  refine congrArg₂ (· + ·) ?_ ?_
  · refine Finset.sum_congr rfl fun k _ => ?_
    have e : joined ya yb (Fin.castAdd 512 k) = ya k := dif_pos k.isLt
    exact congrArg (· * _) e
  · refine Finset.sum_congr rfl fun k _ => ?_
    have e : joined ya yb (Fin.natAdd 512 k) = yb k := by
      unfold joined
      rw [dif_neg (by show ¬ (512 + k.val < 512); omega)]
      congr 1
      exact Fin.ext (by show 512 + k.val - 512 = k.val; omega)
    exact congrArg (· * _) e

/-- A sum over 4096 hidden units is four sums over 1024. -/
theorem sum_quarters (f : Fin 4096 → EReal) :
    ∑ j, f j = (((∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  refine (Fin.sum_univ_add (a := 3072) (b := 1024) f).trans ?_
  refine congrArg₂ (· + ·) ?_ rfl
  refine (Fin.sum_univ_add (a := 2048) (b := 1024) fun j : Fin (2048 + 1024) => f ⟨j.val, by omega⟩).trans ?_
  refine congrArg₂ (· + ·) ?_ rfl
  exact Fin.sum_univ_add (a := 1024) (b := 1024) fun j : Fin (1024 + 1024) => f ⟨j.val, by omega⟩

end Cert.Dense
-- ==== Proof.DenseBlock.lean ====
/-
  What one block of rows computes in the output projection and feed-forward kernel.
-/
module

public import proofs.«01_k».proof.Proof.DenseSpec
public import proofs.«01_k».proof.Proof.Gen.KernelMlpIdeal.Value
public import Idealize.ShloMosaic.Lib.Tactic.CleanTypes

@[expose] public section

set_option maxRecDepth 16384

noncomputable section

namespace Cert.Dense

open Idealize.ShloMosaic Cert.KernelMlpIdeal Cert.KernelMlpIdeal.Gen

/-- The residual rows of a block. -/
theorem pay1_apply (v0 v4 : Vec Ideal S512x512 .bf16) (v1 v5 : Vec Ideal S512x1024 .bf16) (v9 : Vec Ideal S512x1024 .f32)
    (r : Fin 512) (c : Fin 1024) :
    k0_pay1 (F := Ideal) v0 v1 v4 v5 v9 (ix2 r c)
      = v9 (ix2 r c) + ((∑ k : Fin 512, v0 (ix2 r k) * v1 (ix2 k c)) + ∑ k : Fin 512, v4 (ix2 r k) * v5 (ix2 k c)) := by
  unfold k0_pay1
  pointwise

/-- The normed rows of a block. -/
theorem pay2_apply (v0 v4 : Vec Ideal S512x512 .bf16) (v1 v5 : Vec Ideal S512x1024 .bf16) (v9 : Vec Ideal S512x1024 .f32)
    (v11 : Vec Ideal S1x1024 .f32) (r : Fin 512) (c : Fin 1024) :
    k0_pay2 (F := Ideal) v0 v1 v4 v5 v9 v11 (ix2 r c)
      = normed (fun k => k0_pay1 (F := Ideal) v0 v1 v4 v5 v9 (ix2 r k)) (fun k => v11 (ix2 0 k)) c := by
  unfold k0_pay2
  generalize k0_pay1 (F := Ideal) v0 v1 v4 v5 v9 = y
  pointwise
  rfl

/-- One quarter of the hidden units of a block. -/
theorem pay3_apply (v0 v4 : Vec Ideal S512x512 .bf16) (v1 v5 : Vec Ideal S512x1024 .bf16) (v9 : Vec Ideal S512x1024 .f32)
    (v11 : Vec Ideal S1x1024 .f32) (v26 : Vec Ideal S1024x1024 .bf16) (r : Fin 512) (j : Fin 1024) :
    k0_pay3 (F := Ideal) v0 v1 v4 v5 v9 v11 v26 (ix2 r j)
      = hidden (fun k => k0_pay2 (F := Ideal) v0 v1 v4 v5 v9 v11 (ix2 r k)) (fun k => v26 (ix2 k j)) := by
  unfold k0_pay3
  generalize k0_pay2 (F := Ideal) v0 v1 v4 v5 v9 v11 = y
  pointwise
  rfl

/-- The block's result: the residual plus the four quarters' products in turn. -/
theorem pay5_apply (v10 : FVec Ideal S512x1024 .f32) (v25 v32 : FVec Ideal S512x1024 .bf16)
    (v34 v37 v44 v48 v55 v59 v66 : Vec Ideal S1024x1024 .bf16) (r : Fin 512) (c : Fin 1024) :
    k0_pay5 (F := Ideal) v10 v25 v32 (k0_pay4 (F := Ideal) v34) (constant S512x1024 .f32 0x00000000#32) v37 v44 v48 v55 v59 v66 (ix2 r c)
      = (((v10 (ix2 r c) + ∑ j : Fin 1024, v32 (ix2 r j) * v34 (ix2 j c))
          + ∑ j : Fin 1024, hidden (fun k => v25 (ix2 r k)) (fun k => v37 (ix2 k j)) * v44 (ix2 j c))
          + ∑ j : Fin 1024, hidden (fun k => v25 (ix2 r k)) (fun k => v48 (ix2 k j)) * v55 (ix2 j c))
          + ∑ j : Fin 1024, hidden (fun k => v25 (ix2 r k)) (fun k => v59 (ix2 k j)) * v66 (ix2 j c) := by
  unfold k0_pay5 k0_pay4
  pointwise
  rfl

/-- A whole block: from the rows it reads and the weights its pieces are cut from, the rows after the feed-forward part. -/
theorem block_apply (x0 x1 : Vec Ideal S512x512 .bf16) (x2 : Vec Ideal S512x1024 .f32) (x4 : Vec Ideal S1x1024 .f32)
    (wo : Fin 1024 → Fin 1024 → EReal) (wu : Fin 1024 → Fin 4096 → EReal) (wd : Fin 4096 → Fin 1024 → EReal)
    (o0 o1 : Vec Ideal S512x1024 .bf16) (u0 u1 u2 u3 d0 d1 d2 d3 : Vec Ideal S1024x1024 .bf16)
    (ho0 : ∀ k c, o0 (ix2 k c) = wo ⟨k.val, by omega⟩ c) (ho1 : ∀ k c, o1 (ix2 k c) = wo ⟨512 + k.val, by omega⟩ c)
    (hu0 : ∀ k j, u0 (ix2 k j) = wu k ⟨j.val, by omega⟩) (hu1 : ∀ k j, u1 (ix2 k j) = wu k ⟨1024 + j.val, by omega⟩)
    (hu2 : ∀ k j, u2 (ix2 k j) = wu k ⟨2048 + j.val, by omega⟩) (hu3 : ∀ k j, u3 (ix2 k j) = wu k ⟨3072 + j.val, by omega⟩)
    (hd0 : ∀ j c, d0 (ix2 j c) = wd ⟨j.val, by omega⟩ c) (hd1 : ∀ j c, d1 (ix2 j c) = wd ⟨1024 + j.val, by omega⟩ c)
    (hd2 : ∀ j c, d2 (ix2 j c) = wd ⟨2048 + j.val, by omega⟩ c) (hd3 : ∀ j c, d3 (ix2 j c) = wd ⟨3072 + j.val, by omega⟩ c)
    (r : Fin 512) (c : Fin 1024) :
    k0_pay5 (F := Ideal) (k0_pay1 x0 o0 x1 o1 x2) (k0_pay2 x0 o0 x1 o1 x2 x4) (k0_pay3 x0 o0 x1 o1 x2 x4 u0) (k0_pay4 d0)
        (constant S512x1024 .f32 0x00000000#32) u1 d1 u2 d2 u3 d3 (ix2 r c)
      = ffn (resid (fun k => x0 (ix2 r k)) (fun k => x1 (ix2 r k)) (fun k => x2 (ix2 r k)) wo) (fun k => x4 (ix2 0 k)) wu wd c := by
  have e1 : ∀ k : Fin 1024, k0_pay1 (F := Ideal) x0 o0 x1 o1 x2 (ix2 r k)
      = resid (fun k => x0 (ix2 r k)) (fun k => x1 (ix2 r k)) (fun k => x2 (ix2 r k)) wo k := fun k => by
    rw [pay1_apply]
    unfold resid
    rw [sum_joined]
    simp only [ho0, ho1]
  have e2 : ∀ k : Fin 1024, k0_pay2 (F := Ideal) x0 o0 x1 o1 x2 x4 (ix2 r k)
      = normed (resid (fun k => x0 (ix2 r k)) (fun k => x1 (ix2 r k)) (fun k => x2 (ix2 r k)) wo) (fun k => x4 (ix2 0 k)) k :=
    fun k => by rw [pay2_apply]; simp only [e1]
  rw [pay5_apply]
  simp only [pay3_apply, e1, e2, hu0, hu1, hu2, hu3, hd0, hd1, hd2, hd3]
  unfold ffn
  rw [sum_quarters]
  simp only [← add_assoc]

/-- The corner offset of a two-axis block. -/
theorem corner : (![0, 0] : Fin 2 → ℕ) = fun _ => 0 := by funext a; match a with | ⟨0, _⟩ => rfl | ⟨1, _⟩ => rfl

/-- A rectangle of a two-axis array, read at an index: the array at the offset index. -/
theorem ld_at {n0 n1 k0 k1 : ℕ} {e : EltTy} (x : (⟨2, ![n0, n1]⟩ : Shape).Idx → Elt Ideal e) (o0 o1 : ℕ)
    (inb : ∀ a, (![o0, o1] : Fin 2 → ℕ) a + (![k0, k1] : Fin 2 → ℕ) a ≤ (![n0, n1] : Fin 2 → ℕ) a)
    (r : Fin k0) (c : Fin k1) (hr : o0 + r.val < n0) (hc : o1 + c.val < n1) :
    View.ld x (Rect.unit (s := ⟨2, ![n0, n1]⟩) ![o0, o1] ![k0, k1] inb) (ix2 r c) = x (ix2 ⟨o0 + r.val, hr⟩ ⟨o1 + c.val, hc⟩) := by
  refine congrArg x (funext fun a => Fin.ext ?_)
  match a with
  | ⟨0, _⟩ => show o0 + 1 * r.val = o0 + r.val; omega
  | ⟨1, _⟩ => show o1 + 1 * c.val = o1 + c.val; omega

end Cert.Dense
-- ==== Proof.MlpValue.lean ====
/-
  The array the output projection and feed-forward kernel leaves, as one formula of its arguments.
-/
module

public import proofs.«01_k».proof.Proof.DenseBlock
public import Idealize.ShloMosaic.Lib.StableHlo.RunRead

@[expose] public section

set_option maxRecDepth 16384

noncomputable section

namespace Cert.Dense

open Idealize.ShloMosaic

/-- The residual and feed-forward part of every row, in the arrays it is given. -/
def mlpAt (ya yb : FVec Ideal ⟨2, ![16384, 512]⟩ .bf16) (x : FVec Ideal ⟨2, ![16384, 1024]⟩ .f32)
    (wo : FVec Ideal ⟨2, ![1024, 1024]⟩ .f32) (g : FVec Ideal ⟨1, ![1024]⟩ .f32) (wu : FVec Ideal ⟨2, ![1024, 4096]⟩ .f32)
    (wd : FVec Ideal ⟨2, ![4096, 1024]⟩ .f32) (R : Fin 16384) (c : Fin 1024) : EReal :=
  ffn (resid (fun k => ya (ix2 R k)) (fun k => yb (ix2 R k)) (fun k => x (ix2 R k)) (fun k c => wo (ix2 k c)))
    (fun k => g (ix1 k)) (fun k j => wu (ix2 k j)) (fun j c => wd (ix2 j c)) c

/-- The same as one array. -/
def mlpSpec (ya yb : FVec Ideal ⟨2, ![16384, 512]⟩ .bf16) (x : FVec Ideal ⟨2, ![16384, 1024]⟩ .f32)
    (wo : FVec Ideal ⟨2, ![1024, 1024]⟩ .f32) (g : FVec Ideal ⟨1, ![1024]⟩ .f32) (wu : FVec Ideal ⟨2, ![1024, 4096]⟩ .f32)
    (wd : FVec Ideal ⟨2, ![4096, 1024]⟩ .f32) : FVec Ideal ⟨2, ![16384, 1024]⟩ .f32 :=
  fun i => mlpAt ya yb x wo g wu wd (i (0 : Fin 2)) (i (1 : Fin 2))

end Cert.Dense

namespace Cert.Dense.Mlp

open Idealize.ShloMosaic Idealize.ShloMosaic.TcCoe Idealize.ShloMosaic.StableHlo
open Cert.KernelMlpIdeal Cert.KernelMlpIdeal.Gen Cert.KernelMlpIdeal.Value

variable (m : (ℓ : Loc nD τ sig) → Buf (Elt Ideal) ℓ) (c : Dev nD)

/-- Where each window's block lies: the row windows follow the grid point, the weights stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A row of the first mixer's block. -/
theorem iblk0_apply (t : Fin cfg0.N) (r : Fin 512) (q : Fin 512) (h : 512 * t.val + r.val < 16384) :
    (iblk m c 0 t : FVec Ideal S512x512 .bf16) (ix2 r q)
      = (m ((c : Thread nD τ).loc main_arg0) : FVec Ideal S16384x512 .bf16) (ix2 ⟨512 * t.val + r.val, h⟩ q) := by
  have f := index_facts t
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 512 + 1 * q.val = q.val; omega

/-- A row of the second mixer's block. -/
theorem iblk1_apply (t : Fin cfg0.N) (r : Fin 512) (q : Fin 512) (h : 512 * t.val + r.val < 16384) :
    (iblk m c 1 t : FVec Ideal S512x512 .bf16) (ix2 r q)
      = (m ((c : Thread nD τ).loc main_arg1) : FVec Ideal S16384x512 .bf16) (ix2 ⟨512 * t.val + r.val, h⟩ q) := by
  have f := index_facts t
  show V m c main_arg1 (((cfg0.win 1).blk t).view.emb (ix2 r q)) = _
  rw [V_main_arg1]
  refine congrArg (m ((c : Thread nD τ).loc main_arg1)) (funext fun a => Fin.ext ?_)
  match a with
  | ⟨0, _⟩ => show win0_1.index t (0 : Fin 2) * 512 + 1 * r.val = 512 * t.val + r.val; omega
  | ⟨1, _⟩ => show win0_1.index t (1 : Fin 2) * 512 + 1 * q.val = q.val; omega

/-- A row of the residual stream's block. -/
theorem iblk2_apply (t : Fin cfg0.N) (r : Fin 512) (q : Fin 1024) (h : 512 * t.val + r.val < 16384) :
    (iblk m c 2 t : FVec Ideal S512x1024 .f32) (ix2 r q)
      = (m ((c : Thread nD τ).loc main_arg2) : FVec Ideal S16384x1024 .f32) (ix2 ⟨512 * t.val + r.val, h⟩ q) := by
  have f := index_facts t
  show V m c main_arg2 (((cfg0.win 2).blk t).view.emb (ix2 r q)) = _
  rw [V_main_arg2]
  refine congrArg (m ((c : Thread nD τ).loc main_arg2)) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * q.val = q.val; omega

/-- The output weights' block is the whole matrix. -/
theorem iblk3_apply (t : Fin cfg0.N) (k q : Fin 1024) :
    (iblk m c 3 t : FVec Ideal S1024x1024 .bf16) (ix2 k q)
      = (m ((c : Thread nD τ).loc main_arg3) : FVec Ideal S1024x1024 .f32) (ix2 k q) := by
  have f := index_facts t
  have e : @Eq (FVec Ideal S1024x1024 .bf16) (V m c main_v0) (truncf .bf16 (m ((c : Thread nD τ).loc main_arg3) : FVec Ideal S1024x1024 .f32) bitsLt_bf16_f32) := by
    after_reads_simp
  show V m c main_v0 (((cfg0.win 3).blk t).view.emb (ix2 k q)) = _
  rw [e]
  refine congrArg (m ((c : Thread nD τ).loc main_arg3)) (funext fun a => Fin.ext ?_)
  match a with
  | ⟨0, _⟩ => show win0_3.index t (0 : Fin 2) * 1024 + 1 * k.val = k.val; omega
  | ⟨1, _⟩ => show win0_3.index t (1 : Fin 2) * 1024 + 1 * q.val = q.val; omega

/-- The norm's gain, as a row. -/
theorem iblk4_apply (t : Fin cfg0.N) (q : Fin 1024) :
    (iblk m c 4 t : FVec Ideal S1x1024 .f32) (ix2 0 q)
      = (m ((c : Thread nD τ).loc main_arg4) : FVec Ideal S1024 .f32) (ix1 q) := by
  have f := index_facts t
  have e : V m c main_v3 = (shapeCast S1x1024 (m ((c : Thread nD τ).loc main_arg4) : FVec Ideal S1024 .f32) shapeCasts_S1024_S1x1024) := by
    after_reads_simp
    rfl
  have w : (((cfg0.win 4).blk t).view.emb (ix2 0 q) : S1x1024.Idx) = ix2 0 q := funext fun a => Fin.ext (by
    match a with
    | ⟨0, _⟩ => show win0_4.index t (0 : Fin 2) * 1 + 1 * 0 = 0; omega
    | ⟨1, _⟩ => show win0_4.index t (1 : Fin 2) * 1024 + 1 * q.val = q.val; omega)
  show V m c main_v3 (((cfg0.win 4).blk t).view.emb (ix2 0 q)) = _
  rw [e]
  refine (congrArg _ w).trans ?_
  pointwise

/-- The upward weights' block is the whole matrix. -/
theorem iblk5_apply (t : Fin cfg0.N) (k : Fin 1024) (q : Fin 4096) :
    (iblk m c 5 t : FVec Ideal S1024x4096 .bf16) (ix2 k q)
      = (m ((c : Thread nD τ).loc main_arg5) : FVec Ideal S1024x4096 .f32) (ix2 k q) := by
  have f := index_facts t
  have e : @Eq (FVec Ideal S1024x4096 .bf16) (V m c main_v1) (truncf .bf16 (m ((c : Thread nD τ).loc main_arg5) : FVec Ideal S1024x4096 .f32) bitsLt_bf16_f32) := by
    after_reads_simp
  show V m c main_v1 (((cfg0.win 5).blk t).view.emb (ix2 k q)) = _
  rw [e]
  refine congrArg (m ((c : Thread nD τ).loc main_arg5)) (funext fun a => Fin.ext ?_)
  match a with
  | ⟨0, _⟩ => show win0_5.index t (0 : Fin 2) * 1024 + 1 * k.val = k.val; omega
  | ⟨1, _⟩ => show win0_5.index t (1 : Fin 2) * 4096 + 1 * q.val = q.val; omega

/-- The downward weights' block is the whole matrix. -/
theorem iblk6_apply (t : Fin cfg0.N) (k : Fin 4096) (q : Fin 1024) :
    (iblk m c 6 t : FVec Ideal S4096x1024 .bf16) (ix2 k q)
      = (m ((c : Thread nD τ).loc main_arg6) : FVec Ideal S4096x1024 .f32) (ix2 k q) := by
  have f := index_facts t
  have e : @Eq (FVec Ideal S4096x1024 .bf16) (V m c main_v2) (truncf .bf16 (m ((c : Thread nD τ).loc main_arg6) : FVec Ideal S4096x1024 .f32) bitsLt_bf16_f32) := by
    after_reads_simp
  show V m c main_v2 (((cfg0.win 6).blk t).view.emb (ix2 k q)) = _
  rw [e]
  refine congrArg (m ((c : Thread nD τ).loc main_arg6)) (funext fun a => Fin.ext ?_)
  match a with
  | ⟨0, _⟩ => show win0_6.index t (0 : Fin 2) * 4096 + 1 * k.val = k.val; omega
  | ⟨1, _⟩ => show win0_6.index t (1 : Fin 2) * 1024 + 1 * q.val = q.val; omega

/-- The closing norm's gain, as a row. -/
theorem iblk7_apply (t : Fin cfg0.N) (q : Fin 1024) :
    (iblk m c 7 t : FVec Ideal S1x1024 .f32) (ix2 0 q)
      = (m ((c : Thread nD τ).loc main_arg7) : FVec Ideal S1024 .f32) (ix1 q) := by
  have f := index_facts t
  have e : V m c main_v4 = (shapeCast S1x1024 (m ((c : Thread nD τ).loc main_arg7) : FVec Ideal S1024 .f32) shapeCasts_S1024_S1x1024) := by
    after_reads_simp
    rfl
  have w : (((cfg0.win 7).blk t).view.emb (ix2 0 q) : S1x1024.Idx) = ix2 0 q := funext fun a => Fin.ext (by
    match a with
    | ⟨0, _⟩ => show win0_7.index t (0 : Fin 2) * 1 + 1 * 0 = 0; omega
    | ⟨1, _⟩ => show win0_7.index t (1 : Fin 2) * 1024 + 1 * q.val = q.val; omega)
  show V m c main_v4 (((cfg0.win 7).blk t).view.emb (ix2 0 q)) = _
  rw [e]
  refine (congrArg _ w).trans ?_
  pointwise

/-- What one grid point leaves of a row of its block. -/
theorem point_apply (t : Fin cfg0.N) (r : Fin 512) (q : Fin 1024) (h : 512 * t.val + r.val < 16384) :
    (out0_8 (iblk m c 0 t) (iblk m c 1 t) (iblk m c 2 t) (iblk m c 3 t) (iblk m c 4 t) (iblk m c 5 t) (iblk m c 6 t) (iblk m c 7 t)
        : FVec Ideal S512x1024 .f32) (ix2 r q)
      = mlpAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨512 * t.val + r.val, h⟩ q := by
  unfold out0_8
  rw [View.canon_unit_zero (S := S512x1024) corner]
  simp only [View.ld_unit_zero (S := S512x1024) corner, View.ld_unit_zero (S := S512x512) corner,
    View.ld_unit_zero (S := S1x1024) corner]
  refine (block_apply (iblk m c 0 t) (iblk m c 1 t) (iblk m c 2 t) (iblk m c 4 t)
    (fun k c' => (m ((c : Thread nD τ).loc main_arg3) : FVec Ideal S1024x1024 .f32) (ix2 k c'))
    (fun k j => (m ((c : Thread nD τ).loc main_arg5) : FVec Ideal S1024x4096 .f32) (ix2 k j))
    (fun j c' => (m ((c : Thread nD τ).loc main_arg6) : FVec Ideal S4096x1024 .f32) (ix2 j c'))
    _ _ _ _ _ _ _ _ _ _ ?_ ?_ ?_ ?_ ?_ ?_ ?_ ?_ ?_ ?_ r q).trans ?_
  · exact fun k q => (ld_at _ 0 0 _ k q (by omega) (by omega)).trans ((iblk3_apply m c t _ _).trans (by simp))
  · exact fun k q => (ld_at _ 512 0 _ k q (by omega) (by omega)).trans ((iblk3_apply m c t _ _).trans (by simp))
  · exact fun k q => (ld_at _ 0 0 _ k q (by omega) (by omega)).trans ((iblk5_apply m c t _ _).trans (by simp))
  · exact fun k q => (ld_at _ 0 1024 _ k q (by omega) (by omega)).trans ((iblk5_apply m c t _ _).trans (by simp))
  · exact fun k q => (ld_at _ 0 2048 _ k q (by omega) (by omega)).trans ((iblk5_apply m c t _ _).trans (by simp))
  · exact fun k q => (ld_at _ 0 3072 _ k q (by omega) (by omega)).trans ((iblk5_apply m c t _ _).trans (by simp))
  · exact fun k q => (ld_at _ 0 0 _ k q (by omega) (by omega)).trans ((iblk6_apply m c t _ _).trans (by simp))
  · exact fun k q => (ld_at _ 1024 0 _ k q (by omega) (by omega)).trans ((iblk6_apply m c t _ _).trans (by simp))
  · exact fun k q => (ld_at _ 2048 0 _ k q (by omega) (by omega)).trans ((iblk6_apply m c t _ _).trans (by simp))
  · exact fun k q => (ld_at _ 3072 0 _ k q (by omega) (by omega)).trans ((iblk6_apply m c t _ _).trans (by simp))
  · unfold mlpAt
    simp only [iblk0_apply m c t r _ h, iblk1_apply m c t r _ h, iblk2_apply m c t r _ h, iblk4_apply m c t]

/-- Every index of the output array lies in the block of the grid point of its row. -/
theorem output_index (i : S16384x1024.Idx) : ∃ (t : Fin cfg0.N) (r : Fin 512) (h : 512 * t.val + r.val < 16384),
    (⟨512 * t.val + r.val, h⟩ : Fin 16384) = i (0 : Fin 2)
      ∧ (((cfg0.win 8).blk t).view.emb (ix2 r (i (1 : Fin 2) : Fin 1024)) : S16384x1024.Idx) = i := by
  have hi : (i (0 : Fin 2)).val < 16384 := (i (0 : Fin 2)).isLt
  let t : Fin cfg0.N := ⟨(i (0 : Fin 2)).val / 512, lt_of_lt_of_eq (by omega : (i (0 : Fin 2)).val / 512 < 32) N_0.symm⟩
  let r : Fin 512 := ⟨(i (0 : Fin 2)).val % 512, by omega⟩
  have ht : t.val = (i (0 : Fin 2)).val / 512 := rfl
  have hr : r.val = (i (0 : Fin 2)).val % 512 := rfl
  have f := index_facts t
  refine ⟨t, r, by omega, Fin.ext (by show 512 * t.val + r.val = (i (0 : Fin 2)).val; omega), funext fun a => Fin.ext ?_⟩
  match a with
  | ⟨0, _⟩ => show win0_8.index t (0 : Fin 2) * 512 + 1 * r.val = (i (0 : Fin 2)).val; omega
  | ⟨1, _⟩ => show win0_8.index t (1 : Fin 2) * 1024 + 1 * (i (1 : Fin 2)).val = (i (1 : Fin 2)).val; omega

/-- The whole output array after the grid is the formula, row by row. -/
theorem array_eq : (dats m 0 c).arrAt 8 cfg0.N
    = mlpSpec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨t, r, h, hi, w⟩ := output_index i
  have b := congrFun ((blocks8 m c t (flush0_8 t)).trans (flushed8 m c t)) (ix2 r (i (1 : Fin 2)))
  refine (congrArg ((dats m 0 c).arrAt 8 cfg0.N) w).symm.trans (b.trans ((point_apply m c t r (i (1 : Fin 2)) h).trans ?_))
  rw [hi]
  rfl

end Cert.Dense.Mlp
-- ==== Proof.MlpRef.lean ====
/-
  The reference's output projection and feed-forward part, read at an index, is the same formula.
-/
module

public import proofs.«01_k».proof.Proof.MlpValue
public import proofs.«01_k».proof.Proof.Gen.ReferenceMlpIdeal.Read
public import Idealize.ShloMosaic.Lib.Tactic.CleanTypes

@[expose] public section

set_option maxRecDepth 16384

noncomputable section

namespace Cert.Dense.MlpRef

open Idealize.ShloMosaic Cert.ReferenceMlpIdeal Cert.ReferenceMlpIdeal.Read

variable (ya yb : FVec Ideal S16384x512 .bf16) (x : FVec Ideal S16384x1024 .f32) (wo : FVec Ideal S1024x1024 .f32)
  (g : FVec Ideal S1024 .f32) (wu : FVec Ideal S1024x4096 .f32) (wd : FVec Ideal S4096x1024 .f32)

/-- The residual stream after the output projection. -/
theorem v4_apply (R : Fin 16384) (c : Fin 1024) :
    val_main_v4 (F := Ideal) ya yb x wo (ix2 R c)
      = resid (fun k => ya (ix2 R k)) (fun k => yb (ix2 R k)) (fun k => x (ix2 R k)) (fun k c => wo (ix2 k c)) c := by
  pointwise [val_main_v4, val_main_v3, val_main_v2, val_main_v1, val_main_v0]
  unfold resid
  rw [sum_joined]

/-- The normalized residual stream. -/
theorem v17_apply (R : Fin 16384) (c : Fin 1024) :
    val_main_v17 (F := Ideal) ya yb x wo g (ix2 R c)
      = normed (resid (fun k => ya (ix2 R k)) (fun k => yb (ix2 R k)) (fun k => x (ix2 R k)) (fun k c => wo (ix2 k c)))
          (fun k => g (ix1 k)) c := by
  have h := v4_apply ya yb x wo
  unfold val_main_v17 val_main_v14 val_main_v13 val_main_v12 val_main_v11 val_main_v9 val_main_v7 val_main_v6 val_main_v5
  generalize val_main_v4 (F := Ideal) ya yb x wo = y at h ⊢
  pointwise [val_main_v16, val_main_v15, val_main_v8, val_main_v10, val_main_cst, val_main_cst_0, val_main_cst_1]
  simp only [h]
  rfl

/-- The whole result. -/
theorem v22_apply (R : Fin 16384) (c : Fin 1024) :
    val_main_v22 (F := Ideal) ya yb x wo g wu wd (ix2 R c) = mlpAt ya yb x wo g wu wd R c := by
  have h := v4_apply ya yb x wo
  have h' := v17_apply ya yb x wo g
  unfold val_main_v22 val_main_v21 val_main_v20 val_main_v19 val_main_v18
  generalize val_main_v4 (F := Ideal) ya yb x wo = y at h ⊢
  generalize val_main_v17 (F := Ideal) ya yb x wo g = z at h' ⊢
  pointwise [val_main_call0_v0, val_main_call0_cst]
  simp only [h, h']
  rfl

end Cert.Dense.MlpRef
-- ==== Proof.MlpClaim.lean ====
/-
  The claims about the output projection and feed-forward kernel of the layers before the last.
-/
module

public import proofs.«01_k».proof.Defs
public import proofs.«01_k».proof.Proof.Gen.KernelMlp.Frame
public import proofs.«01_k».proof.Proof.MlpRef
public import proofs.«01_k».proof.Proof.Gen.ReferenceMlpIdeal.Run
public import Idealize.ShloMosaic.Lib.Quiescent

@[expose] public section

noncomputable section

namespace Cert.Dense.Mlp

open Idealize.ShloMosaic Idealize.SL.Sem

/-- The kernel runs, leaves its arguments unchanged and every semaphore at zero. -/
theorem frame_kernel : Cert.quiescent_KernelMlp := fun m ρ _ => Cert.KernelMlp.Gen.frame m ρ

/-- So does the idealized kernel. -/
theorem frame_kernelIdeal : Cert.quiescent_KernelMlpIdeal := fun m ρ _ => Cert.KernelMlpIdeal.Gen.frame m ρ

/-- So does the idealized reference, which names no semaphore at all. -/
theorem frame_referenceIdeal : Cert.quiescent_ReferenceMlpIdeal := fun m ρ _ =>
  (θ_run Cert.ReferenceMlpIdeal.defs _ _).mono
    (fun r h => ⟨fun c => (h c).2, Idealize.ShloMosaic.sem_eq_zero_of_no_sems (by decide) r.2⟩)
    (Cert.ReferenceMlpIdeal.Value.run m ρ)

/-- The reference's result is the formula's array. -/
theorem ref_eq (m : (ℓ : Loc Cert.ReferenceMlpIdeal.nD Cert.ReferenceMlpIdeal.τ Cert.ReferenceMlpIdeal.sig) → Buf (Elt Ideal) ℓ)
    (c : Dev Cert.ReferenceMlpIdeal.nD) :
    Cert.ReferenceMlpIdeal.Value.res_main_v22 m c
      = mlpSpec (m ((c.tc : Thread Cert.ReferenceMlpIdeal.nD Cert.ReferenceMlpIdeal.τ).loc Cert.ReferenceMlpIdeal.main_arg0))
          (m ((c.tc : Thread Cert.ReferenceMlpIdeal.nD Cert.ReferenceMlpIdeal.τ).loc Cert.ReferenceMlpIdeal.main_arg1))
          (m ((c.tc : Thread Cert.ReferenceMlpIdeal.nD Cert.ReferenceMlpIdeal.τ).loc Cert.ReferenceMlpIdeal.main_arg2))
          (m ((c.tc : Thread Cert.ReferenceMlpIdeal.nD Cert.ReferenceMlpIdeal.τ).loc Cert.ReferenceMlpIdeal.main_arg3))
          (m ((c.tc : Thread Cert.ReferenceMlpIdeal.nD Cert.ReferenceMlpIdeal.τ).loc Cert.ReferenceMlpIdeal.main_arg4))
          (m ((c.tc : Thread Cert.ReferenceMlpIdeal.nD Cert.ReferenceMlpIdeal.τ).loc Cert.ReferenceMlpIdeal.main_arg5))
          (m ((c.tc : Thread Cert.ReferenceMlpIdeal.nD Cert.ReferenceMlpIdeal.τ).loc Cert.ReferenceMlpIdeal.main_arg6)) := by
  refine (Cert.ReferenceMlpIdeal.Read.val_main_v22_eq m c).trans (funext fun i => ?_)
  obtain ⟨R, q, rfl⟩ : ∃ (R : Fin 16384) (q : Fin 1024), i = ix2 R q := ⟨i (0 : Fin 2), i (1 : Fin 2), eq_ix2 i⟩
  exact MlpRef.v22_apply _ _ _ _ _ _ _ R q

/-- From equal arguments the idealized kernel and the idealized reference end with the same array. -/
theorem same_result : Cert.algebraic_KernelMlpIdeal_ReferenceMlpIdeal := fun m ρ m' ρ' _ same =>
  ⟨fun c => (Cert.KernelMlpIdeal.Gen.dats m 0 c).arrAt 8 Cert.KernelMlpIdeal.cfg0.N, Cert.KernelMlpIdeal.Value.run_blocks m ρ,
    (θ_run Cert.ReferenceMlpIdeal.defs _ _).mono
      (fun _ h c => by
        refine ⟨(h c).1.trans ?_, (h c).2⟩
        obtain ⟨e0, e1, e2, e3, e4, e5, e6, -⟩ := same c
        refine (ref_eq m' c).trans (Eq.trans ?_ (array_eq m c).symm)
        rw [e0, e1, e2, e3, e4, e5, e6])
      (Cert.ReferenceMlpIdeal.Value.run m' ρ')⟩

end Cert.Dense.Mlp
-- ==== Proof.MlpFinalValue.lean ====
/-
  The array the last layer's kernel leaves: the same residual and feed-forward part, and the closing normalization of it.
-/
module

public import proofs.«01_k».proof.Proof.MlpRef
public import proofs.«01_k».proof.Proof.Gen.KernelMlpFinalIdeal.Value
public import proofs.«01_k».proof.Proof.Gen.ReferenceMlpFinalIdeal.Read

@[expose] public section

set_option maxRecDepth 16384

noncomputable section

namespace Cert.Dense.MlpFinal

open Idealize.ShloMosaic Idealize.ShloMosaic.TcCoe Idealize.ShloMosaic.StableHlo

/-- The last layer's result: every row of the feed-forward part's array, normalized by the closing gain. -/
def finalSpec (ya yb : FVec Ideal ⟨2, ![16384, 512]⟩ .bf16) (x : FVec Ideal ⟨2, ![16384, 1024]⟩ .f32)
    (wo : FVec Ideal ⟨2, ![1024, 1024]⟩ .f32) (g : FVec Ideal ⟨1, ![1024]⟩ .f32) (wu : FVec Ideal ⟨2, ![1024, 4096]⟩ .f32)
    (wd : FVec Ideal ⟨2, ![4096, 1024]⟩ .f32) (gf : FVec Ideal ⟨1, ![1024]⟩ .f32) : FVec Ideal ⟨2, ![16384, 1024]⟩ .f32 :=
  fun i => normed (mlpAt ya yb x wo g wu wd (i (0 : Fin 2))) (fun k => gf (ix1 k)) (i (1 : Fin 2))

section Kernel

open Cert.KernelMlpFinalIdeal Cert.KernelMlpFinalIdeal.Gen Cert.KernelMlpFinalIdeal.Value

/-- The closing normalization of a block. -/
theorem pay1_apply (y : Vec Ideal S512x1024 .f32) (gf : Vec Ideal S1x1024 .f32) (r : Fin 512) (q : Fin 1024) :
    k0_pay1 (F := Ideal) y (k0_pay7 gf) (ix2 r q) = normed (fun k => y (ix2 r k)) (fun k => gf (ix2 0 k)) q := by
  unfold k0_pay1 k0_pay7
  pointwise
  rfl

variable (m : (ℓ : Loc nD τ sig) → Buf (Elt Ideal) ℓ) (c : Dev nD)

/-- What one grid point leaves is the closing normalization of what the earlier layers' kernel would leave there. -/
theorem out_eq (x0 x1 : Vec Ideal S512x512 .bf16) (x2 : Vec Ideal S512x1024 .f32) (x3 : Vec Ideal S1024x1024 .bf16)
    (x4 : Vec Ideal S1x1024 .f32) (x5 : Vec Ideal S1024x4096 .bf16) (x6 : Vec Ideal S4096x1024 .bf16) (x7 : Vec Ideal S1x1024 .f32) :
    out0_8 x0 x1 x2 x3 x4 x5 x6 x7 = k0_pay1 (Cert.KernelMlpIdeal.Gen.out0_8 x0 x1 x2 x3 x4 x5 x6 x7) (k0_pay7 x7) := by
  unfold out0_8 Cert.KernelMlpIdeal.Gen.out0_8
  rw [View.canon_unit_zero (S := S512x1024) corner]
  simp only [View.canon_unit_zero (S := S512x1024) corner]
  refine congrArg (fun z => k0_pay1 _ (k0_pay7 z)) (View.ld_unit_zero (S := S1x1024) corner _ x7)

/-- What one grid point leaves of a row of its block. -/
theorem point_apply (t : Fin cfg0.N) (r : Fin 512) (q : Fin 1024) (h : 512 * t.val + r.val < 16384) :
    (out0_8 (iblk m c 0 t) (iblk m c 1 t) (iblk m c 2 t) (iblk m c 3 t) (iblk m c 4 t) (iblk m c 5 t) (iblk m c 6 t) (iblk m c 7 t)
        : FVec Ideal S512x1024 .f32) (ix2 r q)
      = normed (mlpAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨512 * t.val + r.val, h⟩)
          (fun k => (m ((c : Thread nD τ).loc main_arg7) : FVec Ideal S1024 .f32) (ix1 k)) q := by
  rw [out_eq, pay1_apply]
  have a : ∀ k : Fin 1024, _ := fun k => Mlp.point_apply m c t r k h
  have b : ∀ k : Fin 1024, _ := fun k => Mlp.iblk7_apply m c t k
  exact congrArg₂ (fun u v => normed u v q) (funext a) (funext b)

/-- The whole output array after the grid is the formula, row by row. -/
theorem array_eq : (dats m 0 c).arrAt 8 cfg0.N
    = finalSpec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨t, r, h, hi, w⟩ := Mlp.output_index i
  have b := congrFun ((blocks8 m c t (flush0_8 t)).trans (flushed8 m c t)) (ix2 r (i (1 : Fin 2)))
  refine (congrArg ((dats m 0 c).arrAt 8 cfg0.N) w).symm.trans (b.trans ((point_apply m c t r (i (1 : Fin 2)) h).trans ?_))
  rw [hi]
  rfl

end Kernel

section Reference

open Cert.ReferenceMlpFinalIdeal Cert.ReferenceMlpFinalIdeal.Read

/-- The reference's result, read at an index. -/
theorem v35_apply (ya yb : FVec Ideal S16384x512 .bf16) (x : FVec Ideal S16384x1024 .f32) (wo : FVec Ideal S1024x1024 .f32)
    (g : FVec Ideal S1024 .f32) (wu : FVec Ideal S1024x4096 .f32) (wd : FVec Ideal S4096x1024 .f32) (gf : FVec Ideal S1024 .f32)
    (R : Fin 16384) (q : Fin 1024) :
    val_main_v35 (F := Ideal) ya yb x wo g wu wd gf (ix2 R q) = normed (mlpAt ya yb x wo g wu wd R) (fun k => gf (ix1 k)) q := by
  have h : ∀ (R : Fin 16384) (k : Fin 1024), val_main_v22 (F := Ideal) ya yb x wo g wu wd (ix2 R k) = _ :=
    MlpRef.v22_apply ya yb x wo g wu wd
  unfold val_main_v35 val_main_v32 val_main_v31 val_main_v30 val_main_v29 val_main_v27 val_main_v25 val_main_v24 val_main_v23
  generalize val_main_v22 (F := Ideal) ya yb x wo g wu wd = y at h ⊢
  pointwise [val_main_v34, val_main_v33, val_main_v26, val_main_v28, val_main_cst_2, val_main_cst_3, val_main_cst_4]
  simp only [h]
  rfl

end Reference

end Cert.Dense.MlpFinal
-- ==== Proof.MlpFinalClaim.lean ====
/-
  The claims about the output projection and feed-forward kernel of the last layer.
-/
module

public import proofs.«01_k».proof.Defs
public import proofs.«01_k».proof.Proof.Gen.KernelMlpFinal.Frame
public import proofs.«01_k».proof.Proof.MlpFinalValue
public import proofs.«01_k».proof.Proof.Gen.ReferenceMlpFinalIdeal.Run
public import Idealize.ShloMosaic.Lib.Quiescent

@[expose] public section

noncomputable section

namespace Cert.Dense.MlpFinal

open Idealize.ShloMosaic Idealize.SL.Sem

/-- The kernel runs, leaves its arguments unchanged and every semaphore at zero. -/
theorem frame_kernel : Cert.quiescent_KernelMlpFinal := fun m ρ _ => Cert.KernelMlpFinal.Gen.frame m ρ

/-- So does the idealized kernel. -/
theorem frame_kernelIdeal : Cert.quiescent_KernelMlpFinalIdeal := fun m ρ _ => Cert.KernelMlpFinalIdeal.Gen.frame m ρ

/-- So does the idealized reference, which names no semaphore at all. -/
theorem frame_referenceIdeal : Cert.quiescent_ReferenceMlpFinalIdeal := fun m ρ _ =>
  (θ_run Cert.ReferenceMlpFinalIdeal.defs _ _).mono
    (fun r h => ⟨fun c => (h c).2, Idealize.ShloMosaic.sem_eq_zero_of_no_sems (by decide) r.2⟩)
    (Cert.ReferenceMlpFinalIdeal.Value.run m ρ)

/-- The reference's result is the formula's array. -/
theorem ref_eq (m : (ℓ : Loc Cert.ReferenceMlpFinalIdeal.nD Cert.ReferenceMlpFinalIdeal.τ Cert.ReferenceMlpFinalIdeal.sig) → Buf (Elt Ideal) ℓ)
    (c : Dev Cert.ReferenceMlpFinalIdeal.nD) :
    Cert.ReferenceMlpFinalIdeal.Value.res_main_v35 m c
      = finalSpec (m ((c.tc : Thread Cert.ReferenceMlpFinalIdeal.nD Cert.ReferenceMlpFinalIdeal.τ).loc Cert.ReferenceMlpFinalIdeal.main_arg0))
          (m ((c.tc : Thread Cert.ReferenceMlpFinalIdeal.nD Cert.ReferenceMlpFinalIdeal.τ).loc Cert.ReferenceMlpFinalIdeal.main_arg1))
          (m ((c.tc : Thread Cert.ReferenceMlpFinalIdeal.nD Cert.ReferenceMlpFinalIdeal.τ).loc Cert.ReferenceMlpFinalIdeal.main_arg2))
          (m ((c.tc : Thread Cert.ReferenceMlpFinalIdeal.nD Cert.ReferenceMlpFinalIdeal.τ).loc Cert.ReferenceMlpFinalIdeal.main_arg3))
          (m ((c.tc : Thread Cert.ReferenceMlpFinalIdeal.nD Cert.ReferenceMlpFinalIdeal.τ).loc Cert.ReferenceMlpFinalIdeal.main_arg4))
          (m ((c.tc : Thread Cert.ReferenceMlpFinalIdeal.nD Cert.ReferenceMlpFinalIdeal.τ).loc Cert.ReferenceMlpFinalIdeal.main_arg5))
          (m ((c.tc : Thread Cert.ReferenceMlpFinalIdeal.nD Cert.ReferenceMlpFinalIdeal.τ).loc Cert.ReferenceMlpFinalIdeal.main_arg6))
          (m ((c.tc : Thread Cert.ReferenceMlpFinalIdeal.nD Cert.ReferenceMlpFinalIdeal.τ).loc Cert.ReferenceMlpFinalIdeal.main_arg7)) := by
  refine (Cert.ReferenceMlpFinalIdeal.Read.val_main_v35_eq m c).trans (funext fun i => ?_)
  obtain ⟨R, q, rfl⟩ : ∃ (R : Fin 16384) (q : Fin 1024), i = ix2 R q := ⟨i (0 : Fin 2), i (1 : Fin 2), eq_ix2 i⟩
  exact v35_apply _ _ _ _ _ _ _ _ R q

/-- From equal arguments the idealized kernel and the idealized reference end with the same array. -/
theorem same_result : Cert.algebraic_KernelMlpFinalIdeal_ReferenceMlpFinalIdeal := fun m ρ m' ρ' _ same =>
  ⟨fun c => (Cert.KernelMlpFinalIdeal.Gen.dats m 0 c).arrAt 8 Cert.KernelMlpFinalIdeal.cfg0.N, Cert.KernelMlpFinalIdeal.Value.run_blocks m ρ,
    (θ_run Cert.ReferenceMlpFinalIdeal.defs _ _).mono
      (fun _ h c => by
        refine ⟨(h c).1.trans ?_, (h c).2⟩
        obtain ⟨e0, e1, e2, e3, e4, e5, e6, e7⟩ := same c
        refine (ref_eq m' c).trans (Eq.trans ?_ (array_eq m c).symm)
        rw [e0, e1, e2, e3, e4, e5, e6, e7])
      (Cert.ReferenceMlpFinalIdeal.Value.run m' ρ')⟩

end Cert.Dense.MlpFinal
-- ==== Proof.ProjSpec.lean ====
/-
  The normalization and input projection of a layer, as one formula of the arrays it is given.
-/
module

public import proofs.«01_k».proof.Proof.DenseBlock

@[expose] public section

set_option maxRecDepth 16384

noncomputable section

namespace Cert.Dense

open Idealize.ShloMosaic

/-- One entry of the projection of the normalized rows. -/
def projAt {n : ℕ} (x : FVec Ideal ⟨2, ![16384, 1024]⟩ .f32) (g : FVec Ideal ⟨1, ![1024]⟩ .f32) (w : FVec Ideal ⟨2, ![1024, n]⟩ .f32)
    (R : Fin 16384) (j : Fin n) : EReal :=
  proj (fun k => x (ix2 R k)) (fun k => g (ix1 k)) (fun k => w (ix2 k j))

/-- A run of consecutive columns of the projection. -/
def colsSpec {n : ℕ} (p off : ℕ) (h : off + p ≤ n) (x : FVec Ideal ⟨2, ![16384, 1024]⟩ .f32) (g : FVec Ideal ⟨1, ![1024]⟩ .f32)
    (w : FVec Ideal ⟨2, ![1024, n]⟩ .f32) : FVec Ideal ⟨2, ![16384, p]⟩ .f32 :=
  fun i => projAt x g w (i (0 : Fin 2)) ⟨off + (i (1 : Fin 2)).val, by
    have hi : (i (1 : Fin 2)).val < p := (i (1 : Fin 2)).isLt
    omega⟩

/-- The gate columns of the odd layers' projection, gathered: the first eight, the last eight, and zeros after them. -/
def gatesSpec (x : FVec Ideal ⟨2, ![16384, 1024]⟩ .f32) (g : FVec Ideal ⟨1, ![1024]⟩ .f32)
    (w : FVec Ideal ⟨2, ![1024, 3600]⟩ .f32) : FVec Ideal ⟨2, ![16384, 128]⟩ .f32 :=
  fun i => if h : (i (1 : Fin 2)).val < 8 then projAt x g w (i (0 : Fin 2)) ⟨2048 + (i (1 : Fin 2)).val, by omega⟩
    else if h : (i (1 : Fin 2)).val < 16 then projAt x g w (i (0 : Fin 2)) ⟨3584 + (i (1 : Fin 2)).val, by omega⟩ else 0

/-- The gathered gate columns, read at an index. -/
theorem gatesSpec_apply (x : FVec Ideal ⟨2, ![16384, 1024]⟩ .f32) (g : FVec Ideal ⟨1, ![1024]⟩ .f32)
    (w : FVec Ideal ⟨2, ![1024, 3600]⟩ .f32) (R : Fin 16384) (q : Fin 128) :
    gatesSpec x g w (ix2 R q) = if h : q.val < 8 then projAt x g w R ⟨2048 + q.val, by omega⟩
      else if h : q.val < 16 then projAt x g w R ⟨3584 + q.val, by omega⟩ else 0 := rfl

/-- Two arrays that agree on every block of rows are equal. -/
theorem rows_eq {p N : ℕ} (hN : N = 32) (A S : FVec Ideal ⟨2, ![16384, p]⟩ .f32)
    (h : ∀ (t : Fin N) (r : Fin 512) (q : Fin p) (h : 512 * t.val + r.val < 16384),
      A (ix2 ⟨512 * t.val + r.val, h⟩ q) = S (ix2 ⟨512 * t.val + r.val, h⟩ q)) : A = S := by
  funext i
  obtain ⟨⟨R, hR⟩, q, rfl⟩ : ∃ (R : Fin 16384) (q : Fin p), i = ix2 R q := ⟨i (0 : Fin 2), i (1 : Fin 2), eq_ix2 i⟩
  have e := h ⟨R / 512, by omega⟩ ⟨R % 512, by omega⟩ q (by show 512 * (R / 512) + R % 512 < 16384; omega)
  have d : (⟨512 * (R / 512) + R % 512, by omega⟩ : Fin 16384) = ⟨R, hR⟩ := Fin.ext (by show 512 * (R / 512) + R % 512 = R; omega)
  rw [d] at e
  exact e

/-- An array whose blocks of rows, placed by a grid that walks down the rows, each read as another array does there is that array. -/
theorem rows_of_blocks {p N : ℕ} (hN : N = 32) (A S : FVec Ideal ⟨2, ![16384, p]⟩ .f32)
    (e : Fin N → (⟨2, ![512, p]⟩ : Shape).Idx → (⟨2, ![16384, p]⟩ : Shape).Idx) (row col : Fin N → ℕ)
    (hi : ∀ t, row t = t.val ∧ col t = 0)
    (he : ∀ t r q, (e t (ix2 r q) (0 : Fin 2)).val = row t * 512 + 1 * r.val
      ∧ (e t (ix2 r q) (1 : Fin 2)).val = col t * p + 1 * q.val)
    (h : ∀ (t : Fin N) (r : Fin 512) (q : Fin p) (h : 512 * t.val + r.val < 16384),
      A (e t (ix2 r q)) = S (ix2 ⟨512 * t.val + r.val, h⟩ q)) : A = S :=
  rows_eq hN A S fun t r q hr => by
    obtain ⟨h0, h1⟩ := he t r q
    rw [(hi t).1] at h0
    rw [(hi t).2] at h1
    have w : e t (ix2 r q) = ix2 ⟨512 * t.val + r.val, hr⟩ q := funext fun a => Fin.ext (by
      match a with
      | ⟨0, _⟩ => show (e t (ix2 r q) (0 : Fin 2)).val = 512 * t.val + r.val; omega
      | ⟨1, _⟩ => show (e t (ix2 r q) (1 : Fin 2)).val = q.val; omega)
    exact (congrArg A w).symm.trans (h t r q hr)

end Cert.Dense
-- ==== Proof.EvenValue.lean ====
/-
  The even layers' projection kernel and its reference leave the same columns.
-/
module

public import proofs.«01_k».proof.Proof.ProjSpec
public import proofs.«01_k».proof.Proof.Gen.KernelEvenIdeal.Value
public import proofs.«01_k».proof.Proof.Gen.ReferenceEvenIdeal.Read
public import Idealize.ShloMosaic.Lib.StableHlo.RunRead

@[expose] public section

set_option maxRecDepth 16384

noncomputable section

namespace Cert.Dense.Even

open Idealize.ShloMosaic Idealize.ShloMosaic.TcCoe Idealize.ShloMosaic.StableHlo

section Kernel

open Cert.KernelEvenIdeal Cert.KernelEvenIdeal.Gen Cert.KernelEvenIdeal.Value

/-- The normalized rows of a block. -/
theorem pay1_apply (a : Vec Ideal S512x1024 .f32) (b : Vec Ideal S1x1024 .f32) (r : Fin 512) (q : Fin 1024) :
    k0_pay1 (F := Ideal) a b (ix2 r q) = normed (fun k => a (ix2 r k)) (fun k => b (ix2 0 k)) q := by
  unfold k0_pay1
  pointwise
  rfl

/-- The first group of columns of a block. -/
theorem pay2_apply (a : Vec Ideal S512x1024 .f32) (b : Vec Ideal S1x1024 .f32) (w : Vec Ideal S1024x1024 .bf16) (r : Fin 512)
    (q : Fin 1024) :
    k0_pay2 (F := Ideal) a b w (ix2 r q) = proj (fun k => a (ix2 r k)) (fun k => b (ix2 0 k)) (fun k => w (ix2 k q)) := by
  unfold k0_pay2
  pointwise
  simp only [pay1_apply]
  rfl

/-- The second group of columns of a block. -/
theorem pay3_apply (a : Vec Ideal S512x1024 .f32) (b : Vec Ideal S1x1024 .f32) (w : Vec Ideal S1024x1792 .bf16) (r : Fin 512)
    (q : Fin 1792) :
    k0_pay3 (F := Ideal) a b w (ix2 r q) = proj (fun k => a (ix2 r k)) (fun k => b (ix2 0 k)) (fun k => w (ix2 k q)) := by
  unfold k0_pay3
  pointwise
  simp only [pay1_apply]
  rfl

variable (m : (ℓ : Loc nD τ sig) → Buf (Elt Ideal) ℓ) (c : Dev nD)

/-- Where each window's block lies: the row windows follow the grid point, the gain and the weights stay. -/
theorem index_facts : ∀ t : Fin cfg0.N,
    (win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- A row of the input's block. -/
theorem iblk0_apply (t : Fin cfg0.N) (r : Fin 512) (q : Fin 1024) (h : 512 * t.val + r.val < 16384) :
    (iblk m c 0 t : FVec Ideal S512x1024 .f32) (ix2 r q)
      = (m ((c : Thread nD τ).loc main_arg0) : FVec Ideal S16384x1024 .f32) (ix2 ⟨512 * t.val + r.val, h⟩ q) := by
  have f := (index_facts t).1
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * q.val = q.val; omega

/-- The norm's gain, as a row. -/
theorem iblk1_apply (t : Fin cfg0.N) (q : Fin 1024) :
    (iblk m c 1 t : FVec Ideal S1x1024 .f32) (ix2 0 q)
      = (m ((c : Thread nD τ).loc main_arg1) : FVec Ideal S1024 .f32) (ix1 q) := by
  have f := (index_facts t).1
  have e : V m c main_v1 = (shapeCast S1x1024 (m ((c : Thread nD τ).loc main_arg1) : FVec Ideal S1024 .f32) shapeCasts_S1024_S1x1024) := by
    after_reads_simp
    rfl
  have w : (((cfg0.win 1).blk t).view.emb (ix2 0 q) : S1x1024.Idx) = ix2 0 q := funext fun a => Fin.ext (by
    match a with
    | ⟨0, _⟩ => show win0_1.index t (0 : Fin 2) * 1 + 1 * 0 = 0; omega
    | ⟨1, _⟩ => show win0_1.index t (1 : Fin 2) * 1024 + 1 * q.val = q.val; omega)
  show V m c main_v1 (((cfg0.win 1).blk t).view.emb (ix2 0 q)) = _
  rw [e]
  refine (congrArg _ w).trans ?_
  pointwise

/-- The weights' block is the whole matrix. -/
theorem iblk2_apply (t : Fin cfg0.N) (k : Fin 1024) (q : Fin 2816) :
    (iblk m c 2 t : FVec Ideal S1024x2816 .bf16) (ix2 k q)
      = (m ((c : Thread nD τ).loc main_arg2) : FVec Ideal S1024x2816 .f32) (ix2 k q) := by
  have f := (index_facts t).1
  have e : @Eq (FVec Ideal S1024x2816 .bf16) (V m c main_v0) (truncf .bf16 (m ((c : Thread nD τ).loc main_arg2) : FVec Ideal S1024x2816 .f32) bitsLt_bf16_f32) := by
    after_reads_simp
  show V m c main_v0 (((cfg0.win 2).blk t).view.emb (ix2 k q)) = _
  rw [e]
  refine congrArg (m ((c : Thread nD τ).loc main_arg2)) (funext fun a => Fin.ext ?_)
  match a with
  | ⟨0, _⟩ => show win0_2.index t (0 : Fin 2) * 1024 + 1 * k.val = k.val; omega
  | ⟨1, _⟩ => show win0_2.index t (1 : Fin 2) * 2816 + 1 * q.val = q.val; omega

/-- What one grid point leaves of a row of the first group of columns. -/
theorem point3_apply (t : Fin cfg0.N) (r : Fin 512) (q : Fin 1024) (h : 512 * t.val + r.val < 16384) :
    (out0_3 (iblk m c 0 t) (iblk m c 1 t) (iblk m c 2 t) : FVec Ideal S512x1024 .f32) (ix2 r q)
      = projAt (m ((c : Thread nD τ).loc main_arg0)) (m ((c : Thread nD τ).loc main_arg1)) (m ((c : Thread nD τ).loc main_arg2))
          ⟨512 * t.val + r.val, h⟩ (⟨0 + q.val, by omega⟩ : Fin 2816) := by
  unfold out0_3
  rw [View.canon_unit_zero (S := S512x1024) corner]
  simp only [View.ld_unit_zero (S := S512x1024) corner, View.ld_unit_zero (S := S1x1024) corner]
  rw [pay2_apply]
  unfold projAt
  congr 1 <;> funext k
  · exact iblk0_apply m c t r k h
  · exact iblk1_apply m c t k
  · exact (ld_at _ 0 0 _ k q (by omega) (by omega)).trans ((iblk2_apply m c t _ _).trans (by simp))

/-- What one grid point leaves of a row of the second group of columns. -/
theorem point4_apply (t : Fin cfg0.N) (r : Fin 512) (q : Fin 1792) (h : 512 * t.val + r.val < 16384) :
    (out0_4 (iblk m c 0 t) (iblk m c 1 t) (iblk m c 2 t) : FVec Ideal S512x1792 .f32) (ix2 r q)
      = projAt (m ((c : Thread nD τ).loc main_arg0)) (m ((c : Thread nD τ).loc main_arg1)) (m ((c : Thread nD τ).loc main_arg2))
          ⟨512 * t.val + r.val, h⟩ (⟨1024 + q.val, by omega⟩ : Fin 2816) := by
  unfold out0_4
  rw [View.canon_unit_zero (S := S512x1792) corner]
  simp only [View.ld_unit_zero (S := S512x1024) corner, View.ld_unit_zero (S := S1x1024) corner]
  rw [pay3_apply]
  unfold projAt
  congr 1 <;> funext k
  · exact iblk0_apply m c t r k h
  · exact iblk1_apply m c t k
  · exact (ld_at _ 0 1024 _ k q (by omega) (by omega)).trans ((iblk2_apply m c t _ _).trans (by simp))

/-- Output window 3's array after the grid. -/
theorem array3_eq : (dats m 0 c).arrAt 3 cfg0.N
    = colsSpec 1024 0 (by omega) (m ((c : Thread nD τ).loc main_arg0)) (m ((c : Thread nD τ).loc main_arg1))
        (m ((c : Thread nD τ).loc main_arg2) : FVec Ideal S1024x2816 .f32) :=
  rows_of_blocks N_0 _ _ (fun t => ((cfg0.win 3).blk t).view.emb) _ _ (fun t => (index_facts t).2.1) (fun _ _ _ => ⟨rfl, rfl⟩)
    fun t r q h => (congrFun ((blocks3 m c t (flush0_3 t)).trans (flushed3 m c t)) (ix2 r q)).trans (point3_apply m c t r q h)

/-- Output window 4's array after the grid. -/
theorem array4_eq : (dats m 0 c).arrAt 4 cfg0.N
    = colsSpec 1792 1024 (by omega) (m ((c : Thread nD τ).loc main_arg0)) (m ((c : Thread nD τ).loc main_arg1))
        (m ((c : Thread nD τ).loc main_arg2) : FVec Ideal S1024x2816 .f32) :=
  rows_of_blocks N_0 _ _ (fun t => ((cfg0.win 4).blk t).view.emb) _ _ (fun t => (index_facts t).2.2) (fun _ _ _ => ⟨rfl, rfl⟩)
    fun t r q h => (congrFun ((blocks4 m c t (flush0_4 t)).trans (flushed4 m c t)) (ix2 r q)).trans (point4_apply m c t r q h)

end Kernel

section Reference

open Cert.ReferenceEvenIdeal Cert.ReferenceEvenIdeal.Read

variable (x : FVec Ideal S16384x1024 .f32) (g : FVec Ideal S1024 .f32) (w : FVec Ideal S1024x2816 .f32)

/-- The reference's normalized rows. -/
theorem v12_apply (R : Fin 16384) (k : Fin 1024) :
    val_main_v12 (F := Ideal) x g (ix2 R k) = normed (fun k => x (ix2 R k)) (fun k => g (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The reference's projection. -/
theorem v13_apply (R : Fin 16384) (q : Fin 2816) : val_main_v13 (F := Ideal) x g w (ix2 R q) = projAt x g w R q := by
  have h := v12_apply x g
  unfold val_main_v13
  generalize val_main_v12 (F := Ideal) x g = y at h ⊢
  pointwise
  simp only [h]
  rfl

/-- The reference's first group of columns. -/
theorem v14_eq : val_main_v14 (F := Ideal) x g w = colsSpec 1024 0 (by omega) x g w := by
  funext i
  obtain ⟨R, q, rfl⟩ : ∃ (R : Fin 16384) (q : Fin 1024), i = ix2 R q := ⟨i (0 : Fin 2), i (1 : Fin 2), eq_ix2 i⟩
  have h := v13_apply x g w
  unfold val_main_v14
  generalize val_main_v13 (F := Ideal) x g w = y at h ⊢
  pointwise
  rw [h]
  unfold colsSpec
  congr 1
  exact Fin.ext (Nat.zero_add _).symm

/-- The reference's second group of columns. -/
theorem v15_eq : val_main_v15 (F := Ideal) x g w = colsSpec 1792 1024 (by omega) x g w := by
  funext i
  obtain ⟨R, q, rfl⟩ : ∃ (R : Fin 16384) (q : Fin 1792), i = ix2 R q := ⟨i (0 : Fin 2), i (1 : Fin 2), eq_ix2 i⟩
  have h := v13_apply x g w
  unfold val_main_v15
  generalize val_main_v13 (F := Ideal) x g w = y at h ⊢
  pointwise
  rw [h]
  rfl

end Reference

end Cert.Dense.Even
-- ==== Proof.EvenClaim.lean ====
/-
  The claims about the even layers' normalization and input projection kernel.
-/
module

public import proofs.«01_k».proof.Defs
public import proofs.«01_k».proof.Proof.Gen.KernelEven.Frame
public import proofs.«01_k».proof.Proof.EvenValue
public import proofs.«01_k».proof.Proof.Gen.ReferenceEvenIdeal.Run
public import Idealize.ShloMosaic.Lib.Quiescent

@[expose] public section

noncomputable section

namespace Cert.Dense.Even

open Idealize.ShloMosaic Idealize.SL.Sem

/-- The kernel runs, leaves its arguments unchanged and every semaphore at zero. -/
theorem frame_kernel : Cert.quiescent_KernelEven := fun m ρ _ => Cert.KernelEven.Gen.frame m ρ

/-- So does the idealized kernel. -/
theorem frame_kernelIdeal : Cert.quiescent_KernelEvenIdeal := fun m ρ _ => Cert.KernelEvenIdeal.Gen.frame m ρ

/-- So does the idealized reference, which names no semaphore at all. -/
theorem frame_referenceIdeal : Cert.quiescent_ReferenceEvenIdeal := fun m ρ _ =>
  (θ_run Cert.ReferenceEvenIdeal.defs _ _).mono
    (fun r h => ⟨fun c => (h c).2.2, Idealize.ShloMosaic.sem_eq_zero_of_no_sems (by decide) r.2⟩)
    (Cert.ReferenceEvenIdeal.Value.run m ρ)

/-- From equal arguments the idealized kernel and the idealized reference end with the same arrays. -/
theorem same_result : Cert.algebraic_KernelEvenIdeal_ReferenceEvenIdeal := fun m ρ m' ρ' _ same =>
  ⟨fun c => (Cert.KernelEvenIdeal.Gen.dats m 0 c).arrAt 3 Cert.KernelEvenIdeal.cfg0.N, fun c => (Cert.KernelEvenIdeal.Gen.dats m 0 c).arrAt 4 Cert.KernelEvenIdeal.cfg0.N, Cert.KernelEvenIdeal.Value.run_blocks m ρ,
    (θ_run Cert.ReferenceEvenIdeal.defs _ _).mono
      (fun _ h c => by
        obtain ⟨h3, h4, rest⟩ := h c
        obtain ⟨e0, e1, e2⟩ := same c
        refine ⟨h3.trans ?_, h4.trans ?_, rest⟩
        · refine ((Cert.ReferenceEvenIdeal.Read.val_main_v14_eq _ _ _).trans (v14_eq _ _ _)).trans (Eq.trans ?_ (array3_eq m c).symm)
          rw [e0, e1, e2]
        · refine ((Cert.ReferenceEvenIdeal.Read.val_main_v15_eq _ _ _).trans (v15_eq _ _ _)).trans (Eq.trans ?_ (array4_eq m c).symm)
          rw [e0, e1, e2]
        )
      (Cert.ReferenceEvenIdeal.Value.run m' ρ')⟩

end Cert.Dense.Even
-- ==== Proof.OddValue.lean ====
/-
  The odd layers' projection kernel: the columns it leaves, from the weights it packs.
-/
module

public import proofs.«01_k».proof.Proof.ProjSpec
public import proofs.«01_k».proof.Proof.Gen.KernelOddIdeal.Value
public import Idealize.ShloMosaic.Lib.StableHlo.RunRead

@[expose] public section

set_option maxRecDepth 16384

noncomputable section

namespace Cert.Dense.Odd

open Idealize.ShloMosaic Idealize.ShloMosaic.TcCoe Idealize.ShloMosaic.StableHlo
open Cert.KernelOddIdeal Cert.KernelOddIdeal.Gen Cert.KernelOddIdeal.Value

/-- The packed gate columns: two groups of gates next to one another and zeros after them. -/
def gateWeights (w : FVec Ideal S1024x3600 .f32) : FVec Ideal S1024x128 .f32 :=
  concatenate S1024x128 1 [⟨S1024x4, extractStridedSlice S1024x4 ![0, 2048] w slices_S1024x3600_S1024x4_0_2048⟩,
    ⟨S1024x4, extractStridedSlice S1024x4 ![0, 2052] w slices_S1024x3600_S1024x4_0_2052⟩,
    ⟨S1024x4, extractStridedSlice S1024x4 ![0, 3592] w slices_S1024x3600_S1024x4_0_3592⟩,
    ⟨S1024x4, extractStridedSlice S1024x4 ![0, 3596] w slices_S1024x3600_S1024x4_0_3596⟩,
    ⟨S1024x112, broadcastInDim S1024x112 ![] bcast_S_S1024x112 (constant S_ .f32 0x00000000#32)⟩]
    concatenates_S1024x4_S1024x4_S1024x4_S1024x4_S1024x112_S1024x128_d1

/-- The packed weights. -/
def packed (w : FVec Ideal S1024x3600 .f32) : FVec Ideal S1024x3712 .f32 :=
  concatenate S1024x3712 1 [⟨S1024x1536, extractStridedSlice S1024x1536 ![0, 0] w slices_S1024x3600_S1024x1536_0_0⟩,
    ⟨S1024x512, extractStridedSlice S1024x512 ![0, 1536] w slices_S1024x3600_S1024x512_0_1536⟩,
    ⟨S1024x512, extractStridedSlice S1024x512 ![0, 2056] w slices_S1024x3600_S1024x512_0_2056⟩,
    ⟨S1024x512, extractStridedSlice S1024x512 ![0, 2568] w slices_S1024x3600_S1024x512_0_2568⟩,
    ⟨S1024x512, extractStridedSlice S1024x512 ![0, 3080] w slices_S1024x3600_S1024x512_0_3080⟩,
    ⟨S1024x128, gateWeights w⟩]
    concatenates_S1024x1536_S1024x512_S1024x512_S1024x512_S1024x512_S1024x128_S1024x3712_d1

/-- The packed gate columns, read at an index. -/
theorem gate_apply (w : FVec Ideal S1024x3600 .f32) (k : Fin 1024) (j : Fin 128) :
    gateWeights w (ix2 k j) = if h : j.val < 8 then w (ix2 k ⟨2048 + j.val, by omega⟩)
      else if h : j.val < 16 then w (ix2 k ⟨3584 + j.val, by omega⟩) else 0 := by
  pointwise [gateWeights]
  (repeat' split) <;> first
    | (exfalso; omega)
    | rfl
    | exact congrArg (fun j => w (ix2 k j)) (Fin.ext (by dsimp only <;> omega))

/-- The packed weights, read at an index. -/
theorem packed_apply (w : FVec Ideal S1024x3600 .f32) (k : Fin 1024) (j : Fin 3712) :
    packed w (ix2 k j) = if h : j.val < 2048 then w (ix2 k ⟨j.val, by omega⟩)
      else if h : j.val < 3584 then w (ix2 k ⟨8 + j.val, by omega⟩) else gateWeights w (ix2 k ⟨j.val - 3584, by omega⟩) := by
  unfold packed
  generalize gateWeights w = gw
  pointwise
  (repeat' split) <;> first
    | (exfalso; omega)
    | rfl
    | exact congrArg (fun j => w (ix2 k j)) (Fin.ext (by dsimp only <;> omega))
    | exact congrArg (fun j => gw (ix2 k j)) (Fin.ext (by dsimp only <;> omega))

/-- The normalized rows of a block. -/
theorem pay3_apply (a : Vec Ideal S512x1024 .f32) (b : Vec Ideal S1x1024 .f32) (r : Fin 512) (q : Fin 1024) :
    k0_pay3 (F := Ideal) a b (ix2 r q) = normed (fun k => a (ix2 r k)) (fun k => b (ix2 0 k)) q := by
  unfold k0_pay3
  pointwise
  rfl

/-- The first group of columns of a block. -/
theorem pay4_apply (a : Vec Ideal S512x1024 .f32) (b : Vec Ideal S1x1024 .f32) (w : Vec Ideal S1024x1536 .bf16) (r : Fin 512)
    (q : Fin 1536) :
    k0_pay4 (F := Ideal) a b w (ix2 r q) = proj (fun k => a (ix2 r k)) (fun k => b (ix2 0 k)) (fun k => w (ix2 k q)) := by
  unfold k0_pay4
  pointwise
  simp only [pay3_apply]
  rfl

/-- A middle group of columns of a block. -/
theorem pay1_apply (a : Vec Ideal S512x1024 .f32) (b : Vec Ideal S1x1024 .f32) (w : Vec Ideal S1024x512 .bf16) (r : Fin 512)
    (q : Fin 512) :
    k0_pay1 (F := Ideal) (k0_pay3 a b) w (ix2 r q)
      = proj (fun k => a (ix2 r k)) (fun k => b (ix2 0 k)) (fun k => w (ix2 k q)) := by
  unfold k0_pay1
  pointwise
  simp only [pay3_apply]
  rfl

/-- The gate columns of a block. -/
theorem pay2_apply (a : Vec Ideal S512x1024 .f32) (b : Vec Ideal S1x1024 .f32) (w : Vec Ideal S1024x128 .bf16) (r : Fin 512)
    (q : Fin 128) :
    k0_pay2 (F := Ideal) (k0_pay3 a b) w (ix2 r q)
      = proj (fun k => a (ix2 r k)) (fun k => b (ix2 0 k)) (fun k => w (ix2 k q)) := by
  unfold k0_pay2
  pointwise
  simp only [pay3_apply]
  rfl

variable (m : (ℓ : Loc nD τ sig) → Buf (Elt Ideal) ℓ) (c : Dev nD)

/-- Where each window's block lies: the row windows follow the grid point, the gain and the weights stay. -/
theorem index_facts : ∀ t : Fin cfg0.N,
    (win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- A row of the input's block. -/
theorem iblk0_apply (t : Fin cfg0.N) (r : Fin 512) (q : Fin 1024) (h : 512 * t.val + r.val < 16384) :
    (iblk m c 0 t : FVec Ideal S512x1024 .f32) (ix2 r q)
      = (m ((c : Thread nD τ).loc main_arg0) : FVec Ideal S16384x1024 .f32) (ix2 ⟨512 * t.val + r.val, h⟩ q) := by
  have f := (index_facts t).1
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * q.val = q.val; omega

/-- The norm's gain, as a row. -/
theorem iblk1_apply (t : Fin cfg0.N) (q : Fin 1024) :
    (iblk m c 1 t : FVec Ideal S1x1024 .f32) (ix2 0 q)
      = (m ((c : Thread nD τ).loc main_arg1) : FVec Ideal S1024 .f32) (ix1 q) := by
  have f := (index_facts t).1
  have e : V m c main_v13 = (shapeCast S1x1024 (m ((c : Thread nD τ).loc main_arg1) : FVec Ideal S1024 .f32) shapeCasts_S1024_S1x1024) := by
    after_reads_simp
    rfl
  have w : (((cfg0.win 1).blk t).view.emb (ix2 0 q) : S1x1024.Idx) = ix2 0 q := funext fun a => Fin.ext (by
    match a with
    | ⟨0, _⟩ => show win0_1.index t (0 : Fin 2) * 1 + 1 * 0 = 0; omega
    | ⟨1, _⟩ => show win0_1.index t (1 : Fin 2) * 1024 + 1 * q.val = q.val; omega)
  show V m c main_v13 (((cfg0.win 1).blk t).view.emb (ix2 0 q)) = _
  rw [e]
  refine (congrArg _ w).trans ?_
  pointwise

/-- The weights' block is the whole packed matrix. -/
theorem iblk2_apply (t : Fin cfg0.N) (k : Fin 1024) (q : Fin 3712) :
    (iblk m c 2 t : FVec Ideal S1024x3712 .bf16) (ix2 k q)
      = packed (m ((c : Thread nD τ).loc main_arg2) : FVec Ideal S1024x3600 .f32) (ix2 k q) := by
  have f := (index_facts t).1
  have e : @Eq (FVec Ideal S1024x3712 .bf16) (V m c main_v12)
      (truncf .bf16 (packed (m ((c : Thread nD τ).loc main_arg2) : FVec Ideal S1024x3600 .f32)) bitsLt_bf16_f32) := by
    unfold packed gateWeights
    after_reads_simp
    rfl
  show V m c main_v12 (((cfg0.win 2).blk t).view.emb (ix2 k q)) = _
  rw [e]
  refine congrArg (packed (m ((c : Thread nD τ).loc main_arg2) : FVec Ideal S1024x3600 .f32)) (funext fun a => Fin.ext ?_)
  match a with
  | ⟨0, _⟩ => show win0_2.index t (0 : Fin 2) * 1024 + 1 * k.val = k.val; omega
  | ⟨1, _⟩ => show win0_2.index t (1 : Fin 2) * 3712 + 1 * q.val = q.val; omega

/-- A column of a block whose weights are one column of the given matrix. -/
theorem point_cols (t : Fin cfg0.N) (r : Fin 512) (h : 512 * t.val + r.val < 16384) (u : Fin 1024 → EReal) (j : Fin 3600)
    (hu : ∀ k, u k = (m ((c : Thread nD τ).loc main_arg2) : FVec Ideal S1024x3600 .f32) (ix2 k j)) :
    proj (fun k => (iblk m c 0 t : FVec Ideal S512x1024 .f32) (ix2 r k)) (fun k => (iblk m c 1 t : FVec Ideal S1x1024 .f32) (ix2 0 k)) u
      = projAt (m ((c : Thread nD τ).loc main_arg0)) (m ((c : Thread nD τ).loc main_arg1)) (m ((c : Thread nD τ).loc main_arg2))
          ⟨512 * t.val + r.val, h⟩ j := by
  unfold projAt
  congr 1 <;> funext k
  · exact iblk0_apply m c t r k h
  · exact iblk1_apply m c t k
  · exact hu k

/-- The loaded weights of a group, read at an index: a column of the packed matrix. -/
theorem ld_packed {p : ℕ} (t : Fin cfg0.N) (o : ℕ) (inb : ∀ a, (![0, o] : Fin 2 → ℕ) a + (![1024, p] : Fin 2 → ℕ) a ≤ (![1024, 3712] : Fin 2 → ℕ) a)
    (k : Fin 1024) (q : Fin p) (hq : o + q.val < 3712) :
    View.ld (iblk m c 2 t : FVec Ideal S1024x3712 .bf16) (Rect.unit (s := S1024x3712) ![0, o] ![1024, p] inb) (ix2 k q)
      = packed (m ((c : Thread nD τ).loc main_arg2) : FVec Ideal S1024x3600 .f32) (ix2 k ⟨o + q.val, hq⟩) := by
  refine (ld_at _ 0 o inb k q (by omega) hq).trans ((iblk2_apply m c t _ _).trans ?_)
  congr 2
  exact Fin.ext (Nat.zero_add _)

/-- The first group of columns. -/
theorem point3_apply (t : Fin cfg0.N) (r : Fin 512) (q : Fin 1536) (h : 512 * t.val + r.val < 16384) :
    (out0_3 (iblk m c 0 t) (iblk m c 1 t) (iblk m c 2 t) : FVec Ideal S512x1536 .f32) (ix2 r q)
      = projAt (m ((c : Thread nD τ).loc main_arg0)) (m ((c : Thread nD τ).loc main_arg1)) (m ((c : Thread nD τ).loc main_arg2))
          ⟨512 * t.val + r.val, h⟩ (⟨0 + q.val, by omega⟩ : Fin 3600) := by
  unfold out0_3
  rw [View.canon_unit_zero (S := S512x1536) corner]
  simp only [View.ld_unit_zero (S := S512x1024) corner, View.ld_unit_zero (S := S1x1024) corner]
  rw [pay4_apply]
  refine point_cols m c t r h _ _ fun k => (ld_packed m c t 0 _ k q (by omega)).trans ((packed_apply _ _ _).trans ?_)
  rw [dif_pos (by show 0 + q.val < 2048; omega)]

/-- The second group of columns. -/
theorem point4_apply (t : Fin cfg0.N) (r : Fin 512) (q : Fin 512) (h : 512 * t.val + r.val < 16384) :
    (out0_4 (iblk m c 0 t) (iblk m c 1 t) (iblk m c 2 t) : FVec Ideal S512x512 .f32) (ix2 r q)
      = projAt (m ((c : Thread nD τ).loc main_arg0)) (m ((c : Thread nD τ).loc main_arg1)) (m ((c : Thread nD τ).loc main_arg2))
          ⟨512 * t.val + r.val, h⟩ (⟨1536 + q.val, by omega⟩ : Fin 3600) := by
  unfold out0_4
  rw [View.canon_unit_zero (S := S512x512) corner]
  simp only [View.ld_unit_zero (S := S512x1024) corner, View.ld_unit_zero (S := S1x1024) corner]
  refine (pay1_apply _ _ _ r q).trans ?_
  refine point_cols m c t r h _ _ fun k => (ld_packed m c t 1536 _ k q (by omega)).trans ((packed_apply _ _ _).trans ?_)
  rw [dif_pos (by show 1536 + q.val < 2048; omega)]

/-- A group of columns that lies past the gates in the given weights: loaded `o` columns in, taken from `8 + o` on. -/
theorem late_cols (t : Fin cfg0.N) (o : ℕ) (inb : ∀ a, (![0, o] : Fin 2 → ℕ) a + (![1024, 512] : Fin 2 → ℕ) a ≤ (![1024, 3712] : Fin 2 → ℕ) a)
    (ho : 2048 ≤ o) (ho' : o ≤ 3072) (r : Fin 512) (q : Fin 512) (h : 512 * t.val + r.val < 16384) :
    (k0_pay1 (F := Ideal) (k0_pay3 (iblk m c 0 t) (iblk m c 1 t))
        (View.ld (iblk m c 2 t : FVec Ideal S1024x3712 .bf16) (Rect.unit (s := S1024x3712) ![0, o] ![1024, 512] inb)) : FVec Ideal S512x512 .f32) (ix2 r q)
      = projAt (m ((c : Thread nD τ).loc main_arg0)) (m ((c : Thread nD τ).loc main_arg1)) (m ((c : Thread nD τ).loc main_arg2))
          ⟨512 * t.val + r.val, h⟩ (⟨8 + o + q.val, by omega⟩ : Fin 3600) := by
  refine (pay1_apply _ _ _ r q).trans ?_
  refine point_cols m c t r h _ _ fun k => (ld_packed m c t o _ k q (by omega)).trans ((packed_apply _ _ _).trans ?_)
  rw [dif_neg (by show ¬ o + q.val < 2048; omega), dif_pos (by show o + q.val < 3584; omega)]
  congr 2
  exact Fin.ext (by show 8 + (o + q.val) = 8 + o + q.val; omega)

/-- The third, fourth and fifth groups of columns. -/
theorem point567_apply (t : Fin cfg0.N) (r : Fin 512) (q : Fin 512) (h : 512 * t.val + r.val < 16384) :
    (out0_5 (iblk m c 0 t) (iblk m c 1 t) (iblk m c 2 t) : FVec Ideal S512x512 .f32) (ix2 r q)
      = projAt (m ((c : Thread nD τ).loc main_arg0)) (m ((c : Thread nD τ).loc main_arg1)) (m ((c : Thread nD τ).loc main_arg2))
          ⟨512 * t.val + r.val, h⟩ (⟨2056 + q.val, by omega⟩ : Fin 3600)
    ∧ (out0_6 (iblk m c 0 t) (iblk m c 1 t) (iblk m c 2 t) : FVec Ideal S512x512 .f32) (ix2 r q)
      = projAt (m ((c : Thread nD τ).loc main_arg0)) (m ((c : Thread nD τ).loc main_arg1)) (m ((c : Thread nD τ).loc main_arg2))
          ⟨512 * t.val + r.val, h⟩ (⟨2568 + q.val, by omega⟩ : Fin 3600)
    ∧ (out0_7 (iblk m c 0 t) (iblk m c 1 t) (iblk m c 2 t) : FVec Ideal S512x512 .f32) (ix2 r q)
      = projAt (m ((c : Thread nD τ).loc main_arg0)) (m ((c : Thread nD τ).loc main_arg1)) (m ((c : Thread nD τ).loc main_arg2))
          ⟨512 * t.val + r.val, h⟩ (⟨3080 + q.val, by omega⟩ : Fin 3600) := by
  unfold out0_5 out0_6 out0_7 k0_pay8
  simp only [View.canon_unit_zero (S := S512x512) corner, View.ld_unit_zero (S := S512x1024) corner,
    View.ld_unit_zero (S := S1x1024) corner]
  exact ⟨late_cols m c t 2048 _ (by omega) (by omega) r q h, late_cols m c t 2560 _ (by omega) (by omega) r q h,
    late_cols m c t 3072 _ (by omega) (by omega) r q h⟩

/-- The gate columns of a block. -/
theorem point8_apply (t : Fin cfg0.N) (r : Fin 512) (q : Fin 128) (h : 512 * t.val + r.val < 16384) :
    (out0_8 (iblk m c 0 t) (iblk m c 1 t) (iblk m c 2 t) : FVec Ideal S512x128 .f32) (ix2 r q)
      = gatesSpec (m ((c : Thread nD τ).loc main_arg0)) (m ((c : Thread nD τ).loc main_arg1)) (m ((c : Thread nD τ).loc main_arg2))
          (ix2 ⟨512 * t.val + r.val, h⟩ q) := by
  unfold out0_8 k0_pay8
  rw [View.canon_unit_zero (S := S512x128) corner]
  simp only [View.ld_unit_zero (S := S512x1024) corner, View.ld_unit_zero (S := S1x1024) corner]
  refine (pay2_apply _ _ _ r q).trans ?_
  have e : ∀ k : Fin 1024, View.ld (iblk m c 2 t : FVec Ideal S1024x3712 .bf16) r0_9 (ix2 k q)
      = gateWeights (m ((c : Thread nD τ).loc main_arg2) : FVec Ideal S1024x3600 .f32) (ix2 k q) := fun k => by
    refine (ld_packed m c t 3584 _ k q (by omega)).trans ((packed_apply _ _ _).trans ?_)
    rw [dif_neg (by show ¬ 3584 + q.val < 2048; omega), dif_neg (by show ¬ 3584 + q.val < 3584; omega)]
    exact congrArg (fun j => gateWeights _ (ix2 k j)) (Fin.ext (by show 3584 + q.val - 3584 = q.val; omega))
  rw [gatesSpec_apply]
  by_cases h8 : q.val < 8
  · rw [dif_pos h8]
    refine point_cols m c t r h _ _ fun k => (e k).trans ((gate_apply _ _ _).trans ?_)
    rw [dif_pos h8]
  · rw [dif_neg h8]
    by_cases h16 : q.val < 16
    · rw [dif_pos h16]
      refine point_cols m c t r h _ _ fun k => (e k).trans ((gate_apply _ _ _).trans ?_)
      rw [dif_neg h8, dif_pos h16]
    · rw [dif_neg h16]
      unfold proj
      refine Finset.sum_eq_zero fun k _ => ?_
      dsimp only
      rw [e k, gate_apply, dif_neg h8, dif_neg h16, mul_zero]

/-- Output window 3's array after the grid. -/
theorem array3_eq : (dats m 0 c).arrAt 3 cfg0.N
    = colsSpec 1536 0 (by omega) (m ((c : Thread nD τ).loc main_arg0)) (m ((c : Thread nD τ).loc main_arg1))
        (m ((c : Thread nD τ).loc main_arg2) : FVec Ideal S1024x3600 .f32) :=
  rows_of_blocks N_0 _ _ (fun t => ((cfg0.win 3).blk t).view.emb) _ _ (fun t => (index_facts t).2.1) (fun _ _ _ => ⟨rfl, rfl⟩)
    fun t r q h => (congrFun ((blocks3 m c t (flush0_3 t)).trans (flushed3 m c t)) (ix2 r q)).trans (point3_apply m c t r q h)

/-- Output window 4's array after the grid. -/
theorem array4_eq : (dats m 0 c).arrAt 4 cfg0.N
    = colsSpec 512 1536 (by omega) (m ((c : Thread nD τ).loc main_arg0)) (m ((c : Thread nD τ).loc main_arg1))
        (m ((c : Thread nD τ).loc main_arg2) : FVec Ideal S1024x3600 .f32) :=
  rows_of_blocks N_0 _ _ (fun t => ((cfg0.win 4).blk t).view.emb) _ _ (fun t => (index_facts t).2.2.1) (fun _ _ _ => ⟨rfl, rfl⟩)
    fun t r q h => (congrFun ((blocks4 m c t (flush0_4 t)).trans (flushed4 m c t)) (ix2 r q)).trans (point4_apply m c t r q h)

/-- Output window 5's array after the grid. -/
theorem array5_eq : (dats m 0 c).arrAt 5 cfg0.N
    = colsSpec 512 2056 (by omega) (m ((c : Thread nD τ).loc main_arg0)) (m ((c : Thread nD τ).loc main_arg1))
        (m ((c : Thread nD τ).loc main_arg2) : FVec Ideal S1024x3600 .f32) :=
  rows_of_blocks N_0 _ _ (fun t => ((cfg0.win 5).blk t).view.emb) _ _ (fun t => (index_facts t).2.2.2.1) (fun _ _ _ => ⟨rfl, rfl⟩)
    fun t r q h => (congrFun ((blocks5 m c t (flush0_5 t)).trans (flushed5 m c t)) (ix2 r q)).trans ((point567_apply m c t r q h).1)

/-- Output window 6's array after the grid. -/
theorem array6_eq : (dats m 0 c).arrAt 6 cfg0.N
    = colsSpec 512 2568 (by omega) (m ((c : Thread nD τ).loc main_arg0)) (m ((c : Thread nD τ).loc main_arg1))
        (m ((c : Thread nD τ).loc main_arg2) : FVec Ideal S1024x3600 .f32) :=
  rows_of_blocks N_0 _ _ (fun t => ((cfg0.win 6).blk t).view.emb) _ _ (fun t => (index_facts t).2.2.2.2.1) (fun _ _ _ => ⟨rfl, rfl⟩)
    fun t r q h => (congrFun ((blocks6 m c t (flush0_6 t)).trans (flushed6 m c t)) (ix2 r q)).trans ((point567_apply m c t r q h).2.1)

/-- Output window 7's array after the grid. -/
theorem array7_eq : (dats m 0 c).arrAt 7 cfg0.N
    = colsSpec 512 3080 (by omega) (m ((c : Thread nD τ).loc main_arg0)) (m ((c : Thread nD τ).loc main_arg1))
        (m ((c : Thread nD τ).loc main_arg2) : FVec Ideal S1024x3600 .f32) :=
  rows_of_blocks N_0 _ _ (fun t => ((cfg0.win 7).blk t).view.emb) _ _ (fun t => (index_facts t).2.2.2.2.2.1) (fun _ _ _ => ⟨rfl, rfl⟩)
    fun t r q h => (congrFun ((blocks7 m c t (flush0_7 t)).trans (flushed7 m c t)) (ix2 r q)).trans ((point567_apply m c t r q h).2.2)

/-- Output window 8's array after the grid. -/
theorem array8_eq : (dats m 0 c).arrAt 8 cfg0.N
    = gatesSpec (m ((c : Thread nD τ).loc main_arg0)) (m ((c : Thread nD τ).loc main_arg1))
        (m ((c : Thread nD τ).loc main_arg2) : FVec Ideal S1024x3600 .f32) :=
  rows_of_blocks N_0 _ _ (fun t => ((cfg0.win 8).blk t).view.emb) _ _ (fun t => (index_facts t).2.2.2.2.2.2) (fun _ _ _ => ⟨rfl, rfl⟩)
    fun t r q h => (congrFun ((blocks8 m c t (flush0_8 t)).trans (flushed8 m c t)) (ix2 r q)).trans (point8_apply m c t r q h)

end Cert.Dense.Odd
-- ==== Proof.OddRef.lean ====
/-
  The odd layers' reference projection, read as columns of the same formula.
-/
module

public import proofs.«01_k».proof.Proof.ProjSpec
public import proofs.«01_k».proof.Proof.Gen.ReferenceOddIdeal.Read

@[expose] public section

set_option maxRecDepth 16384

noncomputable section

namespace Cert.Dense.OddRef

open Idealize.ShloMosaic Cert.ReferenceOddIdeal Cert.ReferenceOddIdeal.Read

variable (x : FVec Ideal S16384x1024 .f32) (g : FVec Ideal S1024 .f32) (w : FVec Ideal S1024x3600 .f32)

/-- The reference's normalized rows. -/
theorem v12_apply (R : Fin 16384) (k : Fin 1024) :
    val_main_v12 (F := Ideal) x g (ix2 R k) = normed (fun k => x (ix2 R k)) (fun k => g (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The reference's projection. -/
theorem v13_apply (R : Fin 16384) (q : Fin 3600) : val_main_v13 (F := Ideal) x g w (ix2 R q) = projAt x g w R q := by
  have h := v12_apply x g
  unfold val_main_v13
  generalize val_main_v12 (F := Ideal) x g = y at h ⊢
  pointwise
  simp only [h]
  rfl

/-- The reference's first group of columns. -/
theorem v17_eq : val_main_v17 (F := Ideal) x g w = colsSpec 1536 0 (by omega) x g w := by
  funext i
  obtain ⟨R, q, rfl⟩ : ∃ (R : Fin 16384) (q : Fin 1536), i = ix2 R q := ⟨i (0 : Fin 2), i (1 : Fin 2), eq_ix2 i⟩
  have h := v13_apply x g w
  unfold val_main_v17
  generalize val_main_v13 (F := Ideal) x g w = y at h ⊢
  pointwise
  rw [h]
  unfold colsSpec
  congr 1
  exact Fin.ext (Nat.zero_add _).symm

/-- A later group of columns, read at an index. -/
theorem slice_apply (R : Fin 16384) (q : Fin 512) (o : ℕ) (ho : o + q.val < 3600) (hs : Shape.Slices S16384x3600 ![0, o] S16384x512) :
    extractStridedSlice S16384x512 ![0, o] (val_main_v13 (F := Ideal) x g w) hs (ix2 R q) = projAt x g w R ⟨o + q.val, ho⟩ := by
  have h := v13_apply x g w
  generalize val_main_v13 (F := Ideal) x g w = y at h ⊢
  pointwise
  rw [h]

/-- The reference's second group of columns. -/
theorem v18_eq : val_main_v18 (F := Ideal) x g w = colsSpec 512 1536 (by omega) x g w := by
  funext i
  obtain ⟨R, q, rfl⟩ : ∃ (R : Fin 16384) (q : Fin 512), i = ix2 R q := ⟨i (0 : Fin 2), i (1 : Fin 2), eq_ix2 i⟩
  exact (slice_apply x g w R q 1536 (by omega) _).trans rfl

/-- The reference's third group of columns. -/
theorem v19_eq : val_main_v19 (F := Ideal) x g w = colsSpec 512 2056 (by omega) x g w := by
  funext i
  obtain ⟨R, q, rfl⟩ : ∃ (R : Fin 16384) (q : Fin 512), i = ix2 R q := ⟨i (0 : Fin 2), i (1 : Fin 2), eq_ix2 i⟩
  exact (slice_apply x g w R q 2056 (by omega) _).trans rfl

/-- The reference's fourth group of columns. -/
theorem v20_eq : val_main_v20 (F := Ideal) x g w = colsSpec 512 2568 (by omega) x g w := by
  funext i
  obtain ⟨R, q, rfl⟩ : ∃ (R : Fin 16384) (q : Fin 512), i = ix2 R q := ⟨i (0 : Fin 2), i (1 : Fin 2), eq_ix2 i⟩
  exact (slice_apply x g w R q 2568 (by omega) _).trans rfl

/-- The reference's fifth group of columns. -/
theorem v21_eq : val_main_v21 (F := Ideal) x g w = colsSpec 512 3080 (by omega) x g w := by
  funext i
  obtain ⟨R, q, rfl⟩ : ∃ (R : Fin 16384) (q : Fin 512), i = ix2 R q := ⟨i (0 : Fin 2), i (1 : Fin 2), eq_ix2 i⟩
  exact (slice_apply x g w R q 3080 (by omega) _).trans rfl

/-- The reference's gathered gate columns. -/
theorem v22_eq : val_main_v22 (F := Ideal) x g w = gatesSpec x g w := by
  funext i
  obtain ⟨R, q, rfl⟩ : ∃ (R : Fin 16384) (q : Fin 128), i = ix2 R q := ⟨i (0 : Fin 2), i (1 : Fin 2), eq_ix2 i⟩
  have h := v13_apply x g w
  unfold val_main_v22 val_main_v16 val_main_v15 val_main_v14
  generalize val_main_v13 (F := Ideal) x g w = y at h ⊢
  pointwise
  simp only [h]
  have z : val_main_call0_v0 (F := Ideal) (Shape.Idx.first Gen.h_S_) = (0 : EReal) := by
    show ((((0 : ℤ) : ℝ)) : EReal) = 0
    simp
  rw [gatesSpec_apply]
  by_cases h8 : q.val < 8
  · rw [dif_pos (by omega : q.val < 16), dif_pos h8, dif_pos h8]
  · by_cases h16 : q.val < 16
    · rw [dif_pos h16, dif_neg h8, dif_neg h8, dif_pos h16]
      exact congrArg (projAt x g w R) (Fin.ext (by show 3592 + (q.val - 8) = 3584 + q.val; omega))
    · rw [dif_neg h16, dif_neg h8, dif_neg h16]
      exact z

end Cert.Dense.OddRef
-- ==== Proof.OddClaim.lean ====
/-
  The claims about the odd layers' normalization and input projection kernel.
-/
module

public import proofs.«01_k».proof.Defs
public import proofs.«01_k».proof.Proof.Gen.KernelOdd.Frame
public import proofs.«01_k».proof.Proof.OddValue
public import proofs.«01_k».proof.Proof.OddRef
public import proofs.«01_k».proof.Proof.Gen.ReferenceOddIdeal.Run
public import Idealize.ShloMosaic.Lib.Quiescent

@[expose] public section

noncomputable section

namespace Cert.Dense.Odd

open Idealize.ShloMosaic Idealize.SL.Sem

/-- The kernel runs, leaves its arguments unchanged and every semaphore at zero. -/
theorem frame_kernel : Cert.quiescent_KernelOdd := fun m ρ _ => Cert.KernelOdd.Gen.frame m ρ

/-- So does the idealized kernel. -/
theorem frame_kernelIdeal : Cert.quiescent_KernelOddIdeal := fun m ρ _ => Cert.KernelOddIdeal.Gen.frame m ρ

/-- So does the idealized reference, which names no semaphore at all. -/
theorem frame_referenceIdeal : Cert.quiescent_ReferenceOddIdeal := fun m ρ _ =>
  (θ_run Cert.ReferenceOddIdeal.defs _ _).mono
    (fun r h => ⟨fun c => (h c).2.2.2.2.2.2, Idealize.ShloMosaic.sem_eq_zero_of_no_sems (by decide) r.2⟩)
    (Cert.ReferenceOddIdeal.Value.run m ρ)

/-- From equal arguments the idealized kernel and the idealized reference end with the same arrays. -/
theorem same_result : Cert.algebraic_KernelOddIdeal_ReferenceOddIdeal := fun m ρ m' ρ' _ same =>
  ⟨fun c => (Cert.KernelOddIdeal.Gen.dats m 0 c).arrAt 3 Cert.KernelOddIdeal.cfg0.N, fun c => (Cert.KernelOddIdeal.Gen.dats m 0 c).arrAt 4 Cert.KernelOddIdeal.cfg0.N, fun c => (Cert.KernelOddIdeal.Gen.dats m 0 c).arrAt 5 Cert.KernelOddIdeal.cfg0.N, fun c => (Cert.KernelOddIdeal.Gen.dats m 0 c).arrAt 6 Cert.KernelOddIdeal.cfg0.N, fun c => (Cert.KernelOddIdeal.Gen.dats m 0 c).arrAt 7 Cert.KernelOddIdeal.cfg0.N, fun c => (Cert.KernelOddIdeal.Gen.dats m 0 c).arrAt 8 Cert.KernelOddIdeal.cfg0.N, Cert.KernelOddIdeal.Value.run_blocks m ρ,
    (θ_run Cert.ReferenceOddIdeal.defs _ _).mono
      (fun _ h c => by
        obtain ⟨h3, h4, h5, h6, h7, h8, rest⟩ := h c
        obtain ⟨e0, e1, e2⟩ := same c
        refine ⟨h3.trans ?_, h4.trans ?_, h5.trans ?_, h6.trans ?_, h7.trans ?_, h8.trans ?_, rest⟩
        · refine ((Cert.ReferenceOddIdeal.Read.val_main_v17_eq _ _ _).trans (OddRef.v17_eq _ _ _)).trans (Eq.trans ?_ (array3_eq m c).symm)
          rw [e0, e1, e2]
        · refine ((Cert.ReferenceOddIdeal.Read.val_main_v18_eq _ _ _).trans (OddRef.v18_eq _ _ _)).trans (Eq.trans ?_ (array4_eq m c).symm)
          rw [e0, e1, e2]
        · refine ((Cert.ReferenceOddIdeal.Read.val_main_v19_eq _ _ _).trans (OddRef.v19_eq _ _ _)).trans (Eq.trans ?_ (array5_eq m c).symm)
          rw [e0, e1, e2]
        · refine ((Cert.ReferenceOddIdeal.Read.val_main_v20_eq _ _ _).trans (OddRef.v20_eq _ _ _)).trans (Eq.trans ?_ (array6_eq m c).symm)
          rw [e0, e1, e2]
        · refine ((Cert.ReferenceOddIdeal.Read.val_main_v21_eq _ _ _).trans (OddRef.v21_eq _ _ _)).trans (Eq.trans ?_ (array7_eq m c).symm)
          rw [e0, e1, e2]
        · refine ((Cert.ReferenceOddIdeal.Read.val_main_v22_eq _ _ _).trans (OddRef.v22_eq _ _ _)).trans (Eq.trans ?_ (array8_eq m c).symm)
          rw [e0, e1, e2]
        )
      (Cert.ReferenceOddIdeal.Value.run m' ρ')⟩

end Cert.Dense.Odd
-- ==== Proof.MlstmBody.lean ====
/-
  One run of the matrix-memory kernel's body, on whole buffers of any contents.
-/
module

public import proofs.«01_k».proof.Proof.Gen.KernelMlstmIdeal.Frame
public import proofs.«01_k».proof.Proof.Gen.KernelMlstmIdeal.Skeleton
public import proofs.«01_k».proof.Proof.Gen.KernelMlstmIdeal.Loops
public import proofs.«01_k».proof.Proof.Gen.KernelMlstmIdeal.Points

@[expose] public section

namespace Cert.KernelMlstmIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelMlstmIdeal.Gen

variable {F : FTy → Type} [FloatOps F]

/-- Whether a point is the first of its sequence, as the body asks it. -/
abbrev atStart (i : grid0.Coords) : Prop :=
  (Scalar.cmpi .ne (Scalar.extui (Scalar.cmpi .eq (BitVec.ofNat 32 (i 1).val) 0#32)) 0#32) = 1#1

variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x128 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S256x512 .bf16) (harg10 : arg10.IsWhole)
  (arg11 : Memref sig .tc .vmem S8x512 .f32) (harg11 : arg11.IsWhole)
  (arg12 : Memref sig .tc .vmem S2x128x512 .f32) (harg12 : arg12.IsWhole)
  (arg13 : Memref sig .tc .vmem S8x512 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x512 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S256x512 .f32) (harg19 : arg19.IsWhole)
  (arg20 : Memref sig .tc .vmem S256x512 .f32) (harg20 : arg20.IsWhole)
  (arg21 : Memref sig .tc .vmem S256x512 .f32) (harg21 : arg21.IsWhole)

set_option maxHeartbeats 4000000 in
/-- A point that continues its sequence: the contents its body leaves, and the run. -/
noncomputable def laterRun (hc0 : ¬atStart i)
  (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    Σ' (C10 : arg10.view.ty.Contents (Elt F)) (C11 : arg11.view.ty.Contents (Elt F)) (C12 : arg12.view.ty.Contents (Elt F)) (C13 : arg13.view.ty.Contents (Elt F)), { C21 : arg21.view.ty.Contents (Elt F) //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg21.view.loc (c : Thread nD τ) ↦[arg21.view.set]{fullShare} C21) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩))
          ⊢ wp frame (wpE (defs₀ (F := F)) Variants.none c none) E (cc0_mlstm_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_mlstm_mix_eq_skeleton]; unfold cc0_mlstm_mix_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    iintro ⟨H2, H3, H4, H5, H6, H7, H8, H9, H10, H11, H12, H13, H14, H15, H16, H17, H18, H19, H20, H21, Hk⟩
    sl_exec (disch := first | sl_exact hc0)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H21]; · iexact H21
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option maxHeartbeats 4000000 in
/-- A point that starts a sequence: the same, after the carried buffers are zeroed. -/
noncomputable def startRun (hc0 : atStart i)
  (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    Σ' (C10 : arg10.view.ty.Contents (Elt F)) (C11 : arg11.view.ty.Contents (Elt F)) (C12 : arg12.view.ty.Contents (Elt F)) (C13 : arg13.view.ty.Contents (Elt F)), { C21 : arg21.view.ty.Contents (Elt F) //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg21.view.loc (c : Thread nD τ) ↦[arg21.view.set]{fullShare} C21) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩))
          ⊢ wp frame (wpE (defs₀ (F := F)) Variants.none c none) E (cc0_mlstm_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_mlstm_mix_eq_skeleton]; unfold cc0_mlstm_mix_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    iintro ⟨H2, H3, H4, H5, H6, H7, H8, H9, H10, H11, H12, H13, H14, H15, H16, H17, H18, H19, H20, H21, Hk⟩
    sl_exec (disch := first | sl_exact hc0)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H21]; · iexact H21
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.KernelMlstmIdeal.Hand
-- ==== Proof.MlstmStep.lean ====
/-
  The chunks of one block of the matrix memory, as functions of what the block's buffers read.
-/
module

public import proofs.«01_k».proof.Proof.MlstmBody
public import Idealize.ShloMosaic.Lib.VecWindow

@[expose] public section

noncomputable section

namespace Cert.KernelMlstmIdeal.Hand

open Idealize.ShloMosaic Idealize.ShloMosaic.TcCoe Idealize.ShloMosaic.Tactic
open Cert.KernelMlstmIdeal.Gen

variable {F : FTy → Type} [FloatOps F]

/-- What one pair of heads reads in a chunk: its queries and keys, and for each of its two heads the values, the decay
    sums, the running maxima, the gate differences, the distances to the chunk's end, and the chunk's whole decay. -/
structure PairIn (F : FTy → Type) [FloatOps F] where
  q : Vec F S64x128 .f32
  k : Vec F S64x128 .f32
  v0 : Vec F S64x128 .f32
  v1 : Vec F S64x128 .f32
  b0 : Vec F S64x128 .f32
  b1 : Vec F S64x128 .f32
  cm0 : Vec F S64x128 .f32
  cm1 : Vec F S64x128 .f32
  cc0 : Vec F S64x128 .f32
  cc1 : Vec F S64x128 .f32
  te0 : Vec F S64x128 .f32
  te1 : Vec F S64x128 .f32
  e0 : Vec F S1x128 .f32
  e1 : Vec F S1x128 .f32

/-- What a block's buffers hold when its chunks start. -/
structure BlockIn (F : FTy → Type) [FloatOps F] where
  q : Vec F S256x256 .f32
  k : Vec F S256x256 .f32
  v : Vec F S256x512 .f32
  b : Vec F S256x512 .f32
  be : Vec F S256x512 .f32
  cm : Vec F S256x512 .f32
  cc : Vec F S256x512 .f32
  te : Vec F S256x512 .f32

/-- The first pair's share of chunk `k`. -/
def BlockIn.left (x : BlockIn F) (k : Fin k0_t1_loop.trips) : PairIn F where
  q := View.ld x.q (Rect.unit (s := S256x256) (k0_off1 k) S64x128.size (k0_off1_inb k))
  k := View.ld x.k (Rect.unit (s := S256x256) (k0_off1 k) S64x128.size (k0_off1_inb k))
  v0 := View.ld x.v (Rect.unit (s := S256x512) (k0_off2 k) S64x128.size (k0_off2_inb k))
  v1 := View.ld x.v (Rect.unit (s := S256x512) (k0_off3 k) S64x128.size (k0_off3_inb k))
  b0 := View.ld x.b (Rect.unit (s := S256x512) (k0_off2 k) S64x128.size (k0_off2_inb k))
  b1 := View.ld x.b (Rect.unit (s := S256x512) (k0_off3 k) S64x128.size (k0_off3_inb k))
  cm0 := View.ld x.cm (Rect.unit (s := S256x512) (k0_off2 k) S64x128.size (k0_off2_inb k))
  cm1 := View.ld x.cm (Rect.unit (s := S256x512) (k0_off3 k) S64x128.size (k0_off3_inb k))
  cc0 := View.ld x.cc (Rect.unit (s := S256x512) (k0_off2 k) S64x128.size (k0_off2_inb k))
  cc1 := View.ld x.cc (Rect.unit (s := S256x512) (k0_off3 k) S64x128.size (k0_off3_inb k))
  te0 := View.ld x.te (Rect.unit (s := S256x512) (k0_off2 k) S64x128.size (k0_off2_inb k))
  te1 := View.ld x.te (Rect.unit (s := S256x512) (k0_off3 k) S64x128.size (k0_off3_inb k))
  e0 := View.ld x.be (Rect.unit (s := S256x512) (k0_off4 k) S1x128.size (k0_off4_inb k))
  e1 := View.ld x.be (Rect.unit (s := S256x512) (k0_off5 k) S1x128.size (k0_off5_inb k))

/-- The second pair's share of chunk `k`. -/
def BlockIn.right (x : BlockIn F) (k : Fin k0_t1_loop.trips) : PairIn F where
  q := View.ld x.q (Rect.unit (s := S256x256) (k0_off6 k) S64x128.size (k0_off6_inb k))
  k := View.ld x.k (Rect.unit (s := S256x256) (k0_off6 k) S64x128.size (k0_off6_inb k))
  v0 := View.ld x.v (Rect.unit (s := S256x512) (k0_off7 k) S64x128.size (k0_off7_inb k))
  v1 := View.ld x.v (Rect.unit (s := S256x512) (k0_off8 k) S64x128.size (k0_off8_inb k))
  b0 := View.ld x.b (Rect.unit (s := S256x512) (k0_off7 k) S64x128.size (k0_off7_inb k))
  b1 := View.ld x.b (Rect.unit (s := S256x512) (k0_off8 k) S64x128.size (k0_off8_inb k))
  cm0 := View.ld x.cm (Rect.unit (s := S256x512) (k0_off7 k) S64x128.size (k0_off7_inb k))
  cm1 := View.ld x.cm (Rect.unit (s := S256x512) (k0_off8 k) S64x128.size (k0_off8_inb k))
  cc0 := View.ld x.cc (Rect.unit (s := S256x512) (k0_off7 k) S64x128.size (k0_off7_inb k))
  cc1 := View.ld x.cc (Rect.unit (s := S256x512) (k0_off8 k) S64x128.size (k0_off8_inb k))
  te0 := View.ld x.te (Rect.unit (s := S256x512) (k0_off7 k) S64x128.size (k0_off7_inb k))
  te1 := View.ld x.te (Rect.unit (s := S256x512) (k0_off8 k) S64x128.size (k0_off8_inb k))
  e0 := View.ld x.be (Rect.unit (s := S256x512) (k0_off9 k) S1x128.size (k0_off9_inb k))
  e1 := View.ld x.be (Rect.unit (s := S256x512) (k0_off10 k) S1x128.size (k0_off10_inb k))

/-- The first head's new maximum. -/
def PairIn.max0 (p : PairIn F) (m0 : Vec F S1x128 .f32) : Vec F S1x128 .f32 := k0_pay17 (k0_pay10 m0 p.te0 p.e0)

/-- The second head's new maximum. -/
def PairIn.max1 (p : PairIn F) (m1 : Vec F S1x128 .f32) : Vec F S1x128 .f32 :=
  k0_pay19 (k0_pay13 (k0_pay11 m1 p.e1) (k0_pay12 p.te1))

/-- The pair's values with their columns of ones. -/
def PairIn.vext (p : PairIn F) : FVec F S64x512 .f32 := k0_pay2 k0_pay91 p.v0 p.v1

/-- The pair's new memory. -/
def PairIn.mem (p : PairIn F) (m0 m1 : Vec F S1x128 .f32) (S : Vec F S1x128x512 .f32) : Vec F S1x128x512 .f32 :=
  k0_pay14 k0_pay90 p.k p.vext m0 m1 p.te0 p.te1 p.e0 p.e1 (k0_pay7 S) (k0_pay10 m0 p.te0 p.e0) (k0_pay11 m1 p.e1)
    (k0_pay12 p.te1)

/-- The pair's sums inside the chunk. -/
def PairIn.intra (p : PairIn F) (m0 m1 : Vec F S1x128 .f32) : FVec F S64x512 .f32 :=
  k0_pay9 (k0_pay89 (iota .tc S64x128 32 [0] iota_S64x128_d0_w32) k0_pay88) k0_pay90 p.q p.k p.vext p.cc0 p.cc1
    (k0_pay3 m0 p.cm0) (k0_pay4 m1 p.cm1)

/-- The first head's rows of the chunk. -/
def PairIn.out0 (p : PairIn F) (m0 m1 : Vec F S1x128 .f32) (S : Vec F S1x128x512 .f32) : Vec F S64x128 .f32 :=
  k0_pay16 (k0_pay15 p.b0 (k0_pay3 m0 p.cm0) (k0_pay5 m0 p.cm0) (k0_pay8 p.q S) (p.intra m0 m1))

/-- The second head's rows of the chunk. -/
def PairIn.out1 (p : PairIn F) (m0 m1 : Vec F S1x128 .f32) (S : Vec F S1x128x512 .f32) : Vec F S64x128 .f32 :=
  k0_pay18 p.b1 (k0_pay4 m1 p.cm1) (k0_pay6 m1 (k0_pay4 m1 p.cm1)) (k0_pay8 p.q S) (p.intra m0 m1)

/-- The memory and the maxima that a block carries from chunk to chunk. -/
structure Carry (F : FTy → Type) [FloatOps F] where
  S : Vec F S2x128x512 .f32
  m : Vec F S8x512 .f32

/-- The first pair's memory. -/
def Carry.left (s : Carry F) : Vec F S1x128x512 .f32 :=
  View.ld s.S (Rect.unit (s := S2x128x512) ![0, 0, 0] S1x128x512.size inb_S2x128x512_S1x128x512_0_0_0)

/-- The second pair's memory. -/
def Carry.right (s : Carry F) : Vec F S1x128x512 .f32 :=
  View.ld s.S (Rect.unit (s := S2x128x512) ![1, 0, 0] S1x128x512.size inb_S2x128x512_S1x128x512_1_0_0)

/-- The maximum of the head at the first columns. -/
def Carry.m0 (s : Carry F) : Vec F S1x128 .f32 :=
  View.ld s.m (Rect.unit (s := S8x512) ![0, 0] S1x128.size inb_S8x512_S1x128_0_0)

/-- The maximum of the second head. -/
def Carry.m1 (s : Carry F) : Vec F S1x128 .f32 :=
  View.ld s.m (Rect.unit (s := S8x512) ![0, 128] S1x128.size inb_S8x512_S1x128_0_128)

/-- The maximum of the third head. -/
def Carry.m2 (s : Carry F) : Vec F S1x128 .f32 :=
  View.ld s.m (Rect.unit (s := S8x512) ![0, 256] S1x128.size inb_S8x512_S1x128_0_256)

/-- The maximum of the last head. -/
def Carry.m3 (s : Carry F) : Vec F S1x128 .f32 :=
  View.ld s.m (Rect.unit (s := S8x512) ![0, 384] S1x128.size inb_S8x512_S1x128_0_384)

/-- The carry after chunk `k`. -/
def BlockIn.next (x : BlockIn F) (k : Fin k0_t1_loop.trips) (s : Carry F) : Carry F where
  S := VecWindow.put (VecWindow.put s.S ![0, 0, 0] S1x128x512.size ((x.left k).mem s.m0 s.m1 s.left))
    ![1, 0, 0] S1x128x512.size ((x.right k).mem s.m2 s.m3 s.right)
  m := VecWindow.put (VecWindow.put (VecWindow.put (VecWindow.put s.m
      ![0, 0] S1x128.size ((x.left k).max0 s.m0)) ![0, 128] S1x128.size ((x.left k).max1 s.m1))
      ![0, 256] S1x128.size ((x.right k).max0 s.m2)) ![0, 384] S1x128.size ((x.right k).max1 s.m3)

/-- The rows that chunk `k` leaves over the block `h`. -/
def BlockIn.rows (x : BlockIn F) (k : Fin k0_t1_loop.trips) (s : Carry F) (h : Vec F S256x512 .f32) : Vec F S256x512 .f32 :=
  VecWindow.put (VecWindow.put (VecWindow.put (VecWindow.put h
      (k0_off2 k) S64x128.size ((x.left k).out0 s.m0 s.m1 s.left)) (k0_off3 k) S64x128.size ((x.left k).out1 s.m0 s.m1 s.left))
      (k0_off7 k) S64x128.size ((x.right k).out0 s.m2 s.m3 s.right)) (k0_off8 k) S64x128.size ((x.right k).out1 s.m2 s.m3 s.right)

variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x128 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S256x512 .bf16) (harg10 : arg10.IsWhole)
  (arg11 : Memref sig .tc .vmem S8x512 .f32) (harg11 : arg11.IsWhole)
  (arg12 : Memref sig .tc .vmem S2x128x512 .f32) (harg12 : arg12.IsWhole)
  (arg13 : Memref sig .tc .vmem S8x512 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x512 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S256x512 .f32) (harg19 : arg19.IsWhole)
  (arg20 : Memref sig .tc .vmem S256x512 .f32) (harg20 : arg20.IsWhole)
  (arg21 : Memref sig .tc .vmem S256x512 .f32) (harg21 : arg21.IsWhole)

/-- What the block's buffers read. -/
def blockOf
    (X3 : arg3.view.ty.Contents (Elt F))
    (X14 : arg14.view.ty.Contents (Elt F))
    (X15 : arg15.view.ty.Contents (Elt F))
    (X16 : arg16.view.ty.Contents (Elt F))
    (X17 : arg17.view.ty.Contents (Elt F))
    (X18 : arg18.view.ty.Contents (Elt F))
    (X19 : arg19.view.ty.Contents (Elt F))
    (X20 : arg20.view.ty.Contents (Elt F)) : BlockIn F :=
  ⟨arg14.view.read (Elt F) X14, arg15.view.read (Elt F) X15, arg3.view.read (Elt F) X3, arg16.view.read (Elt F) X16,
    arg17.view.read (Elt F) X17, arg18.view.read (Elt F) X18, arg19.view.read (Elt F) X19, arg20.view.read (Elt F) X20⟩

/-- What the carried buffers read. -/
def carryOf (f12 : arg12.view.ty.Contents (Elt F)) (f13 : arg13.view.ty.Contents (Elt F)) : Carry F :=
  ⟨arg12.view.read (Elt F) f12, arg13.view.read (Elt F) f13⟩

set_option maxHeartbeats 1600000 in
/-- The pieces a chunk writes. -/
theorem trip_pieces
    (X3 : arg3.view.ty.Contents (Elt F))
    (X14 : arg14.view.ty.Contents (Elt F))
    (X15 : arg15.view.ty.Contents (Elt F))
    (X16 : arg16.view.ty.Contents (Elt F))
    (X17 : arg17.view.ty.Contents (Elt F))
    (X18 : arg18.view.ty.Contents (Elt F))
    (X19 : arg19.view.ty.Contents (Elt F))
    (X20 : arg20.view.ty.Contents (Elt F))
    (k : Fin k0_t1_loop.trips) (f12 : arg12.view.ty.Contents (Elt F)) (f13 : arg13.view.ty.Contents (Elt F)) (f21 : arg21.view.ty.Contents (Elt F))
    (x : BlockIn F) (hx : x = blockOf (arg3 := arg3) (arg14 := arg14) (arg15 := arg15) (arg16 := arg16) (arg17 := arg17) (arg18 := arg18) (arg19 := arg19) (arg20 := arg20) X3 X14 X15 X16 X17 X18 X19 X20)
    (s : Carry F) (hs : s = carryOf (arg12 := arg12) (arg13 := arg13) f12 f13) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S64x128 32 [0] iota_S64x128_d0_w32) k0_pay88 X3 X14 X15 X16 X17 X18 X19 X20 k f12 f13 f21
      = ([⟨Rect.unit ![1, 0, 0] S1x128x512.size inb_S2x128x512_S1x128x512_1_0_0, (x.right k).mem s.m2 s.m3 s.right⟩,
          ⟨Rect.unit ![0, 0, 0] S1x128x512.size inb_S2x128x512_S1x128x512_0_0_0, (x.left k).mem s.m0 s.m1 s.left⟩],
         [⟨Rect.unit ![0, 384] S1x128.size inb_S8x512_S1x128_0_384, (x.right k).max1 s.m3⟩,
          ⟨Rect.unit ![0, 256] S1x128.size inb_S8x512_S1x128_0_256, (x.right k).max0 s.m2⟩,
          ⟨Rect.unit ![0, 128] S1x128.size inb_S8x512_S1x128_0_128, (x.left k).max1 s.m1⟩,
          ⟨Rect.unit ![0, 0] S1x128.size inb_S8x512_S1x128_0_0, (x.left k).max0 s.m0⟩],
         [⟨Rect.unit (k0_off8 k) S64x128.size (k0_off8_inb k), (x.right k).out1 s.m2 s.m3 s.right⟩,
          ⟨Rect.unit (k0_off7 k) S64x128.size (k0_off7_inb k), (x.right k).out0 s.m2 s.m3 s.right⟩,
          ⟨Rect.unit (k0_off3 k) S64x128.size (k0_off3_inb k), (x.left k).out1 s.m0 s.m1 s.left⟩,
          ⟨Rect.unit (k0_off2 k) S64x128.size (k0_off2_inb k), (x.left k).out0 s.m0 s.m1 s.left⟩]) := by
  subst hx hs
  unfold tripL_k0_t1; unfold trip_k0_t1; dsimp only
  rfl

/-- What a chunk leaves in the carried buffers and in the block of rows. -/
theorem trip_reads
    (X3 : arg3.view.ty.Contents (Elt F))
    (X14 : arg14.view.ty.Contents (Elt F))
    (X15 : arg15.view.ty.Contents (Elt F))
    (X16 : arg16.view.ty.Contents (Elt F))
    (X17 : arg17.view.ty.Contents (Elt F))
    (X18 : arg18.view.ty.Contents (Elt F))
    (X19 : arg19.view.ty.Contents (Elt F))
    (X20 : arg20.view.ty.Contents (Elt F))
    (k : Fin k0_t1_loop.trips) (f12 : arg12.view.ty.Contents (Elt F)) (f13 : arg13.view.ty.Contents (Elt F)) (f21 : arg21.view.ty.Contents (Elt F))
    (x : BlockIn F) (hx : x = blockOf (arg3 := arg3) (arg14 := arg14) (arg15 := arg15) (arg16 := arg16) (arg17 := arg17) (arg18 := arg18) (arg19 := arg19) (arg20 := arg20) X3 X14 X15 X16 X17 X18 X19 X20)
    (s : Carry F) (hs : s = carryOf (arg12 := arg12) (arg13 := arg13) f12 f13) :
    let T := tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S64x128 32 [0] iota_S64x128_d0_w32) k0_pay88 X3 X14 X15 X16 X17 X18 X19 X20 k f12 f13 f21
    carryOf (arg12 := arg12) (arg13 := arg13) (arg12.view.writes (Elt F) f12 T.1) (arg13.view.writes (Elt F) f13 T.2.1) = x.next k s
      ∧ arg21.view.read (Elt F) (arg21.view.writes (Elt F) f21 T.2.2) = x.rows k s (arg21.view.read (Elt F) f21) := by
  intro T
  have hT : T = _ := trip_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X14 X15 X16 X17 X18 X19 X20 k f12 f13 f21 x hx s hs
  rw [hT]
  subst hs
  constructor
  · unfold carryOf BlockIn.next
    dsimp only
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl,
      View.writes_nil, View.writes_nil]
  · unfold BlockIn.rows
    dsimp only
    rw [View.read_writes_cons_put _ _ _ _ _ rfl, View.read_writes_cons_put _ _ _ _ _ rfl, View.read_writes_cons_put _ _ _ _ _ rfl,
      View.read_writes_cons_put _ _ _ _ _ rfl, View.writes_nil]

/-- The carry and the block of rows after the first `n` chunks. -/
def BlockIn.run (x : BlockIn F) (s : Carry F) (h : Vec F S256x512 .f32) : ℕ → Carry F × Vec F S256x512 .f32
  | 0 => (s, h)
  | n + 1 => if hn : n < k0_t1_loop.trips then (x.next ⟨n, hn⟩ (x.run s h n).1, x.rows ⟨n, hn⟩ (x.run s h n).1 (x.run s h n).2)
      else x.run s h n

/-- One more chunk. -/
theorem BlockIn.run_succ (x : BlockIn F) (s : Carry F) (h : Vec F S256x512 .f32) (k : Fin k0_t1_loop.trips) :
    x.run s h (k.val + 1) = (x.next k (x.run s h k.val).1, x.rows k (x.run s h k.val).1 (x.run s h k.val).2) := by
  rw [BlockIn.run]; exact dif_pos k.isLt

/-- What the chunks together leave in the carried buffers and in the block of rows. -/
theorem trips_reads
    (X3 : arg3.view.ty.Contents (Elt F))
    (X14 : arg14.view.ty.Contents (Elt F))
    (X15 : arg15.view.ty.Contents (Elt F))
    (X16 : arg16.view.ty.Contents (Elt F))
    (X17 : arg17.view.ty.Contents (Elt F))
    (X18 : arg18.view.ty.Contents (Elt F))
    (X19 : arg19.view.ty.Contents (Elt F))
    (X20 : arg20.view.ty.Contents (Elt F))
    (f12 : arg12.view.ty.Contents (Elt F)) (f13 : arg13.view.ty.Contents (Elt F)) (f21 : arg21.view.ty.Contents (Elt F))
    (x : BlockIn F) (hx : x = blockOf (arg3 := arg3) (arg14 := arg14) (arg15 := arg15) (arg16 := arg16) (arg17 := arg17) (arg18 := arg18) (arg19 := arg19) (arg20 := arg20) X3 X14 X15 X16 X17 X18 X19 X20) (n : ℕ) (hn : n ≤ k0_t1_loop.trips) :
    let T := pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S64x128 32 [0] iota_S64x128_d0_w32) k0_pay88 X3 X14 X15 X16 X17 X18 X19 X20 f12 f13 f21 n
    (carryOf (arg12 := arg12) (arg13 := arg13) (arg12.view.writes (Elt F) f12 T.1) (arg13.view.writes (Elt F) f13 T.2.1),
        arg21.view.read (Elt F) (arg21.view.writes (Elt F) f21 T.2.2))
      = x.run (carryOf (arg12 := arg12) (arg13 := arg13) f12 f13) (arg21.view.read (Elt F) f21) n := by
  induction n with
  | zero => rfl
  | succ n ih =>
    have ih' := ih (Nat.le_of_succ_le hn)
    intro T
    have hT : T = _ := pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S64x128 32 [0] iota_S64x128_d0_w32) k0_pay88 X3 X14 X15 X16 X17 X18 X19 X20 f12 f13 f21 ⟨n, hn⟩
    rw [hT]
    dsimp only at ih' ⊢
    rw [View.writes_append, View.writes_append, View.writes_append, BlockIn.run_succ x _ _ ⟨n, hn⟩]
    dsimp only
    rw [← ih']
    generalize pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S64x128 32 [0] iota_S64x128_d0_w32) k0_pay88 X3 X14 X15 X16 X17 X18 X19 X20 f12 f13 f21 n = P
    have ht := trip_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X14 X15 X16 X17 X18 X19 X20 ⟨n, hn⟩ (arg12.view.writes (Elt F) f12 P.1) (arg13.view.writes (Elt F) f13 P.2.1)
      (arg21.view.writes (Elt F) f21 P.2.2) x hx _ rfl
    dsimp only at ht
    exact Prod.ext ht.1 ht.2

end Cert.KernelMlstmIdeal.Hand
-- ==== Proof.MlstmBlock.lean ====
/-
  What one grid point of the matrix memory reads and leaves.
-/
module

public import proofs.«01_k».proof.Proof.MlstmStep
public import Idealize.ShloMosaic.Lib.Pointwise
public import Idealize.ShloMosaic.Lib.Pipeline.Value

@[expose] public section

noncomputable section

namespace Cert.KernelMlstmIdeal.Hand

open Idealize.ShloMosaic Idealize.ShloMosaic.TcCoe Idealize.ShloMosaic.Tactic
open Cert.KernelMlstmIdeal.Gen

variable {F : FTy → Type} [FloatOps F]

/-- The blocks a grid point reads. -/
structure PointIn (F : FTy → Type) [FloatOps F] where
  u : Vec F S256x512 .f32
  v : Vec F S256x512 .f32
  o : Vec F S256x512 .f32
  gates : Vec F S256x128 .f32
  w : Vec F S4x512 .f32
  ib : Vec F S1x512 .f32
  fb : Vec F S1x512 .f32
  n : Vec F S1x512 .f32

/-- The input gates before their maximum is taken off. -/
def PointIn.iGate (p : PointIn F) : FVec F S256x512 .f32 :=
  k0_pay56 p.gates k0_pay52 (iota .tc S128x512 32 [1] iota_S128x512_d1_w32) 128#32 k0_pay53 k0_pay54 k0_pay55 p.ib

/-- The logarithms of the forget gates. -/
def PointIn.logF (p : PointIn F) : FVec F S256x512 .f32 :=
  k0_pay60 p.gates k0_pay57 (iota .tc S128x512 32 [1] iota_S128x512_d1_w32) 128#32 k0_pay58 k0_pay59 1#1 p.fb

/-- The decay sums of the first chunk. -/
def PointIn.firstSums (p : PointIn F) : FVec F S64x512 .f32 :=
  k0_pay62 p.gates k0_pay57 (iota .tc S128x512 32 [1] iota_S128x512_d1_w32) 128#32 k0_pay58 k0_pay59 1#1 p.fb

/-- The input gates less the decay sums. -/
def PointIn.diff (p : PointIn F) : FVec F S256x512 .f32 := k0_pay68 p.iGate p.logF k0_pay61 p.firstSums

/-- The decay of each whole chunk. -/
def PointIn.ends (p : PointIn F) : FVec F S256x512 .f32 := k0_pay67 p.logF k0_pay61 p.firstSums

/-- What the point's buffers hold when its chunks start, of a point whose earlier rows are `prev`. -/
def PointIn.block (p : PointIn F) (prev : Vec F S8x512 .f32) : BlockIn F where
  q := k0_pay50 p.w (k0_pay44 p.u prev p.w) (k0_pay45 p.u) (k0_pay46 prev) k0_pay47
  k := k0_pay51 p.w (k0_pay44 p.u prev p.w) (k0_pay45 p.u) (k0_pay46 prev) k0_pay47
  v := p.v
  b := k0_pay69 p.logF k0_pay61 p.firstSums
  be := k0_pay87 p.ends
  cm := k0_pay85 (k0_pay74 (k0_pay71 p.iGate p.logF k0_pay61 p.firstSums) (k0_pay72 p.iGate p.logF k0_pay61 p.firstSums)
      (k0_pay73 p.iGate p.logF k0_pay61 p.firstSums)) (k0_pay77 (k0_pay75 p.diff) (k0_pay76 p.diff))
    (k0_pay82 (k0_pay78 p.diff) (k0_pay79 p.diff) k0_pay80 (k0_pay81 p.diff)) (k0_pay83 p.diff) (k0_pay84 p.diff)
  cc := k0_pay70 p.iGate p.logF k0_pay61 p.firstSums
  te := k0_pay86 p.ends p.diff

/-- The block written back, from the block of rows. -/
def PointIn.out (p : PointIn F) (h : Vec F S256x512 .f32) : Vec F S256x512 .bf16 :=
  k0_pay1 (k0_pay97 k0_pay94 (iota .tc S128x128 32 [1] iota_S128x128_d1_w32) 128#32 k0_pay95 k0_pay96) h (k0_pay98 p.n)
    (k0_pay99 h) (k0_pay100 k0_pay94 (iota .tc S128x128 32 [1] iota_S128x128_d1_w32) 128#32 k0_pay95 k0_pay96 h)
    (k0_pay101 k0_pay94 (iota .tc S128x128 32 [1] iota_S128x128_d1_w32) 128#32 k0_pay95 k0_pay96 h) (k0_pay103 h) (k0_pay104 h) p.o

/-- The corner of a two-axis block. -/
theorem corner : (![0, 0] : Fin 2 → ℕ) = fun _ => 0 := by funext a; match a with | ⟨0, _⟩ => rfl | ⟨1, _⟩ => rfl

/-- The corner of a three-axis block. -/
theorem corner3 : (![0, 0, 0] : Fin 3 → ℕ) = fun _ => 0 := by
  funext a; match a with | ⟨0, _⟩ => rfl | ⟨1, _⟩ => rfl | ⟨2, _⟩ => rfl

variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x128 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S256x512 .bf16) (harg10 : arg10.IsWhole)
  (arg11 : Memref sig .tc .vmem S8x512 .f32) (harg11 : arg11.IsWhole)
  (arg12 : Memref sig .tc .vmem S2x128x512 .f32) (harg12 : arg12.IsWhole)
  (arg13 : Memref sig .tc .vmem S8x512 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x512 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S256x512 .f32) (harg19 : arg19.IsWhole)
  (arg20 : Memref sig .tc .vmem S256x512 .f32) (harg20 : arg20.IsWhole)
  (arg21 : Memref sig .tc .vmem S256x512 .f32) (harg21 : arg21.IsWhole)

/-- The first columns of a chunk's rows. -/
theorem off2_eq : ∀ k : Fin k0_t1_loop.trips, k0_off2 k = ![64 * k.val, 0] := by decide

/-- The second head's columns of a chunk's rows. -/
theorem off3_eq : ∀ k : Fin k0_t1_loop.trips, k0_off3 k = ![64 * k.val, 128] := by decide

/-- The third head's columns of a chunk's rows. -/
theorem off7_eq : ∀ k : Fin k0_t1_loop.trips, k0_off7 k = ![64 * k.val, 256] := by decide

/-- The last head's columns of a chunk's rows. -/
theorem off8_eq : ∀ k : Fin k0_t1_loop.trips, k0_off8 k = ![64 * k.val, 384] := by decide

/-- A chunk's rows are one head's at each of the four spans of columns, and the block's elsewhere. -/
theorem BlockIn.rows_apply (x : BlockIn F) (k : Fin k0_t1_loop.trips) (s : Carry F) (h : Vec F S256x512 .f32)
    (r : Fin 256) (j : Fin 512) :
    x.rows k s h (ix2 r j) = if hr : 64 * k.val ≤ r.val ∧ r.val < 64 * k.val + 64 then
        if h3 : 384 ≤ j.val then (x.right k).out1 s.m2 s.m3 s.right (ix2 ⟨r.val - 64 * k.val, by omega⟩ ⟨j.val - 384, by omega⟩)
        else if h2 : 256 ≤ j.val then (x.right k).out0 s.m2 s.m3 s.right (ix2 ⟨r.val - 64 * k.val, by omega⟩ ⟨j.val - 256, by omega⟩)
        else if h1 : 128 ≤ j.val then (x.left k).out1 s.m0 s.m1 s.left (ix2 ⟨r.val - 64 * k.val, by omega⟩ ⟨j.val - 128, by omega⟩)
        else (x.left k).out0 s.m0 s.m1 s.left (ix2 ⟨r.val - 64 * k.val, by omega⟩ ⟨j.val, by omega⟩)
      else h (ix2 r j) := by
  unfold BlockIn.rows
  rw [off2_eq, off3_eq, off7_eq, off8_eq]
  unfold VecWindow.put
  have hw : ∀ n : ℕ, (∀ a : Fin 2, ![64 * k.val, n] a ≤ ((ix2 r j : S256x512.Idx) a).val
      ∧ ((ix2 r j : S256x512.Idx) a).val < ![64 * k.val, n] a + S64x128.size a)
      ↔ (64 * k.val ≤ r.val ∧ r.val < 64 * k.val + 64) ∧ (n ≤ j.val ∧ j.val < n + 128) := by
    intro n
    constructor
    · intro h; exact ⟨h 0, h 1⟩
    · intro h a; match a with | ⟨0, _⟩ => exact h.1 | ⟨1, _⟩ => exact h.2
  have hj := j.isLt
  by_cases hr : 64 * k.val ≤ r.val ∧ r.val < 64 * k.val + 64
  · rw [dif_pos hr]
    by_cases h3 : 384 ≤ j.val
    · rw [dif_pos ((hw 384).2 ⟨hr, by omega⟩), dif_pos h3]
      refine congrArg _ (funext fun a => ?_)
      match a with | ⟨0, _⟩ => rfl | ⟨1, _⟩ => rfl
    rw [dif_neg fun h => by have := ((hw 384).1 h).2; omega, dif_neg h3]
    by_cases h2 : 256 ≤ j.val
    · rw [dif_pos ((hw 256).2 ⟨hr, by omega⟩), dif_pos h2]
      refine congrArg _ (funext fun a => ?_)
      match a with | ⟨0, _⟩ => rfl | ⟨1, _⟩ => rfl
    rw [dif_neg fun h => by have := ((hw 256).1 h).2; omega, dif_neg h2]
    by_cases h1 : 128 ≤ j.val
    · rw [dif_pos ((hw 128).2 ⟨hr, by omega⟩), dif_pos h1]
      refine congrArg _ (funext fun a => ?_)
      match a with | ⟨0, _⟩ => rfl | ⟨1, _⟩ => rfl
    rw [dif_neg fun h => by have := ((hw 128).1 h).2; omega, dif_neg h1, dif_pos ((hw 0).2 ⟨hr, by omega⟩)]
    refine congrArg _ (funext fun a => ?_)
    match a with | ⟨0, _⟩ => rfl | ⟨1, _⟩ => rfl
  · rw [dif_neg hr, dif_neg fun h => hr ((hw 384).1 h).1, dif_neg fun h => hr ((hw 256).1 h).1,
      dif_neg fun h => hr ((hw 128).1 h).1, dif_neg fun h => hr ((hw 0).1 h).1]

/-- The carry does not depend on the rows there were before. -/
theorem BlockIn.run_carry (x : BlockIn F) (s : Carry F) (h h' : Vec F S256x512 .f32) (n : ℕ) :
    (x.run s h n).1 = (x.run s h' n).1 := by
  induction n with
  | zero => rfl
  | succ n ih =>
    rw [BlockIn.run, BlockIn.run]
    split
    · dsimp only; rw [ih]
    · exact ih

/-- After `n` chunks the first `64 * n` rows do not depend on the rows there were before. -/
theorem BlockIn.run_rows (x : BlockIn F) (s : Carry F) (h h' : Vec F S256x512 .f32) (n : ℕ) (hn : n ≤ k0_t1_loop.trips)
    (r : Fin 256) (hr : r.val < 64 * n) (j : Fin 512) : (x.run s h n).2 (ix2 r j) = (x.run s h' n).2 (ix2 r j) := by
  induction n with
  | zero => omega
  | succ n ih =>
    rw [BlockIn.run_succ x s h ⟨n, hn⟩, BlockIn.run_succ x s h' ⟨n, hn⟩]
    dsimp only
    rw [BlockIn.rows_apply, BlockIn.rows_apply, BlockIn.run_carry x s h h']
    split
    · rfl
    · exact ih (Nat.le_of_succ_le hn) (by rename_i hk; dsimp only at hk; omega)

/-- What the chunks leave does not depend on the rows there were before. -/
theorem BlockIn.run_indep (x : BlockIn F) (s : Carry F) (h h' : Vec F S256x512 .f32) :
    x.run s h k0_t1_loop.trips = x.run s h' k0_t1_loop.trips := by
  refine Prod.ext (x.run_carry s h h' _) (funext fun y => ?_)
  have hy : y = ix2 (y 0) (y 1) := by funext a; match a with | ⟨0, _⟩ => rfl | ⟨1, _⟩ => rfl
  rw [hy]
  exact x.run_rows s h h' _ le_rfl (y 0) (by have := (y 0).isLt; show (y 0).val < 256; exact this) (y 1)

include harg2 harg3 harg4 harg5 harg6 harg7 harg8 harg9 harg10 harg11 harg12 harg13 harg14 harg15 harg16 harg17 harg18 harg19 harg20 harg21 in
/-- The buffers that the chunks read, of a point inside a sequence. -/
theorem later_block   (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    PointIn.block (F := F) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9⟩ (arg11.view.read (Elt F) f11) = blockOf (arg3 := arg3) (arg14 := arg14) (arg15 := arg15) (arg16 := arg16) (arg17 := arg17) (arg18 := arg18) (arg19 := arg19) (arg20 := arg20) f3 (arg14.view.writes (Elt F) arg14.view.junk (laterRun.sl.H14_1 arg2 arg6 arg11 f2 f6 f11)) (arg15.view.writes (Elt F) arg15.view.junk (laterRun.sl.H15_1 arg2 arg6 arg11 f2 f6 f11)) (arg16.view.writes (Elt F) arg16.view.junk (laterRun.sl.H16_1 arg5 arg8 f5 f8)) (arg17.view.writes (Elt F) arg17.view.junk (laterRun.sl.H17_1 arg5 arg8 f5 f8)) (arg18.view.writes (Elt F) arg18.view.junk (laterRun.sl.H18_1 arg5 arg7 arg8 f5 f7 f8)) (arg19.view.writes (Elt F) arg19.view.junk (laterRun.sl.H19_1 arg5 arg7 arg8 f5 f7 f8)) (arg20.view.writes (Elt F) arg20.view.junk (laterRun.sl.H20_1 arg5 arg7 arg8 f5 f7 f8)) := by
  unfold blockOf
  sl_unfold_words
  simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
  rfl

include harg2 harg3 harg4 harg5 harg6 harg7 harg8 harg9 harg10 harg11 harg12 harg13 harg14 harg15 harg16 harg17 harg18 harg19 harg20 harg21 in
/-- What a point inside a sequence leaves. -/
theorem later_reads (hc0 : ¬atStart i)   (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    let R := laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 f2 f3 f4 f5 f6 f7 f8 f9 f10 f11 f12 f13 f14 f15 f16 f17 f18 f19 f20 f21
    let p : PointIn F := ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9⟩
    let r := (p.block (arg11.view.read (Elt F) f11)).run (carryOf (arg12 := arg12) (arg13 := arg13) f12 f13) p.v k0_t1_loop.trips
    arg10.view.read (Elt F) R.1 = p.out r.2 ∧ arg11.view.read (Elt F) R.2.1 = k0_pay49 p.u
      ∧ carryOf (arg12 := arg12) (arg13 := arg13) R.2.2.1 R.2.2.2.1 = r.1 := by
  intro R p r
  have hT := trips_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 (arg14.view.writes (Elt F) arg14.view.junk (laterRun.sl.H14_1 arg2 arg6 arg11 f2 f6 f11)) (arg15.view.writes (Elt F) arg15.view.junk (laterRun.sl.H15_1 arg2 arg6 arg11 f2 f6 f11)) (arg16.view.writes (Elt F) arg16.view.junk (laterRun.sl.H16_1 arg5 arg8 f5 f8)) (arg17.view.writes (Elt F) arg17.view.junk (laterRun.sl.H17_1 arg5 arg8 f5 f8)) (arg18.view.writes (Elt F) arg18.view.junk (laterRun.sl.H18_1 arg5 arg7 arg8 f5 f7 f8)) (arg19.view.writes (Elt F) arg19.view.junk (laterRun.sl.H19_1 arg5 arg7 arg8 f5 f7 f8)) (arg20.view.writes (Elt F) arg20.view.junk (laterRun.sl.H20_1 arg5 arg7 arg8 f5 f7 f8)) f12 f13 f21 _ (later_block arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13 f14 f15 f16 f17 f18 f19 f20 f21) k0_t1_loop.trips le_rfl
  have hI := hT.trans (BlockIn.run_indep _ _ _ p.v)
  have e10 : arg10.view.read (Elt F) R.1 = p.out (arg21.view.read (Elt F) R.2.2.2.2.1) := by
    dsimp only [R]
    unfold laterRun
    dsimp only
    sl_unfold_words
    simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
    rfl
  have e11 : arg11.view.read (Elt F) R.2.1 = k0_pay49 p.u := by
    dsimp only [R]
    unfold laterRun
    dsimp only
    sl_unfold_words
    simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
    rfl
  exact ⟨e10.trans (congrArg p.out (congrArg Prod.snd hI)), e11, congrArg Prod.fst hI⟩

/-- Stores made one after another are made together. -/
theorem carry_append {arg12 : Memref sig .tc .vmem S2x128x512 .f32} {arg13 : Memref sig .tc .vmem S8x512 .f32}
    (f12 : arg12.view.ty.Contents (Elt F)) (f13 : arg13.view.ty.Contents (Elt F)) (L12 : List (View.Piece (Elt F) S2x128x512 .f32))
    (L13 : List (View.Piece (Elt F) S8x512 .f32)) (A12 : List (View.Piece (Elt F) S2x128x512 .f32)) (A13 : List (View.Piece (Elt F) S8x512 .f32)) :
    carryOf (arg12 := arg12) (arg13 := arg13) (arg12.view.writes (Elt F) f12 (A12 ++ L12)) (arg13.view.writes (Elt F) f13 (A13 ++ L13))
      = carryOf (arg12 := arg12) (arg13 := arg13) (arg12.view.writes (Elt F) (arg12.view.writes (Elt F) f12 L12) A12)
          (arg13.view.writes (Elt F) (arg13.view.writes (Elt F) f13 L13) A13) := by
  rw [View.writes_append, View.writes_append]

include harg2 harg3 harg4 harg5 harg6 harg7 harg8 harg9 harg10 harg11 harg12 harg13 harg14 harg15 harg16 harg17 harg18 harg19 harg20 harg21 in
/-- The buffers that the chunks read, of a point that starts a sequence. -/
theorem start_block   (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    PointIn.block (F := F) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9⟩ k0_pay41 = blockOf (arg3 := arg3) (arg14 := arg14) (arg15 := arg15) (arg16 := arg16) (arg17 := arg17) (arg18 := arg18) (arg19 := arg19) (arg20 := arg20) f3 (arg14.view.writes (Elt F) arg14.view.junk (startRun.sl.H14_1 arg2 arg6 arg11 f2 f6)) (arg15.view.writes (Elt F) arg15.view.junk (startRun.sl.H15_1 arg2 arg6 arg11 f2 f6)) (arg16.view.writes (Elt F) arg16.view.junk (startRun.sl.H16_1 arg5 arg8 f5 f8)) (arg17.view.writes (Elt F) arg17.view.junk (startRun.sl.H17_1 arg5 arg8 f5 f8)) (arg18.view.writes (Elt F) arg18.view.junk (startRun.sl.H18_1 arg5 arg7 arg8 f5 f7 f8)) (arg19.view.writes (Elt F) arg19.view.junk (startRun.sl.H19_1 arg5 arg7 arg8 f5 f7 f8)) (arg20.view.writes (Elt F) arg20.view.junk (startRun.sl.H20_1 arg5 arg7 arg8 f5 f7 f8)) := by
  unfold blockOf
  sl_unfold_words
  simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
  rfl

include harg2 harg3 harg4 harg5 harg6 harg7 harg8 harg9 harg10 harg11 harg12 harg13 harg14 harg15 harg16 harg17 harg18 harg19 harg20 harg21 in
/-- What a point that starts a sequence leaves. -/
theorem start_reads (hc0 : atStart i)   (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F)) :
    let R := startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 f2 f3 f4 f5 f6 f7 f8 f9 f10 f11 f12 f13 f14 f15 f16 f17 f18 f19 f20 f21
    let p : PointIn F := ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9⟩
    let r := (p.block k0_pay41).run ⟨k0_pay42, k0_pay43⟩ p.v k0_t1_loop.trips
    arg10.view.read (Elt F) R.1 = p.out r.2 ∧ arg11.view.read (Elt F) R.2.1 = k0_pay49 p.u
      ∧ carryOf (arg12 := arg12) (arg13 := arg13) R.2.2.1 R.2.2.2.1 = r.1 := by
  intro R p r
  have hT := trips_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 (arg14.view.writes (Elt F) arg14.view.junk (startRun.sl.H14_1 arg2 arg6 arg11 f2 f6)) (arg15.view.writes (Elt F) arg15.view.junk (startRun.sl.H15_1 arg2 arg6 arg11 f2 f6)) (arg16.view.writes (Elt F) arg16.view.junk (startRun.sl.H16_1 arg5 arg8 f5 f8)) (arg17.view.writes (Elt F) arg17.view.junk (startRun.sl.H17_1 arg5 arg8 f5 f8)) (arg18.view.writes (Elt F) arg18.view.junk (startRun.sl.H18_1 arg5 arg7 arg8 f5 f7 f8)) (arg19.view.writes (Elt F) arg19.view.junk (startRun.sl.H19_1 arg5 arg7 arg8 f5 f7 f8)) (arg20.view.writes (Elt F) arg20.view.junk (startRun.sl.H20_1 arg5 arg7 arg8 f5 f7 f8)) (arg12.view.writes (Elt F) arg12.view.junk startRun.sl.H12_1) (arg13.view.writes (Elt F) arg13.view.junk startRun.sl.H13_1) f21 _ (start_block arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13 f14 f15 f16 f17 f18 f19 f20 f21) k0_t1_loop.trips le_rfl
  have ec : carryOf (F := F) (arg12 := arg12) (arg13 := arg13) (arg12.view.writes (Elt F) arg12.view.junk startRun.sl.H12_1) (arg13.view.writes (Elt F) arg13.view.junk startRun.sl.H13_1) = ⟨k0_pay42, k0_pay43⟩ := by
    unfold carryOf
    sl_unfold_words
    rw [View.read_writes_full (s := S2x128x512), View.read_writes_full (s := S8x512)]
  rw [ec] at hT
  have hI := hT.trans (BlockIn.run_indep _ _ _ p.v)
  have e10 : arg10.view.read (Elt F) R.1 = p.out (arg21.view.read (Elt F) R.2.2.2.2.1) := by
    dsimp only [R]
    unfold startRun
    dsimp only
    sl_unfold_words
    simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
    rfl
  have e11 : arg11.view.read (Elt F) R.2.1 = k0_pay49 p.u := by
    dsimp only [R]
    unfold startRun
    dsimp only
    sl_unfold_words
    simp only [View.readAt_eq_ld, View.read_writes_full (s := S256x256), View.read_writes_full (s := S256x512), View.read_writes_full (s := S8x512),
    View.read_writes_full (s := S2x128x512), View.readCov_full (s := S8x512),
    View.ld_unit_zero (S := S256x512) corner, View.ld_unit_zero (S := S8x512) corner, View.ld_unit_zero (S := S256x128) corner,
    View.ld_unit_zero (S := S4x512) corner, View.ld_unit_zero (S := S1x512) corner]
    rfl
  have e12 : carryOf (arg12 := arg12) (arg13 := arg13) R.2.2.1 R.2.2.2.1 = r.1 := by
    exact (carry_append (arg12 := arg12) (arg13 := arg13) arg12.view.junk arg13.view.junk startRun.sl.H12_1 startRun.sl.H13_1 _ _).trans
      (congrArg Prod.fst hI)
  exact ⟨e10.trans (congrArg p.out (congrArg Prod.snd hI)), e11, e12⟩

end Cert.KernelMlstmIdeal.Hand
-- ==== Proof.MlstmFrame.lean ====
/-
  The run of the matrix memory's launch: what it carries from point to point, what it writes back, and that its
    arguments stay as they are.
-/
module

public import proofs.«01_k».proof.Proof.MlstmBlock
public import Idealize.ShloMosaic.Lib.Claim

@[expose] public section

set_option maxRecDepth 16384

noncomputable section

namespace Cert.KernelMlstmIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMlstmIdeal.Gen

variable {F : FTy → Type} [FloatOps F]

/-- What is carried from point to point: the last rows before the filter, the memory and the maxima. -/
structure Memory (F : FTy → Type) [FloatOps F] where
  prev : Vec F S8x512 .f32
  carry : Carry F

/-- What a sequence starts with. -/
def Memory.fresh : Memory F := ⟨k0_pay41, ⟨k0_pay42, k0_pay43⟩⟩

/-- The block a point writes back, and what it carries on. -/
def PointIn.leaves (p : PointIn F) (M : Memory F) : Vec F S256x512 .bf16 × Memory F :=
  (p.out ((p.block M.prev).run M.carry p.v k0_t1_loop.trips).2,
    ⟨k0_pay49 p.u, ((p.block M.prev).run M.carry p.v k0_t1_loop.trips).1⟩)

section

variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x128 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S256x512 .bf16) (harg10 : arg10.IsWhole)
  (arg11 : Memref sig .tc .vmem S8x512 .f32) (harg11 : arg11.IsWhole)
  (arg12 : Memref sig .tc .vmem S2x128x512 .f32) (harg12 : arg12.IsWhole)
  (arg13 : Memref sig .tc .vmem S8x512 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x512 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S256x512 .f32) (harg19 : arg19.IsWhole)
  (arg20 : Memref sig .tc .vmem S256x512 .f32) (harg20 : arg20.IsWhole)
  (arg21 : Memref sig .tc .vmem S256x512 .f32) (harg21 : arg21.IsWhole)

attribute [local irreducible] BlockIn.run PointIn.block PointIn.out in
include harg2 harg3 harg4 harg5 harg6 harg7 harg8 harg9 harg10 harg11 harg12 harg13 harg14 harg15 harg16 harg17 harg18 harg19 harg20 harg21 in
/-- The body's run at either kind of point, over the buffers' contents. -/
theorem run_exists   (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))
  (f9 : arg9.view.ty.Contents (Elt F))
  (f10 : arg10.view.ty.Contents (Elt F))
  (f11 : arg11.view.ty.Contents (Elt F))
  (f12 : arg12.view.ty.Contents (Elt F))
  (f13 : arg13.view.ty.Contents (Elt F))
  (f14 : arg14.view.ty.Contents (Elt F))
  (f15 : arg15.view.ty.Contents (Elt F))
  (f16 : arg16.view.ty.Contents (Elt F))
  (f17 : arg17.view.ty.Contents (Elt F))
  (f18 : arg18.view.ty.Contents (Elt F))
  (f19 : arg19.view.ty.Contents (Elt F))
  (f20 : arg20.view.ty.Contents (Elt F))
  (f21 : arg21.view.ty.Contents (Elt F))
    (p : PointIn F) (hp : p = ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9⟩) (M : Memory F) (hM : atStart i → M = Memory.fresh)
    (hD : ¬atStart i → (⟨arg11.view.read (Elt F) f11, carryOf (arg12 := arg12) (arg13 := arg13) f12 f13⟩ : Memory F) = M) :
    ∃ (C10 : arg10.view.ty.Contents (Elt F)) (C11 : arg11.view.ty.Contents (Elt F)) (C12 : arg12.view.ty.Contents (Elt F))
      (C13 : arg13.view.ty.Contents (Elt F)) (C21 : arg21.view.ty.Contents (Elt F)),
      (arg10.view.read (Elt F) C10 = (p.leaves M).1 ∧ arg11.view.read (Elt F) C11 = (p.leaves M).2.prev
        ∧ carryOf (arg12 := arg12) (arg13 := arg13) C12 C13 = (p.leaves M).2.carry)
      ∧ ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg21.view.loc (c : Thread nD τ) ↦[arg21.view.set]{fullShare} C21) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩)) ⊢ wp frame (wpE (defs₀ (F := F)) Variants.none c none) E (cc0_mlstm_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  subst hp
  by_cases hc : atStart i
  · obtain rfl := hM hc
    have h := start_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21
    dsimp only at h
    refine ⟨(startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).1, (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.1, (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.1,
      (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.1, (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.2.1, ?_, (startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.2.2⟩
    exact h
  · obtain rfl := hD hc
    have h := later_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21
    dsimp only at h
    refine ⟨(laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).1, (laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.1, (laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.1,
      (laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.1, (laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.2.1, ?_, (laterRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc f2 f3 f4 f5 f6 f7 f8 f9 f10 f11 f12 f13 f14 f15 f16 f17 f18 f19 f20 f21).2.2.2.2.2⟩
    exact h

include harg2 harg3 harg4 harg5 harg6 harg7 harg8 harg9 harg10 harg11 harg12 harg13 harg14 harg15 harg16 harg17 harg18 harg19 harg20 harg21 in
set_option maxHeartbeats 6400000 in
/-- The body at a point: from what its buffers read, to what they read after it. -/
theorem body_reads (p : PointIn F) (D M : Memory F) (hM : atStart i → M = Memory.fresh) (hD : ¬atStart i → D = M)
    (E : Set ℕ) (K : PUnit → sProp (MT nD τ sig Unit (Elt F) ℕ (UR sig nD τ) ℕ)) :
    iprop(owns (c : Thread nD τ) arg2 fullShare p.u ∗ owns (c : Thread nD τ) arg3 fullShare p.v ∗ owns (c : Thread nD τ) arg4 fullShare p.o ∗ owns (c : Thread nD τ) arg5 fullShare p.gates ∗ owns (c : Thread nD τ) arg6 fullShare p.w ∗ owns (c : Thread nD τ) arg7 fullShare p.ib ∗ owns (c : Thread nD τ) arg8 fullShare p.fb ∗ owns (c : Thread nD τ) arg9 fullShare p.n ∗ (∃ d, owns (c : Thread nD τ) arg10 fullShare d) ∗ owns (c : Thread nD τ) arg11 fullShare D.prev ∗ owns (c : Thread nD τ) arg12 fullShare D.carry.S ∗ owns (c : Thread nD τ) arg13 fullShare D.carry.m ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg2 fullShare p.u ∗ owns (c : Thread nD τ) arg3 fullShare p.v ∗ owns (c : Thread nD τ) arg4 fullShare p.o ∗ owns (c : Thread nD τ) arg5 fullShare p.gates ∗ owns (c : Thread nD τ) arg6 fullShare p.w ∗ owns (c : Thread nD τ) arg7 fullShare p.ib ∗ owns (c : Thread nD τ) arg8 fullShare p.fb ∗ owns (c : Thread nD τ) arg9 fullShare p.n ∗ owns (c : Thread nD τ) arg10 fullShare (p.leaves M).1 ∗ owns (c : Thread nD τ) arg11 fullShare (p.leaves M).2.prev ∗ owns (c : Thread nD τ) arg12 fullShare (p.leaves M).2.carry.S ∗ owns (c : Thread nD τ) arg13 fullShare (p.leaves M).2.carry.m ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩)) ⊢ wp frame (wpE (defs₀ (F := F)) Variants.none c none) E (cc0_mlstm_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, %e10, H10⟩, ⟨%f11, %e11, H11⟩, ⟨%f12, %e12, H12⟩, ⟨%f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%d21, %f21, %e21, H21⟩, Hk⟩
  obtain ⟨C10, C11, C12, C13, C21, hC, run⟩ := run_exists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13 f14 f15 f16 f17 f18 f19 f20 f21 p
    (by rw [e2, e3, e4, e5, e6, e7, e8, e9]) M hM
    (fun h => by rw [← hD h]; unfold carryOf; rw [e11, e12, e13])
  iapply (run E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H2, H3, H4, H5, H6, H7, H8, H9, H10, H11, H12, H13, H21, ⟨%g14, H14⟩, ⟨%g15, H15⟩, ⟨%g16, H16⟩, ⟨%g17, H17⟩, ⟨%g18, H18⟩, ⟨%g19, H19⟩, ⟨%g20, H20⟩⟩
  iapply Hk
  isplitl [H2]; · iexists _; isplitr; swap; (iexact H2); ipureintro; exact e2
  isplitl [H3]; · iexists _; isplitr; swap; (iexact H3); ipureintro; exact e3
  isplitl [H4]; · iexists _; isplitr; swap; (iexact H4); ipureintro; exact e4
  isplitl [H5]; · iexists _; isplitr; swap; (iexact H5); ipureintro; exact e5
  isplitl [H6]; · iexists _; isplitr; swap; (iexact H6); ipureintro; exact e6
  isplitl [H7]; · iexists _; isplitr; swap; (iexact H7); ipureintro; exact e7
  isplitl [H8]; · iexists _; isplitr; swap; (iexact H8); ipureintro; exact e8
  isplitl [H9]; · iexists _; isplitr; swap; (iexact H9); ipureintro; exact e9
  isplitl [H10]; · iexists _; isplitr; swap; (iexact H10); ipureintro; exact hC.1
  isplitl [H11]; · iexists _; isplitr; swap; (iexact H11); ipureintro; exact hC.2.1
  isplitl [H12]; · iexists _; isplitr; swap; (iexact H12); ipureintro; exact congrArg Carry.S hC.2.2
  isplitl [H13]; · iexists _; isplitr; swap; (iexact H13); ipureintro; exact congrArg Carry.m hC.2.2
  isplitl [H14]; · iexists _; iexists _; isplitr; swap; (iexact H14); ipureintro; rfl
  isplitl [H15]; · iexists _; iexists _; isplitr; swap; (iexact H15); ipureintro; rfl
  isplitl [H16]; · iexists _; iexists _; isplitr; swap; (iexact H16); ipureintro; rfl
  isplitl [H17]; · iexists _; iexists _; isplitr; swap; (iexact H17); ipureintro; rfl
  isplitl [H18]; · iexists _; iexists _; isplitr; swap; (iexact H18); ipureintro; rfl
  isplitl [H19]; · iexists _; iexists _; isplitr; swap; (iexact H19); ipureintro; rfl
  isplitl [H20]; · iexists _; iexists _; isplitr; swap; (iexact H20); ipureintro; rfl
  iexists _; iexists _; isplitr; swap; (iexact H21); ipureintro; rfl

end

section

variable (m : (ℓ : Loc nD τ sig) → Buf (Elt F) ℓ) (ρ : Dev nD → PrngReg) (c : Dev nD)

/-- The blocks that point `t` reads. -/
def pointIn (t : Fin cfg0.N) : PointIn F := ⟨iblk m c 0 t, iblk m c 1 t, iblk m c 2 t, iblk m c 3 t, iblk m c 4 t, iblk m c 5 t, iblk m c 6 t, iblk m c 7 t⟩

/-- What the points before `n` leave, carried. -/
def memAt : ℕ → Memory F
  | 0 => Memory.fresh
  | n + 1 => if h : n < cfg0.N then ((pointIn m c ⟨n, h⟩).leaves (if n % 16 = 0 then Memory.fresh else memAt n)).2 else Memory.fresh

/-- What point `n` starts from: nothing at a sequence's first point, what was carried at any other. -/
def enter (n : ℕ) : Memory F := if n % 16 = 0 then Memory.fresh else memAt m c n

/-- What is carried past a point is what the point leaves. -/
theorem memAt_succ (t : Fin cfg0.N) : memAt m c (t.val + 1) = ((pointIn m c t).leaves (enter m c t.val)).2 := by
  rw [memAt]; exact dif_pos t.isLt

/-- The invariant before point `n`: the carried buffers hold what was carried unless a sequence starts here; the other
    scratch buffers hold anything. -/
def Inv (n : ℕ) : sProp (MT nD τ sig Unit (Elt F) ℕ (UR sig nD τ) ℕ) :=
  iprop(∃ D : Memory F, ⌜n % 16 ≠ 0 → D = memAt m c n⌝
    ∗ (owns (c : Thread nD τ) (Memref.whole cc0_scratch0) fullShare D.prev ∗ owns (c : Thread nD τ) (Memref.whole cc0_scratch1) fullShare D.carry.S ∗ owns (c : Thread nD τ) (Memref.whole cc0_scratch2) fullShare D.carry.m)
    ∗ ((∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r))

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ((pointIn m c t).leaves (enter m c t.val)).1
  Φ t := Inv m c t.val
  q _ := fullShare
  owed _ := 0

/-- The arrays are those the launch finds. -/
theorem A_eq (w : Fin cfg0.W) : (dats m 0 c).A w = V m c (Pipeline.arrRef spec0 w) := by dsimp only [dats]

/-- The body leaves input block 0 in place. -/
theorem after_0 (t : Fin cfg0.N) : (dats m 0 c).after 0 t = iblk m c 0 t := by dsimp only [dats]
/-- The body leaves input block 1 in place. -/
theorem after_1 (t : Fin cfg0.N) : (dats m 0 c).after 1 t = iblk m c 1 t := by dsimp only [dats]
/-- The body leaves input block 2 in place. -/
theorem after_2 (t : Fin cfg0.N) : (dats m 0 c).after 2 t = iblk m c 2 t := by dsimp only [dats]
/-- The body leaves input block 3 in place. -/
theorem after_3 (t : Fin cfg0.N) : (dats m 0 c).after 3 t = iblk m c 3 t := by dsimp only [dats]
/-- The body leaves input block 4 in place. -/
theorem after_4 (t : Fin cfg0.N) : (dats m 0 c).after 4 t = iblk m c 4 t := by dsimp only [dats]
/-- The body leaves input block 5 in place. -/
theorem after_5 (t : Fin cfg0.N) : (dats m 0 c).after 5 t = iblk m c 5 t := by dsimp only [dats]
/-- The body leaves input block 6 in place. -/
theorem after_6 (t : Fin cfg0.N) : (dats m 0 c).after 6 t = iblk m c 6 t := by dsimp only [dats]
/-- The body leaves input block 7 in place. -/
theorem after_7 (t : Fin cfg0.N) : (dats m 0 c).after 7 t = iblk m c 7 t := by dsimp only [dats]
/-- The body leaves the output block at the point's. -/
theorem after_8 (t : Fin cfg0.N) : (dats m 0 c).after 8 t = ((pointIn m c t).leaves (enter m c t.val)).1 := by dsimp only [dats]

/-- A sequence starts at every sixteenth point. -/
theorem atStart_iff (t : Fin cfg0.N) : atStart (grid0.coords t) ↔ t.val % 16 = 0 := by
  have ht : t.val < 64 := Nat.lt_of_lt_of_eq t.isLt N_0
  have e1 : (grid0.coords t 1).val = t.val / 1 % 16 := Pipeline.Grid.coords_val t 1 (by decide) rfl
  simp only [atStart, e1]
  word_cmp

/-- The scratch buffers and the generator's register, as the launch hands them over. -/
theorem scratch_eq : (Pipeline.ΦA spec0 c : sProp (MT nD τ sig Unit (Elt F) ℕ (UR sig nD τ) ℕ))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-- The body's triple at a point. -/
theorem body_triple (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))) := by
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c)]
  rw [show (dats m 0 c).owesAt () t.succ = (dats m 0 c).owesAt () t.castSucc from rfl,
    after_0, after_1, after_2, after_3, after_4, after_5, after_6, after_7, after_8,
    show (dats m 0 c).Φ t.succ = Inv m c (t.val + 1) from rfl, show (dats m 0 c).Φ t.castSucc = Inv m c t.val from rfl]
  unfold Inv
  iintro ⟨⟨%D, %hD, ⟨S0, S1, S2⟩, ⟨S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_reads c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (pointIn m c t) D (enter m c t.val)
    (fun h => if_pos ((atStart_iff t).mp h))
    (fun h => (hD fun h0 => h ((atStart_iff t).mpr h0)).trans (if_neg fun h0 => h ((atStart_iff t).mpr h0)).symm) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, S0, S1, S2, S3, S4, S5, S6, S7, S8, S9, S10⟩
  isplitl [S0 S1 S2 S3 S4 S5 S6 S7 S8 S9 S10 Hg]
  · iexists ((pointIn m c t).leaves (enter m c t.val)).2
    isplitr; · ipureintro; exact fun _ => (memAt_succ m c t).symm
    isplitl [S0 S1 S2]
    · isplitl [S0]; · iexact S0
      isplitl [S1]; · iexact S1
      iexact S2
    isplitl [S3 S4 S5 S6 S7 S8 S9 S10]
    · isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row at a point is the body there. -/
theorem body_row (t : Fin cfg0.N) : defs₀ (F := F) .tc cfg0.body (cfg0.bodyArgs t (cfg0.slots t)) = bodyAt0 t := by
  unfold defs₀; rw [Defs.onTc_tc]

/-- The body meets what the launch asks of it at every point. -/
theorem body_meets : BodyObligation (dats (F := F) m 0 c) (defs₀ (F := F)) Variants.none () Set.univ := fun t => by
  rw [bigSep_W0, bigSep_W0, body_row]
  exact triple_restated (body_triple m c t) rfl .rfl fun _ => .rfl

/-- What the launch hands over gives the invariant before the first point. -/
theorem inv_in : Pipeline.ΦA spec0 c ⊢ (dats m 0 c).Φ 0 := by
  rw [show (dats m 0 c).Φ 0 = Inv m c 0 from rfl, scratch_eq]
  unfold Inv
  iintro ⟨⟨⟨%d0, S0⟩, ⟨%d1, S1⟩, ⟨%d2, S2⟩, SR⟩, Hg⟩
  iexists (⟨d0, ⟨d1, d2⟩⟩ : Memory F)
  isplitr; · ipureintro; exact fun h => absurd rfl h
  isplitl [S0 S1 S2]
  · isplitl [S0]; · iexact S0
    isplitl [S1]; · iexact S1
    iexact S2
  isplitl [SR]; · iexact SR
  iexact Hg

/-- The invariant after the last point gives back what the launch handed over. -/
theorem inv_out : (dats m 0 c).Φ (Fin.last cfg0.N) ⊢ Pipeline.ΦA spec0 c := by
  rw [show (dats m 0 c).Φ (Fin.last cfg0.N) = Inv m c cfg0.N from rfl, scratch_eq]
  unfold Inv
  iintro ⟨%D, %hD, ⟨S0, S1, S2⟩, SR, Hg⟩
  isplitl [S0 S1 S2 SR]
  · isplitl [S0]; · iexists _; iexact S0
    isplitl [S1]; · iexists _; iexact S1
    isplitl [S2]; · iexists _; iexact S2
    iexact SR
  iexact Hg

set_option backward.isDefEq.respectTransparency.types false in
/-- Every run of the launch ends, with the pipeline's arrays at what the proof data says and every counter at zero. -/
theorem launch_run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_meets m c).loose) (hshare := fun c => (dats m 0 c).share_full fun _ => rfl)
    (howed := fun _ _ => rfl) (V := V m) (hmain := hmain m Variants.none) (hA := A_eq m) (hin := inv_in m) (hout := inv_out m)

/-- Every run of the launch ends with the pipeline's arrays at what the proof data says. -/
theorem launch_ends : θ_run defs (onTc (τ := τ) (main (F := F))) (s₀ m ρ) (Pipeline.FramePost cfgs (dats m) 0 (V m)) :=
  (θ_run defs _ _).mono (fun _ h => h.1) (launch_run m ρ)

end

end Cert.KernelMlstmIdeal.Hand
-- ==== Proof.MlstmKernel.lean ====
/-
  The matrix memory's launches end with their arguments unchanged.
-/
module

public import proofs.«01_k».proof.Defs
public import proofs.«01_k».proof.Proof.MlstmFrame
public import proofs.«01_k».proof.Proof.Gen.KernelMlstm.Frame
public import proofs.«01_k».proof.Proof.Gen.ReferenceMlstmIdeal.Run

@[expose] public section

set_option maxRecDepth 16384

noncomputable section

namespace Cert.Mlstm

open Idealize.ShloMosaic Idealize.ShloMosaic.TcCoe Idealize.SL.Sem

section

open Cert.KernelMlstmIdeal Cert.KernelMlstmIdeal.Gen Cert.KernelMlstmIdeal.Hand

/-- At any values the launch's runs end, its arguments unchanged and every counter at zero. -/
theorem launch_unchanged {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) (launch_ends m ρ)) ((θ_run defs _ _).mono (fun _ h => h.2) (launch_run m ρ))

end

/-- The idealized kernel's runs end, its arguments unchanged. -/
theorem frame_kernelIdeal : Cert.quiescent_KernelMlstmIdeal (hKernelMlstmIdeal := Cert.KernelMlstmIdeal.Gen.facts) :=
  fun m ρ _ => launch_unchanged m ρ

/-- The two programs' bodies are one. -/
theorem bodies_eq : @Cert.KernelMlstm.defs₀ Bits _ _ = @Cert.KernelMlstmIdeal.defs₀ Bits _ _ := by
  funext u d
  cases u
  · rcases d with ⟨_ | l, h⟩
    · rfl
    · exact absurd h (Nat.not_lt.2 (Nat.le_add_left _ _))
  · rfl
  · rfl

/-- The two programs' tables of bodies are one. -/
theorem defs_eq : @Cert.KernelMlstm.defs Bits _ _ = @Cert.KernelMlstmIdeal.defs Bits _ _ :=
  congrArg (Pipeline.defs (Cert.KernelMlstmIdeal.pcfgs (F := Bits))) bodies_eq

/-- The kernel's runs end, its arguments unchanged: its program is the idealized one's, read at machine values. -/
theorem frame_kernel : Cert.quiescent_KernelMlstm (hKernelMlstm := Cert.KernelMlstm.Gen.facts) :=
  fun m ρ _ => defs_eq ▸ launch_unchanged (F := Bits) m ρ

/-- The reference's runs end, its arguments unchanged. -/
theorem frame_referenceIdeal :
    Cert.quiescent_ReferenceMlstmIdeal (hReferenceMlstmIdeal := Cert.ReferenceMlstmIdeal.Gen.facts) := fun m ρ _ =>
  (θ_run Cert.ReferenceMlstmIdeal.defs _ _).mono
    (fun r h => ⟨fun c => (h c).2, Idealize.ShloMosaic.sem_eq_zero_of_no_sems (by decide) r.2⟩)
    (Cert.ReferenceMlstmIdeal.Value.run m ρ)

end Cert.Mlstm
-- ==== Proof.MlstmSpec.lean ====
/-
  The matrix memory of one head, chunk by chunk: what a chunk of 64 rows reads, what it leaves of the memory and what its
  rows are. Two forms are stated, one that subtracts the running maximum of the gate differences and one that subtracts the
  maximum of a masked row of sums, and proved equal.
-/
module

public import proofs.«01_k».proof.Proof.LruSpec

@[expose] public section

noncomputable section

namespace Cert.Mlstm

open Idealize.ShloMosaic

/-- A number that is not infinite. -/
def IsReal (x : EReal) : Prop := ∃ r : ℝ, x = (r : EReal)

/-- A real is not minus infinity. -/
theorem IsReal.ne_bot {x : EReal} (h : IsReal x) : x ≠ ⊥ := by obtain ⟨r, rfl⟩ := h; exact EReal.coe_ne_bot r

/-- A real is not infinity. -/
theorem IsReal.ne_top {x : EReal} (h : IsReal x) : x ≠ ⊤ := by obtain ⟨r, rfl⟩ := h; exact EReal.coe_ne_top r

/-- What is neither infinity is real. -/
theorem isReal_of_ne {x : EReal} (hb : x ≠ ⊥) (ht : x ≠ ⊤) : IsReal x := ⟨x.toReal, (EReal.coe_toReal ht hb).symm⟩

/-- Zero is real. -/
theorem isReal_zero : IsReal 0 := ⟨0, rfl⟩

/-- A sum of two reals is real. -/
theorem IsReal.add {x y : EReal} (hx : IsReal x) (hy : IsReal y) : IsReal (x + y) := by
  obtain ⟨r, rfl⟩ := hx; obtain ⟨s, rfl⟩ := hy; exact ⟨r + s, (EReal.coe_add r s).symm⟩

/-- A product of two reals is real. -/
theorem IsReal.mul {x y : EReal} (hx : IsReal x) (hy : IsReal y) : IsReal (x * y) := by
  obtain ⟨r, rfl⟩ := hx; obtain ⟨s, rfl⟩ := hy; exact ⟨r * s, (EReal.coe_mul r s).symm⟩

/-- The opposite of a real is real. -/
theorem IsReal.neg {x : EReal} (hx : IsReal x) : IsReal (-x) := by obtain ⟨r, rfl⟩ := hx; exact ⟨-r, (EReal.coe_neg r).symm⟩

/-- A finite sum of reals is real. -/
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- The exponential of what is not infinity is real. -/
theorem isReal_exp {x : EReal} (h : x ≠ ⊤) : IsReal (Ideal.exp x) := by
  induction x using EReal.rec with
  | bot => exact isReal_zero
  | top => exact absurd rfl h
  | coe r => exact ⟨Real.exp r, rfl⟩

/-- The exponential of what is not minus infinity is positive. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- A real divided by something positive is real. -/
theorem isReal_div {x y : EReal} (hx : IsReal x) (hy : 0 < y) : IsReal (Ideal.div x y) := by
  unfold Ideal.div
  rw [if_neg hy.ne']
  refine hx.mul ?_
  induction y using EReal.rec with
  | bot => exact absurd hy (by decide)
  | top => rw [EReal.inv_top]; exact isReal_zero
  | coe r => exact ⟨r⁻¹, (EReal.coe_inv r).symm⟩

/-- A real less itself is zero. -/
theorem IsReal.sub_self {x : EReal} (h : IsReal x) : x - x = 0 := EReal.sub_self h.ne_top h.ne_bot

/-- The difference of ordered numbers is not positive. -/
theorem sub_nonpos {x y : EReal} (h : x ≤ y) : x - y ≤ 0 := by
  induction x using EReal.rec with
  | bot => rw [EReal.bot_sub]; exact bot_le
  | top => rw [top_le_iff.mp h, EReal.sub_top]; exact bot_le
  | coe r =>
    induction y using EReal.rec with
    | bot => exact absurd h (by simp)
    | top => rw [EReal.sub_top]; exact bot_le
    | coe s => rw [← EReal.coe_sub]; exact EReal.coe_nonpos.mpr (by have := EReal.coe_le_coe_iff.mp h; linarith)

/-- The exponential of such a difference is real. -/
theorem isReal_exp_sub {x y : EReal} (h : x ≤ y) : IsReal (Ideal.exp (x - y)) :=
  isReal_exp fun e => by have := sub_nonpos h; rw [e] at this; exact absurd this (by decide)

/-- A common summand drops out of a difference, unless it is minus infinity against infinity. -/
theorem shift_sub {b x y : EReal} (ht : b ≠ ⊤) (hb : b = ⊥ → y = ⊤) : (b + x) - (b + y) = x - y := by
  induction b using EReal.rec with
  | bot => rw [hb rfl, EReal.bot_add, EReal.bot_sub, EReal.sub_top]
  | top => exact absurd rfl ht
  | coe r =>
    induction x using EReal.rec with
    | bot => rw [EReal.add_bot, EReal.bot_sub, EReal.bot_sub]
    | top =>
      rw [EReal.coe_add_top]
      induction y using EReal.rec with
      | bot => rw [EReal.add_bot]
      | top => rw [EReal.coe_add_top]
      | coe s => rw [← EReal.coe_add, EReal.top_sub_coe, EReal.top_sub_coe]
    | coe t =>
      induction y using EReal.rec with
      | bot => rw [EReal.add_bot, ← EReal.coe_add, EReal.coe_sub_bot, EReal.coe_sub_bot]
      | top => rw [EReal.coe_add_top, EReal.sub_top, EReal.sub_top]
      | coe s =>
        rw [← EReal.coe_add, ← EReal.coe_add, ← EReal.coe_sub, ← EReal.coe_sub]
        congr 1; ring

/-- What one head reads in a chunk: its queries and keys, its values, the sums of its log decays and its input gates. -/
structure Chunk where
  q : Fin 64 → Fin 64 → EReal
  k : Fin 64 → Fin 64 → EReal
  v : Fin 64 → Fin 128 → EReal
  b : Fin 64 → EReal
  g : Fin 64 → EReal

/-- What one head carries from chunk to chunk: its matrix, its vector and its maximum. -/
structure Mem where
  C : Fin 64 → Fin 128 → EReal
  N : Fin 64 → EReal
  M : EReal

/-- The empty memory. -/
def Mem.zero : Mem := ⟨fun _ _ => 0, fun _ => 0, 0⟩

namespace Chunk

variable (x : Chunk) (s : Mem)

/-- The gate difference of a row. -/
def cc (j : Fin 64) : EReal := x.g j - x.b j

/-- The running maximum of the gate differences. -/
def top (i : Fin 64) : EReal := Finset.univ.sup fun j : Fin 64 => if j.val ≤ i.val then x.cc j else ⊥

/-- The maximum a row subtracts. -/
def mx (i : Fin 64) : EReal := max s.M (x.top i)

/-- The product of a query and a key. -/
def dot (i j : Fin 64) : EReal := ∑ d : Fin 64, x.q i d * x.k j d

/-- The weight of row `j` in row `i`. -/
def wm (i j : Fin 64) : EReal := if j.val ≤ i.val then Ideal.exp (min (x.cc j - x.mx s i) 0) * x.dot i j else 0

/-- The numerator of a row. -/
def num (i : Fin 64) (c : Fin 128) : EReal :=
  Ideal.exp (s.M - x.mx s i) * (∑ d : Fin 64, x.q i d * s.C d c) + ∑ j : Fin 64, x.wm s i j * x.v j c

/-- The denominator of a row, before its lower bound. -/
def den (i : Fin 64) : EReal :=
  Ideal.exp (s.M - x.mx s i) * (∑ d : Fin 64, x.q i d * s.N d) + ∑ j : Fin 64, x.wm s i j

/-- A row of the head. -/
def out (i : Fin 64) (c : Fin 128) : EReal :=
  Ideal.div (x.num s i c) (max (max (x.den s i) (-(x.den s i))) (Ideal.exp (-(x.b i + x.mx s i))))

/-- The gate of a row seen from the chunk's end. -/
def te (j : Fin 64) : EReal := x.b 63 + x.cc j

/-- The next maximum. -/
def newM : EReal := max (x.b 63 + s.M) (Finset.univ.sup x.te)

/-- The key of a row, weighted for the memory. -/
def wk (j d : Fin 64) : EReal := x.k j d * Ideal.exp (x.te j - x.newM s)

/-- The memory after the chunk. -/
def next : Mem where
  C d c := s.C d c * Ideal.exp (x.b 63 + s.M - x.newM s) + ∑ j : Fin 64, x.wk s j d * x.v j c
  N d := s.N d * Ideal.exp (x.b 63 + s.M - x.newM s) + ∑ j : Fin 64, x.wk s j d
  M := x.newM s

/-- The masked sums of a row. -/
def rowD (i j : Fin 64) : EReal := if j.val ≤ i.val then x.b i - x.b j + x.g j else ⊥

/-- The maximum that a row subtracts from its masked sums. -/
def rowM (i : Fin 64) : EReal := max (x.b i + s.M) (Finset.univ.sup (x.rowD i))

/-- What is asked of a chunk: finite numbers, and log decays that only fall. -/
structure Good : Prop where
  q : ∀ i d, IsReal (x.q i d)
  k : ∀ i d, IsReal (x.k i d)
  v : ∀ i c, IsReal (x.v i c)
  g : ∀ i, IsReal (x.g i)
  b : ∀ i, x.b i ≠ ⊤
  mono : ∀ i j : Fin 64, j.val ≤ i.val → x.b i ≤ x.b j

end Chunk

/-- What is asked of a memory: a finite matrix and vector, and a maximum that is not infinity. -/
structure Mem.Good (s : Mem) : Prop where
  C : ∀ d c, IsReal (s.C d c)
  N : ∀ d, IsReal (s.N d)
  M : s.M ≠ ⊤

/-- The empty memory is finite. -/
theorem Mem.zero_good : Mem.zero.Good := ⟨fun _ _ => isReal_zero, fun _ => isReal_zero, by decide⟩

namespace Chunk

variable {x : Chunk} {s : Mem}

/-- A sum of gate and decays, read from the row. -/
theorem rowD_eq (i j : Fin 64) : x.rowD i j = x.b i + if j.val ≤ i.val then x.cc j else ⊥ := by
  unfold rowD cc
  split
  · rw [sub_eq_add_neg, sub_eq_add_neg, add_assoc, add_comm (-x.b j)]
  · rw [EReal.add_bot]

/-- A row's maximum of sums is its decay and its maximum of differences. -/
theorem rowM_eq (i : Fin 64) : x.rowM s i = x.b i + x.mx s i := by
  have h : Finset.univ.sup (x.rowD i) = x.b i + x.top i := by
    unfold top
    rw [Finset.comp_sup_eq_sup_comp_of_is_total (fun y => x.b i + y) (fun _ _ h => add_le_add_right h _) (EReal.add_bot _)]
    exact congrArg _ (funext fun j => rowD_eq i j)
  unfold rowM mx
  rw [h]
  exact ((show Monotone fun y => x.b i + y from fun _ _ h => add_le_add_right h _).map_max).symm

/-- A row's own gate difference is among those of its maximum. -/
theorem cc_le_mx {i j : Fin 64} (h : j.val ≤ i.val) : x.cc j ≤ x.mx s i :=
  le_trans (le_trans (le_of_eq (if_pos h).symm)
    (Finset.le_sup (f := fun j : Fin 64 => if j.val ≤ i.val then x.cc j else ⊥) (Finset.mem_univ j))) (le_max_right _ _)

/-- Where a decay is complete, the maximum of differences is infinite. -/
theorem Good.mx_top (h : x.Good) {i : Fin 64} (e : x.b i = ⊥) : x.mx s i = ⊤ := by
  have hc : x.cc i = ⊤ := by
    unfold cc; obtain ⟨r, hr⟩ := h.g i; rw [hr, e, EReal.coe_sub_bot]
  exact top_le_iff.mp (hc ▸ cc_le_mx (s := s) (le_refl i.val))

/-- The two forms of the old memory's weight. -/
theorem Good.inter_eq (h : x.Good) (i : Fin 64) :
    Ideal.exp (x.b i + s.M - x.rowM s i) = Ideal.exp (s.M - x.mx s i) := by
  rw [rowM_eq, shift_sub (h.b i) fun e => h.mx_top e]

/-- The two forms of a row's weight in another. -/
theorem Good.wm_eq (h : x.Good) (i j : Fin 64) : Ideal.exp (x.rowD i j - x.rowM s i) * x.dot i j = x.wm s i j := by
  rw [rowM_eq, rowD_eq]
  unfold wm
  split
  · rename_i hj
    rw [shift_sub (h.b i) fun e => h.mx_top e, min_eq_left (sub_nonpos (cc_le_mx hj))]
  · rw [EReal.add_bot, EReal.bot_sub]
    exact zero_mul _

/-- The gate of a row seen from the chunk's end, in the other order. -/
theorem te_eq (j : Fin 64) : x.b 63 - x.b j + x.g j = x.te j := by
  unfold te cc
  rw [sub_eq_add_neg, sub_eq_add_neg, add_assoc, add_comm (-x.b j)]

/-- A row's maximum of differences is infinite only where the decay is complete. -/
theorem Good.mx_ne_top (h : x.Good) (hs : s.Good) {i : Fin 64} (e : x.b i ≠ ⊥) : x.mx s i ≠ ⊤ := by
  have ht : x.top i < ⊤ := by
    refine (Finset.sup_lt_iff (by decide)).2 fun j _ => ?_
    split
    · rename_i hj
      have hb : x.b j ≠ ⊥ := fun hb => e (le_bot_iff.mp (hb ▸ h.mono i j hj))
      obtain ⟨r, hr⟩ := h.g j
      obtain ⟨t, ht⟩ := isReal_of_ne hb (h.b j)
      unfold cc
      rw [hr, ht, ← EReal.coe_sub]
      exact EReal.coe_lt_top _
    · decide
  exact (max_lt (lt_of_le_of_ne le_top hs.M) ht).ne

/-- A row of the head is finite. -/
theorem Good.out_real (h : x.Good) (hs : s.Good) (i : Fin 64) (c : Fin 128) : IsReal (x.out s i c) := by
  have hdot : ∀ i j, IsReal (x.dot i j) := fun i j => isReal_sum _ _ fun d => (h.q i d).mul (h.k j d)
  have hwm : ∀ j, IsReal (x.wm s i j) := fun j => by
    unfold wm
    split
    · exact (isReal_exp (ne_top_of_le_ne_top EReal.zero_ne_top (min_le_right _ _))).mul (hdot i j)
    · exact isReal_zero
  have hw : IsReal (Ideal.exp (s.M - x.mx s i)) := isReal_exp_sub (le_max_left _ _)
  refine isReal_div ?_ (lt_of_lt_of_le (exp_pos ?_) (le_max_right _ _))
  · exact (hw.mul (isReal_sum _ _ fun d => (h.q i d).mul (hs.C d c))).add (isReal_sum _ _ fun j => (hwm j).mul (h.v j c))
  · intro e
    have e' : x.b i + x.mx s i = ⊤ := EReal.neg_eq_bot_iff.mp e
    by_cases hb : x.b i = ⊥
    · rw [hb, EReal.bot_add] at e'
      exact absurd e' (by decide)
    · exact EReal.add_ne_top (h.b i) (h.mx_ne_top hs hb) e'

/-- The memory after a chunk is finite again. -/
theorem Good.next_good (h : x.Good) (hs : s.Good) : (x.next s).Good := by
  have hd : IsReal (Ideal.exp (x.b 63 + s.M - x.newM s)) := isReal_exp_sub (le_max_left _ _)
  have hwk : ∀ j d, IsReal (x.wk s j d) := fun j d =>
    (h.k j d).mul (isReal_exp_sub (le_trans (Finset.le_sup (Finset.mem_univ j)) (le_max_right _ _)))
  refine ⟨fun d c => ((hs.C d c).mul hd).add (isReal_sum _ _ fun j => (hwk j d).mul (h.v j c)),
    fun d => ((hs.N d).mul hd).add (isReal_sum _ _ fun j => hwk j d), ?_⟩
  have ht : Finset.univ.sup x.te < ⊤ := by
    refine (Finset.sup_lt_iff (by decide)).2 fun j _ => lt_of_le_of_ne le_top ?_
    unfold te
    by_cases hb : x.b 63 = ⊥
    · rw [hb, EReal.bot_add]; decide
    · have hj : x.b j ≠ ⊥ := fun e => hb (le_bot_iff.mp (e ▸ h.mono 63 j (by have := j.isLt; show j.val ≤ 63; omega)))
      obtain ⟨r, hr⟩ := h.g j
      obtain ⟨t, ht⟩ := isReal_of_ne hj (h.b j)
      refine EReal.add_ne_top (h.b 63) ?_
      unfold cc
      rw [hr, ht, ← EReal.coe_sub]
      exact EReal.coe_ne_top _
  exact (max_lt (lt_of_le_of_ne le_top (EReal.add_ne_top (h.b 63) hs.M)) ht).ne

end Chunk

end Cert.Mlstm

end
-- ==== Proof.MlstmPair.lean ====
/-
  One chunk of one pair of heads: of two heads laid side by side, the block-diagonal memory with its columns of ones leaves
  what each head's own chunk leaves.
-/
module

public import proofs.«01_k».proof.Proof.MlstmBlock
public import proofs.«01_k».proof.Proof.MlstmSpec
public import Idealize.ShloMosaic.Lib.WordCmp

@[expose] public section

noncomputable section

namespace Cert.KernelMlstmIdeal.Hand

open Idealize.ShloMosaic Idealize.ShloMosaic.TcCoe Idealize.ShloMosaic.Tactic
open Cert.KernelMlstmIdeal.Gen Cert.Mlstm

/-- A sum over 128 entries, in two halves. -/
theorem sum_halves (f : Fin 128 → EReal) :
    ∑ x, f x = ∑ d : Fin 64, f ⟨d.val, by omega⟩ + ∑ d : Fin 64, f ⟨64 + d.val, by omega⟩ :=
  Fin.sum_univ_add (a := 64) (b := 64) f

/-- The word of minus infinity. -/
theorem word_bot : Ideal.ofBits .f32 0xFF800000#32 = (⊥ : EReal) := by simp [Ideal.ofBits, Ideal.ieee]

/-- A maximum taken from minus infinity on. -/
theorem fold_max {n : ℕ} (f : Fin n → EReal) :
    Finset.fold max (Ideal.ofBits .f32 0xFF800000#32) f Finset.univ = Finset.univ.sup f := by
  rw [word_bot]; rfl

/-- A choice on a word comparison is a choice on the comparison. -/
theorem pick_lt {α : Type} (n m : ℕ) (hn : n < 2 ^ 31) (hm : m < 2 ^ 31) (x y : α) :
    Scalar.select (IntOp.cmpi .slt (BitVec.ofNat 32 n) (BitVec.ofNat 32 m)) x y = if n < m then x else y :=
  if_congr (WordCmp.cmpi_slt_ofNat_eq_one_iff (w := 32) hn hm) rfl rfl

/-- A lane's number within its half. -/
theorem lane_word : ∀ c : Fin 128,
    (Scalar.select
        (IntOp.andi
          (IntOp.xori
            (IntOp.cmpi .slt
              (IntOp.remsi .vector (BitVec.ofNat 32 c.val)
                (Scalar.select (Scalar.cmpi .eq 64#32 0#32) 1#32 64#32))
              0#32)
            (Scalar.cmpi .slt (Scalar.select (Scalar.cmpi .eq 64#32 0#32) 1#32 64#32) 0#32))
          (IntOp.cmpi .ne
            (IntOp.remsi .vector (BitVec.ofNat 32 c.val)
              (Scalar.select (Scalar.cmpi .eq 64#32 0#32) 1#32 64#32))
            0#32))
        (IntOp.addi
          (IntOp.remsi .vector (BitVec.ofNat 32 c.val)
            (Scalar.select (Scalar.cmpi .eq 64#32 0#32) 1#32 64#32))
          (Scalar.select (Scalar.cmpi .eq 64#32 0#32) 1#32 64#32))
        (IntOp.remsi .vector (BitVec.ofNat 32 c.val)
          (Scalar.select (Scalar.cmpi .eq 64#32 0#32) 1#32 64#32))) = BitVec.ofNat 32 (c.val % 64) := by
  decide +kernel

/-- The causal mask of a pair. -/
theorem incl_iff (r : Fin 64) (c : Fin 128) :
    k0_pay89 (iota .tc S64x128 32 [0] iota_S64x128_d0_w32) k0_pay88 (ix2 r c) = 1 ↔ c.val % 64 ≤ r.val := by
  pointwise [k0_pay89, k0_pay88]
  rw [lane_word]
  exact WordCmp.cmpi_sge_ofNat_eq_one_iff (w := 32) (by omega) (by omega)

/-- The mask of the two diagonal blocks. -/
theorem diag_iff (r : Fin 128) (c : Fin 512) : k0_pay90 (ix2 r c) = 1 ↔ (r.val < 64 ↔ c.val < 256) := by
  pointwise [k0_pay90]
  have h1 : IntOp.cmpi .slt (BitVec.ofNat 32 r.val) 64#32 = if r.val < 64 then 1#1 else 0#1 := by
    rw [← WordCmp.ofBool_decide_eq_ite, ← WordCmp.cmpi_slt_ofNat (w := 32) (by omega) (by decide)]
  have h2 : IntOp.cmpi .slt (BitVec.ofNat 32 c.val) 256#32 = if c.val < 256 then 1#1 else 0#1 := by
    rw [← WordCmp.ofBool_decide_eq_ite, ← WordCmp.cmpi_slt_ofNat (w := 32) (by omega) (by decide)]
  rw [h1, h2]
  by_cases a : r.val < 64 <;> by_cases b : c.val < 256 <;> simp [a, b, IntOp.xori]

/-- What a pair reads is what its two heads read. -/
structure PairOf (p : PairIn Ideal) (x0 x1 : Chunk) : Prop where
  q0 : ∀ i d : Fin 64, p.q (ix2 i ⟨d.val, by omega⟩) = x0.q i d
  q1 : ∀ i d : Fin 64, p.q (ix2 i ⟨64 + d.val, by omega⟩) = x1.q i d
  k0 : ∀ i d : Fin 64, p.k (ix2 i ⟨d.val, by omega⟩) = x0.k i d
  k1 : ∀ i d : Fin 64, p.k (ix2 i ⟨64 + d.val, by omega⟩) = x1.k i d
  v0 : ∀ (i : Fin 64) (c : Fin 128), p.v0 (ix2 i c) = x0.v i c
  v1 : ∀ (i : Fin 64) (c : Fin 128), p.v1 (ix2 i c) = x1.v i c
  b0 : ∀ (i : Fin 64) (c : Fin 128), p.b0 (ix2 i c) = x0.b i
  b1 : ∀ (i : Fin 64) (c : Fin 128), p.b1 (ix2 i c) = x1.b i
  cm0 : ∀ (i : Fin 64) (c : Fin 128), p.cm0 (ix2 i c) = x0.top i
  cm1 : ∀ (i : Fin 64) (c : Fin 128), p.cm1 (ix2 i c) = x1.top i
  cc0 : ∀ (i : Fin 64) (c : Fin 128), p.cc0 (ix2 i c) = x0.cc i
  cc1 : ∀ (i : Fin 64) (c : Fin 128), p.cc1 (ix2 i c) = x1.cc i
  te0 : ∀ (i : Fin 64) (c : Fin 128), p.te0 (ix2 i c) = x0.te i
  te1 : ∀ (i : Fin 64) (c : Fin 128), p.te1 (ix2 i c) = x1.te i
  e0 : ∀ c : Fin 128, p.e0 (ix2 0 c) = x0.b 63
  e1 : ∀ c : Fin 128, p.e1 (ix2 0 c) = x1.b 63

/-- A pair's memory is its two heads' memories on the diagonal, each with its vector in every column of a block. -/
structure MemOf (S : Vec Ideal S1x128x512 .f32) (s0 s1 : Mem) : Prop where
  C0 : ∀ (d : Fin 64) (c : Fin 128), S (ix3 0 ⟨d.val, by omega⟩ ⟨c.val, by omega⟩) = s0.C d c
  N0 : ∀ (d : Fin 64) (c : Fin 128), S (ix3 0 ⟨d.val, by omega⟩ ⟨128 + c.val, by omega⟩) = s0.N d
  Z0 : ∀ (d : Fin 64) (c : Fin 512), c.val < 256 → S (ix3 0 ⟨64 + d.val, by omega⟩ c) = 0
  C1 : ∀ (d : Fin 64) (c : Fin 128), S (ix3 0 ⟨64 + d.val, by omega⟩ ⟨256 + c.val, by omega⟩) = s1.C d c
  N1 : ∀ (d : Fin 64) (c : Fin 128), S (ix3 0 ⟨64 + d.val, by omega⟩ ⟨384 + c.val, by omega⟩) = s1.N d
  Z1 : ∀ (d : Fin 64) (c : Fin 512), ¬c.val < 256 → S (ix3 0 ⟨d.val, by omega⟩ c) = 0

/-- A row of one number, a head's maximum. -/
def MaxOf (m : Vec Ideal S1x128 .f32) (s : Mem) : Prop := ∀ c : Fin 128, m (ix2 0 c) = s.M

/-- The values with their columns of ones, entry by entry. -/
theorem vext_apply (p : PairIn Ideal) (j : Fin 64) (c : Fin 512) :
    p.vext (ix2 j c) = if h : c.val < 128 then p.v0 (ix2 j ⟨c.val, h⟩)
      else if h : c.val - 128 < 128 then 1
      else if h : c.val - 128 - 128 < 128 then p.v1 (ix2 j ⟨c.val - 128 - 128, h⟩) else 1 := by
  unfold PairIn.vext
  pointwise [k0_pay2, k0_pay91]

variable {p : PairIn Ideal} {x0 x1 : Chunk} {s0 s1 : Mem} {m0 m1 : Vec Ideal S1x128 .f32} {S : Vec Ideal S1x128x512 .f32}

/-- The first head's next maximum. -/
theorem PairOf.max0 (h : PairOf p x0 x1) (hm : MaxOf m0 s0) : MaxOf (p.max0 m0) (x0.next s0) := by
  intro c
  unfold PairIn.max0
  pointwise [k0_pay17, k0_pay10]
  rw [fold_max, h.e0, hm, funext fun x => h.te0 x c]
  rfl

/-- The second head's next maximum. -/
theorem PairOf.max1 (h : PairOf p x0 x1) (hm : MaxOf m1 s1) : MaxOf (p.max1 m1) (x1.next s1) := by
  intro c
  unfold PairIn.max1
  pointwise [k0_pay19, k0_pay13, k0_pay12, k0_pay11]
  rw [fold_max, h.e1, hm, funext fun x => h.te1 x c]
  rfl

/-- The rows against the old memory, in two halves. -/
theorem inter_apply (q : Vec Ideal S64x128 .f32) (S : Vec Ideal S1x128x512 .f32) (i : Fin 64) (c : Fin 512) :
    k0_pay8 (F := Ideal) q S (ix2 i c) = ∑ d : Fin 64, q (ix2 i ⟨d.val, by omega⟩) * S (ix3 0 ⟨d.val, by omega⟩ c)
      + ∑ d : Fin 64, q (ix2 i ⟨64 + d.val, by omega⟩) * S (ix3 0 ⟨64 + d.val, by omega⟩ c) := by
  pointwise [k0_pay8, k0_pay7]
  exact sum_halves _

/-- The rows of the first head against its old memory. -/
theorem PairOf.inter0 (h : PairOf p x0 x1) (hS : MemOf S s0 s1) (i : Fin 64) (c : Fin 512) (hc : c.val < 256) :
    k0_pay8 (F := Ideal) p.q S (ix2 i c) = ∑ d : Fin 64, x0.q i d * S (ix3 0 ⟨d.val, by omega⟩ c) := by
  rw [inter_apply, Finset.sum_eq_zero (s := Finset.univ)
    (f := fun d : Fin 64 => p.q (ix2 i ⟨64 + d.val, by omega⟩) * S (ix3 0 ⟨64 + d.val, by omega⟩ c))
    fun d _ => by rw [hS.Z0 d c hc, mul_zero], add_zero]
  simp only [h.q0]

/-- The rows of the second head against its old memory. -/
theorem PairOf.inter1 (h : PairOf p x0 x1) (hS : MemOf S s0 s1) (i : Fin 64) (c : Fin 512) (hc : ¬c.val < 256) :
    k0_pay8 (F := Ideal) p.q S (ix2 i c) = ∑ d : Fin 64, x1.q i d * S (ix3 0 ⟨64 + d.val, by omega⟩ c) := by
  rw [inter_apply, Finset.sum_eq_zero (s := Finset.univ)
    (f := fun d : Fin 64 => p.q (ix2 i ⟨d.val, by omega⟩) * S (ix3 0 ⟨d.val, by omega⟩ c))
    fun d _ => by rw [hS.Z1 d c hc, mul_zero], zero_add]
  simp only [h.q1]

/-- A choice, spelled out. -/
theorem select_ite {α : Type} (b : BitVec 1) (x y : α) : Scalar.select b x y = if b = 1 then x else y := rfl

/-- A pair's products of the first head's queries and keys. -/
theorem PairOf.dot0 (h : PairOf p x0 x1) (i x : Fin 64) :
    (∑ y : Fin 128, Scalar.select (IntOp.cmpi .slt (BitVec.ofNat 32 y.val) 64#32) (p.q (ix2 i y) * p.k (ix2 x y)) 0)
      = x0.dot i x := by
  show _ = ∑ d : Fin 64, x0.q i d * x0.k x d
  refine (sum_halves _).trans ((congrArg₂ (· + ·) (Finset.sum_congr rfl fun d _ => ?_)
    (Finset.sum_eq_zero fun d _ => ?_)).trans (add_zero _))
  · rw [pick_lt _ _ (by dsimp only; omega) (by decide), if_pos d.isLt, h.q0, h.k0]
  · rw [pick_lt _ _ (by dsimp only; omega) (by decide), if_neg (by dsimp only; omega)]

/-- A pair's products of the second head's queries and keys. -/
theorem PairOf.dot1 (h : PairOf p x0 x1) (i x : Fin 64) :
    (∑ y : Fin 128, Scalar.select (IntOp.cmpi .slt (BitVec.ofNat 32 y.val) 64#32) 0 (p.q (ix2 i y) * p.k (ix2 x y)))
      = x1.dot i x := by
  show _ = ∑ d : Fin 64, x1.q i d * x1.k x d
  refine (sum_halves _).trans ((congrArg₂ (· + ·) (Finset.sum_eq_zero fun d _ => ?_)
    (Finset.sum_congr rfl fun d _ => ?_)).trans (zero_add _))
  · rw [pick_lt _ _ (by dsimp only; omega) (by decide), if_pos d.isLt]
  · rw [pick_lt _ _ (by dsimp only; omega) (by decide), if_neg (by dsimp only; omega), h.q1, h.k1]

/-- The sums inside the chunk: each half of the columns is one head's. -/
theorem PairOf.intra (h : PairOf p x0 x1) (h0 : MaxOf m0 s0) (h1 : MaxOf m1 s1) (i : Fin 64) (c : Fin 512) :
    p.intra m0 m1 (ix2 i c) = if c.val < 256 then ∑ j : Fin 64, x0.wm s0 i j * p.vext (ix2 j c)
      else ∑ j : Fin 64, x1.wm s1 i j * p.vext (ix2 j c) := by
  unfold PairIn.intra
  generalize p.vext = X
  pointwise [k0_pay9, k0_pay3, k0_pay4]
  simp only [h.dot0, h.dot1, h.cc0, h.cc1, h.cm0, h.cm1, h0 _, h1 _]
  by_cases hc : c.val < 256
  · rw [if_pos hc]
    refine (congrArg₂ (· + ·) (Finset.sum_congr rfl fun j _ => ?_) (Finset.sum_eq_zero fun j _ => ?_)).trans (add_zero _)
    · rw [select_ite, if_pos ((diag_iff _ _).2 (iff_of_true j.isLt hc)), select_ite]
      unfold Chunk.wm
      rw [ite_mul, zero_mul]
      refine if_congr ((incl_iff _ _).trans (by dsimp only; rw [Nat.mod_eq_of_lt j.isLt])) ?_ rfl
      rw [pick_lt _ _ (by omega) (by decide), if_pos j.isLt]
      rfl
    · rw [select_ite, if_neg fun e => ?_]
      have := ((diag_iff _ _).1 e).2 hc
      dsimp only at this; omega
  · rw [if_neg hc]
    refine (congrArg₂ (· + ·) (Finset.sum_eq_zero fun j _ => ?_) (Finset.sum_congr rfl fun j _ => ?_)).trans (zero_add _)
    · rw [select_ite, if_neg fun e => hc (((diag_iff _ _).1 e).1 j.isLt)]
    · rw [select_ite, if_pos ((diag_iff _ _).2 (iff_of_false (by dsimp only; omega) hc)), select_ite]
      unfold Chunk.wm
      rw [ite_mul, zero_mul]
      refine if_congr ((incl_iff _ _).trans (by dsimp only; rw [Nat.add_mod_left, Nat.mod_eq_of_lt j.isLt])) ?_ rfl
      rw [pick_lt _ _ (by omega) (by decide), if_neg (by omega)]
      rfl

/-- The first head's rows. -/
theorem PairOf.out0 (h : PairOf p x0 x1) (h0 : MaxOf m0 s0) (h1 : MaxOf m1 s1) (hS : MemOf S s0 s1) (i : Fin 64) (c : Fin 128) :
    p.out0 m0 m1 S (ix2 i c) = x0.out s0 i c := by
  unfold PairIn.out0
  have e := fun c => h.intra h0 h1 i c
  have f := fun c hc => h.inter0 hS i c hc
  generalize p.intra m0 m1 = I at e ⊢
  generalize k0_pay8 p.q S = J at f ⊢
  pointwise [k0_pay16, k0_pay15, k0_pay3, k0_pay5]
  rw [e, e, f _ (by dsimp only; omega), f _ (by dsimp only; omega), if_pos (by dsimp only; omega), if_pos (by dsimp only; omega)]
  have a1 : ¬128 + c.val < 128 := by omega
  have a2 : 128 + c.val - 128 < 128 := by omega
  simp only [vext_apply, h.v0, hS.C0, hS.N0, h.b0, h.cm0, h0 _, c.isLt, a1, a2, dite_true, dite_false, mul_one, zero_sub]
  rfl

/-- The second head's rows. -/
theorem PairOf.out1 (h : PairOf p x0 x1) (h0 : MaxOf m0 s0) (h1 : MaxOf m1 s1) (hS : MemOf S s0 s1) (i : Fin 64) (c : Fin 128) :
    p.out1 m0 m1 S (ix2 i c) = x1.out s1 i c := by
  unfold PairIn.out1
  have e := fun c => h.intra h0 h1 i c
  have f := fun c hc => h.inter1 hS i c hc
  generalize p.intra m0 m1 = I at e ⊢
  generalize k0_pay8 p.q S = J at f ⊢
  pointwise [k0_pay18, k0_pay4, k0_pay6]
  rw [e, e, f _ (by dsimp only; omega), f _ (by dsimp only; omega), if_neg (by dsimp only; omega), if_neg (by dsimp only; omega)]
  have a1 : ¬256 + c.val < 128 := by omega
  have a2 : ¬256 + c.val - 128 < 128 := by omega
  have a3 : 256 + c.val - 128 - 128 = c.val := by omega
  have a4 : ¬384 + c.val < 128 := by omega
  have a5 : ¬384 + c.val - 128 < 128 := by omega
  have a6 : ¬384 + c.val - 128 - 128 < 128 := by omega
  simp only [vext_apply, h.v1, hS.C1, hS.N1, h.b1, h.cm1, h1 _, a1, a2, a3, a4, a5, a6, c.isLt, dite_true, dite_false, mul_one, zero_sub]
  rfl

/-- The pair's next memory, entry by entry. -/
theorem PairOf.mem_apply (h : PairOf p x0 x1) (h0 : MaxOf m0 s0) (h1 : MaxOf m1 s1) (r : Fin 128) (c : Fin 512) :
    p.mem m0 m1 S (ix3 0 r c)
      = S (ix3 0 r c) * (if c.val < 256 then Ideal.exp (x0.b 63 + s0.M - x0.newM s0) else Ideal.exp (x1.b 63 + s1.M - x1.newM s1))
        + if (r.val < 64 ↔ c.val < 256) then
            ∑ j : Fin 64, p.k (ix2 j r) * Ideal.exp (if r.val < 64 then x0.te j - x0.newM s0 else x1.te j - x1.newM s1)
              * p.vext (ix2 j c)
          else 0 := by
  have e0 : ∀ c, k0_pay10 (F := Ideal) m0 p.te0 p.e0 (ix2 0 c) = x0.newM s0 := by
    have := h.max0 h0; unfold PairIn.max0 at this
    intro c; have := this c; revert this; generalize k0_pay10 m0 p.te0 p.e0 = X; pointwise [k0_pay17]; exact id
  have e1 : ∀ c, max (k0_pay11 (F := Ideal) m1 p.e1 (ix2 0 c)) (k0_pay12 (F := Ideal) p.te1 (ix1 c)) = x1.newM s1 := by
    have := h.max1 h1; unfold PairIn.max1 at this
    intro c; have := this c; revert this; generalize k0_pay11 m1 p.e1 = X; generalize k0_pay12 p.te1 = Y; pointwise [k0_pay19, k0_pay13]; exact id
  unfold PairIn.mem
  generalize p.vext = X
  generalize k0_pay10 m0 p.te0 p.e0 = Y at e0 ⊢
  generalize k0_pay11 m1 p.e1 = Z at e1 ⊢
  generalize k0_pay12 p.te1 = W at e1 ⊢
  pointwise [k0_pay14, k0_pay13, k0_pay7]
  simp only [e0, e1, h.e0, h.e1, h.te0, h.te1, h0 _, h1 _]
  refine congrArg₂ (· + ·) (congrArg _ ?_) ?_
  · split_ifs <;> first | rfl | (exfalso; omega)
  · rw [select_ite]
    refine if_congr (diag_iff r c) (Finset.sum_congr rfl fun j _ => ?_) rfl
    rw [pick_lt _ _ (by omega) (by decide), pick_lt _ _ (by omega) (by decide)]
    split_ifs <;> rfl

/-- The pair's next memory is its two heads' next memories. -/
theorem PairOf.mem (h : PairOf p x0 x1) (h0 : MaxOf m0 s0) (h1 : MaxOf m1 s1) (hS : MemOf S s0 s1) :
    MemOf (p.mem m0 m1 S) (x0.next s0) (x1.next s1) where
  C0 d c := by
    rw [h.mem_apply h0 h1, hS.C0, if_pos (by dsimp only; omega), if_pos (iff_of_true d.isLt (by dsimp only; omega))]
    simp only [if_pos d.isLt, h.k0, vext_apply, c.isLt, dite_true, h.v0]
    rfl
  N0 d c := by
    have a1 : ¬128 + c.val < 128 := by omega
    have a2 : 128 + c.val - 128 < 128 := by omega
    rw [h.mem_apply h0 h1, hS.N0, if_pos (by dsimp only; omega), if_pos (iff_of_true d.isLt (by dsimp only; omega))]
    simp only [if_pos d.isLt, h.k0, vext_apply, a1, a2, dite_true, dite_false, mul_one]
    rfl
  Z0 d c hc := by
    rw [h.mem_apply h0 h1, hS.Z0 d c hc, zero_mul, zero_add, if_neg fun e => by have := e.2 hc; dsimp only at this; omega]
  C1 d c := by
    have a1 : ¬256 + c.val < 128 := by omega
    have a2 : ¬256 + c.val - 128 < 128 := by omega
    have a3 : 256 + c.val - 128 - 128 = c.val := by omega
    have a4 : ¬64 + d.val < 64 := by omega
    rw [h.mem_apply h0 h1, hS.C1, if_neg (by dsimp only; omega), if_pos (iff_of_false (by dsimp only; omega) (by dsimp only; omega))]
    simp only [if_neg a4, h.k1, vext_apply, a1, a2, a3, c.isLt, dite_true, dite_false, h.v1]
    rfl
  N1 d c := by
    have a4 : ¬384 + c.val < 128 := by omega
    have a5 : ¬384 + c.val - 128 < 128 := by omega
    have a6 : ¬384 + c.val - 128 - 128 < 128 := by omega
    have a7 : ¬64 + d.val < 64 := by omega
    rw [h.mem_apply h0 h1, hS.N1, if_neg (by dsimp only; omega), if_pos (iff_of_false (by dsimp only; omega) (by dsimp only; omega))]
    simp only [if_neg a7, h.k1, vext_apply, a4, a5, a6, dite_false, mul_one]
    rfl
  Z1 d c hc := by
    rw [h.mem_apply h0 h1, hS.Z1 d c hc, zero_mul, zero_add, if_neg fun e => hc (e.1 d.isLt)]

end Cert.KernelMlstmIdeal.Hand

end
-- ==== Proof.MlstmArrays.lean ====
/-
  The matrix memory as one function of its eight arrays: the causal filter of width four over time, the gates, the chunks
  of 64 rows of each head, and the normalized and gated rows.

  Rows are batch-major: row `4096 * b + t` is time step `t` of batch `b`. Time is a natural number here.
-/
module

public import proofs.«01_k».proof.Proof.MlstmSpec

@[expose] public section

noncomputable section

namespace Cert.Mlstm

open Idealize.ShloMosaic

/-- An array's entry at time `t` of batch `b`. -/
def seq {n : ℕ} (A : FVec Ideal ⟨2, ![16384, n]⟩ .f32) (b : Fin 4) (t : ℕ) (j : Fin n) : EReal :=
  if h : t < 4096 then A (ix2 ⟨4096 * b.val + t, by omega⟩ j) else 0

/-- An entry at a time there is. -/
theorem seq_eq {n : ℕ} (A : FVec Ideal ⟨2, ![16384, n]⟩ .f32) (b : Fin 4) (t : ℕ) (h : t < 4096) (r : Fin 16384)
    (hr : r.val = 4096 * b.val + t) (j : Fin n) : seq A b t j = A (ix2 r j) := by
  unfold seq
  rw [dif_pos h, show r = ⟨4096 * b.val + t, by omega⟩ from Fin.ext hr]

/-- The eight arrays. -/
structure Arrays where
  P : FVec Ideal ⟨2, ![16384, 512]⟩ .f32
  V : FVec Ideal ⟨2, ![16384, 512]⟩ .f32
  O : FVec Ideal ⟨2, ![16384, 512]⟩ .f32
  G : FVec Ideal ⟨2, ![16384, 128]⟩ .f32
  W : FVec Ideal ⟨2, ![4, 512]⟩ .f32
  ib : Fin 4 → EReal
  fb : Fin 4 → EReal
  ng : Fin 128 → EReal

/-- The eight arrays as a program is given them. -/
def Arrays.of (p v o : FVec Ideal ⟨2, ![16384, 512]⟩ .f32) (g : FVec Ideal ⟨2, ![16384, 128]⟩ .f32)
    (w : FVec Ideal ⟨2, ![4, 512]⟩ .f32) (ib fb : FVec Ideal ⟨1, ![4]⟩ .f32) (ng : FVec Ideal ⟨1, ![128]⟩ .f32) : Arrays :=
  ⟨p, v, o, g, w, fun h => ib (ix1 h), fun h => fb (ix1 h), fun c => ng (ix1 c)⟩

/-- The logarithm of a decay is not positive. -/
theorem neg_spn_nonpos (x : EReal) : -(Lru.spn x) ≤ 0 := by
  have h := EReal.neg_le_neg_iff.2 (Lru.spn_nonneg x)
  rwa [neg_zero] at h

namespace Arrays

variable (a : Arrays)

/-- The rows `k` steps earlier, zero before the first step. -/
def back (k : ℕ) (b : Fin 4) (t : ℕ) (j : Fin 512) : EReal := if t < k then 0 else seq a.P b (t - k) j

/-- The causal filter of width four. -/
def conv (b : Fin 4) (t : ℕ) (j : Fin 512) : EReal :=
  seq a.P b t j * a.W (ix2 3 j) + a.back 1 b t j * a.W (ix2 2 j) + a.back 2 b t j * a.W (ix2 1 j)
    + a.back 3 b t j * a.W (ix2 0 j)

/-- The filtered rows through their gate. -/
def act (b : Fin 4) (t : ℕ) (j : Fin 512) : EReal := a.conv b t j * Lru.sigm (a.conv b t j)

/-- A head's input gate. -/
def gate (b : Fin 4) (t : ℕ) (h : Fin 4) : EReal := seq a.G b t ⟨8 + h.val, by omega⟩ + a.ib h

/-- The logarithm of a head's forget gate. -/
def logF (b : Fin 4) (t : ℕ) (h : Fin 4) : EReal := -(Lru.spn (seq a.G b t ⟨12 + h.val, by omega⟩ + a.fb h))

/-- A head's chunk `n` of 64 rows. -/
def chunk (b : Fin 4) (h : Fin 4) (n : ℕ) : Chunk where
  q i d := a.act b (64 * n + i.val) ⟨64 * h.val + d.val, by omega⟩ * Ideal.ofBits .f32 0x3E000000#32
  k i d := a.act b (64 * n + i.val) ⟨256 + 64 * h.val + d.val, by omega⟩
  v i c := seq a.V b (64 * n + i.val) ⟨128 * h.val + c.val, by omega⟩
  b i := ∑ j : Fin 64, if j.val ≤ i.val then a.logF b (64 * n + j.val) h else 0
  g i := a.gate b (64 * n + i.val) h

/-- A head's memory before chunk `n`. -/
def mem (b : Fin 4) (h : Fin 4) : ℕ → Mem
  | 0 => Mem.zero
  | n + 1 => (a.chunk b h n).next (mem b h n)

/-- A head's row at time `t`. -/
def row (b : Fin 4) (t : ℕ) (h : Fin 4) (c : Fin 128) : EReal :=
  (a.chunk b h (t / 64)).out (a.mem b h (t / 64)) ⟨t % 64, Nat.mod_lt _ (by decide)⟩ c

/-- The sum of squares of a head's row. -/
def squares (b : Fin 4) (t : ℕ) (h : Fin 4) : EReal := ∑ c : Fin 128, a.row b t h c * a.row b t h c

/-- A head's normalized row. -/
def normed (b : Fin 4) (t : ℕ) (h : Fin 4) (c : Fin 128) : EReal :=
  a.row b t h c * Ideal.rsqrt (Ideal.div (a.squares b t h) (Ideal.ofBits .f32 0x43000000#32) + Ideal.ofBits .f32 0x358637BD#32)
    * a.ng c

/-- The result at time `t` of batch `b`. -/
def outAt (b : Fin 4) (t : ℕ) (j : Fin 512) : EReal :=
  a.normed b t ⟨j.val / 128, by omega⟩ ⟨j.val % 128, Nat.mod_lt _ (by decide)⟩ * Lru.sigm (seq a.O b t j)

/-- The whole result. -/
def spec : FVec Ideal ⟨2, ![16384, 512]⟩ .bf16 := fun i =>
  a.outAt ⟨(i (0 : Fin 2)).val / 4096, Nat.div_lt_of_lt_mul (i (0 : Fin 2)).isLt⟩ ((i (0 : Fin 2)).val % 4096) (i (1 : Fin 2))

/-- What is asked of the arrays: finite numbers, except where an infinite one does no harm. -/
structure Good : Prop where
  P : ∀ i, IsReal (a.P i)
  V : ∀ i, IsReal (a.V i)
  W : ∀ i, IsReal (a.W i)
  ib : ∀ h, IsReal (a.ib h)
  G : ∀ (r : Fin 16384) (j : Fin 128), 8 ≤ j.val → j.val < 16 → IsReal (a.G (ix2 r j))

end Arrays

/-- An entry of a finite array is finite at every time. -/
theorem isReal_seq {n : ℕ} {A : FVec Ideal ⟨2, ![16384, n]⟩ .f32} {j : Fin n} (h : ∀ r, IsReal (A (ix2 r j)))
    (b : Fin 4) (t : ℕ) : IsReal (seq A b t j) := by
  unfold seq
  split
  · exact h _
  · exact isReal_zero

/-- The logistic function of a finite number is finite. -/
theorem isReal_sigm {x : EReal} (h : IsReal x) : IsReal (Lru.sigm x) := by
  refine isReal_div ⟨1, rfl⟩ (lt_of_lt_of_le zero_lt_one (le_add_of_nonneg_right (Lru.exp_nonneg _)))

/-- The word of one eighth. -/
theorem word_eighth : IsReal (Ideal.ofBits .f32 0x3E000000#32) := by
  refine ⟨1 / 8, ?_⟩
  simp [Ideal.ofBits, Ideal.ieee]
  rw [← EReal.coe_mul]
  norm_num

namespace Arrays

variable {a : Arrays}

/-- The filtered and gated rows are finite. -/
theorem Good.act (h : a.Good) (b : Fin 4) (t : ℕ) (j : Fin 512) : IsReal (a.act b t j) := by
  have hs : ∀ t, IsReal (seq a.P b t j) := fun t => isReal_seq (fun r => h.P _) b t
  have hb : ∀ k, IsReal (a.back k b t j) := fun k => by
    unfold back
    split
    · exact isReal_zero
    · exact hs _
  have hc : IsReal (a.conv b t j) :=
    ((((hs t).mul (h.W _)).add ((hb 1).mul (h.W _))).add ((hb 2).mul (h.W _))).add ((hb 3).mul (h.W _))
  exact hc.mul (isReal_sigm hc)

/-- Every chunk is as asked. -/
theorem Good.chunk (h : a.Good) (b : Fin 4) (hd : Fin 4) (n : ℕ) : (a.chunk b hd n).Good where
  q i d := (h.act _ _ _).mul word_eighth
  k i d := h.act _ _ _
  v i c := isReal_seq (fun r => h.V _) _ _
  g i := (isReal_seq (fun r => h.G r _ (by dsimp only; omega) (by dsimp only; omega)) _ _).add (h.ib _)
  b i := by
    refine ne_top_of_le_ne_top EReal.zero_ne_top (?_ : (∑ j : Fin 64, if j.val ≤ i.val then a.logF b (64 * n + j.val) hd else 0) ≤ 0)
    refine Finset.sum_nonpos fun j _ => ?_
    split
    · exact neg_spn_nonpos _
    · exact le_rfl
  mono i j hij := by
    show (∑ l : Fin 64, if l.val ≤ i.val then a.logF b (64 * n + l.val) hd else 0)
      ≤ ∑ l : Fin 64, if l.val ≤ j.val then a.logF b (64 * n + l.val) hd else 0
    refine Finset.sum_le_sum fun l _ => ?_
    by_cases hl : l.val ≤ j.val
    · rw [if_pos hl, if_pos (le_trans hl hij)]
    · rw [if_neg hl]
      split
      · exact neg_spn_nonpos _
      · exact le_rfl

/-- Every memory is as asked. -/
theorem Good.mem (h : a.Good) (b : Fin 4) (hd : Fin 4) (n : ℕ) : (a.mem b hd n).Good := by
  induction n with
  | zero => exact Mem.zero_good
  | succ n ih => exact (h.chunk b hd n).next_good ih

/-- Every row is finite. -/
theorem Good.row (h : a.Good) (b : Fin 4) (t : ℕ) (hd : Fin 4) (c : Fin 128) : IsReal (a.row b t hd c) :=
  (h.chunk b hd _).out_real (h.mem b hd _) _ _

end Arrays

end Cert.Mlstm

end
-- ==== Proof.MlstmScan.lean ====
/-
  The running maximum of 64 rows, by six doublings, and the shifted blocks of the filter.
-/
module

public import proofs.«01_k».proof.Proof.MlstmPair
public import proofs.«01_k».proof.Proof.MlstmArrays
public import Idealize.ShloMosaic.Lib.Tactic.CleanTypes

@[expose] public section

set_option maxRecDepth 16384

noncomputable section

namespace Cert.KernelMlstmIdeal.Hand

open Idealize.ShloMosaic Idealize.ShloMosaic.TcCoe Idealize.ShloMosaic.Tactic
open Cert.KernelMlstmIdeal.Gen Cert.Mlstm

/-- Rows of one number are rows. -/
theorem at_row {n m : ℕ} (x : FVec Ideal ⟨2, ![n, m]⟩ .f32) (c : Fin m) {p q : Fin n} (h : p.val = q.val) :
    x (ix2 p c) = x (ix2 q c) := by rw [Fin.ext h]

/-- Rows moved down, minus infinity above them. -/
def down (k : ℕ) (f : Fin 64 → EReal) (r : Fin 64) : EReal := if r.val < k then ⊥ else f ⟨r.val - k, by omega⟩

/-- The maximum over the last `k` rows. -/
def win (k : ℕ) (f : Fin 64 → EReal) (r : Fin 64) : EReal :=
  Finset.univ.sup fun j : Fin 64 => if j.val ≤ r.val ∧ r.val < j.val + k then f j else ⊥

/-- The maximum over one row is the row. -/
theorem win_one (f : Fin 64 → EReal) (r : Fin 64) : f r = win 1 f r := by
  refine le_antisymm ?_ (Finset.sup_le fun j _ => ?_)
  · have := Finset.le_sup (f := fun j : Fin 64 => if j.val ≤ r.val ∧ r.val < j.val + 1 then f j else ⊥) (Finset.mem_univ r)
    rwa [if_pos (by omega)] at this
  · split
    · rw [show j = r from Fin.ext (by omega)]
    · exact bot_le

/-- A doubling: the maxima over `k` rows, and those over the `k` rows before. -/
theorem win_double (k : ℕ) (f g : Fin 64 → EReal) (h : ∀ r, g r = win k f r) (r : Fin 64) :
    max (g r) (down k g r) = win (2 * k) f r := by
  have le : ∀ (j r' : Fin 64) , j.val ≤ r'.val → r'.val < j.val + k → f j ≤ g r' := fun j r' h1 h2 => by
    have := Finset.le_sup (f := fun j : Fin 64 => if j.val ≤ r'.val ∧ r'.val < j.val + k then f j else ⊥) (Finset.mem_univ j)
    rw [if_pos ⟨h1, h2⟩] at this
    rw [h]
    exact this
  have ge : ∀ (r' : Fin 64), r'.val ≤ r.val → r.val < r'.val + k + 1 → g r' ≤ win (2 * k) f r := fun r' h1 h2 => by
    rw [h]
    refine Finset.sup_mono_fun fun j _ => ?_
    split
    · rw [if_pos (by omega)]
    · exact bot_le
  refine le_antisymm (max_le ?_ ?_) (Finset.sup_le fun j _ => ?_)
  · exact ge r le_rfl (by omega)
  · unfold down
    split
    · exact bot_le
    · exact ge _ (by dsimp only; omega) (by dsimp only; omega)
  · split
    · rename_i hj
      by_cases hr : r.val < j.val + k
      · exact le_trans (le j r hj.1 hr) (le_max_left _ _)
      · refine le_trans ?_ (le_max_right _ _)
        unfold down
        rw [if_neg (by omega)]
        exact le j _ (by dsimp only; omega) (by dsimp only; omega)
    · exact bot_le

/-- A block moved down by a few rows through its first eight, minus infinity above. -/
def near (d : BitVec 32) (x : FVec Ideal S64x512 .f32) : FVec Ideal S64x512 .f32 :=
  concatenate S64x512 0 [⟨S8x512, select (cmpi .slt (iota .tc S8x512 32 [0] iota_S8x512_d0_w32) (broadcast S8x512 d))
      (broadcast S8x512 (Scalar.ofBits .f32 0xFF800000#32))
      (extractStridedSlice S8x512 ![0, 0] (dynamicRotate 0 d none x rotates_S64x512_d0) slices_S64x512_o0_0_S8x512)⟩,
    ⟨S56x512, extractStridedSlice S56x512 ![8, 0] (dynamicRotate 0 d none x rotates_S64x512_d0) slices_S64x512_o8_0_S56x512⟩]
    concatenates_S8x512_S56x512_S64x512_d0

/-- It reads the block moved down. -/
theorem near_apply (k : ℕ) (hk : k = 1 ∨ k = 2 ∨ k = 4) (x : FVec Ideal S64x512 .f32) (r : Fin 64) (c : Fin 512) :
    near (BitVec.ofNat 32 k) x (ix2 r c) = down k (fun r => x (ix2 r c)) r := by
  have e := fun (y z : EReal) => pick_lt r.val k (by omega) (by omega) y z
  have e' : ¬r.val < 8 → ¬r.val < k := by omega
  unfold down
  rcases hk with rfl | rfl | rfl
  all_goals
    pointwise [near]
    clean_types
    by_cases h8 : r.val < 8
    · simp only [dif_pos h8, e, word_bot]
      split_ifs with h
      · rfl
      · exact at_row x c (by dsimp only; omega)
    · simp only [dif_neg h8, if_neg (e' h8)]
      exact at_row x c (by dsimp only; omega)

/-- A block moved down by eight rows. -/
def far8 (x : FVec Ideal S64x512 .f32) : FVec Ideal S64x512 .f32 :=
  concatenate S64x512 0 [⟨S8x512, broadcast S8x512 (Scalar.ofBits .f32 0xFF800000#32)⟩,
    ⟨S56x512, extractStridedSlice S56x512 ![0, 0] x slices_S64x512_o0_0_S56x512⟩] concatenates_S8x512_S56x512_S64x512_d0

/-- A block moved down by sixteen rows. -/
def far16 (x : FVec Ideal S64x512 .f32) : FVec Ideal S64x512 .f32 :=
  concatenate S64x512 0 [⟨S16x512, broadcast S16x512 (Scalar.ofBits .f32 0xFF800000#32)⟩,
    ⟨S48x512, extractStridedSlice S48x512 ![0, 0] x slices_S64x512_o0_0_S48x512⟩] concatenates_S16x512_S48x512_S64x512_d0

/-- A block moved down by thirty-two rows. -/
def far32 (x : FVec Ideal S64x512 .f32) : FVec Ideal S64x512 .f32 :=
  concatenate S64x512 0 [⟨S32x512, broadcast S32x512 (Scalar.ofBits .f32 0xFF800000#32)⟩,
    ⟨S32x512, extractStridedSlice S32x512 ![0, 0] x slices_S64x512_o0_0_S32x512⟩] concatenates_S32x512_S32x512_S64x512_d0

/-- The far moves read the block moved down. -/
theorem far_apply (x : FVec Ideal S64x512 .f32) (r : Fin 64) (c : Fin 512) :
    far8 x (ix2 r c) = down 8 (fun r => x (ix2 r c)) r ∧ far16 x (ix2 r c) = down 16 (fun r => x (ix2 r c)) r
      ∧ far32 x (ix2 r c) = down 32 (fun r => x (ix2 r c)) r := by
  unfold down
  refine ⟨?_, ?_, ?_⟩
  all_goals
    pointwise [far8, far16, far32]
    clean_types
    split_ifs
    all_goals first | exact word_bot | exact at_row x c rfl

/-- The running maximum, doubling by doubling. -/
def cmax (x : FVec Ideal S64x512 .f32) : FVec Ideal S64x512 .f32 :=
  let x1 := maximumf x (near 1#32 x)
  let x2 := maximumf x1 (near 2#32 x1)
  let x3 := maximumf x2 (near 4#32 x2)
  let x4 := maximumf x3 (far8 x3)
  let x5 := maximumf x4 (far16 x4)
  maximumf x5 (far32 x5)

/-- The running maximum at a row is the maximum over the rows up to it. -/
theorem cmax_apply (x : FVec Ideal S64x512 .f32) (r : Fin 64) (c : Fin 512) :
    cmax x (ix2 r c) = Finset.univ.sup fun j : Fin 64 => if j.val ≤ r.val then x (ix2 j c) else ⊥ := by
  have step : ∀ (k : ℕ) (y z : FVec Ideal S64x512 .f32), (∀ r, y (ix2 r c) = win k (fun r => x (ix2 r c)) r)
      → (∀ r, z (ix2 r c) = down k (fun r => y (ix2 r c)) r)
      → ∀ r, maximumf y z (ix2 r c) = win (2 * k) (fun r => x (ix2 r c)) r := fun k y z hy hz r => by
    rw [← win_double k _ _ hy r, ← hz r]
    pointwise
  have s1 := step 1 x _ (fun r => win_one (fun r => x (ix2 r c)) r) (fun r => near_apply 1 (by decide) x r c)
  have s2 := step 2 _ _ s1 (fun r => near_apply 2 (by decide) _ r c)
  have s3 := step 4 _ _ s2 (fun r => near_apply 4 (by decide) _ r c)
  have s4 := step 8 _ _ s3 (fun r => (far_apply _ r c).1)
  have s5 := step 16 _ _ s4 (fun r => (far_apply _ r c).2.1)
  have s6 := step 32 _ _ s5 (fun r => (far_apply _ r c).2.2)
  refine (s6 r).trans ?_
  unfold win
  refine congrArg _ (funext fun j => if_congr ?_ rfl rfl)
  have := r.isLt
  constructor
  · exact fun h => h.1
  · exact fun h => ⟨h, by omega⟩

/-- A block moved down by a few rows, the rows above taken from the eight rows before the block. -/
def tap (d : BitVec 32) (x : FVec Ideal S256x512 .f32) (prev : FVec Ideal S8x512 .f32) : FVec Ideal S256x512 .f32 :=
  concatenate S256x512 0 [⟨S8x512, select (cmpi .slt (iota .tc S8x512 32 [0] iota_S8x512_d0_w32) (broadcast S8x512 d))
      (dynamicRotate 0 d none prev rotates_S8x512_d0)
      (extractStridedSlice S8x512 ![0, 0] (dynamicRotate 0 d none x rotates_S256x512_d0) slices_S256x512_o0_0_S8x512)⟩,
    ⟨S248x512, extractStridedSlice S248x512 ![8, 0] (dynamicRotate 0 d none x rotates_S256x512_d0)
      slices_S256x512_o8_0_S248x512⟩] concatenates_S8x512_S248x512_S256x512_d0

/-- The moved block at an entry. -/
theorem tap_apply (k : ℕ) (hk : k = 1 ∨ k = 2 ∨ k = 3) (x : FVec Ideal S256x512 .f32) (prev : FVec Ideal S8x512 .f32)
    (r : Fin 256) (c : Fin 512) :
    tap (BitVec.ofNat 32 k) x prev (ix2 r c)
      = if r.val < k then prev (ix2 ⟨(r.val + 8 - k) % 8, Nat.mod_lt _ (by decide)⟩ c) else x (ix2 ⟨r.val - k, by omega⟩ c) := by
  have e := fun (y z : EReal) => pick_lt r.val k (by omega) (by omega) y z
  have e' : ¬r.val < 8 → ¬r.val < k := by omega
  rcases hk with rfl | rfl | rfl
  all_goals
    pointwise [tap]
    clean_types
    by_cases h8 : r.val < 8
    · simp only [dif_pos h8, e]
      split_ifs with h
      · rfl
      · exact at_row x c (by dsimp only; omega)
    · simp only [dif_neg h8, if_neg (e' h8)]
      exact at_row x c (by dsimp only; omega)

end Cert.KernelMlstmIdeal.Hand

end
-- ==== Proof.MlstmPoint.lean ====
/-
  What a grid point of the matrix memory computes before and after its chunks, read at an entry: the filtered rows, the
  gates picked out of their columns, the sums of the log decays, the running maxima, and the normalized rows.
-/
module

public import proofs.«01_k».proof.Proof.MlstmScan

@[expose] public section

set_option maxRecDepth 16384

noncomputable section

namespace Cert.KernelMlstmIdeal.Hand

open Idealize.ShloMosaic Idealize.ShloMosaic.TcCoe Idealize.ShloMosaic.Tactic
open Cert.KernelMlstmIdeal.Gen Cert.Mlstm

/-- A lane's group of 128. -/
theorem group_word_fin : ∀ j : Fin 512,
    (Scalar.select
      (IntOp.andi
        (IntOp.cmpi .ne
          (IntOp.subi (BitVec.setWidth 32 (IntOp.cmpi .sgt (BitVec.ofNat 32 j.val) 0#32))
            (BitVec.setWidth 32 (IntOp.cmpi .slt (BitVec.ofNat 32 j.val) 0#32))) 1#32)
        (IntOp.cmpi .ne (IntOp.remsi .vector (BitVec.ofNat 32 j.val) 128#32) 0#32))
      (IntOp.subi (IntOp.divsi .vector (BitVec.ofNat 32 j.val) 128#32) 1#32)
      (IntOp.divsi .vector (BitVec.ofNat 32 j.val) 128#32)) = BitVec.ofNat 32 (j.val / 128) := by
  decide +kernel

/-- The same of a lane's number, the sign of the divisor written in any way. -/
theorem group_word (w : BitVec 32) (hw : w = 1#32) (n : ℕ) (hn : n < 512) :
    (Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32))) w)
        (IntOp.cmpi .ne (IntOp.remsi .vector (BitVec.ofNat 32 n) 128#32) 0#32))
      (IntOp.subi (IntOp.divsi .vector (BitVec.ofNat 32 n) 128#32) 1#32)
      (IntOp.divsi .vector (BitVec.ofNat 32 n) 128#32)) = BitVec.ofNat 32 (n / 128) := by
  subst hw
  exact group_word_fin ⟨n, hn⟩

/-- A truth value as a number. -/
theorem truth (b : BitVec 1) :
    (FloatOps.sitofp .f32 (BitVec.setWidth 32 b) : Ideal .f32) = if b = 1 then (1 : EReal) else 0 := by
  have h : b = 1 ∨ b = 0 := by revert b; decide
  rcases h with rfl | rfl
  · rw [if_pos rfl]
    show (((BitVec.setWidth 32 (1 : BitVec 1)).toInt : ℝ) : EReal) = 1
    rw [show (BitVec.setWidth 32 (1 : BitVec 1)).toInt = 1 from by decide]
    norm_num
  · rw [if_neg (by decide)]
    show (((BitVec.setWidth 32 (0 : BitVec 1)).toInt : ℝ) : EReal) = 0
    rw [show (BitVec.setWidth 32 (0 : BitVec 1)).toInt = 0 from by decide]
    norm_num

/-- Where the input gates' columns are. -/
theorem hit_8 : ∀ (x : Fin 128) (g : Fin 4),
    IntOp.cmpi .eq (IntOp.subi (BitVec.ofNat 32 x.val) 8#32) (BitVec.ofNat 32 g.val) = 1 ↔ x.val = 8 + g.val := by
  decide +kernel

/-- Where the forget gates' columns are. -/
theorem hit_12 : ∀ (x : Fin 128) (g : Fin 4),
    IntOp.cmpi .eq (IntOp.subi (BitVec.ofNat 32 x.val) 12#32) (BitVec.ofNat 32 g.val) = 1 ↔ x.val = 12 + g.val := by
  decide +kernel

/-- A product with a matrix that has one 1 in a column, done as a value and a remainder of nothing. -/
theorem pick_sum (f : Fin 128 → EReal) (hf : ∀ x : Fin 128, 8 ≤ x.val → x.val < 16 → IsReal (f x)) (n : Fin 128)
    (hn : 8 ≤ n.val ∧ n.val < 16) (P : Fin 128 → Prop) [DecidablePred P] (hP : ∀ x, P x ↔ x.val = n.val) :
    ∑ x, f x * (if P x then 1 else 0) + ∑ x, (f x - f x) * (if P x then 1 else 0) = f n := by
  have h1 : ∑ x, f x * (if P x then 1 else 0) = f n := by
    rw [Finset.sum_eq_single n (fun x _ hx => by rw [if_neg fun h => hx (Fin.ext ((hP x).1 h)), mul_zero]) (fun h => absurd (Finset.mem_univ n) h),
      if_pos ((hP n).2 rfl), mul_one]
  have h2 : ∑ x, (f x - f x) * (if P x then 1 else 0) = 0 := Finset.sum_eq_zero fun x _ => by
    by_cases h : P x
    · rw [(hf x (by rw [(hP x).1 h]; exact hn.1) (by rw [(hP x).1 h]; exact hn.2)).sub_self, zero_mul]
    · rw [if_neg h, mul_zero]
  rw [h1, h2, add_zero]

variable (p : PointIn Ideal) (prev : Vec Ideal S8x512 .f32)

/-- The input gates at an entry. -/
theorem iGate_apply (hg : ∀ (r : Fin 256) (x : Fin 128), 8 ≤ x.val → x.val < 16 → IsReal (p.gates (ix2 r x)))
    (r : Fin 256) (j : Fin 512) :
    p.iGate (ix2 r j) = p.gates (ix2 r ⟨8 + j.val / 128, by omega⟩) + p.ib (ix2 0 j) := by
  unfold PointIn.iGate
  pointwise [k0_pay56, k0_pay52, k0_pay53, k0_pay54, k0_pay55]
  rw [group_word _ ?_ j.val j.isLt]
  simp only [truth]
  refine congrArg (· + p.ib (ix2 0 j)) ?_
  exact pick_sum (fun x => p.gates (ix2 r x)) (hg r) ⟨8 + j.val / 128, by omega⟩ (by dsimp only; omega) _
    (fun x => hit_8 x ⟨j.val / 128, by omega⟩)
  decide

/-- The logarithms of the forget gates at an entry. -/
theorem logF_apply (hg : ∀ (r : Fin 256) (x : Fin 128), 8 ≤ x.val → x.val < 16 → IsReal (p.gates (ix2 r x)))
    (r : Fin 256) (j : Fin 512) :
    p.logF (ix2 r j) = -(Lru.spn (p.gates (ix2 r ⟨12 + j.val / 128, by omega⟩) + p.fb (ix2 0 j))) := by
  unfold PointIn.logF
  pointwise [k0_pay60, k0_pay57, k0_pay58, k0_pay59]
  rw [group_word _ ?_ j.val j.isLt]
  simp only [truth]
  rw [show ∀ s t : EReal, s = t → (0 : EReal) - (max (0 - s) 0 + Ideal.log1p (Ideal.exp (0 - FloatOps.absf (F := Ideal) (φ := .f32) (0 - s))))
    = -(Lru.spn t) from fun s t h => by rw [h, zero_sub, zero_sub, zero_sub]; rfl]
  refine congrArg (· + p.fb (ix2 0 j)) ?_
  exact pick_sum (fun x => p.gates (ix2 r x)) (hg r) ⟨12 + j.val / 128, by omega⟩ (by dsimp only; omega) _
    (fun x => hit_12 x ⟨j.val / 128, by omega⟩)
  decide

/-- The matrix of ones. -/
theorem ones_apply (i j : Fin 128) :
    k0_pay97 (F := Ideal) k0_pay94 (iota .tc S128x128 32 [1] iota_S128x128_d1_w32) 128#32 k0_pay95 k0_pay96 (ix2 i j) = 1 := by
  pointwise [k0_pay97, k0_pay94, k0_pay95, k0_pay96]
  rw [group_word _ ?_ i.val (by omega), group_word _ ?_ j.val (by omega), truth, if_pos]
  · rw [Nat.div_eq_of_lt i.isLt, Nat.div_eq_of_lt j.isLt]
    decide
  all_goals decide

/-- The triangle of ones. -/
theorem tri_apply (i j : Fin 64) : k0_pay61 (F := Ideal) (ix2 i j) = if j.val ≤ i.val then 1 else 0 := by
  pointwise [k0_pay61]
  rw [truth]
  exact if_congr (WordCmp.cmpi_sge_ofNat_eq_one_iff (w := 32) (by omega) (by omega)) rfl rfl

/-- The sum of the log decays of a chunk up to a row. -/
def PointIn.sumF (k : ℕ) (hk : k < 4) (i : Fin 64) (j : Fin 512) : EReal :=
  ∑ l : Fin 64, if l.val ≤ i.val then p.logF (ix2 ⟨64 * k + l.val, by omega⟩ j) else 0

/-- A row of a triangle times a column. -/
theorem tri_sum (i : Fin 64) (f : Fin 64 → EReal) :
    ∑ l : Fin 64, k0_pay61 (F := Ideal) (ix2 i l) * f l = ∑ l : Fin 64, if l.val ≤ i.val then f l else 0 :=
  Finset.sum_congr rfl fun l _ => by rw [tri_apply, ite_mul, one_mul, zero_mul]

/-- The first chunk's sums. -/
theorem firstSums_apply (i : Fin 64) (j : Fin 512) : p.firstSums (ix2 i j) = p.sumF 0 (by decide) i j := by
  have e : p.firstSums = matmul dot_S64x64_S64x512_S64x512_1_0_0_1_n_n (some .fp32) (k0_pay61 (F := Ideal))
    (extractStridedSlice S64x512 ![0, 0] p.logF slices_S256x512_o0_0_S64x512) (constant S64x512 .f32 0x00000000#32) := rfl
  rw [e]
  unfold PointIn.sumF
  have t := tri_sum i
  generalize k0_pay61 (F := Ideal) = T at t ⊢
  generalize p.logF = L
  pointwise
  exact t _

/-- The sums of the log decays at an entry. -/
theorem sums_apply (k : ℕ) (hk : k < 4) (i : Fin 64) (j : Fin 512) :
    k0_pay66 p.logF k0_pay61 p.firstSums (ix2 ⟨64 * k + i.val, by omega⟩ j) = p.sumF k hk i j := by
  have z := firstSums_apply p
  unfold PointIn.sumF at z ⊢
  generalize p.firstSums = Z at z ⊢
  generalize p.logF = L at z ⊢
  have t := tri_sum
  generalize k0_pay61 (F := Ideal) = T at t ⊢
  pointwise [k0_pay66, k0_pay63, k0_pay64, k0_pay65]
  interval_cases k
  · rw [dif_pos (by omega)]
    refine Eq.trans ?_ (z i j)
    exact at_row Z j (by dsimp only; omega)
  · rw [dif_neg (by omega), dif_pos (by omega), t]
    exact Finset.sum_congr rfl fun l _ => if_congr (by dsimp only; rw [show 64 * 1 + i.val - 64 = i.val by omega]) (at_row L j (by dsimp only)) rfl
  · rw [dif_neg (by omega), dif_neg (by omega), dif_pos (by omega), t]
    exact Finset.sum_congr rfl fun l _ => if_congr (by dsimp only; rw [show 64 * 2 + i.val - 64 - 64 = i.val by omega]) (at_row L j (by dsimp only)) rfl
  · rw [dif_neg (by omega), dif_neg (by omega), dif_neg (by omega), t]
    exact Finset.sum_congr rfl fun l _ => if_congr (by dsimp only; rw [show 64 * 3 + i.val - 64 - 64 - 64 = i.val by omega]) (at_row L j (by dsimp only)) rfl

/-- The decay of a whole chunk at any of its rows. -/
theorem ends_apply (k : ℕ) (hk : k < 4) (i : Fin 64) (j : Fin 512) :
    p.ends (ix2 ⟨64 * k + i.val, by omega⟩ j) = p.sumF k hk 63 j := by
  have z := firstSums_apply p
  unfold PointIn.ends PointIn.sumF at *
  generalize p.firstSums = Z at z ⊢
  generalize p.logF = L at z ⊢
  have t := tri_sum 63
  generalize k0_pay61 (F := Ideal) = T at t ⊢
  pointwise [k0_pay67, k0_pay63, k0_pay64, k0_pay65]
  interval_cases k
  · rw [dif_pos (by omega)]
    exact z 63 j
  · rw [dif_neg (by omega), dif_pos (by omega), t]
    rfl
  · rw [dif_neg (by omega), dif_neg (by omega), dif_pos (by omega), t]
    rfl
  · rw [dif_neg (by omega), dif_neg (by omega), dif_neg (by omega), t]
    rfl

/-- The word of 1/128 against a division by 128. -/
theorem mean_word (x : EReal) :
    x * Ideal.ofBits .f32 0x3C000000#32 = Ideal.div x (Ideal.ofBits .f32 0x43000000#32) := by
  have e1 : Ideal.ofBits .f32 0x3C000000#32 = ((1 / 128 : ℝ) : EReal) := by
    simp [Ideal.ofBits, Ideal.ieee]
    rw [← EReal.coe_mul]
    norm_num
  have e2 : Ideal.ofBits .f32 0x43000000#32 = ((128 : ℝ) : EReal) := by
    simp [Ideal.ofBits, Ideal.ieee]
    rw [← EReal.coe_mul]
    norm_num
  have h : ((128 : ℝ) : EReal) ≠ 0 := by
    intro h
    have := EReal.coe_eq_zero.mp h
    norm_num at this
  rw [e1, e2]
  unfold Ideal.div
  rw [if_neg h, ← EReal.coe_inv]
  norm_num

/-- A sum of squares through the matrix of ones, done as a value and a remainder of nothing. -/
theorem squares_sum (f : Fin 128 → EReal) (hf : ∀ x, IsReal (f x)) (E : Fin 128 → EReal) (hE : ∀ x, E x = 1) :
    ∑ x, f x * f x * E x + ∑ x, (f x * f x - f x * f x) * E x = ∑ x, f x * f x := by
  rw [Finset.sum_congr rfl fun x _ => by rw [hE, mul_one],
    Finset.sum_eq_zero (f := fun x => (f x * f x - f x * f x) * E x) fun x _ => by rw [((hf x).mul (hf x)).sub_self, zero_mul], add_zero]

/-- The block written back at an entry. -/
theorem out_apply (h : Vec Ideal S256x512 .f32) (hh : ∀ r j, IsReal (h (ix2 r j))) (r : Fin 256) (j : Fin 512) :
    p.out h (ix2 r j) = h (ix2 r j) * Ideal.rsqrt (Ideal.div (∑ c : Fin 128, h (ix2 r ⟨128 * (j.val / 128) + c.val, by omega⟩)
        * h (ix2 r ⟨128 * (j.val / 128) + c.val, by omega⟩)) (Ideal.ofBits .f32 0x43000000#32) + Ideal.ofBits .f32 0x358637BD#32)
      * p.n (ix2 0 j) * Lru.sigm (p.o (ix2 r j)) := by
  have e := ones_apply
  unfold PointIn.out k0_pay100 k0_pay101
  generalize k0_pay97 (F := Ideal) k0_pay94 (iota .tc S128x128 32 [1] iota_S128x128_d1_w32) 128#32 k0_pay95 k0_pay96 = E at e ⊢
  pointwise [k0_pay1, k0_pay98, k0_pay99, k0_pay104, k0_pay103, k0_pay102]
  have key : ∀ n : ℕ, n = 128 * (j.val / 128) → ∀ (hn : ∀ x : Fin 128, n + x.val < 512), ∀ G : Fin 128 → EReal, (∀ x, G x = 1) →
      ∑ x : Fin 128, h (ix2 r ⟨n + x.val, hn x⟩) * h (ix2 r ⟨n + x.val, hn x⟩) * G x
        + ∑ x : Fin 128, (h (ix2 r ⟨n + x.val, hn x⟩) * h (ix2 r ⟨n + x.val, hn x⟩)
          - h (ix2 r ⟨n + x.val, hn x⟩) * h (ix2 r ⟨n + x.val, hn x⟩)) * G x
      = ∑ c : Fin 128, h (ix2 r ⟨128 * (j.val / 128) + c.val, by omega⟩) * h (ix2 r ⟨128 * (j.val / 128) + c.val, by omega⟩) := by
    intro n hn hb G hG
    subst hn
    exact squares_sum _ (fun x => hh _ _) G hG
  rw [zero_sub, mean_word]
  refine congrArg (fun s => h (ix2 r j) * Ideal.rsqrt (Ideal.div s (Ideal.ofBits .f32 0x43000000#32)
    + Ideal.ofBits .f32 0x358637BD#32) * p.n (ix2 0 j) * Ideal.div 1 (1 + Ideal.exp (-(p.o (ix2 r j))))) ?_
  have hj := j.isLt
  by_cases h1 : j.val < 128
  · rw [dif_pos h1]
    refine Eq.trans ?_ (key 0 (by omega) (fun x => by omega) _ (fun x => e x ⟨j.val, h1⟩))
    simp only [Nat.zero_add]
  · rw [dif_neg h1]
    by_cases h2 : j.val - 128 < 128
    · rw [dif_pos h2]
      exact key 128 (by omega) (fun x => by omega) _ (fun x => e x ⟨j.val - 128, h2⟩)
    · rw [dif_neg h2]
      by_cases h3 : j.val - 128 - 128 < 128
      · rw [dif_pos h3]
        exact key 256 (by omega) (fun x => by omega) _ (fun x => e x ⟨j.val - 128 - 128, h3⟩)
      · rw [dif_neg h3]
        exact key 384 (by omega) (fun x => by omega) _ (fun x => e x ⟨j.val - 128 - 128 - 128, by omega⟩)

/-- The filtered rows of a point at an entry. -/
def PointIn.filt (r : Fin 256) (j : Fin 512) : EReal :=
  p.u (ix2 r j) * p.w (ix2 3 j) + tap 1#32 p.u prev (ix2 r j) * p.w (ix2 2 j) + tap 2#32 p.u prev (ix2 r j) * p.w (ix2 1 j)
    + tap 3#32 p.u prev (ix2 r j) * p.w (ix2 0 j)

/-- The filtered and gated rows of a point. -/
theorem act_apply (r : Fin 256) (j : Fin 512) :
    k0_pay48 p.w (k0_pay44 p.u prev p.w) (k0_pay45 p.u) (k0_pay46 prev) k0_pay47 (ix2 r j)
      = p.filt prev r j * Lru.sigm (p.filt prev r j) := by
  have e1 : k0_pay44 p.u prev p.w = addf (addf (mulf p.u (broadcastTo S256x512 (extractStridedSlice S1x512 ![3, 0] p.w
      slices_S4x512_o3_0_S1x512) broadcasts_S1x512_S256x512))
      (mulf (tap 1#32 p.u prev) (broadcastTo S256x512 (extractStridedSlice S1x512 ![2, 0] p.w
      slices_S4x512_o2_0_S1x512) broadcasts_S1x512_S256x512)))
      (mulf (tap 2#32 p.u prev) (broadcastTo S256x512 (extractStridedSlice S1x512 ![1, 0] p.w
      slices_S4x512_o1_0_S1x512) broadcasts_S1x512_S256x512)) := rfl
  have e2 : ∀ A : FVec Ideal S256x512 .f32, k0_pay48 p.w A (k0_pay45 p.u) (k0_pay46 prev) k0_pay47
    = (fun B : FVec Ideal S256x512 .f32 => mulf B (divf (broadcast S256x512 (Scalar.ofBits .f32 0x3F800000#32))
        (addf (broadcast S256x512 (Scalar.ofBits .f32 0x3F800000#32)) (exp (subf (broadcast S256x512 (Scalar.ofBits .f32 0x00000000#32)) B)))))
      (addf A (mulf (tap 3#32 p.u prev) (broadcastTo S256x512 (extractStridedSlice S1x512 ![0, 0] p.w
      slices_S4x512_o0_0_S1x512) broadcasts_S1x512_S256x512))) := fun A => rfl
  rw [e2, e1]
  unfold PointIn.filt
  generalize tap 1#32 p.u prev = t1
  generalize tap 2#32 p.u prev = t2
  generalize tap 3#32 p.u prev = t3
  dsimp only
  pointwise
  rw [zero_sub]
  rfl

/-- The queries of a point. -/
theorem queries_apply (r : Fin 256) (j : Fin 256) : (p.block prev).q (ix2 r j)
    = p.filt prev r ⟨j.val, by omega⟩ * Lru.sigm (p.filt prev r ⟨j.val, by omega⟩) * Ideal.ofBits .f32 0x3E000000#32 := by
  rw [← act_apply]
  unfold PointIn.block
  dsimp only
  unfold k0_pay50
  generalize k0_pay48 p.w (k0_pay44 p.u prev p.w) (k0_pay45 p.u) (k0_pay46 prev) k0_pay47 = A
  pointwise

/-- The keys of a point. -/
theorem keys_apply (r : Fin 256) (j : Fin 256) : (p.block prev).k (ix2 r j)
    = p.filt prev r ⟨256 + j.val, by omega⟩ * Lru.sigm (p.filt prev r ⟨256 + j.val, by omega⟩) := by
  rw [← act_apply]
  unfold PointIn.block
  dsimp only
  unfold k0_pay51
  generalize k0_pay48 p.w (k0_pay44 p.u prev p.w) (k0_pay45 p.u) (k0_pay46 prev) k0_pay47 = A
  pointwise

/-- The decay sums of a point. -/
theorem block_b (k : ℕ) (hk : k < 4) (i : Fin 64) (j : Fin 512) :
    (p.block prev).b (ix2 ⟨64 * k + i.val, by omega⟩ j) = p.sumF k hk i j := by
  rw [← sums_apply]
  unfold PointIn.block k0_pay69
  dsimp only
  generalize k0_pay66 p.logF k0_pay61 p.firstSums = A
  pointwise

/-- The gate differences of a point. -/
theorem diff_apply (k : ℕ) (hk : k < 4) (i : Fin 64) (j : Fin 512) :
    p.diff (ix2 ⟨64 * k + i.val, by omega⟩ j) = p.iGate (ix2 ⟨64 * k + i.val, by omega⟩ j) - p.sumF k hk i j := by
  rw [← sums_apply]
  unfold PointIn.diff k0_pay68
  generalize k0_pay66 p.logF k0_pay61 p.firstSums = A
  pointwise

/-- The gate differences as they are stored. -/
theorem block_cc (r : Fin 256) (j : Fin 512) : (p.block prev).cc (ix2 r j) = p.diff (ix2 r j) := by
  unfold PointIn.block PointIn.diff k0_pay70
  dsimp only
  generalize k0_pay68 p.iGate p.logF k0_pay61 p.firstSums = A
  pointwise

/-- The whole decays as they are stored. -/
theorem block_be (r : Fin 256) (j : Fin 512) : (p.block prev).be (ix2 r j) = p.ends (ix2 r j) := by
  unfold PointIn.block
  dsimp only
  generalize p.ends = A
  pointwise [k0_pay87]

/-- The gates seen from the chunk's end. -/
theorem block_te (r : Fin 256) (j : Fin 512) : (p.block prev).te (ix2 r j) = p.ends (ix2 r j) + p.diff (ix2 r j) := by
  unfold PointIn.block
  dsimp only
  generalize p.ends = A
  generalize p.diff = B
  pointwise [k0_pay86]

/-- The running maxima of a point. -/
theorem block_cm (k : ℕ) (hk : k < 4) (i : Fin 64) (j : Fin 512) :
    (p.block prev).cm (ix2 ⟨64 * k + i.val, by omega⟩ j)
      = Finset.univ.sup fun l : Fin 64 => if l.val ≤ i.val then p.diff (ix2 ⟨64 * k + l.val, by omega⟩ j) else ⊥ := by
  have e : (p.block prev).cm = shapeCast S256x512 (concatenate S256x512 0
      [⟨S64x512, cmax (extractStridedSlice S64x512 ![0, 0] p.diff slices_S256x512_o0_0_S64x512)⟩,
        ⟨S64x512, cmax (extractStridedSlice S64x512 ![64, 0] p.diff slices_S256x512_o64_0_S64x512)⟩,
        ⟨S64x512, cmax (extractStridedSlice S64x512 ![128, 0] p.diff slices_S256x512_o128_0_S64x512)⟩,
        ⟨S64x512, cmax (extractStridedSlice S64x512 ![192, 0] p.diff slices_S256x512_o192_0_S64x512)⟩]
      concatenates_S64x512_S64x512_S64x512_S64x512_S256x512_d0) shapeCasts_S256x512_S256x512 := rfl
  rw [e]
  have a0 := fun i => cmax_apply (extractStridedSlice S64x512 ![0, 0] p.diff slices_S256x512_o0_0_S64x512) i j
  have a1 := fun i => cmax_apply (extractStridedSlice S64x512 ![64, 0] p.diff slices_S256x512_o64_0_S64x512) i j
  have a2 := fun i => cmax_apply (extractStridedSlice S64x512 ![128, 0] p.diff slices_S256x512_o128_0_S64x512) i j
  have a3 := fun i => cmax_apply (extractStridedSlice S64x512 ![192, 0] p.diff slices_S256x512_o192_0_S64x512) i j
  generalize cmax (extractStridedSlice S64x512 ![0, 0] p.diff slices_S256x512_o0_0_S64x512) = B0 at a0 ⊢
  generalize cmax (extractStridedSlice S64x512 ![64, 0] p.diff slices_S256x512_o64_0_S64x512) = B1 at a1 ⊢
  generalize cmax (extractStridedSlice S64x512 ![128, 0] p.diff slices_S256x512_o128_0_S64x512) = B2 at a2 ⊢
  generalize cmax (extractStridedSlice S64x512 ![192, 0] p.diff slices_S256x512_o192_0_S64x512) = B3 at a3 ⊢
  generalize p.diff = D at a0 a1 a2 a3 ⊢
  pointwise at a0 a1 a2 a3
  pointwise
  interval_cases k
  · rw [dif_pos (by omega), a0]
    exact congrArg _ (funext fun l => if_congr (by dsimp only; omega) (at_row D j (by dsimp only; omega)) rfl)
  · rw [dif_neg (by omega), dif_pos (by omega), a1]
    exact congrArg _ (funext fun l => if_congr (by dsimp only; omega) (at_row D j (by dsimp only)) rfl)
  · rw [dif_neg (by omega), dif_neg (by omega), dif_pos (by omega), a2]
    exact congrArg _ (funext fun l => if_congr (by dsimp only; omega) (at_row D j (by dsimp only)) rfl)
  · rw [dif_neg (by omega), dif_neg (by omega), dif_neg (by omega), a3]
    exact congrArg _ (funext fun l => if_congr (by dsimp only; omega) (at_row D j (by dsimp only)) rfl)

end Cert.KernelMlstmIdeal.Hand

end
-- ==== Proof.MlstmRun.lean ====
/-
  The four chunks of a grid point: with buffers that hold each head's chunks, the rows written are each head's rows and
  the memory carried on is each head's memory. Then a grid point of a sequence, from the arrays it is given.
-/
module

public import proofs.«01_k».proof.Proof.MlstmPoint
public import proofs.«01_k».proof.Proof.MlstmFrame
public import Idealize.ShloMosaic.Lib.VecWindow

@[expose] public section

set_option maxRecDepth 16384

noncomputable section

namespace Cert.KernelMlstmIdeal.Hand

open Idealize.ShloMosaic Idealize.ShloMosaic.TcCoe Idealize.ShloMosaic.Tactic
open Cert.KernelMlstmIdeal.Gen Cert.Mlstm

/-- The queries' and keys' first columns of a chunk's rows. -/
theorem off1_eq : ∀ k : Fin k0_t1_loop.trips, k0_off1 k = ![64 * k.val, 0] := by decide
/-- The queries' and keys' last columns of a chunk's rows. -/
theorem off6_eq : ∀ k : Fin k0_t1_loop.trips, k0_off6 k = ![64 * k.val, 128] := by decide
/-- The first head's columns of a chunk's first row. -/
theorem off4_eq : ∀ k : Fin k0_t1_loop.trips, k0_off4 k = ![64 * k.val, 0] := by decide
/-- The second head's columns of a chunk's first row. -/
theorem off5_eq : ∀ k : Fin k0_t1_loop.trips, k0_off5 k = ![64 * k.val, 128] := by decide
/-- The third head's columns of a chunk's first row. -/
theorem off9_eq : ∀ k : Fin k0_t1_loop.trips, k0_off9 k = ![64 * k.val, 256] := by decide
/-- The last head's columns of a chunk's first row. -/
theorem off10_eq : ∀ k : Fin k0_t1_loop.trips, k0_off10 k = ![64 * k.val, 384] := by decide

/-- An entry of a window of a matrix. -/
theorem ld_of {R C R' C' : ℕ} (x : Vec Ideal ⟨2, ![R, C]⟩ .f32) {off : Fin 2 → ℕ} {r0 c0 : ℕ} (e : off = ![r0, c0])
    (inb : ∀ a, off a + (⟨2, ![R', C']⟩ : Shape).size a ≤ (⟨2, ![R, C]⟩ : Shape).size a) (i : Fin R') (j : Fin C')
    {r : Fin R} {c : Fin C} {y : EReal} (h : x (ix2 r c) = y) (hr : r.val = r0 + i.val) (hc : c.val = c0 + j.val) :
    View.ld x (Rect.unit (s := ⟨2, ![R, C]⟩) off (⟨2, ![R', C']⟩ : Shape).size inb) (ix2 i j) = y := by
  subst e
  rw [← h]
  refine congrArg x (funext fun a => Fin.ext ?_)
  match a with
  | ⟨0, _⟩ => show r0 + 1 * i.val = r.val; omega
  | ⟨1, _⟩ => show c0 + 1 * j.val = c.val; omega

/-- The buffers hold each head's chunks. -/
structure BlockOf (x : BlockIn Ideal) (X : Fin 4 → ℕ → Chunk) : Prop where
  q : ∀ (k : ℕ) (hk : k < 4) (h : ℕ) (hh : h < 4) (i d : Fin 64),
    x.q (ix2 ⟨64 * k + i.val, by omega⟩ ⟨64 * h + d.val, by omega⟩) = (X ⟨h, hh⟩ k).q i d
  k : ∀ (k : ℕ) (hk : k < 4) (h : ℕ) (hh : h < 4) (i d : Fin 64),
    x.k (ix2 ⟨64 * k + i.val, by omega⟩ ⟨64 * h + d.val, by omega⟩) = (X ⟨h, hh⟩ k).k i d
  v : ∀ (k : ℕ) (hk : k < 4) (h : ℕ) (hh : h < 4) (i : Fin 64) (c : Fin 128),
    x.v (ix2 ⟨64 * k + i.val, by omega⟩ ⟨128 * h + c.val, by omega⟩) = (X ⟨h, hh⟩ k).v i c
  b : ∀ (k : ℕ) (hk : k < 4) (h : ℕ) (hh : h < 4) (i : Fin 64) (c : Fin 128),
    x.b (ix2 ⟨64 * k + i.val, by omega⟩ ⟨128 * h + c.val, by omega⟩) = (X ⟨h, hh⟩ k).b i
  be : ∀ (k : ℕ) (hk : k < 4) (h : ℕ) (hh : h < 4) (i : Fin 64) (c : Fin 128),
    x.be (ix2 ⟨64 * k + i.val, by omega⟩ ⟨128 * h + c.val, by omega⟩) = (X ⟨h, hh⟩ k).b 63
  cm : ∀ (k : ℕ) (hk : k < 4) (h : ℕ) (hh : h < 4) (i : Fin 64) (c : Fin 128),
    x.cm (ix2 ⟨64 * k + i.val, by omega⟩ ⟨128 * h + c.val, by omega⟩) = (X ⟨h, hh⟩ k).top i
  cc : ∀ (k : ℕ) (hk : k < 4) (h : ℕ) (hh : h < 4) (i : Fin 64) (c : Fin 128),
    x.cc (ix2 ⟨64 * k + i.val, by omega⟩ ⟨128 * h + c.val, by omega⟩) = (X ⟨h, hh⟩ k).cc i
  te : ∀ (k : ℕ) (hk : k < 4) (h : ℕ) (hh : h < 4) (i : Fin 64) (c : Fin 128),
    x.te (ix2 ⟨64 * k + i.val, by omega⟩ ⟨128 * h + c.val, by omega⟩) = (X ⟨h, hh⟩ k).te i

/-- There are four chunks. -/
theorem trips_eq : k0_t1_loop.trips = 4 := by decide

variable {x : BlockIn Ideal} {X : Fin 4 → ℕ → Chunk}

/-- The first pair of heads reads its chunks. -/
theorem BlockOf.left (H : BlockOf x X) (k : Fin k0_t1_loop.trips) : PairOf (x.left k) (X 0 k.val) (X 1 k.val) :=
  have hk : k.val < 4 := lt_of_lt_of_eq k.isLt trips_eq
  { q0 := fun i d => ld_of x.q (off1_eq k) _ i _ (H.q k.val hk 0 (by decide) i d) rfl (by dsimp only <;> omega)
    q1 := fun i d => ld_of x.q (off1_eq k) _ i _ (H.q k.val hk 1 (by decide) i d) rfl (by dsimp only <;> omega)
    k0 := fun i d => ld_of x.k (off1_eq k) _ i _ (H.k k.val hk 0 (by decide) i d) rfl (by dsimp only <;> omega)
    k1 := fun i d => ld_of x.k (off1_eq k) _ i _ (H.k k.val hk 1 (by decide) i d) rfl (by dsimp only <;> omega)
    v0 := fun i d => ld_of x.v (off2_eq k) _ i _ (H.v k.val hk 0 (by decide) i d) rfl (by dsimp only <;> omega)
    v1 := fun i d => ld_of x.v (off3_eq k) _ i _ (H.v k.val hk 1 (by decide) i d) rfl (by dsimp only <;> omega)
    b0 := fun i d => ld_of x.b (off2_eq k) _ i _ (H.b k.val hk 0 (by decide) i d) rfl (by dsimp only <;> omega)
    b1 := fun i d => ld_of x.b (off3_eq k) _ i _ (H.b k.val hk 1 (by decide) i d) rfl (by dsimp only <;> omega)
    cm0 := fun i d => ld_of x.cm (off2_eq k) _ i _ (H.cm k.val hk 0 (by decide) i d) rfl (by dsimp only <;> omega)
    cm1 := fun i d => ld_of x.cm (off3_eq k) _ i _ (H.cm k.val hk 1 (by decide) i d) rfl (by dsimp only <;> omega)
    cc0 := fun i d => ld_of x.cc (off2_eq k) _ i _ (H.cc k.val hk 0 (by decide) i d) rfl (by dsimp only <;> omega)
    cc1 := fun i d => ld_of x.cc (off3_eq k) _ i _ (H.cc k.val hk 1 (by decide) i d) rfl (by dsimp only <;> omega)
    te0 := fun i d => ld_of x.te (off2_eq k) _ i _ (H.te k.val hk 0 (by decide) i d) rfl (by dsimp only <;> omega)
    te1 := fun i d => ld_of x.te (off3_eq k) _ i _ (H.te k.val hk 1 (by decide) i d) rfl (by dsimp only <;> omega)
    e0 := fun d => ld_of x.be (off4_eq k) _ 0 _ (H.be k.val hk 0 (by decide) 0 d) rfl (by dsimp only <;> omega)
    e1 := fun d => ld_of x.be (off5_eq k) _ 0 _ (H.be k.val hk 1 (by decide) 0 d) rfl (by dsimp only <;> omega) }

/-- So does the second pair. -/
theorem BlockOf.right (H : BlockOf x X) (k : Fin k0_t1_loop.trips) : PairOf (x.right k) (X 2 k.val) (X 3 k.val) :=
  have hk : k.val < 4 := lt_of_lt_of_eq k.isLt trips_eq
  { q0 := fun i d => ld_of x.q (off6_eq k) _ i _ (H.q k.val hk 2 (by decide) i d) rfl (by dsimp only <;> omega)
    q1 := fun i d => ld_of x.q (off6_eq k) _ i _ (H.q k.val hk 3 (by decide) i d) rfl (by dsimp only <;> omega)
    k0 := fun i d => ld_of x.k (off6_eq k) _ i _ (H.k k.val hk 2 (by decide) i d) rfl (by dsimp only <;> omega)
    k1 := fun i d => ld_of x.k (off6_eq k) _ i _ (H.k k.val hk 3 (by decide) i d) rfl (by dsimp only <;> omega)
    v0 := fun i d => ld_of x.v (off7_eq k) _ i _ (H.v k.val hk 2 (by decide) i d) rfl (by dsimp only <;> omega)
    v1 := fun i d => ld_of x.v (off8_eq k) _ i _ (H.v k.val hk 3 (by decide) i d) rfl (by dsimp only <;> omega)
    b0 := fun i d => ld_of x.b (off7_eq k) _ i _ (H.b k.val hk 2 (by decide) i d) rfl (by dsimp only <;> omega)
    b1 := fun i d => ld_of x.b (off8_eq k) _ i _ (H.b k.val hk 3 (by decide) i d) rfl (by dsimp only <;> omega)
    cm0 := fun i d => ld_of x.cm (off7_eq k) _ i _ (H.cm k.val hk 2 (by decide) i d) rfl (by dsimp only <;> omega)
    cm1 := fun i d => ld_of x.cm (off8_eq k) _ i _ (H.cm k.val hk 3 (by decide) i d) rfl (by dsimp only <;> omega)
    cc0 := fun i d => ld_of x.cc (off7_eq k) _ i _ (H.cc k.val hk 2 (by decide) i d) rfl (by dsimp only <;> omega)
    cc1 := fun i d => ld_of x.cc (off8_eq k) _ i _ (H.cc k.val hk 3 (by decide) i d) rfl (by dsimp only <;> omega)
    te0 := fun i d => ld_of x.te (off7_eq k) _ i _ (H.te k.val hk 2 (by decide) i d) rfl (by dsimp only <;> omega)
    te1 := fun i d => ld_of x.te (off8_eq k) _ i _ (H.te k.val hk 3 (by decide) i d) rfl (by dsimp only <;> omega)
    e0 := fun d => ld_of x.be (off9_eq k) _ 0 _ (H.be k.val hk 2 (by decide) 0 d) rfl (by dsimp only <;> omega)
    e1 := fun d => ld_of x.be (off10_eq k) _ 0 _ (H.be k.val hk 3 (by decide) 0 d) rfl (by dsimp only <;> omega) }

/-- The carried buffers hold each head's memory. -/
structure CarryOf (s : Carry Ideal) (M : Fin 4 → Mem) : Prop where
  left : MemOf s.left (M 0) (M 1)
  right : MemOf s.right (M 2) (M 3)
  m0 : MaxOf s.m0 (M 0)
  m1 : MaxOf s.m1 (M 1)
  m2 : MaxOf s.m2 (M 2)
  m3 : MaxOf s.m3 (M 3)

/-- One chunk carries each head's memory on. -/
theorem BlockOf.next (H : BlockOf x X) (k : Fin k0_t1_loop.trips) {s : Carry Ideal} {M : Fin 4 → Mem} (hs : CarryOf s M) :
    CarryOf (x.next k s) (fun h => (X h k.val).next (M h)) where
  left := by
    have e : (x.next k s).left = (x.left k).mem s.m0 s.m1 s.left :=
      (VecWindow.window_put_of_disjoint _ _ _ _ _ _ _ (0 : Fin 3) (Or.inl (by decide))).trans (VecWindow.window_put_same _ _ _ _ _)
    rw [e]
    exact (H.left k).mem hs.m0 hs.m1 hs.left
  right := by
    have e : (x.next k s).right = (x.right k).mem s.m2 s.m3 s.right := VecWindow.window_put_same _ _ _ _ _
    rw [e]
    exact (H.right k).mem hs.m2 hs.m3 hs.right
  m0 := by
    have e : (x.next k s).m0 = (x.left k).max0 s.m0 :=
      (VecWindow.window_put_of_disjoint _ _ _ _ _ _ _ (1 : Fin 2) (Or.inl (by decide))).trans
      ((VecWindow.window_put_of_disjoint _ _ _ _ _ _ _ (1 : Fin 2) (Or.inl (by decide))).trans
      ((VecWindow.window_put_of_disjoint _ _ _ _ _ _ _ (1 : Fin 2) (Or.inl (by decide))).trans
      (VecWindow.window_put_same _ _ _ _ _)))
    rw [e]
    exact (H.left k).max0 hs.m0
  m1 := by
    have e : (x.next k s).m1 = (x.left k).max1 s.m1 :=
      (VecWindow.window_put_of_disjoint _ _ _ _ _ _ _ (1 : Fin 2) (Or.inl (by decide))).trans
      ((VecWindow.window_put_of_disjoint _ _ _ _ _ _ _ (1 : Fin 2) (Or.inl (by decide))).trans
      (VecWindow.window_put_same _ _ _ _ _))
    rw [e]
    exact (H.left k).max1 hs.m1
  m2 := by
    have e : (x.next k s).m2 = (x.right k).max0 s.m2 :=
      (VecWindow.window_put_of_disjoint _ _ _ _ _ _ _ (1 : Fin 2) (Or.inl (by decide))).trans
      (VecWindow.window_put_same _ _ _ _ _)
    rw [e]
    exact (H.right k).max0 hs.m2
  m3 := by
    have e : (x.next k s).m3 = (x.right k).max1 s.m3 := VecWindow.window_put_same _ _ _ _ _
    rw [e]
    exact (H.right k).max1 hs.m3

/-- A row of a head's chunk, its place named in another way. -/
theorem place (X : Fin 4 → ℕ → Chunk) (M : Fin 4 → ℕ → Mem) {h h' : Fin 4} {k k' : ℕ} {i i' : Fin 64} {c c' : Fin 128}
    (eh : h.val = h'.val) (ek : k = k') (ei : i.val = i'.val) (ec : c.val = c'.val) :
    (X h k).out (M h k) i c = (X h' k').out (M h' k') i' c' := by
  rw [Fin.ext eh, ek, Fin.ext ei, Fin.ext ec]

/-- After some chunks the memory is each head's and the rows written are each head's. -/
theorem BlockOf.run (H : BlockOf x X) (M : Fin 4 → ℕ → Mem) (hM : ∀ h k, M h (k + 1) = (X h k).next (M h k))
    {s : Carry Ideal} (hs : CarryOf s fun h => M h 0) (z : Vec Ideal S256x512 .f32) (n : ℕ) (hn : n ≤ k0_t1_loop.trips) :
    CarryOf (x.run s z n).1 (fun h => M h n)
      ∧ ∀ (r : Fin 256) (j : Fin 512), r.val < 64 * n → (x.run s z n).2 (ix2 r j)
        = (X ⟨j.val / 128, by omega⟩ (r.val / 64)).out (M ⟨j.val / 128, by omega⟩ (r.val / 64))
          ⟨r.val % 64, Nat.mod_lt _ (by decide)⟩ ⟨j.val % 128, Nat.mod_lt _ (by decide)⟩ := by
  induction n with
  | zero => exact ⟨hs, fun r j h => absurd h (Nat.not_lt_zero _)⟩
  | succ n ih =>
    obtain ⟨ih1, ih2⟩ := ih (Nat.le_of_succ_le hn)
    rw [BlockIn.run_succ x s z ⟨n, hn⟩]
    dsimp only
    generalize x.run s z n = R at ih1 ih2 ⊢
    constructor
    · rw [show (fun h => M h (n + 1)) = fun h => (X h n).next (M h n) from funext fun h => hM h n]
      exact H.next ⟨n, hn⟩ ih1
    · intro r j hr
      have hj := j.isLt
      rw [BlockIn.rows_apply]
      dsimp only
      by_cases hk : 64 * n ≤ r.val ∧ r.val < 64 * n + 64
      · rw [dif_pos hk]
        by_cases h3 : 384 ≤ j.val
        · rw [dif_pos h3, (H.right ⟨n, hn⟩).out1 ih1.m2 ih1.m3 ih1.right]
          exact place X M (by show 3 = j.val / 128; omega) (by dsimp only; omega) (by dsimp only; omega) (by dsimp only; omega)
        rw [dif_neg h3]
        by_cases h2 : 256 ≤ j.val
        · rw [dif_pos h2, (H.right ⟨n, hn⟩).out0 ih1.m2 ih1.m3 ih1.right]
          exact place X M (by show 2 = j.val / 128; omega) (by dsimp only; omega) (by dsimp only; omega) (by dsimp only; omega)
        rw [dif_neg h2]
        by_cases h1 : 128 ≤ j.val
        · rw [dif_pos h1, (H.left ⟨n, hn⟩).out1 ih1.m0 ih1.m1 ih1.left]
          exact place X M (by show 1 = j.val / 128; omega) (by dsimp only; omega) (by dsimp only; omega) (by dsimp only; omega)
        · rw [dif_neg h1, (H.left ⟨n, hn⟩).out0 ih1.m0 ih1.m1 ih1.left]
          exact place X M (by show 0 = j.val / 128; omega) (by dsimp only; omega) (by dsimp only; omega) (by dsimp only; omega)
      · rw [dif_neg hk]
        exact ih2 r j (by omega)

/-- A point's blocks are the arrays' at its batch and its time. -/
structure Feeds (a : Arrays) (b : Fin 4) (n : ℕ) (p : PointIn Ideal) : Prop where
  u : ∀ (r : Fin 256) (j : Fin 512), p.u (ix2 r j) = seq a.P b (256 * n + r.val) j
  v : ∀ (r : Fin 256) (j : Fin 512), p.v (ix2 r j) = seq a.V b (256 * n + r.val) j
  o : ∀ (r : Fin 256) (j : Fin 512), p.o (ix2 r j) = seq a.O b (256 * n + r.val) j
  gates : ∀ (r : Fin 256) (j : Fin 128), p.gates (ix2 r j) = seq a.G b (256 * n + r.val) j
  w : ∀ (k : Fin 4) (j : Fin 512), p.w (ix2 k j) = a.W (ix2 k j)
  ib : ∀ j : Fin 512, p.ib (ix2 0 j) = a.ib ⟨j.val / 128, by omega⟩
  fb : ∀ j : Fin 512, p.fb (ix2 0 j) = a.fb ⟨j.val / 128, by omega⟩
  n : ∀ j : Fin 512, p.n (ix2 0 j) = a.ng ⟨j.val % 128, Nat.mod_lt _ (by decide)⟩

/-- The eight rows before a point. -/
def PrevOf (a : Arrays) (b : Fin 4) (n : ℕ) (prev : Vec Ideal S8x512 .f32) : Prop :=
  ∀ (r : Fin 8) (j : Fin 512), prev (ix2 r j) = if n = 0 then 0 else seq a.P b (256 * n - 8 + r.val) j

section

variable {a : Arrays} {b : Fin 4} {n : ℕ} {p : PointIn Ideal} {prev : Vec Ideal S8x512 .f32}

/-- Rows one to three steps earlier. -/
theorem Feeds.back (hf : Feeds a b n p) (hp : PrevOf a b n prev) (k : ℕ) (hk : k = 1 ∨ k = 2 ∨ k = 3) (r : Fin 256) (j : Fin 512) :
    tap (BitVec.ofNat 32 k) p.u prev (ix2 r j) = a.back k b (256 * n + r.val) j := by
  rw [tap_apply k hk]
  unfold Arrays.back
  by_cases h : r.val < k
  · rw [if_pos h, hp]
    by_cases h0 : n = 0
    · rw [if_pos h0, if_pos (by omega)]
    · rw [if_neg h0, if_neg (by omega)]
      congr 1
      dsimp only
      omega
  · rw [if_neg h, hf.u, if_neg (by omega)]
    congr 1
    dsimp only
    omega

/-- The filtered rows. -/
theorem Feeds.filt (hf : Feeds a b n p) (hp : PrevOf a b n prev) (r : Fin 256) (j : Fin 512) :
    p.filt prev r j = a.conv b (256 * n + r.val) j := by
  unfold PointIn.filt Arrays.conv
  rw [hf.back hp 1 (by omega), hf.back hp 2 (by omega), hf.back hp 3 (by omega), hf.u, hf.w, hf.w, hf.w, hf.w]

/-- The gates of a finite array are finite. -/
theorem Feeds.real (hf : Feeds a b n p) (ha : a.Good) (r : Fin 256) (x : Fin 128) (h0 : 8 ≤ x.val) (h1 : x.val < 16) :
    IsReal (p.gates (ix2 r x)) := by
  rw [hf.gates]
  exact isReal_seq (fun r => ha.G r x h0 h1) _ _

/-- The sums of the log decays. -/
theorem Feeds.sumF (hf : Feeds a b n p) (ha : a.Good) (k : ℕ) (hk : k < 4) (h : Fin 4) (i : Fin 64) (j : Fin 512)
    (hj : j.val / 128 = h.val) : p.sumF k hk i j = (a.chunk b h (4 * n + k)).b i := by
  unfold PointIn.sumF Arrays.chunk
  dsimp only
  refine Finset.sum_congr rfl fun l _ => if_congr Iff.rfl ?_ rfl
  rw [logF_apply p (hf.real ha), hf.gates, hf.fb]
  unfold Arrays.logF
  have e : 256 * n + (64 * k + l.val) = 64 * (4 * n + k) + l.val := by omega
  simp only [hj, e]

/-- The gate differences. -/
theorem Feeds.diff (hf : Feeds a b n p) (ha : a.Good) (k : ℕ) (hk : k < 4) (h : Fin 4) (i : Fin 64) (j : Fin 512)
    (hj : j.val / 128 = h.val) : p.diff (ix2 ⟨64 * k + i.val, by omega⟩ j) = (a.chunk b h (4 * n + k)).cc i := by
  rw [diff_apply p k hk, hf.sumF ha k hk h i j hj, iGate_apply p (hf.real ha), hf.gates, hf.ib]
  unfold Chunk.cc
  refine congrArg (· - _) ?_
  unfold Arrays.chunk Arrays.gate
  have e : 256 * n + (64 * k + i.val) = 64 * (4 * n + k) + i.val := by omega
  simp only [hj, e]

/-- The buffers of a point hold the heads' chunks. -/
theorem Feeds.block (hf : Feeds a b n p) (hp : PrevOf a b n prev) (ha : a.Good) :
    BlockOf (p.block prev) (fun h k => a.chunk b h (4 * n + k)) where
  q k hk h hh i d := by
    rw [queries_apply, hf.filt hp]
    unfold Arrays.chunk Arrays.act
    have e : 256 * n + (64 * k + i.val) = 64 * (4 * n + k) + i.val := by omega
    simp only [e]
  k k hk h hh i d := by
    rw [keys_apply, hf.filt hp]
    unfold Arrays.chunk Arrays.act
    have e : 256 * n + (64 * k + i.val) = 64 * (4 * n + k) + i.val := by omega
    simp only [e, Nat.add_assoc]
  v k hk h hh i c := by
    have e : 256 * n + (64 * k + i.val) = 64 * (4 * n + k) + i.val := by omega
    refine (hf.v _ _).trans ?_
    unfold Arrays.chunk
    simp only [e]
  b k hk h hh i c := by rw [block_b p prev k hk, hf.sumF ha k hk ⟨h, hh⟩ i _ (by dsimp only; omega)]
  be k hk h hh i c := by rw [block_be, ends_apply p k hk, hf.sumF ha k hk ⟨h, hh⟩ 63 _ (by dsimp only; omega)]
  cm k hk h hh i c := by
    rw [block_cm p prev k hk]
    unfold Chunk.top
    exact congrArg _ (funext fun l => if_congr Iff.rfl (hf.diff ha k hk ⟨h, hh⟩ l _ (by dsimp only; omega)) rfl)
  cc k hk h hh i c := by rw [block_cc, hf.diff ha k hk ⟨h, hh⟩ i _ (by dsimp only; omega)]
  te k hk h hh i c := by
    rw [block_te, ends_apply p k hk, hf.sumF ha k hk ⟨h, hh⟩ 63 _ (by dsimp only; omega),
      hf.diff ha k hk ⟨h, hh⟩ i _ (by dsimp only; omega)]
    rfl

/-- What is carried into a point of a sequence. -/
structure Before (a : Arrays) (b : Fin 4) (n : ℕ) (D : Memory Ideal) : Prop where
  prev : PrevOf a b n D.prev
  carry : CarryOf D.carry (fun h => a.mem b h (4 * n))

/-- Nothing is carried into the first point. -/
theorem before_first (a : Arrays) (b : Fin 4) : Before a b 0 Memory.fresh where
  prev r j := by
    rw [if_pos rfl]
    show k0_pay41 (F := Ideal) (ix2 r j) = 0
    pointwise [k0_pay41]
  carry := by
    have e2 : ∀ i, k0_pay42 (F := Ideal) i = 0 := fun i => by
      rw [show i = ix3 (i 0) (i 1) (i 2) from by funext a; match a with | ⟨0, _⟩ => rfl | ⟨1, _⟩ => rfl | ⟨2, _⟩ => rfl]
      pointwise [k0_pay42]
    have e3 : ∀ i, k0_pay43 (F := Ideal) i = 0 := fun i => by
      rw [show i = ix2 (i 0) (i 1) from by funext a; match a with | ⟨0, _⟩ => rfl | ⟨1, _⟩ => rfl]
      pointwise [k0_pay43]
    have hM : ∀ S : Vec Ideal S1x128x512 .f32, (∀ i, S i = 0) → MemOf S Mem.zero Mem.zero := fun S h =>
      ⟨fun _ _ => h _, fun _ _ => h _, fun _ _ _ => h _, fun _ _ => h _, fun _ _ => h _, fun _ _ _ => h _⟩
    show CarryOf ⟨k0_pay42 (F := Ideal), k0_pay43 (F := Ideal)⟩ fun _ => Mem.zero
    rw [show (k0_pay42 (F := Ideal)) = fun _ => (0 : EReal) from funext e2, show (k0_pay43 (F := Ideal)) = fun _ => (0 : EReal) from funext e3]
    exact ⟨hM _ fun i => rfl, hM _ fun i => rfl, fun c => rfl, fun c => rfl, fun c => rfl, fun c => rfl⟩

/-- One point of a sequence: its block is the result's, and what it carries on is what the next point expects. -/
theorem Feeds.leaves (hf : Feeds a b n p) (ha : a.Good) {D : Memory Ideal} (hD : Before a b n D) :
    (∀ (r : Fin 256) (j : Fin 512), (p.leaves D).1 (ix2 r j) = a.outAt b (256 * n + r.val) j)
      ∧ Before a b (n + 1) (p.leaves D).2 := by
  obtain ⟨hc, hr⟩ := (hf.block hD.prev ha).run (fun h k => a.mem b h (4 * n + k)) (fun h k => rfl) hD.carry p.v
    k0_t1_loop.trips le_rfl
  unfold PointIn.leaves
  dsimp only
  generalize (p.block D.prev).run D.carry p.v k0_t1_loop.trips = R at hc hr ⊢
  have hrow : ∀ (r : Fin 256) (j : Fin 512), R.2 (ix2 r j)
      = a.row b (256 * n + r.val) ⟨j.val / 128, by omega⟩ ⟨j.val % 128, Nat.mod_lt _ (by decide)⟩ := fun r j => by
    rw [hr r j (by rw [trips_eq]; omega)]
    unfold Arrays.row
    exact place (fun h k => a.chunk b h k) (fun h k => a.mem b h k) rfl (by omega) (by dsimp only; omega) rfl
  constructor
  · intro r j
    have hj := j.isLt
    rw [out_apply p R.2 (fun r j => by rw [hrow]; exact ha.row _ _ _ _), hrow, hf.n, hf.o]
    unfold Arrays.outAt Arrays.normed Arrays.squares
    rw [Finset.sum_congr rfl fun c _ => by rw [hrow]]
    have e : ∀ c : Fin 128, (128 * (j.val / 128) + c.val) / 128 = j.val / 128 := fun c => by omega
    have e' : ∀ c : Fin 128, (128 * (j.val / 128) + c.val) % 128 = c.val := fun c => by omega
    simp only [e, e']
  · constructor
    · intro r j
      rw [if_neg (Nat.succ_ne_zero n)]
      show k0_pay49 p.u (ix2 r j) = _
      have e : k0_pay49 p.u (ix2 r j) = p.u (ix2 ⟨248 + r.val, by omega⟩ j) := by
        generalize p.u = U
        pointwise [k0_pay49]
      rw [e, hf.u]
      congr 1
      dsimp only
      omega
    · have e : (fun h => a.mem b h (4 * (n + 1))) = fun h => a.mem b h (4 * n + k0_t1_loop.trips) := by
        rw [trips_eq]; rfl
      rw [e]
      exact hc

end

end Cert.KernelMlstmIdeal.Hand

end
-- ==== Proof.MlstmValue.lean ====
/-
  The array the matrix memory's kernel leaves: every grid point is given its rows of the arrays, so by induction over the
  points each block written back is the formula's, and so is the whole array.
-/
module

public import proofs.«01_k».proof.Proof.MlstmRun
public import proofs.«01_k».proof.Proof.Gen.KernelMlstmIdeal.Points
public import Idealize.ShloMosaic.Lib.StableHlo.RunRead

@[expose] public section

set_option maxRecDepth 16384

noncomputable section

namespace Cert.KernelMlstmIdeal.Hand

open Idealize.ShloMosaic Idealize.ShloMosaic.TcCoe Idealize.ShloMosaic.Tactic Idealize.ShloMosaic.StableHlo
open Cert.KernelMlstmIdeal.Gen Cert.Mlstm

variable (m : (ℓ : Loc nD τ sig) → Buf (Elt Ideal) ℓ) (c : Dev nD)

/-- The arrays the launch is given. -/
def given : Arrays := Arrays.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- The input gates' biases, repeated over their head's lanes. -/
theorem V_main_v2 : V m c main_v2 = (shapeCast S1x512 (shapeCast S512 (broadcastInDim S4x128 ![0] bcast_S4_S4x128_0
    (m ((c : Thread nD τ).loc main_arg5) : FVec Ideal S4 .f32)) shapeCasts_S4x128_S512) shapeCasts_S512_S1x512 : FVec Ideal S1x512 .f32) := by
  after_reads_simp
  rfl

/-- The forget gates' biases, repeated over their head's lanes. -/
theorem V_main_v5 : V m c main_v5 = (shapeCast S1x512 (shapeCast S512 (broadcastInDim S4x128 ![0] bcast_S4_S4x128_0
    (m ((c : Thread nD τ).loc main_arg6) : FVec Ideal S4 .f32)) shapeCasts_S4x128_S512) shapeCasts_S512_S1x512 : FVec Ideal S1x512 .f32) := by
  after_reads_simp
  rfl

/-- The norm's weights, once for each head. -/
theorem V_main_v9 : V m c main_v9 = (shapeCast S1x512 (shapeCast S512 (broadcastInDim S4x128 ![0, 1] bcast_S1x128_S4x128_0_1
    (shapeCast S1x128 (m ((c : Thread nD τ).loc main_arg7) : FVec Ideal S128 .f32) shapeCasts_S128_S1x128))
    shapeCasts_S4x128_S512) shapeCasts_S512_S1x512 : FVec Ideal S1x512 .f32) := by
  after_reads_simp
  rfl

/-- Where each window's block lies: the row windows follow the grid point, the others stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- An entry named by its two coordinates. -/
theorem at_index {R C : ℕ} (A : (⟨2, ![R, C]⟩ : Shape).Idx → EReal) (f : (⟨2, ![R, C]⟩ : Shape).Idx) (r : Fin R) (j : Fin C)
    (h0 : (f (0 : Fin 2)).val = r.val) (h1 : (f (1 : Fin 2)).val = j.val) : A f = A (ix2 r j) := by
  refine congrArg A (funext fun a => Fin.ext ?_)
  match a with
  | ⟨0, _⟩ => exact h0
  | ⟨1, _⟩ => exact h1

/-- An entry of an array at a point's row is the sequence's at the point's time. -/
theorem at_seq {n : ℕ} (A : FVec Ideal ⟨2, ![16384, n]⟩ .f32) (f : (⟨2, ![16384, n]⟩ : Shape).Idx) (t : ℕ) (ht : t < 64)
    (r : Fin 256) (j : Fin n) (h0 : (f (0 : Fin 2)).val = 256 * t + r.val) (h1 : (f (1 : Fin 2)).val = j.val) :
    A f = seq A ⟨t / 16, by omega⟩ (256 * (t % 16) + r.val) j :=
  (at_index A f ⟨256 * t + r.val, by omega⟩ j h0 h1).trans (seq_eq A _ _ (by omega) _ (by dsimp only; omega) j).symm

/-- A grid point is given its rows of the arrays. -/
theorem feeds (t : Fin cfg0.N) (ht : t.val < 64) : Feeds (given m c) ⟨t.val / 16, by omega⟩ (t.val % 16) (pointIn m c t) := by
  obtain ⟨a0, a1, b0, b1, c0, c1, d0, d1, e0, e1, f0, f1, g0, g1, h0, h1, -⟩ := index_facts t
  constructor
  · intro r j
    show V m c main_arg0 (((cfg0.win 0).blk t).view.emb (ix2 r j)) = _
    rw [V_main_arg0]
    exact at_seq _ _ t.val ht r j (by show win0_0.index t (0 : Fin 2) * 256 + 1 * r.val = _; omega)
      (by show win0_0.index t (1 : Fin 2) * 512 + 1 * j.val = _; omega)
  · intro r j
    show V m c main_arg1 (((cfg0.win 1).blk t).view.emb (ix2 r j)) = _
    rw [V_main_arg1]
    exact at_seq _ _ t.val ht r j (by show win0_1.index t (0 : Fin 2) * 256 + 1 * r.val = _; omega)
      (by show win0_1.index t (1 : Fin 2) * 512 + 1 * j.val = _; omega)
  · intro r j
    show V m c main_arg2 (((cfg0.win 2).blk t).view.emb (ix2 r j)) = _
    rw [V_main_arg2]
    exact at_seq _ _ t.val ht r j (by show win0_2.index t (0 : Fin 2) * 256 + 1 * r.val = _; omega)
      (by show win0_2.index t (1 : Fin 2) * 512 + 1 * j.val = _; omega)
  · intro r j
    show V m c main_arg3 (((cfg0.win 3).blk t).view.emb (ix2 r j)) = _
    rw [V_main_arg3]
    exact at_seq _ _ t.val ht r j (by show win0_3.index t (0 : Fin 2) * 256 + 1 * r.val = _; omega)
      (by show win0_3.index t (1 : Fin 2) * 128 + 1 * j.val = _; omega)
  · intro r j
    show V m c main_arg4 (((cfg0.win 4).blk t).view.emb (ix2 r j)) = _
    rw [V_main_arg4]
    exact at_index _ _ r j (by show win0_4.index t (0 : Fin 2) * 4 + 1 * r.val = _; omega)
      (by show win0_4.index t (1 : Fin 2) * 512 + 1 * j.val = _; omega)
  · intro j
    show V m c main_v2 (((cfg0.win 5).blk t).view.emb (ix2 0 j)) = _
    refine (at_index (V m c main_v2) _ 0 j (by show win0_5.index t (0 : Fin 2) * 1 + 1 * 0 = _; omega)
      (by show win0_5.index t (1 : Fin 2) * 512 + 1 * j.val = _; omega)).trans ?_
    rw [V_main_v2]
    unfold given Arrays.of
    generalize (m ((c : Thread nD τ).loc main_arg5) : FVec Ideal S4 .f32) = B
    pointwise
  · intro j
    show V m c main_v5 (((cfg0.win 6).blk t).view.emb (ix2 0 j)) = _
    refine (at_index (V m c main_v5) _ 0 j (by show win0_6.index t (0 : Fin 2) * 1 + 1 * 0 = _; omega)
      (by show win0_6.index t (1 : Fin 2) * 512 + 1 * j.val = _; omega)).trans ?_
    rw [V_main_v5]
    unfold given Arrays.of
    generalize (m ((c : Thread nD τ).loc main_arg6) : FVec Ideal S4 .f32) = B
    pointwise
  · intro j
    show V m c main_v9 (((cfg0.win 7).blk t).view.emb (ix2 0 j)) = _
    refine (at_index (V m c main_v9) _ 0 j (by show win0_7.index t (0 : Fin 2) * 1 + 1 * 0 = _; omega)
      (by show win0_7.index t (1 : Fin 2) * 512 + 1 * j.val = _; omega)).trans ?_
    rw [V_main_v9]
    unfold given Arrays.of
    generalize (m ((c : Thread nD τ).loc main_arg7) : FVec Ideal S128 .f32) = B
    pointwise

/-- What a grid point starts from is what its sequence carries. -/
theorem entered (ha : (given m c).Good) (t : ℕ) (ht : t < 64) :
    Before (given m c) ⟨t / 16, by omega⟩ (t % 16) (enter m c t) := by
  induction t with
  | zero =>
    unfold enter
    rw [if_pos rfl]
    exact before_first _ _
  | succ s ih =>
    unfold enter
    by_cases h : (s + 1) % 16 = 0
    · rw [if_pos h, h]
      exact before_first _ _
    · rw [if_neg h, memAt_succ m c ⟨s, lt_of_lt_of_eq (by omega : s < 64) N_0.symm⟩]
      have hb := ((feeds m c ⟨s, lt_of_lt_of_eq (by omega : s < 64) N_0.symm⟩ (by dsimp only; omega)).leaves ha (ih (by omega))).2
      dsimp only at hb ⊢
      rw [show (s + 1) % 16 = s % 16 + 1 from by omega]
      rw [show (⟨(s + 1) / 16, by omega⟩ : Fin 4) = ⟨s / 16, by omega⟩ from Fin.ext (by dsimp only; omega)]
      exact hb

/-- What a grid point writes back is its block of the formula. -/
theorem written (ha : (given m c).Good) (t : Fin cfg0.N) (ht : t.val < 64) (r : Fin 256) (j : Fin 512) :
    ((pointIn m c t).leaves (enter m c t.val)).1 (ix2 r j)
      = (given m c).outAt ⟨t.val / 16, by omega⟩ (256 * (t.val % 16) + r.val) j :=
  ((feeds m c t ht).leaves ha (entered m c ha t.val ht)).1 r j

/-- Two points write different blocks. -/
theorem index_injective : ∀ t t' : Fin cfg0.N, win0_8.index t = win0_8.index t' → t = t' :=
  (by decide +kernel : ∀ t t' : Fin grid0.N, win0_8.index t = win0_8.index t' → t = t')

/-- A block of the array after the run is what its point wrote back. -/
theorem block_of_array (t : Fin cfg0.N) :
    ((cfg0.win 8).blk t).view.read (Elt Ideal) ((dats m 0 c).arrAt 8 cfg0.N) = (dats m 0 c).flushed 8 t :=
  (dats m 0 c).read_blk_arrAt_eq_flushed 8
    (fun t t' _ _ hne => (cfg0.win 8).disjoint_blk fun h => hne (index_injective t t' h)) cfg0.N t t.isLt (flush0_8 t)

/-- What a point wrote back, entry by entry. -/
theorem flushed_apply (t : Fin cfg0.N) (r : Fin 256) (j : Fin 512) :
    (dats m 0 c).flushed 8 t (ix2 r j) = ((pointIn m c t).leaves (enter m c t.val)).1 (ix2 r j) := by
  show (cfg0.win 8).cut (grid0.coords t) ((dats m 0 c).after 8 t) (ix2 r j) = _
  rw [after_8]
  rfl

/-- The array after the run is the formula's. -/
theorem array_eq (ha : (given m c).Good) : (dats m 0 c).arrAt 8 cfg0.N = (given m c).spec := by
  funext i
  have hi : (i (0 : Fin 2)).val < 16384 := (i (0 : Fin 2)).isLt
  let t : Fin cfg0.N := ⟨(i (0 : Fin 2)).val / 256, lt_of_lt_of_eq (by omega : (i (0 : Fin 2)).val / 256 < 64) N_0.symm⟩
  let r : Fin 256 := ⟨(i (0 : Fin 2)).val % 256, by omega⟩
  have ht : t.val = (i (0 : Fin 2)).val / 256 := rfl
  have hr : r.val = (i (0 : Fin 2)).val % 256 := rfl
  have f := index_facts t
  have w : (((cfg0.win 8).blk t).view.emb (ix2 r (i (1 : Fin 2) : Fin 512)) : S16384x512.Idx) = i := funext fun a => Fin.ext (by
    match a with
    | ⟨0, _⟩ => show win0_8.index t (0 : Fin 2) * 256 + 1 * r.val = (i (0 : Fin 2)).val; omega
    | ⟨1, _⟩ => show win0_8.index t (1 : Fin 2) * 512 + 1 * (i (1 : Fin 2)).val = (i (1 : Fin 2)).val; omega)
  have b := congrFun (block_of_array m c t) (ix2 r (i (1 : Fin 2)))
  refine (congrArg ((dats m 0 c).arrAt 8 cfg0.N) w).symm.trans (b.trans ((flushed_apply m c t r (i (1 : Fin 2))).trans
    ((written m c ha t (by omega) r (i (1 : Fin 2))).trans ?_)))
  unfold Arrays.spec
  have e1 : (⟨t.val / 16, by omega⟩ : Fin 4) = ⟨(i (0 : Fin 2)).val / 4096, by omega⟩ := Fin.ext (by dsimp only; omega)
  have e2 : 256 * (t.val % 16) + r.val = (i (0 : Fin 2)).val % 4096 := by omega
  rw [e1, e2]

end Cert.KernelMlstmIdeal.Hand

end
-- ==== Proof.MlstmRef.lean ====
/-
  The matrix memory's reference before its loop over the chunks, read at an index: the filtered rows, the gates and the
  running sums of the log decays, cut into the heads' chunks, are the formula's.
-/
module

public import proofs.«01_k».proof.Proof.MlstmArrays
public import proofs.«01_k».proof.Proof.Gen.ReferenceMlstmIdeal.Step
public import Idealize.ShloMosaic.Lib.WordCmp
public import Idealize.ShloMosaic.Lib.Tactic.CleanTypes

@[expose] public section

set_option maxRecDepth 16384

noncomputable section

namespace Cert.Mlstm

open Idealize.ShloMosaic Cert.ReferenceMlstmIdeal Cert.ReferenceMlstmIdeal.Gen Cert.ReferenceMlstmIdeal.Step

/-- A left fold of sums is its start and the sum of what it adds. -/
theorem fold_sums {ι : Type} (l : List ι) (g : ι → EReal) (v : EReal) :
    l.foldl (fun r n => r + g n) v = v + (l.map g).sum := by
  induction l generalizing v with
  | nil => rw [List.foldl_nil, List.map_nil, List.sum_nil, add_zero]
  | cons x l ih => rw [List.foldl_cons, ih, List.map_cons, List.sum_cons, add_assoc]

/-- The places of a window of 64 along the last axis, each with the row it reads when it ends at row `i`. -/
def places (i : Fin 64) : (⟨4, ![1, 1, 1, 64]⟩ : Shape).Idx ≃ Fin 64 where
  toFun w := ⟨((w (3 : Fin 4)).val + i.val + 1) % 64, Nat.mod_lt _ (by decide)⟩
  invFun j := ix4 0 0 0 ⟨(j.val + 63 - i.val) % 64, Nat.mod_lt _ (by decide)⟩
  left_inv w := by
    have h0 : (w (0 : Fin 4)).val < 1 := (w (0 : Fin 4)).isLt
    have h1 : (w (1 : Fin 4)).val < 1 := (w (1 : Fin 4)).isLt
    have h2 : (w (2 : Fin 4)).val < 1 := (w (2 : Fin 4)).isLt
    have h3 : (w (3 : Fin 4)).val < 64 := (w (3 : Fin 4)).isLt
    funext a
    refine Fin.ext ?_
    match a with
    | ⟨0, _⟩ => show 0 = (w (0 : Fin 4)).val; omega
    | ⟨1, _⟩ => show 0 = (w (1 : Fin 4)).val; omega
    | ⟨2, _⟩ => show 0 = (w (2 : Fin 4)).val; omega
    | ⟨3, _⟩ => show (((w (3 : Fin 4)).val + i.val + 1) % 64 + 63 - i.val) % 64 = (w (3 : Fin 4)).val; omega
  right_inv j := Fin.ext (by
    show ((j.val + 63 - i.val) % 64 + i.val + 1) % 64 = j.val
    omega)

/-- A running sum along the last axis. -/
theorem running_sum (x : FVec Ideal S4x4x64x64 .f32) (z : FVec Ideal S_ .f32) (hz : ∀ i, z i = 0) (b h : Fin 4) (n i : Fin 64) :
    (Host.reduceWindowAdd ![1, 1, 1, 64] ![1, 1, 1, 1] ![0, 0, 0, 63] ![0, 0, 0, 0] x z
        reduceWindows_S4x4x64x64_S4x4x64x64_w1s1p0_0_w1s1p0_0_w1s1p0_0_w64s1p63_0 h_S_ : FVec Ideal S4x4x64x64 .f32) (ix4 b h n i)
      = ∑ j : Fin 64, if j.val ≤ i.val then x (ix4 b h n j) else 0 := by
  unfold Host.reduceWindowAdd
  rw [Ideal.hostReduceWindowAdd_def]
  unfold Ideal.hostReduceWindowAdd Host.reduceWindow
  dsimp only
  rw [fold_sums, hz, zero_add, ← Fin.sum_univ_def]
  have key : ∀ (w : (⟨4, ![1, 1, 1, 64]⟩ : Shape).Idx)
      (_ : Decidable (∀ a : Fin 4, (![0, 0, 0, 63] : Fin 4 → ℕ) a ≤ (ix4 b h n i a).val * (![1, 1, 1, 1] : Fin 4 → ℕ) a + (w a).val
          ∧ (ix4 b h n i a).val * (![1, 1, 1, 1] : Fin 4 → ℕ) a + (w a).val - (![0, 0, 0, 63] : Fin 4 → ℕ) a < S4x4x64x64.size a)),
      (if hin : ∀ a : Fin 4, (![0, 0, 0, 63] : Fin 4 → ℕ) a ≤ (ix4 b h n i a).val * (![1, 1, 1, 1] : Fin 4 → ℕ) a + (w a).val
          ∧ (ix4 b h n i a).val * (![1, 1, 1, 1] : Fin 4 → ℕ) a + (w a).val - (![0, 0, 0, 63] : Fin 4 → ℕ) a < S4x4x64x64.size a
        then x (fun a => ⟨(ix4 b h n i a).val * (![1, 1, 1, 1] : Fin 4 → ℕ) a + (w a).val - (![0, 0, 0, 63] : Fin 4 → ℕ) a, (hin a).2⟩)
        else (0 : EReal)) = if (places i w).val ≤ i.val then x (ix4 b h n (places i w)) else 0 := fun w _ => by
    have h0 : (w (0 : Fin 4)).val < 1 := (w (0 : Fin 4)).isLt
    have h1 : (w (1 : Fin 4)).val < 1 := (w (1 : Fin 4)).isLt
    have h2 : (w (2 : Fin 4)).val < 1 := (w (2 : Fin 4)).isLt
    have h3 : (w (3 : Fin 4)).val < 64 := (w (3 : Fin 4)).isLt
    have hp : (places i w).val = ((w (3 : Fin 4)).val + i.val + 1) % 64 := rfl
    by_cases hw : 63 ≤ i.val + (w (3 : Fin 4)).val
    · rw [dif_pos fun a => ?_, if_pos (by omega)]
      · refine congrArg x (funext fun a => Fin.ext ?_)
        match a with
        | ⟨0, _⟩ => show b.val * 1 + (w (0 : Fin 4)).val - 0 = b.val; omega
        | ⟨1, _⟩ => show h.val * 1 + (w (1 : Fin 4)).val - 0 = h.val; omega
        | ⟨2, _⟩ => show n.val * 1 + (w (2 : Fin 4)).val - 0 = n.val; omega
        | ⟨3, _⟩ => show i.val * 1 + (w (3 : Fin 4)).val - 63 = (places i w).val; omega
      · match a with
        | ⟨0, _⟩ => show 0 ≤ b.val * 1 + (w (0 : Fin 4)).val ∧ b.val * 1 + (w (0 : Fin 4)).val - 0 < 4; omega
        | ⟨1, _⟩ => show 0 ≤ h.val * 1 + (w (1 : Fin 4)).val ∧ h.val * 1 + (w (1 : Fin 4)).val - 0 < 4; omega
        | ⟨2, _⟩ => show 0 ≤ n.val * 1 + (w (2 : Fin 4)).val ∧ n.val * 1 + (w (2 : Fin 4)).val - 0 < 64; omega
        | ⟨3, _⟩ => show 63 ≤ i.val * 1 + (w (3 : Fin 4)).val ∧ i.val * 1 + (w (3 : Fin 4)).val - 63 < 64; omega
    · rw [dif_neg fun q => ?_, if_neg (by omega)]
      have q3 := (q (3 : Fin 4)).1
      change 63 ≤ i.val * 1 + (w (3 : Fin 4)).val at q3
      omega
  exact Fintype.sum_equiv ((Shape.rowMajor ⟨4, ![1, 1, 1, 64]⟩).symm.trans (places i)) _ _ fun u => key _ _

variable (p v o : FVec Ideal S16384x512 .f32) (g : FVec Ideal S16384x128 .f32) (w : FVec Ideal S4x512 .f32)
  (ib fb : FVec Ideal S4 .f32) (ng : FVec Ideal S128 .f32)

/-- An array over batch and time holds the sequences. -/
theorem seq_at {n : ℕ} (A : FVec Ideal ⟨2, ![16384, n]⟩ .f32) (b : Fin 4) (t : ℕ) (ht : t < 4096) (j j' : Fin n)
    (r : Fin 16384) (hr : r.val = 4096 * b.val + t) (hj : j.val = j'.val) : A (ix2 r j) = seq A b t j' := by
  rw [seq_eq A b t ht r hr, Fin.ext hj]

/-- The rows with three zero rows before each sequence. -/
theorem padded_apply (b : Fin 4) (t : Fin 4099) (j : Fin 512) :
    A_main_v1 (F := Ideal) p v g w ib fb (ix3 b t j) = if t.val < 3 then 0 else seq p b (t.val - 3) j := by
  pointwise [A_main_v1, A_main_v0, K_main_call0_v0, K_main_c]
  have z : (FloatOps.sitofp (F := Ideal) .f32 0#32 : EReal) = 0 := by
    show ((((0 : ℤ) : ℝ)) : EReal) = 0
    simp
  by_cases ht : t.val < 3
  · rw [dif_neg (by omega), if_pos ht, z]
  · rw [dif_pos (by omega), if_neg ht]
    exact seq_at p b _ (by omega) _ _ _ (by dsimp only; omega) rfl

/-- Four terms added from the other end. -/
theorem four_terms (x y z u : EReal) : u + z + y + x = x + y + z + u := by
  rw [add_comm _ x, add_comm (u + z) y, add_comm u z, ← add_assoc, ← add_assoc]

/-- The filtered rows. -/
theorem filtered_apply (b : Fin 4) (t : Fin 4096) (j : Fin 512) :
    A_main_v30 (F := Ideal) p v g w ib fb (ix3 b t j) = (Arrays.of p v o g w ib fb ng).conv b t.val j := by
  have h := padded_apply p v g w ib fb
  unfold A_main_v30 A_main_v29 A_main_v24 A_main_v23 A_main_v22 A_main_v17 A_main_v16 A_main_v15 A_main_v10 A_main_v9
    A_main_v7 A_main_v2
  generalize A_main_v1 (F := Ideal) p v g w ib fb = x at h ⊢
  pointwise [A_main_v6, A_main_v5, A_main_v4, A_main_v3, A_main_v14, A_main_v13, A_main_v12, A_main_v11, A_main_v21,
    A_main_v20, A_main_v19, A_main_v18, A_main_v28, A_main_v27, A_main_v26, A_main_v25, K_main_v8, K_main_cst]
  simp only [h]
  have back : ∀ k : ℕ, k ≤ 3 → (if 3 - k + t.val < 3 then 0 else seq p b (3 - k + t.val - 3) j)
      = (Arrays.of p v o g w ib fb ng).back k b t.val j := fun k hk => by
    unfold Arrays.back
    by_cases ht : t.val < k
    · rw [if_pos (by omega), if_pos ht]
    · rw [if_neg (by omega), if_neg ht, show 3 - k + t.val - 3 = t.val - k from by omega]
      rfl
  have e3 := back 3 (by omega)
  rw [show 3 - 3 + t.val = t.val from by omega] at e3
  have e0 : (if 3 + t.val < 3 then 0 else seq p b (3 + t.val - 3) j) = seq p b t.val j := by
    rw [if_neg (by omega), show 3 + t.val - 3 = t.val from by omega]
  rw [e0, back 1 (by omega), back 2 (by omega), e3]
  unfold Arrays.conv
  exact four_terms _ _ _ _

/-- The rows through their gate. -/
theorem gated_apply (b : Fin 4) (t : Fin 4096) (j : Fin 512) :
    A_main_v37 (F := Ideal) p v g w ib fb (ix3 b t j) = (Arrays.of p v o g w ib fb ng).act b t.val j := by
  have h := filtered_apply p v o g w ib fb ng
  unfold A_main_v37 A_main_v36 A_main_v34 A_main_v32 A_main_v31
  generalize A_main_v30 (F := Ideal) p v g w ib fb = x at h ⊢
  pointwise [K_main_v33, K_main_cst_0, K_main_v35, K_main_cst_1]
  rw [h]
  rfl

/-- The rows through their gate, at a time and a channel written otherwise. -/
theorem gated_at (b : Fin 4) (t : Fin 4096) (j : Fin 512) (t' : ℕ) (j' : Fin 512) (ht : t.val = t') (hj : j.val = j'.val) :
    A_main_v37 (F := Ideal) p v g w ib fb (ix3 b t j) = (Arrays.of p v o g w ib fb ng).act b t' j' := by
  rw [gated_apply p v o g w ib fb ng, ht, Fin.ext hj]

/-- The queries, chunk first. -/
theorem queries_apply (n : Fin 64) (b h : Fin 4) (i d : Fin 64) :
    A_main_v80 (F := Ideal) p v g w ib fb (ix5 n b h i d) = ((Arrays.of p v o g w ib fb ng).chunk b h n.val).q i d := by
  have e := gated_at p v o g w ib fb ng
  unfold A_main_v80 A_main_v43 A_main_v41 A_main_v40 A_main_v39 A_main_v38
  generalize A_main_v37 (F := Ideal) p v g w ib fb = x at e ⊢
  pointwise [K_main_v42, K_main_cst_2]
  exact congrArg (fun y : EReal => y * _) (e _ _ _ _ _ (by dsimp only; omega) (by dsimp only; omega))

/-- The keys, chunk first. -/
theorem keys_apply (n : Fin 64) (b h : Fin 4) (i d : Fin 64) :
    A_main_v81 (F := Ideal) p v g w ib fb (ix5 n b h i d) = ((Arrays.of p v o g w ib fb ng).chunk b h n.val).k i d := by
  have e := gated_at p v o g w ib fb ng
  unfold A_main_v81 A_main_v47 A_main_v46 A_main_v45 A_main_v44
  generalize A_main_v37 (F := Ideal) p v g w ib fb = x at e ⊢
  pointwise
  exact e _ _ _ _ _ (by dsimp only; omega) (by dsimp only; omega)

/-- The values, chunk first. -/
theorem values_apply (n : Fin 64) (b h : Fin 4) (i : Fin 64) (c : Fin 128) :
    A_main_v82 (F := Ideal) p v g w ib fb (ix5 n b h i c) = ((Arrays.of p v o g w ib fb ng).chunk b h n.val).v i c := by
  pointwise [A_main_v82, A_main_v50, A_main_v49, A_main_v48]
  exact seq_at v b _ (by omega) _ _ _ (by dsimp only; omega) (by dsimp only; omega)

/-- The input gates, chunk first. -/
theorem gates_apply (n : Fin 64) (b h : Fin 4) (i : Fin 64) :
    A_main_v84 (F := Ideal) p v g w ib fb (ix4 n b h i) = ((Arrays.of p v o g w ib fb ng).chunk b h n.val).g i := by
  pointwise [A_main_v84, A_main_v57, A_main_v56, A_main_v55, A_main_v52, A_main_v51, A_main_v54, A_main_v53]
  refine congrArg₂ (fun y z : EReal => y + z) (seq_at g b _ (by omega) _ ⟨8 + h.val, by omega⟩ _ (by dsimp only; omega) (by dsimp only <;> omega)) ?_
  exact congrArg ib (congrArg ix1 (Fin.ext (by dsimp only <;> omega)))

/-- The logarithms of the decays. -/
theorem decays_apply (b h : Fin 4) (n i : Fin 64) :
    A_main_v73 (F := Ideal) p v g w ib fb (ix4 b h n i) = (Arrays.of p v o g w ib fb ng).logF b (64 * n.val + i.val) h := by
  have e : A_main_v64 (F := Ideal) p v g w ib fb (ix4 b h n i)
      = seq g b (64 * n.val + i.val) ⟨12 + h.val, by omega⟩ + fb (ix1 h) := by
    pointwise [A_main_v64, A_main_v63, A_main_v62, A_main_v59, A_main_v58, A_main_v61, A_main_v60]
    refine congrArg₂ (fun y z : EReal => y + z) (seq_at g b _ (by omega) _ ⟨12 + h.val, by omega⟩ _ (by dsimp only; omega) (by dsimp only <;> omega)) ?_
    exact congrArg fb (congrArg ix1 (Fin.ext (by dsimp only <;> omega)))
  unfold A_main_v73 A_main_v72 A_main_v71 A_main_v70 A_main_v69 A_main_v68 A_main_v67 A_main_v65
  generalize A_main_v64 (F := Ideal) p v g w ib fb = x at e ⊢
  pointwise [K_main_v66, K_main_cst_3]
  rw [e]
  show _ = -(Lru.spn (seq g b (64 * n.val + i.val) ⟨12 + h.val, by omega⟩ + fb (ix1 h)))
  generalize seq g b (64 * n.val + i.val) ⟨12 + h.val, by omega⟩ + fb (ix1 h) = y
  unfold Lru.spn
  have abs_neg : ∀ z : EReal, FloatOps.absf (F := Ideal) (φ := .f32) (-z) = FloatOps.absf (F := Ideal) (φ := .f32) z := fun z => by
    show max (-z) (- -z) = max z (-z)
    rw [neg_neg, max_comm]
  rw [abs_neg]

/-- The sums of the log decays, chunk first. -/
theorem sums_apply (n : Fin 64) (b h : Fin 4) (i : Fin 64) :
    A_main_v83 (F := Ideal) p v g w ib fb (ix4 n b h i) = ((Arrays.of p v o g w ib fb ng).chunk b h n.val).b i := by
  have e := decays_apply p v o g w ib fb ng
  unfold A_main_v83 A_main_v74
  generalize A_main_v73 (F := Ideal) p v g w ib fb = x at e ⊢
  pointwise
  rw [running_sum x _ (fun i => ?_)]
  · show _ = ∑ j : Fin 64, if j.val ≤ i.val then (Arrays.of p v o g w ib fb ng).logF b (64 * n.val + j.val) h else 0
    refine Finset.sum_congr rfl fun j _ => ?_
    rw [e]
  · pointwise [K_main_call1_call0_v0, K_main_call1_call0_cst]

/-- The mask keeps the rows up to a row's own. -/
theorem mask_apply (i j : Fin 64) : K_main_v76 (F := Ideal) (ix2 i j) = if j.val ≤ i.val then 1#1 else 0#1 := by
  pointwise [K_main_v76, K_main_call2_v4, K_main_call2_v2, K_main_call2_v0, K_main_call2_v1, K_main_call2_c, K_main_call2_v3,
    K_main_v75, K_main_c_4, K_main_call2_v5, K_main_call2_c_0]
  have e : IntOp.addi (BitVec.ofNat 32 i.val) 0#32 = BitVec.ofNat 32 i.val := BitVec.add_zero _
  rw [e]
  unfold Scalar.select
  exact if_congr (WordCmp.cmpi_sge_ofNat_eq_one_iff (w := 32) (by omega) (by omega)) rfl rfl

end Cert.Mlstm

end
-- ==== Proof.MlstmTrip.lean ====
/-
  One trip of the reference's loop: what it computes from a chunk and the carried memory is the formula's rows and its
  next memory.
-/
module

public import proofs.«01_k».proof.Proof.MlstmPair
public import proofs.«01_k».proof.Proof.MlstmRef
public import proofs.«01_k».proof.Proof.Gen.ReferenceMlstmIdeal.Run

@[expose] public section

set_option maxRecDepth 16384

noncomputable section

namespace Cert.Mlstm

open Idealize.ShloMosaic Idealize.ShloMosaic.TcCoe Idealize.ShloMosaic.Tactic
open Idealize.ShloMosaic.StableHlo
open Cert.ReferenceMlstmIdeal Cert.ReferenceMlstmIdeal.Gen Cert.ReferenceMlstmIdeal.Value

/-- The carried matrices. -/
abbrev matrices (V : Valuation τ sig (Elt Ideal)) : FVec Ideal S4x4x64x128 .f32 := V (Proc.devRef .tc main_v86_7)

/-- The carried vectors. -/
abbrev vectors (V : Valuation τ sig (Elt Ideal)) : FVec Ideal S4x4x64 .f32 := V (Proc.devRef .tc main_v86_8)

/-- The carried maxima. -/
abbrev maxima (V : Valuation τ sig (Elt Ideal)) : FVec Ideal S4x4 .f32 := V (Proc.devRef .tc main_v86_9)

/-- The rows written so far. -/
abbrev rowsOf (V : Valuation τ sig (Elt Ideal)) : FVec Ideal S64x4x4x64x128 .f32 := V (Proc.devRef .tc main_v86_10)

/-- What a trip reads: the chunk of every batch and head, their memories, and the mask. -/
structure Trip (x : Fin 4 → Fin 4 → Chunk) (s : Fin 4 → Fin 4 → Mem) (V : Valuation τ sig (Elt Ideal)) : Prop where
  q : ∀ b h i d, (res_main_while0b_v111 V : FVec Ideal S4x4x64x64 .f32) (ix4 b h i d) = (x b h).q i d
  k : ∀ b h i d, (res_main_while0b_v112 V : FVec Ideal S4x4x64x64 .f32) (ix4 b h i d) = (x b h).k i d
  v : ∀ b h i c, (res_main_while0b_v113 V : FVec Ideal S4x4x64x128 .f32) (ix4 b h i c) = (x b h).v i c
  b : ∀ b h i, (res_main_while0b_v114 V : FVec Ideal S4x4x64 .f32) (ix3 b h i) = (x b h).b i
  g : ∀ b h i, (res_main_while0b_v115 V : FVec Ideal S4x4x64 .f32) (ix3 b h i) = (x b h).g i
  mask : ∀ i j, (V (Proc.devRef .tc main_v86_5) : IVec S64x64 1) (ix2 i j) = if j.val ≤ i.val then 1#1 else 0#1
  C : ∀ b h d c, matrices V (ix4 b h d c) = (s b h).C d c
  N : ∀ b h d, vectors V (ix3 b h d) = (s b h).N d
  M : ∀ b h, maxima V (ix2 b h) = (s b h).M

namespace Trip

variable {x : Fin 4 → Fin 4 → Chunk} {s : Fin 4 → Fin 4 → Mem} {V : Valuation τ sig (Elt Ideal)} (T : Trip x s V)
include T

/-- The masked sums. -/
theorem masked (b h : Fin 4) (i j : Fin 64) :
    (res_main_while0b_v124 V : FVec Ideal S4x4x64x64 .f32) (ix4 b h i j) = (x b h).rowD i j := by
  have hb := T.b
  have hg := T.g
  have hm := T.mask
  unfold res_main_while0b_v124
  generalize res_main_while0b_v114 V = B at hb ⊢
  generalize res_main_while0b_v115 V = G at hg ⊢
  generalize V (Proc.devRef .tc main_v86_5) = K at hm ⊢
  clean_types
  pointwise
  rw [hm, hb, hb, hg]
  unfold Chunk.rowD
  by_cases hj : j.val ≤ i.val
  · rw [if_pos hj, if_pos hj]; rfl
  · rw [if_neg hj, if_neg hj]; exact KernelMlstmIdeal.Hand.word_bot

/-- The gates seen from the chunk's end. -/
theorem toEnd (b h : Fin 4) (j : Fin 64) :
    (res_main_while0b_v128 V : FVec Ideal S4x4x64 .f32) (ix3 b h j) = (x b h).te j := by
  have hb := T.b
  have hg := T.g
  unfold res_main_while0b_v128
  generalize res_main_while0b_v114 V = B at hb ⊢
  generalize res_main_while0b_v115 V = G at hg ⊢
  clean_types
  pointwise
  rw [hb, hb, hg]
  exact Chunk.te_eq j

/-- The sums and the carried maximum. -/
theorem carried (b h : Fin 4) (i : Fin 64) :
    (res_main_while0b_v131 V : FVec Ideal S4x4x64 .f32) (ix3 b h i) = (x b h).b i + (s b h).M := by
  have hb := T.b
  have hM := T.M
  unfold res_main_while0b_v131
  unfold maxima at hM
  generalize res_main_while0b_v114 V = B at hb ⊢
  generalize V (Proc.devRef .tc main_v86_9) = M at hM ⊢
  clean_types
  pointwise
  rw [hb, hM]

/-- The maximum a row subtracts. -/
theorem rowMax (b h : Fin 4) (i : Fin 64) :
    (res_main_while0b_v133 V : FVec Ideal S4x4x64 .f32) (ix3 b h i) = (x b h).rowM (s b h) i := by
  have hc := T.carried
  have hd := T.masked
  unfold res_main_while0b_v133
  generalize res_main_while0b_v131 V = B at hc ⊢
  generalize res_main_while0b_v124 V = D at hd ⊢
  clean_types
  pointwise
  rw [KernelMlstmIdeal.Hand.fold_max, hc, funext fun j => hd b h i j]
  rfl

/-- The weight of the carried memory in a row. -/
theorem inter (hx : ∀ b h, (x b h).Good) (b h : Fin 4) (i : Fin 64) :
    (res_main_while0b_v135 V : FVec Ideal S4x4x64 .f32) (ix3 b h i) = Ideal.exp ((s b h).M - (x b h).mx (s b h) i) := by
  have hc := T.carried
  have hr := T.rowMax
  unfold res_main_while0b_v135
  generalize res_main_while0b_v131 V = B at hc ⊢
  generalize res_main_while0b_v133 V = D at hr ⊢
  clean_types
  pointwise
  rw [hc, hr]
  exact (hx b h).inter_eq i

/-- The weights of the chunk's rows in a row. -/
theorem weights (hx : ∀ b h, (x b h).Good) (b h : Fin 4) (i j : Fin 64) :
    (res_main_while0b_v141 V : FVec Ideal S4x4x64x64 .f32) (ix4 b h i j) = (x b h).wm (s b h) i j := by
  have hd := T.masked
  have hr := T.rowMax
  have hq := T.q
  have hk := T.k
  unfold res_main_while0b_v141
  generalize res_main_while0b_v124 V = D at hd ⊢
  generalize res_main_while0b_v133 V = R at hr ⊢
  generalize res_main_while0b_v111 V = Q at hq ⊢
  generalize res_main_while0b_v112 V = K at hk ⊢
  clean_types
  pointwise
  simp only [hd, hr, hq, hk]
  exact (hx b h).wm_eq i j

/-- The next maximum. -/
theorem nextMax (b h : Fin 4) :
    (res_main_while0b_v163 V : FVec Ideal S4x4 .f32) (ix2 b h) = (x b h).newM (s b h) := by
  have hb := T.b
  have ht := T.toEnd
  have hM := T.M
  unfold res_main_while0b_v163
  unfold maxima at hM
  generalize res_main_while0b_v114 V = B at hb ⊢
  generalize res_main_while0b_v128 V = E at ht ⊢
  generalize V (Proc.devRef .tc main_v86_9) = M at hM ⊢
  clean_types
  pointwise
  rw [KernelMlstmIdeal.Hand.fold_max, hb, hM, funext fun j => ht b h j]
  rfl

/-- What is left of the carried memory. -/
theorem decay (b h : Fin 4) :
    (res_main_while0b_v168 V : FVec Ideal S4x4 .f32) (ix2 b h)
      = Ideal.exp ((x b h).b 63 + (s b h).M - (x b h).newM (s b h)) := by
  have hb := T.b
  have hn := T.nextMax
  have hM := T.M
  unfold res_main_while0b_v168
  unfold maxima at hM
  generalize res_main_while0b_v114 V = B at hb ⊢
  generalize res_main_while0b_v163 V = E at hn ⊢
  generalize V (Proc.devRef .tc main_v86_9) = M at hM ⊢
  clean_types
  pointwise
  rw [hb, hM, hn]

/-- The keys, weighted for the memory. -/
theorem weighted (b h : Fin 4) (j d : Fin 64) :
    (res_main_while0b_v175 V : FVec Ideal S4x4x64x64 .f32) (ix4 b h j d) = (x b h).wk (s b h) j d := by
  have hk := T.k
  have ht := T.toEnd
  have hn := T.nextMax
  unfold res_main_while0b_v175
  generalize res_main_while0b_v112 V = K at hk ⊢
  generalize res_main_while0b_v128 V = E at ht ⊢
  generalize res_main_while0b_v163 V = N at hn ⊢
  clean_types
  pointwise
  rw [hk, ht, hn]
  rfl

/-- The next matrix. -/
theorem nextC (b h : Fin 4) (d : Fin 64) (c : Fin 128) :
    (step_main_v86_7 V : FVec Ideal S4x4x64x128 .f32) (ix4 b h d c) = ((x b h).next (s b h)).C d c := by
  have hd := T.decay
  have hw := T.weighted
  have hv := T.v
  have hC := T.C
  unfold step_main_v86_7
  unfold matrices at hC
  generalize res_main_while0b_v168 V = E at hd ⊢
  generalize res_main_while0b_v175 V = W at hw ⊢
  generalize res_main_while0b_v113 V = U at hv ⊢
  generalize V (Proc.devRef .tc main_v86_7) = C at hC ⊢
  clean_types
  simp only [id_eq]
  pointwise
  simp only [hd, hw, hv, hC]
  exact congrArg (fun y : EReal => y + _) (mul_comm _ _)

/-- The next vector. -/
theorem nextN (b h : Fin 4) (d : Fin 64) :
    (step_main_v86_8 V : FVec Ideal S4x4x64 .f32) (ix3 b h d) = ((x b h).next (s b h)).N d := by
  have hd := T.decay
  have hw := T.weighted
  have hN := T.N
  unfold step_main_v86_8
  unfold vectors at hN
  generalize res_main_while0b_v168 V = E at hd ⊢
  generalize res_main_while0b_v175 V = W at hw ⊢
  generalize V (Proc.devRef .tc main_v86_8) = C at hN ⊢
  clean_types
  simp only [id_eq]
  pointwise
  simp only [hd, hw, hN]
  exact congrArg (fun y : EReal => y + _) (mul_comm _ _)

/-- The next maximum, as carried. -/
theorem nextM (b h : Fin 4) :
    (step_main_v86_9 V : FVec Ideal S4x4 .f32) (ix2 b h) = ((x b h).next (s b h)).M := T.nextMax b h

end Trip

/-- An update of one chunk's rows, read at any chunk. -/
theorem chunk_update (r : FVec Ideal S64x4x4x64x128 .f32) (y : FVec Ideal S4x4x64x128 .f32)
    (n : (⟨S_, .i32⟩ : BufTy).Contents (Elt Ideal)) (k : Fin 64) (hn : n = fun _ => BitVec.ofNat 32 k.val)
    (t : Fin 64) (b h : Fin 4) (i : Fin 64) (c : Fin 128) :
    Host.dynamicUpdateSlice r (broadcastInDim S1x4x4x64x128 ![1, 2, 3, 4] bcast_S4x4x64x128_S1x4x4x64x128_1_2_3_4 y)
        (fun a => (((![n, constantI S_ 32 0#32, constantI S_ 32 0#32, constantI S_ 32 0#32, constantI S_ 32 0#32] :
        Fin 5 → (⟨S_, .i32⟩ : BufTy).Contents (Elt Ideal))) a (Shape.Idx.first h_S_)).toInt)
        updateFits_S64x4x4x64x128_S1x4x4x64x128 (ix5 t b h i c)
      = if t.val = k.val then y (ix4 b h i c) else r (ix5 t b h i c) := by
  subst hn
  refine (congrFun (WordCmp.dynamicUpdateSlice_eq_update (s := S64x4x4x64x128) (u := S1x4x4x64x128) r _ _ _ ![k.val, 0, 0, 0, 0]
    ⟨rfl, fun a => match a with
      | ⟨0, _⟩ => (by show k.val + 1 ≤ 64; omega)
      | ⟨1, _⟩ => (by show 0 + 4 ≤ 4; omega)
      | ⟨2, _⟩ => (by show 0 + 4 ≤ 4; omega)
      | ⟨3, _⟩ => (by show 0 + 64 ≤ 64; omega)
      | ⟨4, _⟩ => (by show 0 + 128 ≤ 128; omega)⟩
    (fun a => match a with
      | ⟨0, _⟩ => WordCmp.toInt_ofNat_of_lt (by omega)
      | ⟨1, _⟩ => rfl
      | ⟨2, _⟩ => rfl
      | ⟨3, _⟩ => rfl
      | ⟨4, _⟩ => rfl)) _).trans ?_
  pointwise
  by_cases q : t.val = k.val
  · rw [dif_pos (by omega), if_pos q]
  · rw [dif_neg (by omega), if_neg q]

/-- The rows after a trip: the chunk's own are the formula's, the others are as they were. -/
theorem Trip.rows {x : Fin 4 → Fin 4 → Chunk} {s : Fin 4 → Fin 4 → Mem} {V : Valuation τ sig (Elt Ideal)} (T : Trip x s V)
    (hx : ∀ b h, (x b h).Good) (k : Fin 64) (hn : V (Proc.devRef .tc main_v86_6) = fun _ => BitVec.ofNat 32 k.val)
    (t : Fin 64) (b h : Fin 4) (i : Fin 64) (c : Fin 128) :
    (step_main_v86_10 V : FVec Ideal S64x4x4x64x128 .f32) (ix5 t b h i c)
      = if t.val = k.val then (x b h).out (s b h) i c else rowsOf V (ix5 t b h i c) := by
  unfold step_main_v86_10
  refine (chunk_update _ _ _ k hn t b h i c).trans (if_congr Iff.rfl ?_ rfl)
  have he := T.inter hx
  have hw := T.weights hx
  have hr := T.rowMax
  have hq := T.q
  have hv := T.v
  have hC := T.C
  have hN := T.N
  unfold matrices at hC
  unfold vectors at hN
  generalize res_main_while0b_v135 V = E at he ⊢
  generalize res_main_while0b_v141 V = W at hw ⊢
  generalize res_main_while0b_v133 V = R at hr ⊢
  generalize res_main_while0b_v111 V = Q at hq ⊢
  generalize res_main_while0b_v113 V = U at hv ⊢
  generalize V (Proc.devRef .tc main_v86_7) = C at hC ⊢
  generalize V (Proc.devRef .tc main_v86_8) = N at hN ⊢
  clean_types
  pointwise
  simp only [he, hw, hr, hq, hv, hC, hN]
  rw [Chunk.rowM_eq]
  rfl

end Cert.Mlstm

end
-- ==== Proof.MlstmLoop.lean ====
/-
  The reference's loop over the chunks: before chunk k it carries the formula's memories, and the rows of the chunks before
  are the formula's. With it the reference's result is the formula's.
-/
module

public import proofs.«01_k».proof.Proof.MlstmTrip

@[expose] public section

set_option maxRecDepth 16384

noncomputable section

namespace Cert.Mlstm

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo
open Cert.ReferenceMlstmIdeal Cert.ReferenceMlstmIdeal.Gen Cert.ReferenceMlstmIdeal.Value

/-- One chunk's slice of an array of rows, of either width. -/
theorem rows_slice {D : ℕ} (hD : D = 64 ∨ D = 128) (x : FVec Ideal ⟨5, ![64, 4, 4, 64, D]⟩ .f32) (n : (⟨S_, .i32⟩ : BufTy).Contents (Elt Ideal))
    (k : Fin 64) (hn : n = fun _ => BitVec.ofNat 32 k.val)
    (fits : (⟨5, ![64, 4, 4, 64, D]⟩ : Shape).Slices (fun _ => 0) ⟨5, ![1, 4, 4, 64, D]⟩)
    (casts : (⟨5, ![1, 4, 4, 64, D]⟩ : Shape).ShapeCasts ⟨4, ![4, 4, 64, D]⟩) (b h : Fin 4) (i : Fin 64) (d : Fin D) :
    shapeCast ⟨4, ![4, 4, 64, D]⟩ (Host.dynamicSlice ⟨5, ![1, 4, 4, 64, D]⟩ x
        (fun a => (((![n, constantI S_ 32 0#32, constantI S_ 32 0#32, constantI S_ 32 0#32, constantI S_ 32 0#32] :
        Fin 5 → (⟨S_, .i32⟩ : BufTy).Contents (Elt Ideal))) a (Shape.Idx.first h_S_)).toInt) fits) casts (ix4 b h i d)
      = x (ix5 k b h i d) := by
  subst hn
  rw [WordCmp.dynamicSlice_eq_extract ⟨5, ![1, 4, 4, 64, D]⟩ x _ _ ![k.val, 0, 0, 0, 0]
    ⟨rfl, fun a => match a with
      | ⟨0, _⟩ => (by show k.val + 1 ≤ 64; omega)
      | ⟨1, _⟩ => (by show 0 + 4 ≤ 4; omega)
      | ⟨2, _⟩ => (by show 0 + 4 ≤ 4; omega)
      | ⟨3, _⟩ => (by show 0 + 64 ≤ 64; omega)
      | ⟨4, _⟩ => (by show 0 + D ≤ D; omega)⟩
    (fun a => match a with
      | ⟨0, _⟩ => WordCmp.toInt_ofNat_of_lt (by omega)
      | ⟨1, _⟩ => rfl
      | ⟨2, _⟩ => rfl
      | ⟨3, _⟩ => rfl
      | ⟨4, _⟩ => rfl)]
  rcases hD with rfl | rfl <;> pointwise

/-- One chunk's slice of the gates. -/
theorem gates_slice (x : FVec Ideal S64x4x4x64 .f32) (n : (⟨S_, .i32⟩ : BufTy).Contents (Elt Ideal)) (k : Fin 64)
    (hn : n = fun _ => BitVec.ofNat 32 k.val) (b h : Fin 4) (i : Fin 64) :
    shapeCast S4x4x64 (Host.dynamicSlice S1x4x4x64 x
        (fun a => (((![n, constantI S_ 32 0#32, constantI S_ 32 0#32, constantI S_ 32 0#32] :
        Fin 4 → (⟨S_, .i32⟩ : BufTy).Contents (Elt Ideal))) a (Shape.Idx.first h_S_)).toInt) sliceFits_S64x4x4x64_S1x4x4x64)
        shapeCasts_S1x4x4x64_S4x4x64 (ix3 b h i) = x (ix4 k b h i) := by
  subst hn
  rw [WordCmp.dynamicSlice_eq_extract S1x4x4x64 x _ _ ![k.val, 0, 0, 0]
    ⟨rfl, fun a => match a with
      | ⟨0, _⟩ => (by show k.val + 1 ≤ 64; omega)
      | ⟨1, _⟩ => (by show 0 + 4 ≤ 4; omega)
      | ⟨2, _⟩ => (by show 0 + 4 ≤ 4; omega)
      | ⟨3, _⟩ => (by show 0 + 64 ≤ 64; omega)⟩
    (fun a => match a with
      | ⟨0, _⟩ => WordCmp.toInt_ofNat_of_lt (by omega)
      | ⟨1, _⟩ => rfl
      | ⟨2, _⟩ => rfl
      | ⟨3, _⟩ => rfl)]
  pointwise

/-- What every trip leaves as it was stays so. -/
theorem iterate_keep (r : DevRef τ sig) (h : ∀ V : Valuation τ sig (Elt Ideal), STEP V r = V r) (k : ℕ)
    (V : Valuation τ sig (Elt Ideal)) : (STEP^[k] V) r = V r := by
  induction k with
  | zero => rfl
  | succ k ih => rw [Function.iterate_succ_apply', h, ih]

variable (m : (ℓ : Loc nD τ sig) → Buf (Elt Ideal) ℓ) (c : Dev nD)

/-- The contents before chunk k. -/
abbrev atT (k : ℕ) : Valuation τ sig (Elt Ideal) := STEP^[k] (entryContents preI m c)

/-- An argument of the launch. -/
abbrev arg (r : Ref sig .tc) := m ((c.tc : Thread nD τ).loc r)

/-- The launch's arguments, as the formula takes them. -/
abbrev asked : Arrays := Arrays.of (arg m c main_arg0) (arg m c main_arg1) (arg m c main_arg2) (arg m c main_arg3)
  (arg m c main_arg4) (arg m c main_arg5) (arg m c main_arg6) (arg m c main_arg7)

set_option maxHeartbeats 4000000 in
set_option maxRecDepth 65536 in
/-- What the loop enters with. -/
theorem entry :
    entryContents preI m c (Proc.devRef .tc main_v86_0) = Step.A_main_v80 (arg m c main_arg0) (arg m c main_arg1)
        (arg m c main_arg3) (arg m c main_arg4) (arg m c main_arg5) (arg m c main_arg6)
    ∧ entryContents preI m c (Proc.devRef .tc main_v86_1) = Step.A_main_v81 (arg m c main_arg0) (arg m c main_arg1)
        (arg m c main_arg3) (arg m c main_arg4) (arg m c main_arg5) (arg m c main_arg6)
    ∧ entryContents preI m c (Proc.devRef .tc main_v86_2) = Step.A_main_v82 (arg m c main_arg0) (arg m c main_arg1)
        (arg m c main_arg3) (arg m c main_arg4) (arg m c main_arg5) (arg m c main_arg6)
    ∧ entryContents preI m c (Proc.devRef .tc main_v86_3) = Step.A_main_v83 (arg m c main_arg0) (arg m c main_arg1)
        (arg m c main_arg3) (arg m c main_arg4) (arg m c main_arg5) (arg m c main_arg6)
    ∧ entryContents preI m c (Proc.devRef .tc main_v86_4) = Step.A_main_v84 (arg m c main_arg0) (arg m c main_arg1)
        (arg m c main_arg3) (arg m c main_arg4) (arg m c main_arg5) (arg m c main_arg6)
    ∧ entryContents preI m c (Proc.devRef .tc main_v86_5) = Step.K_main_v76 (F := Ideal)
    ∧ (entryContents preI m c (Proc.devRef .tc main_v86_6) = fun _ => BitVec.ofNat 32 0)
    ∧ entryContents preI m c (Proc.devRef .tc main_v86_7) = Step.K_main_v77 (F := Ideal)
    ∧ entryContents preI m c (Proc.devRef .tc main_v86_8) = Step.K_main_v78 (F := Ideal)
    ∧ entryContents preI m c (Proc.devRef .tc main_v86_9) = Step.K_main_v79 (F := Ideal) := by
  refine ⟨?_, ?_, ?_, ?_, ?_, ?_, ?_, ?_, ?_, ?_⟩ <;>
    ((simp only [entryContents, afterL_cons, afterL_nil]; after_reads_simp) <;> rfl)

/-- The counter counts the chunks. -/
theorem at_count (k : ℕ) : atT m c k (Proc.devRef .tc main_v86_6) = fun _ => BitVec.ofNat 32 k := by
  induction k with
  | zero => exact (entry m c).2.2.2.2.2.2.1
  | succ k ih =>
    unfold atT at ih ⊢
    rw [Function.iterate_succ_apply', STEP_main_v86_6]
    unfold step_main_v86_6
    rw [ih]
    funext i
    show BitVec.ofNat 32 k + 1#32 = BitVec.ofNat 32 (k + 1)
    simp only [BitVec.ofNat_add]

/-- What the loop carries before chunk k. -/
structure Carried (k : ℕ) : Prop where
  C : ∀ b h d e, matrices (atT m c k) (ix4 b h d e) = ((asked m c).mem b h k).C d e
  N : ∀ b h d, vectors (atT m c k) (ix3 b h d) = ((asked m c).mem b h k).N d
  M : ∀ b h, maxima (atT m c k) (ix2 b h) = ((asked m c).mem b h k).M

/-- What the trip of chunk k reads. -/
theorem Carried.trip {k : ℕ} (hk : k < 64) (H : Carried m c k) :
    Trip (fun b h => (asked m c).chunk b h k) (fun b h => (asked m c).mem b h k) (atT m c k) where
  q b h i d := by
    refine (rows_slice (.inl rfl) (atT m c k (Proc.devRef .tc main_v86_0)) _ ⟨k, hk⟩ (at_count m c k)
      sliceFits_S64x4x4x64x64_S1x4x4x64x64 shapeCasts_S1x4x4x64x64_S4x4x64x64 b h i d).trans ?_
    unfold atT
    rw [iterate_keep _ STEP_main_v86_0, (entry m c).1]
    exact queries_apply _ _ (arg m c main_arg2) _ _ _ _ (arg m c main_arg7) ⟨k, hk⟩ b h i d
  k b h i d := by
    refine (rows_slice (.inl rfl) (atT m c k (Proc.devRef .tc main_v86_1)) _ ⟨k, hk⟩ (at_count m c k)
      sliceFits_S64x4x4x64x64_S1x4x4x64x64 shapeCasts_S1x4x4x64x64_S4x4x64x64 b h i d).trans ?_
    unfold atT
    rw [iterate_keep _ STEP_main_v86_1, (entry m c).2.1]
    exact keys_apply _ _ (arg m c main_arg2) _ _ _ _ (arg m c main_arg7) ⟨k, hk⟩ b h i d
  v b h i e := by
    refine (rows_slice (.inr rfl) (atT m c k (Proc.devRef .tc main_v86_2)) _ ⟨k, hk⟩ (at_count m c k)
      sliceFits_S64x4x4x64x128_S1x4x4x64x128 shapeCasts_S1x4x4x64x128_S4x4x64x128 b h i e).trans ?_
    unfold atT
    rw [iterate_keep _ STEP_main_v86_2, (entry m c).2.2.1]
    exact values_apply _ _ (arg m c main_arg2) _ _ _ _ (arg m c main_arg7) ⟨k, hk⟩ b h i e
  b b h i := by
    refine (gates_slice (atT m c k (Proc.devRef .tc main_v86_3)) _ ⟨k, hk⟩ (at_count m c k) b h i).trans ?_
    unfold atT
    rw [iterate_keep _ STEP_main_v86_3, (entry m c).2.2.2.1]
    exact sums_apply _ _ (arg m c main_arg2) _ _ _ _ (arg m c main_arg7) ⟨k, hk⟩ b h i
  g b h i := by
    refine (gates_slice (atT m c k (Proc.devRef .tc main_v86_4)) _ ⟨k, hk⟩ (at_count m c k) b h i).trans ?_
    unfold atT
    rw [iterate_keep _ STEP_main_v86_4, (entry m c).2.2.2.2.1]
    exact gates_apply _ _ (arg m c main_arg2) _ _ _ _ (arg m c main_arg7) ⟨k, hk⟩ b h i
  mask i j := by
    unfold atT
    rw [iterate_keep _ STEP_main_v86_5, (entry m c).2.2.2.2.2.1]
    exact mask_apply i j
  C := H.C
  N := H.N
  M := H.M

/-- Before every chunk the loop carries the formula's memories. -/
theorem carried (k : ℕ) (hk : k ≤ 64) : Carried m c k := by
  induction k with
  | zero =>
    obtain ⟨-, -, -, -, -, -, -, eC, eN, eM⟩ := entry m c
    exact ⟨fun b h d e => (congrFun eC _).trans Ideal.ofBits_zero_f32, fun b h d => (congrFun eN _).trans Ideal.ofBits_zero_f32,
      fun b h => (congrFun eM _).trans Ideal.ofBits_zero_f32⟩
  | succ k ih =>
    have T := (ih (by omega)).trip m c (by omega)
    have s : atT m c (k + 1) = STEP (atT m c k) := Function.iterate_succ_apply' _ _ _
    refine ⟨fun b h d e => ?_, fun b h d => ?_, fun b h => ?_⟩
    · unfold matrices; rw [s, STEP_main_v86_7]; exact T.nextC b h d e
    · unfold vectors; rw [s, STEP_main_v86_8]; exact T.nextN b h d
    · unfold maxima; rw [s, STEP_main_v86_9]; exact T.nextM b h

/-- The rows of the chunks before chunk k are the formula's. -/
theorem at_rows (ha : (asked m c).Good) (k : ℕ) (hk : k ≤ 64) (t : Fin 64) (ht : t.val < k) (b h : Fin 4) (i : Fin 64)
    (e : Fin 128) :
    rowsOf (atT m c k) (ix5 t b h i e) = ((asked m c).chunk b h t.val).out ((asked m c).mem b h t.val) i e := by
  induction k with
  | zero => omega
  | succ k ih =>
    have T := (carried m c k (by omega)).trip m c (by omega)
    have s : atT m c (k + 1) = STEP (atT m c k) := Function.iterate_succ_apply' _ _ _
    unfold rowsOf
    rw [s, STEP_main_v86_10]
    refine (T.rows (fun b h => ha.chunk b h k) ⟨k, by omega⟩ (at_count m c k) t b h i e).trans ?_
    by_cases q : t.val = k
    · rw [if_pos q, q]
    · rw [if_neg q]
      exact ih (by omega) (by omega)

/-- The output gate, as a program's contents have them. -/
abbrev gateOf (V : Valuation τ sig (Elt Ideal)) : FVec Ideal S16384x512 .f32 := V (Proc.devRef .tc main_arg2)

/-- The heads' scales, as a program's contents have them. -/
abbrev scalesOf (V : Valuation τ sig (Elt Ideal)) : FVec Ideal S128 .f32 := V (Proc.devRef .tc main_arg7)

/-- What the reference computes from the rows: each normalized, scaled and gated. -/
theorem out_apply (V : Valuation τ sig (Elt Ideal)) (r : Fin 16384) (j : Fin 512) (y : Fin 128 → EReal)
    (hy : ∀ e, rowsOf V (ix5 ⟨r.val / 64 % 64, by omega⟩ ⟨r.val / 4096, by omega⟩ ⟨j.val / 128, by omega⟩
      ⟨r.val % 64, by omega⟩ e) = y e) :
    (out_main_v110 (F := Ideal) V : FVec Ideal S16384x512 .bf16) (ix2 r j)
      = y ⟨j.val % 128, by omega⟩
          * Ideal.rsqrt (Ideal.div (∑ e, y e * y e) (Ideal.ofBits .f32 0x43000000#32) + Ideal.ofBits .f32 0x358637BD#32)
          * scalesOf V (ix1 ⟨j.val % 128, by omega⟩) * Lru.sigm (gateOf V (ix2 r j)) := by
  unfold out_main_v110
  unfold rowsOf at hy
  unfold gateOf scalesOf
  generalize V (Proc.devRef .tc main_v86_10) = R at hy ⊢
  generalize V (Proc.devRef .tc main_arg2) = O
  generalize V (Proc.devRef .tc main_arg7) = G
  clean_types
  pointwise
  simp only [hy]
  rfl

/-- The reference's result is the formula's. -/
theorem ref_eq (ha : (asked m c).Good) : out_main_v110 (STEP^[64] (entryContents preI m c)) = (asked m c).spec := by
  funext i
  obtain ⟨r, j, rfl⟩ : ∃ (r : Fin 16384) (j : Fin 512), i = ix2 r j :=
    ⟨i (0 : Fin 2), i (1 : Fin 2), funext fun a => by match a with | ⟨0, _⟩ => rfl | ⟨1, _⟩ => rfl⟩
  have hn : r.val / 64 % 64 = r.val % 4096 / 64 := by omega
  have hi : r.val % 64 = r.val % 4096 % 64 := by omega
  have hy : ∀ e, rowsOf (atT m c 64) (ix5 ⟨r.val / 64 % 64, by omega⟩ ⟨r.val / 4096, by omega⟩ ⟨j.val / 128, by omega⟩
      ⟨r.val % 64, by omega⟩ e) = (asked m c).row ⟨r.val / 4096, by omega⟩ (r.val % 4096) ⟨j.val / 128, by omega⟩ e := fun e => by
    rw [at_rows m c ha 64 le_rfl ⟨r.val / 64 % 64, by omega⟩ (Nat.mod_lt _ (by decide))]
    unfold Arrays.row
    simp only [hn, hi]
  refine (out_apply (atT m c 64) r j _ hy).trans ?_
  have q2 := congrFun (iter_main_arg2 m c 64) (ix2 r j)
  have q7 := congrFun (iter_main_arg7 m c 64) (ix1 ⟨j.val % 128, by omega⟩)
  unfold gateOf scalesOf atT
  rw [q2, q7]
  have q := seq_eq (asked m c).O ⟨r.val / 4096, by omega⟩ (r.val % 4096) (by omega) r (by dsimp only; omega) j
  exact congrArg (fun z : EReal => (asked m c).normed ⟨r.val / 4096, by omega⟩ (r.val % 4096) ⟨j.val / 128, by omega⟩
    ⟨j.val % 128, by omega⟩ * Lru.sigm z) q.symm

end Cert.Mlstm

end
-- ==== Proof.MlstmClaim.lean ====
/-
  The value claim about the matrix memory: on finite arguments the idealized kernel and the idealized reference compute the
  same array, the formula's.
-/
module

public import proofs.«01_k».proof.Defs
public import proofs.«01_k».proof.Proof.Gen.Pre_finite_inputs
public import proofs.«01_k».proof.Proof.MlstmKernel
public import proofs.«01_k».proof.Proof.MlstmValue
public import proofs.«01_k».proof.Proof.MlstmLoop

@[expose] public section

set_option maxRecDepth 16384

noncomputable section

namespace Cert.Mlstm

open Idealize.ShloMosaic Idealize.ShloMosaic.TcCoe Idealize.ShloMosaic.Tactic Idealize.SL.Sem

/-- The word of plus infinity. -/
theorem word_top : Ideal.ofBits .f32 0x7F800000#32 = (⊤ : EReal) := by simp [Ideal.ofBits, Ideal.ieee]

/-- A number whose absolute value is below plus infinity is finite. -/
theorem isReal_of_abs_lt {x : EReal} (h : max x (-x) < ⊤) : IsReal x := by
  induction x with
  | bot => simp at h
  | top => simp at h
  | coe r => exact ⟨r, rfl⟩

/-- The same, of the comparison a program makes. -/
theorem isReal_of_cmp {x : EReal}
    (h : FloatOps.cmpf (F := Ideal) (φ := .f32) .olt (FloatOps.absf (F := Ideal) (φ := .f32) x) (Ideal.ofBits .f32 0x7F800000#32) = 1#1) :
    IsReal x := by
  refine isReal_of_abs_lt (lt_of_not_ge fun q => ?_)
  have q' : ¬ max x (-x) < Ideal.ofBits .f32 0x7F800000#32 := by rw [word_top]; exact not_lt.2 q
  have e : Ideal.cmp .olt (max x (-x)) (Ideal.ofBits .f32 0x7F800000#32) = 0#1 := by
    unfold Ideal.cmp
    simp [q']
  exact absurd (e.symm.trans h) (by decide)

/-- Arguments of which the precondition holds are finite where the formula needs them so. -/
theorem good_of_finite (p v o : FVec Ideal Cert.Pre_finite_inputs.S16384x512 .f32) (g : FVec Ideal Cert.Pre_finite_inputs.S16384x128 .f32)
    (w : FVec Ideal Cert.Pre_finite_inputs.S4x512 .f32) (ib fb : FVec Ideal Cert.Pre_finite_inputs.S4 .f32)
    (ng : FVec Ideal Cert.Pre_finite_inputs.S128 .f32)
    (h0 : (Cert.Pre_finite_inputs.fn (F := Ideal) p v o g w ib fb ng).1 = fun _ => 1#1)
    (h1 : (Cert.Pre_finite_inputs.fn (F := Ideal) p v o g w ib fb ng).2.1 = fun _ => 1#1)
    (h2 : (Cert.Pre_finite_inputs.fn (F := Ideal) p v o g w ib fb ng).2.2.1 = fun _ => 1#1)
    (h3 : (Cert.Pre_finite_inputs.fn (F := Ideal) p v o g w ib fb ng).2.2.2.1 = fun _ => 1#1)
    (h4 : (Cert.Pre_finite_inputs.fn (F := Ideal) p v o g w ib fb ng).2.2.2.2 = fun _ => 1#1) :
    (Arrays.of p v o g w ib fb ng).Good where
  P i := isReal_of_cmp (congrFun h0 i)
  V i := isReal_of_cmp (congrFun h1 i)
  W i := isReal_of_cmp (congrFun h3 i)
  ib h := isReal_of_cmp (congrFun h4 (ix1 h))
  G r j l u := by
    have e := congrFun h2 (ix2 r ⟨j.val - 8, by omega⟩)
    refine isReal_of_cmp (x := g (ix2 r j)) (Eq.trans ?_ e)
    have s : extractStridedSlice Cert.Pre_finite_inputs.S16384x8 ![0, 8] g
        Cert.Pre_finite_inputs.Facts.slices_S16384x128_S16384x8_0_8 (ix2 r ⟨j.val - 8, by omega⟩) = g (ix2 r j) := by
      pointwise
      exact congrArg (fun x => g (ix2 r x)) (Fin.ext (by dsimp only; omega))
    exact congrArg (fun x : EReal => FloatOps.cmpf (F := Ideal) (φ := .f32) .olt (FloatOps.absf (F := Ideal) (φ := .f32) x)
      (Ideal.ofBits .f32 0x7F800000#32)) s.symm

/-- On finite arguments the idealized kernel's runs end, its arguments unchanged. -/
theorem frame_kernelIdeal_finite : Cert.quiescent_KernelMlstmIdeal_pre_finite_inputs
    (hKernelMlstmIdeal := Cert.KernelMlstmIdeal.Gen.facts) := fun m ρ _ => launch_unchanged m ρ

/-- On finite arguments the reference's runs end, its arguments unchanged. -/
theorem frame_referenceIdeal_finite : Cert.quiescent_ReferenceMlstmIdeal_pre_finite_inputs
    (hReferenceMlstmIdeal := Cert.ReferenceMlstmIdeal.Gen.facts) := fun m ρ _ => frame_referenceIdeal m ρ trivial

section

open Cert.KernelMlstmIdeal Cert.KernelMlstmIdeal.Gen Cert.KernelMlstmIdeal.Hand

/-- On finite arguments the idealized kernel ends with the formula's array, its arguments unchanged. -/
theorem kernel_result (m : (ℓ : Loc nD τ sig) → Buf (Elt Ideal) ℓ) (ρ : Dev nD → PrngReg) (ha : ∀ c, (given m c).Good) :
    θ_run (defs (F := Ideal)) (onTc (τ := τ) (main (F := Ideal))) ⟨m, fun _ => 0, ρ⟩ (fun r => ∀ c : Dev nD,
      r.2.mem ((c.tc : Thread nD τ).loc main_v10) = (given m c).spec
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (array_eq m c (ha c)), h.2.1 c⟩)
    (θ_run_and (launch_ends m ρ) (launch_unchanged m ρ))

end

/-- From equal, finite arguments the idealized kernel and the idealized reference end with the same result. -/
theorem same_result : Cert.algebraic_KernelMlstmIdeal_ReferenceMlstmIdeal_pre_finite_inputs
    (hKernelMlstmIdeal := Cert.KernelMlstmIdeal.Gen.facts) (hReferenceMlstmIdeal := Cert.ReferenceMlstmIdeal.Gen.facts) :=
  fun m ρ m' ρ' finite same =>
    have ha : ∀ c, (Cert.KernelMlstmIdeal.Hand.given m c).Good := fun c => by
      obtain ⟨h0, h1, h2, h3, h4⟩ := finite c
      exact good_of_finite _ _ _ _ _ _ _ _ h0 h1 h2 h3 h4
    have e : ∀ c, asked m' c = Cert.KernelMlstmIdeal.Hand.given m c := fun c => by
      obtain ⟨e0, e1, e2, e3, e4, e5, e6, e7⟩ := same c
      unfold asked arg
      rw [e0, e1, e2, e3, e4, e5, e6, e7]
      rfl
    ⟨fun c => (Cert.KernelMlstmIdeal.Hand.given m c).spec, kernel_result m ρ ha,
      (θ_run Cert.ReferenceMlstmIdeal.defs _ _).mono
        (fun _ h c => ⟨(h c).1.trans ((ref_eq m' c ((e c).symm ▸ ha c)).trans (congrArg Arrays.spec (e c))), (h c).2⟩)
        (Cert.ReferenceMlstmIdeal.Value.run m' ρ')⟩

end Cert.Mlstm

end
-- ==== Proof.lean ====
/-
  The certificate: every claim of the test, each from the module that proves it.
-/
module

public import proofs.«01_k».proof.Defs
public import proofs.«01_k».proof.Proof.LruClaim
public import proofs.«01_k».proof.Proof.MlpClaim
public import proofs.«01_k».proof.Proof.MlpFinalClaim
public import proofs.«01_k».proof.Proof.EvenClaim
public import proofs.«01_k».proof.Proof.OddClaim
public import proofs.«01_k».proof.Proof.MlstmClaim
public import proofs.«01_k».proof.Proof.Gen.KernelMlp.Frame
public import proofs.«01_k».proof.Proof.Gen.KernelMlpIdeal.Value
public import proofs.«01_k».proof.Proof.Gen.KernelMlpFinal.Frame
public import proofs.«01_k».proof.Proof.Gen.KernelMlpFinalIdeal.Value
public import proofs.«01_k».proof.Proof.Gen.KernelEven.Frame
public import proofs.«01_k».proof.Proof.Gen.KernelEvenIdeal.Value
public import proofs.«01_k».proof.Proof.Gen.KernelOdd.Frame
public import proofs.«01_k».proof.Proof.Gen.KernelOddIdeal.Value
public import proofs.«01_k».proof.Proof.Gen.KernelMlstm.Frame
public import proofs.«01_k».proof.Proof.Gen.KernelMlstmIdeal.Frame
public import proofs.«01_k».proof.Proof.Gen.KernelMlstm.Skeleton
public import proofs.«01_k».proof.Proof.Gen.KernelMlstmIdeal.Skeleton
public import proofs.«01_k».proof.Proof.Gen.KernelMlstm.Loops
public import proofs.«01_k».proof.Proof.Gen.KernelMlstmIdeal.Loops
public import proofs.«01_k».proof.Proof.Gen.ReferenceMlstmIdeal.Step
public import proofs.«01_k».proof.Proof.Gen.ReferenceMlstmIdeal.Run
public import proofs.«01_k».proof.Proof.Gen.Pre_finite_inputs
public import proofs.«01_k».proof.Proof.Gen.ReferenceMlpIdeal.Read
public import proofs.«01_k».proof.Proof.Gen.ReferenceMlpIdeal.Run
public import proofs.«01_k».proof.Proof.Gen.ReferenceMlpFinalIdeal.Read
public import proofs.«01_k».proof.Proof.Gen.ReferenceMlpFinalIdeal.Run
public import proofs.«01_k».proof.Proof.Gen.ReferenceEvenIdeal.Read
public import proofs.«01_k».proof.Proof.Gen.ReferenceEvenIdeal.Run
public import proofs.«01_k».proof.Proof.Gen.ReferenceOddIdeal.Read
public import proofs.«01_k».proof.Proof.Gen.ReferenceOddIdeal.Run

@[expose] public section

noncomputable section

namespace Cert.Proof

open Idealize.ShloMosaic

/-- All claims, under the side conditions each program states. -/
theorem claim : Cert.Claim := ⟨
  Cert.Kernel.Gen.facts, Cert.KernelIdeal.Gen.facts, Cert.ReferenceIdeal.Gen.facts, Cert.KernelMlp.Gen.facts,
  Cert.KernelMlpIdeal.Gen.facts, Cert.ReferenceMlpIdeal.Gen.facts, Cert.KernelMlpFinal.Gen.facts,
  Cert.KernelMlpFinalIdeal.Gen.facts, Cert.ReferenceMlpFinalIdeal.Gen.facts, Cert.KernelEven.Gen.facts,
  Cert.KernelEvenIdeal.Gen.facts, Cert.ReferenceEvenIdeal.Gen.facts, Cert.KernelOdd.Gen.facts,
  Cert.KernelOddIdeal.Gen.facts, Cert.ReferenceOddIdeal.Gen.facts, Cert.KernelMlstm.Gen.facts,
  Cert.KernelMlstmIdeal.Gen.facts, Cert.ReferenceMlstmIdeal.Gen.facts, Cert.Pre_finite_inputs.Gen.facts,
  Cert.Lru.frame_kernel, Cert.Lru.frame_kernelIdeal, Cert.Lru.frame_referenceIdeal, Cert.Dense.Mlp.frame_kernel,
  Cert.Dense.Mlp.frame_kernelIdeal, Cert.Dense.Mlp.frame_referenceIdeal, Cert.Dense.MlpFinal.frame_kernel,
  Cert.Dense.MlpFinal.frame_kernelIdeal, Cert.Dense.MlpFinal.frame_referenceIdeal, Cert.Dense.Even.frame_kernel,
  Cert.Dense.Even.frame_kernelIdeal, Cert.Dense.Even.frame_referenceIdeal, Cert.Dense.Odd.frame_kernel,
  Cert.Dense.Odd.frame_kernelIdeal, Cert.Dense.Odd.frame_referenceIdeal, Cert.Mlstm.frame_kernel,
  Cert.Mlstm.frame_kernelIdeal, Cert.Mlstm.frame_kernelIdeal_finite, Cert.Mlstm.frame_referenceIdeal,
  Cert.Mlstm.frame_referenceIdeal_finite, trivial, Cert.Lru.same_result, trivial, Cert.Dense.Mlp.same_result, trivial,
  Cert.Dense.MlpFinal.same_result, trivial, Cert.Dense.Even.same_result, trivial, Cert.Dense.Odd.same_result, trivial,
  Cert.Mlstm.same_result⟩

end Cert.Proof

end
